-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_no_tie_at_cut_pre_in_range [hKernelIdeal : Cert.KernelIdeal.Facts] [hReferenceIdeal : Cert.ReferenceIdeal.Facts] [hPre_in_range : Cert.Pre_in_range.Facts] [hOn_no_tie_at_cut : Cert.On_no_tie_at_cut.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 64, 2048]⟩ : Shape).Idx, (Cert.On_no_tie_at_cut.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v3) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 64, 2048]⟩ : Shape).Idx, (Cert.On_no_tie_at_cut.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v90) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hOn_no_tie_at_cut : Cert.On_no_tie_at_cut.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_on_no_tie_at_cut_pre_in_range (hKernelIdeal := hKernelIdeal) (hReferenceIdeal := hReferenceIdeal) (hPre_in_range := hPre_in_range) (hOn_no_tie_at_cut := hOn_no_tie_at_cut)
-- ==== On_no_tie_at_cut.lean ====
abbrev S8x1x64x2048 : Shape := ⟨4, ![8, 1, 64, 2048]⟩
abbrev S8x64x2048 : Shape := ⟨3, ![8, 64, 2048]⟩
abbrev S5 : Shape := ⟨1, ![5]⟩
abbrev S_ : Shape := ⟨0, ![]⟩
abbrev S8x68x2052 : Shape := ⟨3, ![8, 68, 2052]⟩
abbrev S8x1x1x68x2052 : Shape := ⟨5, ![8, 1, 1, 68, 2052]⟩
abbrev S8x1x1x64x2052 : Shape := ⟨5, ![8, 1, 1, 64, 2052]⟩
abbrev S8x5x1x64x2052 : Shape := ⟨5, ![8, 5, 1, 64, 2052]⟩
abbrev S8x5x1x64x2048 : Shape := ⟨5, ![8, 5, 1, 64, 2048]⟩
abbrev S8x5x5x64x2048 : Shape := ⟨5, ![8, 5, 5, 64, 2048]⟩
abbrev S8x1x1x64x2048 : Shape := ⟨5, ![8, 1, 1, 64, 2048]⟩
abbrev S5x1 : Shape := ⟨2, ![5, 1]⟩
abbrev S1x5 : Shape := ⟨2, ![1, 5]⟩
abbrev S5x5 : Shape := ⟨2, ![5, 5]⟩
abbrev S5x5x1x1 : Shape := ⟨4, ![5, 5, 1, 1]⟩
abbrev S8x5x5x68x2052 : Shape := ⟨5, ![8, 5, 5, 68, 2052]⟩
abbrev S8x5x5x1x1x68x2052 : Shape := ⟨7, ![8, 5, 5, 1, 1, 68, 2052]⟩
abbrev S8x5x5x1x1x64x2052 : Shape := ⟨7, ![8, 5, 5, 1, 1, 64, 2052]⟩
abbrev S8x5x5x5x1x64x2052 : Shape := ⟨7, ![8, 5, 5, 5, 1, 64, 2052]⟩
abbrev S8x5x5x5x1x64x2048 : Shape := ⟨7, ![8, 5, 5, 5, 1, 64, 2048]⟩
abbrev S8x5x5x5x5x64x2048 : Shape := ⟨7, ![8, 5, 5, 5, 5, 64, 2048]⟩
abbrev S1x1x1x5x5x1x1 : Shape := ⟨7, ![1, 1, 1, 5, 5, 1, 1]⟩
abbrev S8x25x64x2048 : Shape := ⟨4, ![8, 25, 64, 2048]⟩

class Facts : Prop where
  shapeCasts_S8x1x64x2048_S8x64x2048 : S8x1x64x2048.ShapeCasts S8x64x2048
  pads_S8x64x2048_S8x68x2052_000_220_220 : S8x64x2048.Pads (![0, 2, 2] : Fin 3 → Nat) ![0, 2, 2] ![0, 0, 0] S8x68x2052
  h_S_ : 0 < S_.numel
  bcast_S8x68x2052_S8x1x1x68x2052_0_3_4 : S8x68x2052.BroadcastsInDim S8x1x1x68x2052 (![0, 3, 4] : Fin 3 → Fin S8x1x1x68x2052.rank)
  slices_S8x1x1x68x2052_S8x1x1x64x2052_0_0_0_0_0 : S8x1x1x68x2052.Slices ![0, 0, 0, 0, 0] S8x1x1x64x2052
  slices_S8x1x1x68x2052_S8x1x1x64x2052_0_0_0_1_0 : S8x1x1x68x2052.Slices ![0, 0, 0, 1, 0] S8x1x1x64x2052
  slices_S8x1x1x68x2052_S8x1x1x64x2052_0_0_0_2_0 : S8x1x1x68x2052.Slices ![0, 0, 0, 2, 0] S8x1x1x64x2052
  slices_S8x1x1x68x2052_S8x1x1x64x2052_0_0_0_3_0 : S8x1x1x68x2052.Slices ![0, 0, 0, 3, 0] S8x1x1x64x2052
  slices_S8x1x1x68x2052_S8x1x1x64x2052_0_0_0_4_0 : S8x1x1x68x2052.Slices ![0, 0, 0, 4, 0] S8x1x1x64x2052
  concatenates_S8x1x1x64x2052_S8x1x1x64x2052_S8x1x1x64x2052_S8x1x1x64x2052_S8x1x1x64x2052_S8x5x1x64x2052_d1 : Shape.Concatenates [S8x1x1x64x2052, S8x1x1x64x2052, S8x1x1x64x2052, S8x1x1x64x2052, S8x1x1x64x2052] S8x5x1x64x2052 1
  slices_S8x5x1x64x2052_S8x5x1x64x2048_0_0_0_0_0 : S8x5x1x64x2052.Slices ![0, 0, 0, 0, 0] S8x5x1x64x2048
  slices_S8x5x1x64x2052_S8x5x1x64x2048_0_0_0_0_1 : S8x5x1x64x2052.Slices ![0, 0, 0, 0, 1] S8x5x1x64x2048
  slices_S8x5x1x64x2052_S8x5x1x64x2048_0_0_0_0_2 : S8x5x1x64x2052.Slices ![0, 0, 0, 0, 2] S8x5x1x64x2048
  slices_S8x5x1x64x2052_S8x5x1x64x2048_0_0_0_0_3 : S8x5x1x64x2052.Slices ![0, 0, 0, 0, 3] S8x5x1x64x2048
  slices_S8x5x1x64x2052_S8x5x1x64x2048_0_0_0_0_4 : S8x5x1x64x2052.Slices ![0, 0, 0, 0, 4] S8x5x1x64x2048
  concatenates_S8x5x1x64x2048_S8x5x1x64x2048_S8x5x1x64x2048_S8x5x1x64x2048_S8x5x1x64x2048_S8x5x5x64x2048_d2 : Shape.Concatenates [S8x5x1x64x2048, S8x5x1x64x2048, S8x5x1x64x2048, S8x5x1x64x2048, S8x5x1x64x2048] S8x5x5x64x2048 2
  bcast_S_S8x5x5x64x2048 : S_.BroadcastsInDim S8x5x5x64x2048 (![] : Fin 0 → Fin S8x5x5x64x2048.rank)
  bcast_S8x64x2048_S8x1x1x64x2048_0_3_4 : S8x64x2048.BroadcastsInDim S8x1x1x64x2048 (![0, 3, 4] : Fin 3 → Fin S8x1x1x64x2048.rank)
  bcast_S8x1x1x64x2048_S8x5x5x64x2048_0_1_2_3_4 : S8x1x1x64x2048.BroadcastsInDim S8x5x5x64x2048 (![0, 1, 2, 3, 4] : Fin 5 → Fin S8x5x5x64x2048.rank)
  bcast_S5_S5x1_0 : S5.BroadcastsInDim S5x1 (![0] : Fin 1 → Fin S5x1.rank)
  bcast_S5_S1x5_1 : S5.BroadcastsInDim S1x5 (![1] : Fin 1 → Fin S1x5.rank)
  bcast_S5x1_S5x5_0_1 : S5x1.BroadcastsInDim S5x5 (![0, 1] : Fin 2 → Fin S5x5.rank)
  bcast_S1x5_S5x5_0_1 : S1x5.BroadcastsInDim S5x5 (![0, 1] : Fin 2 → Fin S5x5.rank)
  bcast_S_S5x5 : S_.BroadcastsInDim S5x5 (![] : Fin 0 → Fin S5x5.rank)
  bcast_S5x5_S5x5x1x1_0_1 : S5x5.BroadcastsInDim S5x5x1x1 (![0, 1] : Fin 2 → Fin S5x5x1x1.rank)
  pads_S8x5x5x64x2048_S8x5x5x68x2052_000_000_000_220_220 : S8x5x5x64x2048.Pads (![0, 0, 0, 2, 2] : Fin 5 → Nat) ![0, 0, 0, 2, 2] ![0, 0, 0, 0, 0] S8x5x5x68x2052
  bcast_S8x5x5x68x2052_S8x5x5x1x1x68x2052_0_1_2_5_6 : S8x5x5x68x2052.BroadcastsInDim S8x5x5x1x1x68x2052 (![0, 1, 2, 5, 6] : Fin 5 → Fin S8x5x5x1x1x68x2052.rank)
  slices_S8x5x5x1x1x68x2052_S8x5x5x1x1x64x2052_0_0_0_0_0_0_0 : S8x5x5x1x1x68x2052.Slices ![0, 0, 0, 0, 0, 0, 0] S8x5x5x1x1x64x2052
  slices_S8x5x5x1x1x68x2052_S8x5x5x1x1x64x2052_0_0_0_0_0_1_0 : S8x5x5x1x1x68x2052.Slices ![0, 0, 0, 0, 0, 1, 0] S8x5x5x1x1x64x2052
  slices_S8x5x5x1x1x68x2052_S8x5x5x1x1x64x2052_0_0_0_0_0_2_0 : S8x5x5x1x1x68x2052.Slices ![0, 0, 0, 0, 0, 2, 0] S8x5x5x1x1x64x2052
  slices_S8x5x5x1x1x68x2052_S8x5x5x1x1x64x2052_0_0_0_0_0_3_0 : S8x5x5x1x1x68x2052.Slices ![0, 0, 0, 0, 0, 3, 0] S8x5x5x1x1x64x2052
  slices_S8x5x5x1x1x68x2052_S8x5x5x1x1x64x2052_0_0_0_0_0_4_0 : S8x5x5x1x1x68x2052.Slices ![0, 0, 0, 0, 0, 4, 0] S8x5x5x1x1x64x2052
  concatenates_S8x5x5x1x1x64x2052_S8x5x5x1x1x64x2052_S8x5x5x1x1x64x2052_S8x5x5x1x1x64x2052_S8x5x5x1x1x64x2052_S8x5x5x5x1x64x2052_d3 : Shape.Concatenates [S8x5x5x1x1x64x2052, S8x5x5x1x1x64x2052, S8x5x5x1x1x64x2052, S8x5x5x1x1x64x2052, S8x5x5x1x1x64x2052] S8x5x5x5x1x64x2052 3
  slices_S8x5x5x5x1x64x2052_S8x5x5x5x1x64x2048_0_0_0_0_0_0_0 : S8x5x5x5x1x64x2052.Slices ![0, 0, 0, 0, 0, 0, 0] S8x5x5x5x1x64x2048
  slices_S8x5x5x5x1x64x2052_S8x5x5x5x1x64x2048_0_0_0_0_0_0_1 : S8x5x5x5x1x64x2052.Slices ![0, 0, 0, 0, 0, 0, 1] S8x5x5x5x1x64x2048
  slices_S8x5x5x5x1x64x2052_S8x5x5x5x1x64x2048_0_0_0_0_0_0_2 : S8x5x5x5x1x64x2052.Slices ![0, 0, 0, 0, 0, 0, 2] S8x5x5x5x1x64x2048
  slices_S8x5x5x5x1x64x2052_S8x5x5x5x1x64x2048_0_0_0_0_0_0_3 : S8x5x5x5x1x64x2052.Slices ![0, 0, 0, 0, 0, 0, 3] S8x5x5x5x1x64x2048
  slices_S8x5x5x5x1x64x2052_S8x5x5x5x1x64x2048_0_0_0_0_0_0_4 : S8x5x5x5x1x64x2052.Slices ![0, 0, 0, 0, 0, 0, 4] S8x5x5x5x1x64x2048
  concatenates_S8x5x5x5x1x64x2048_S8x5x5x5x1x64x2048_S8x5x5x5x1x64x2048_S8x5x5x5x1x64x2048_S8x5x5x5x1x64x2048_S8x5x5x5x5x64x2048_d4 : Shape.Concatenates [S8x5x5x5x1x64x2048, S8x5x5x5x1x64x2048, S8x5x5x5x1x64x2048, S8x5x5x5x1x64x2048, S8x5x5x5x1x64x2048] S8x5x5x5x5x64x2048 4
  bcast_S5x5x1x1_S1x1x1x5x5x1x1_3_4_5_6 : S5x5x1x1.BroadcastsInDim S1x1x1x5x5x1x1 (![3, 4, 5, 6] : Fin 4 → Fin S1x1x1x5x5x1x1.rank)
  bcast_S1x1x1x5x5x1x1_S8x5x5x5x5x64x2048_0_1_2_3_4_5_6 : S1x1x1x5x5x1x1.BroadcastsInDim S8x5x5x5x5x64x2048 (![0, 1, 2, 3, 4, 5, 6] : Fin 7 → Fin S8x5x5x5x5x64x2048.rank)
  reducesTo_S8x5x5x5x5x64x2048_S8x5x5x64x2048_d3_4 : S8x5x5x5x5x64x2048.ReducesTo [3, 4] S8x5x5x64x2048
  shapeCasts_S8x5x5x64x2048_S8x25x64x2048 : S8x5x5x64x2048.ShapeCasts S8x25x64x2048
  slices_S8x25x64x2048_S8x1x64x2048_0_4_0_0 : S8x25x64x2048.Slices ![0, 4, 0, 0] S8x1x64x2048
  slices_S8x25x64x2048_S8x1x64x2048_0_5_0_0 : S8x25x64x2048.Slices ![0, 5, 0, 0] S8x1x64x2048

variable [Facts]

variable {F : FTy → Type} [FloatOps F]
def comparator_f32_d1 : F .f32 → F .f32 → BitVec 1 :=
  fun l r =>
    let cst_6 := FloatOps.ofBits .f32 0x00000000#32
    let v56 := FloatOps.cmpf .oeq l cst_6
    let cst_7 := FloatOps.ofBits .f32 0x00000000#32
    let v57 := Scalar.select v56 cst_7 l
    let v58 := FloatOps.cmpf .une l l
    let cst_8 := FloatOps.ofBits .f32 0x7FC00000#32
    let v59 := Scalar.select v58 cst_8 v57
    let cst_9 := FloatOps.ofBits .f32 0x00000000#32
    let v60 := FloatOps.cmpf .oeq r cst_9
    let cst_10 := FloatOps.ofBits .f32 0x00000000#32
    let v61 := Scalar.select v60 cst_10 r
    let v62 := FloatOps.cmpf .une r r
    let cst_11 := FloatOps.ofBits .f32 0x7FC00000#32
    let v63 := Scalar.select v62 cst_11 v61
    let v64 := FloatOps.cmpfTotal .lt v59 v63
    v64

noncomputable abbrev lit0 : Fin 5 → BitVec 32 := fun
  | 0 => 0x3D5F2F87#32 | 1 => 0x3E7A0FEB#32 | 2 => 0x3ECE2434#32 | 3 => 0x3E7A0FEB#32 | 4 => 0x3D5F2F87#32
  | _ => 0#32

def fn_part2 {F : FTy → Type} [FloatOps F] (main_v30 : FVec F S5x5x1x1 .f32) (main_v38 : FVec F S8x5x5x5x1x64x2052 .f32) (main_v39 : FVec F S8x5x5x5x1x64x2048 .f32) (main_v40 : FVec F S8x5x5x5x1x64x2048 .f32) (main_v41 : FVec F S8x5x5x5x1x64x2048 .f32) : IVec S8x64x2048 1 :=
  let main_v42 : FVec F S8x5x5x5x1x64x2048 .f32 := (extractStridedSlice S8x5x5x5x1x64x2048 ![0, 0, 0, 0, 0, 0, 3] · slices_S8x5x5x5x1x64x2052_S8x5x5x5x1x64x2048_0_0_0_0_0_0_3) main_v38
  let main_v43 : FVec F S8x5x5x5x1x64x2048 .f32 := (extractStridedSlice S8x5x5x5x1x64x2048 ![0, 0, 0, 0, 0, 0, 4] · slices_S8x5x5x5x1x64x2052_S8x5x5x5x1x64x2048_0_0_0_0_0_0_4) main_v38
  let main_v44 : FVec F S8x5x5x5x5x64x2048 .f32 := concatenate S8x5x5x5x5x64x2048 4 [⟨S8x5x5x5x1x64x2048, main_v39⟩, ⟨S8x5x5x5x1x64x2048, main_v40⟩, ⟨S8x5x5x5x1x64x2048, main_v41⟩, ⟨S8x5x5x5x1x64x2048, main_v42⟩, ⟨S8x5x5x5x1x64x2048, main_v43⟩] concatenates_S8x5x5x5x1x64x2048_S8x5x5x5x1x64x2048_S8x5x5x5x1x64x2048_S8x5x5x5x1x64x2048_S8x5x5x5x1x64x2048_S8x5x5x5x5x64x2048_d4
  let main_v45 : FVec F S1x1x1x5x5x1x1 .f32 := broadcastInDim S1x1x1x5x5x1x1 ![3, 4, 5, 6] bcast_S5x5x1x1_S1x1x1x5x5x1x1_3_4_5_6 main_v30
  let main_v46 : FVec F S8x5x5x5x5x64x2048 .f32 := broadcastInDim S8x5x5x5x5x64x2048 ![0, 1, 2, 3, 4, 5, 6] bcast_S1x1x1x5x5x1x1_S8x5x5x5x5x64x2048_0_1_2_3_4_5_6 main_v45
  let main_v47 : FVec F S8x5x5x5x5x64x2048 .f32 := mulf main_v46 main_v44
  let main_cst_5 : FVec F S_ .f32 := constant S_ .f32 0x00000000#32
  let main_v48 : FVec F S8x5x5x64x2048 .f32 := (fun x v => Host.reduceAdd x v reducesTo_S8x5x5x5x5x64x2048_S8x5x5x64x2048_d3_4 h_S_) main_v47 main_cst_5
  let main_v49 : FVec F S8x25x64x2048 .f32 := shapeCast S8x25x64x2048 main_v48 shapeCasts_S8x5x5x64x2048_S8x25x64x2048
  let main_v50 : FVec F S8x25x64x2048 .f32 := (fun x => Host.sort S8x25x64x2048 1 comparator_f32_d1 x) main_v49
  let main_v51 : FVec F S8x1x64x2048 .f32 := (extractStridedSlice S8x1x64x2048 ![0, 4, 0, 0] · slices_S8x25x64x2048_S8x1x64x2048_0_4_0_0) main_v50
  let main_v52 : FVec F S8x64x2048 .f32 := shapeCast S8x64x2048 main_v51 shapeCasts_S8x1x64x2048_S8x64x2048
  let main_v53 : FVec F S8x1x64x2048 .f32 := (extractStridedSlice S8x1x64x2048 ![0, 5, 0, 0] · slices_S8x25x64x2048_S8x1x64x2048_0_5_0_0) main_v50
  let main_v54 : FVec F S8x64x2048 .f32 := shapeCast S8x64x2048 main_v53 shapeCasts_S8x1x64x2048_S8x64x2048
  let main_v55 : IVec S8x64x2048 1 := cmpf .olt main_v52 main_v54
  main_v55

def fn_part1 {F : FTy → Type} [FloatOps F] (main_cst : FVec F S5 .f32) (main_v18 : FVec F S8x5x5x64x2048 .f32) (main_v19 : FVec F S8x1x1x64x2048 .f32) : IVec S8x64x2048 1 :=
  let main_v20 : FVec F S8x5x5x64x2048 .f32 := broadcastInDim S8x5x5x64x2048 ![0, 1, 2, 3, 4] bcast_S8x1x1x64x2048_S8x5x5x64x2048_0_1_2_3_4 main_v19
  let main_v21 : FVec F S8x5x5x64x2048 .f32 := subf main_v18 main_v20
  let main_v22 : FVec F S8x5x5x64x2048 .f32 := Host.absf main_v21
  let main_v23 : FVec F S5x1 .f32 := broadcastInDim S5x1 ![0] bcast_S5_S5x1_0 main_cst
  let main_v24 : FVec F S1x5 .f32 := broadcastInDim S1x5 ![1] bcast_S5_S1x5_1 main_cst
  let main_v25 : FVec F S5x5 .f32 := broadcastInDim S5x5 ![0, 1] bcast_S5x1_S5x5_0_1 main_v23
  let main_v26 : FVec F S5x5 .f32 := broadcastInDim S5x5 ![0, 1] bcast_S1x5_S5x5_0_1 main_v24
  let main_v27 : FVec F S5x5 .f32 := mulf main_v25 main_v26
  let main_cst_3 : FVec F S_ .f32 := constant S_ .f32 0x3F800000#32
  let main_v28 : FVec F S5x5 .f32 := broadcastInDim S5x5 ![] bcast_S_S5x5 main_cst_3
  let main_v29 : FVec F S5x5 .f32 := subf main_v28 main_v27
  let main_v30 : FVec F S5x5x1x1 .f32 := broadcastInDim S5x5x1x1 ![0, 1] bcast_S5x5_S5x5x1x1_0_1 main_v29
  let main_cst_4 : FVec F S_ .f32 := constant S_ .f32 0x00000000#32
  let main_v31 : FVec F S8x5x5x68x2052 .f32 := (fun x v => pad S8x5x5x68x2052 ![0, 0, 0, 2, 2] ![0, 0, 0, 2, 2] ![0, 0, 0, 0, 0] x v pads_S8x5x5x64x2048_S8x5x5x68x2052_000_000_000_220_220 h_S_) main_v22 main_cst_4
  let main_v32 : FVec F S8x5x5x1x1x68x2052 .f32 := broadcastInDim S8x5x5x1x1x68x2052 ![0, 1, 2, 5, 6] bcast_S8x5x5x68x2052_S8x5x5x1x1x68x2052_0_1_2_5_6 main_v31
  let main_v33 : FVec F S8x5x5x1x1x64x2052 .f32 := (extractStridedSlice S8x5x5x1x1x64x2052 ![0, 0, 0, 0, 0, 0, 0] · slices_S8x5x5x1x1x68x2052_S8x5x5x1x1x64x2052_0_0_0_0_0_0_0) main_v32
  let main_v34 : FVec F S8x5x5x1x1x64x2052 .f32 := (extractStridedSlice S8x5x5x1x1x64x2052 ![0, 0, 0, 0, 0, 1, 0] · slices_S8x5x5x1x1x68x2052_S8x5x5x1x1x64x2052_0_0_0_0_0_1_0) main_v32
  let main_v35 : FVec F S8x5x5x1x1x64x2052 .f32 := (extractStridedSlice S8x5x5x1x1x64x2052 ![0, 0, 0, 0, 0, 2, 0] · slices_S8x5x5x1x1x68x2052_S8x5x5x1x1x64x2052_0_0_0_0_0_2_0) main_v32
  let main_v36 : FVec F S8x5x5x1x1x64x2052 .f32 := (extractStridedSlice S8x5x5x1x1x64x2052 ![0, 0, 0, 0, 0, 3, 0] · slices_S8x5x5x1x1x68x2052_S8x5x5x1x1x64x2052_0_0_0_0_0_3_0) main_v32
  let main_v37 : FVec F S8x5x5x1x1x64x2052 .f32 := (extractStridedSlice S8x5x5x1x1x64x2052 ![0, 0, 0, 0, 0, 4, 0] · slices_S8x5x5x1x1x68x2052_S8x5x5x1x1x64x2052_0_0_0_0_0_4_0) main_v32
  let main_v38 : FVec F S8x5x5x5x1x64x2052 .f32 := concatenate S8x5x5x5x1x64x2052 3 [⟨S8x5x5x1x1x64x2052, main_v33⟩, ⟨S8x5x5x1x1x64x2052, main_v34⟩, ⟨S8x5x5x1x1x64x2052, main_v35⟩, ⟨S8x5x5x1x1x64x2052, main_v36⟩, ⟨S8x5x5x1x1x64x2052, main_v37⟩] concatenates_S8x5x5x1x1x64x2052_S8x5x5x1x1x64x2052_S8x5x5x1x1x64x2052_S8x5x5x1x1x64x2052_S8x5x5x1x1x64x2052_S8x5x5x5x1x64x2052_d3
  let main_v39 : FVec F S8x5x5x5x1x64x2048 .f32 := (extractStridedSlice S8x5x5x5x1x64x2048 ![0, 0, 0, 0, 0, 0, 0] · slices_S8x5x5x5x1x64x2052_S8x5x5x5x1x64x2048_0_0_0_0_0_0_0) main_v38
  let main_v40 : FVec F S8x5x5x5x1x64x2048 .f32 := (extractStridedSlice S8x5x5x5x1x64x2048 ![0, 0, 0, 0, 0, 0, 1] · slices_S8x5x5x5x1x64x2052_S8x5x5x5x1x64x2048_0_0_0_0_0_0_1) main_v38
  let main_v41 : FVec F S8x5x5x5x1x64x2048 .f32 := (extractStridedSlice S8x5x5x5x1x64x2048 ![0, 0, 0, 0, 0, 0, 2] · slices_S8x5x5x5x1x64x2052_S8x5x5x5x1x64x2048_0_0_0_0_0_0_2) main_v38
  fn_part2 (F := F) main_v30 main_v38 main_v39 main_v40 main_v41

def fn {F : FTy → Type} [FloatOps F] (main_arg0 : FVec F S8x1x64x2048 .f32) (main_arg1 : IVec S8x64x2048 32) : IVec S8x64x2048 1 :=
  let main_cst : FVec F S5 .f32 := fun i => FloatOps.ofBits .f32 (lit0 (S5.rowMajor i))
  let main_v0 : FVec F S8x64x2048 .f32 := shapeCast S8x64x2048 main_arg0 shapeCasts_S8x1x64x2048_S8x64x2048
  let main_cst_0 : FVec F S_ .f32 := constant S_ .f32 0x00000000#32
  let main_v1 : FVec F S8x68x2052 .f32 := (fun x v => pad S8x68x2052 ![0, 2, 2] ![0, 2, 2] ![0, 0, 0] x v pads_S8x64x2048_S8x68x2052_000_220_220 h_S_) main_v0 main_cst_0
  let main_v2 : FVec F S8x1x1x68x2052 .f32 := broadcastInDim S8x1x1x68x2052 ![0, 3, 4] bcast_S8x68x2052_S8x1x1x68x2052_0_3_4 main_v1
  let main_v3 : FVec F S8x1x1x64x2052 .f32 := (extractStridedSlice S8x1x1x64x2052 ![0, 0, 0, 0, 0] · slices_S8x1x1x68x2052_S8x1x1x64x2052_0_0_0_0_0) main_v2
  let main_v4 : FVec F S8x1x1x64x2052 .f32 := (extractStridedSlice S8x1x1x64x2052 ![0, 0, 0, 1, 0] · slices_S8x1x1x68x2052_S8x1x1x64x2052_0_0_0_1_0) main_v2
  let main_v5 : FVec F S8x1x1x64x2052 .f32 := (extractStridedSlice S8x1x1x64x2052 ![0, 0, 0, 2, 0] · slices_S8x1x1x68x2052_S8x1x1x64x2052_0_0_0_2_0) main_v2
  let main_v6 : FVec F S8x1x1x64x2052 .f32 := (extractStridedSlice S8x1x1x64x2052 ![0, 0, 0, 3, 0] · slices_S8x1x1x68x2052_S8x1x1x64x2052_0_0_0_3_0) main_v2
  let main_v7 : FVec F S8x1x1x64x2052 .f32 := (extractStridedSlice S8x1x1x64x2052 ![0, 0, 0, 4, 0] · slices_S8x1x1x68x2052_S8x1x1x64x2052_0_0_0_4_0) main_v2
  let main_v8 : FVec F S8x5x1x64x2052 .f32 := concatenate S8x5x1x64x2052 1 [⟨S8x1x1x64x2052, main_v3⟩, ⟨S8x1x1x64x2052, main_v4⟩, ⟨S8x1x1x64x2052, main_v5⟩, ⟨S8x1x1x64x2052, main_v6⟩, ⟨S8x1x1x64x2052, main_v7⟩] concatenates_S8x1x1x64x2052_S8x1x1x64x2052_S8x1x1x64x2052_S8x1x1x64x2052_S8x1x1x64x2052_S8x5x1x64x2052_d1
  let main_v9 : FVec F S8x5x1x64x2048 .f32 := (extractStridedSlice S8x5x1x64x2048 ![0, 0, 0, 0, 0] · slices_S8x5x1x64x2052_S8x5x1x64x2048_0_0_0_0_0) main_v8
  let main_v10 : FVec F S8x5x1x64x2048 .f32 := (extractStridedSlice S8x5x1x64x2048 ![0, 0, 0, 0, 1] · slices_S8x5x1x64x2052_S8x5x1x64x2048_0_0_0_0_1) main_v8
  let main_v11 : FVec F S8x5x1x64x2048 .f32 := (extractStridedSlice S8x5x1x64x2048 ![0, 0, 0, 0, 2] · slices_S8x5x1x64x2052_S8x5x1x64x2048_0_0_0_0_2) main_v8
  let main_v12 : FVec F S8x5x1x64x2048 .f32 := (extractStridedSlice S8x5x1x64x2048 ![0, 0, 0, 0, 3] · slices_S8x5x1x64x2052_S8x5x1x64x2048_0_0_0_0_3) main_v8
  let main_v13 : FVec F S8x5x1x64x2048 .f32 := (extractStridedSlice S8x5x1x64x2048 ![0, 0, 0, 0, 4] · slices_S8x5x1x64x2052_S8x5x1x64x2048_0_0_0_0_4) main_v8
  let main_v14 : FVec F S8x5x5x64x2048 .f32 := concatenate S8x5x5x64x2048 2 [⟨S8x5x1x64x2048, main_v9⟩, ⟨S8x5x1x64x2048, main_v10⟩, ⟨S8x5x1x64x2048, main_v11⟩, ⟨S8x5x1x64x2048, main_v12⟩, ⟨S8x5x1x64x2048, main_v13⟩] concatenates_S8x5x1x64x2048_S8x5x1x64x2048_S8x5x1x64x2048_S8x5x1x64x2048_S8x5x1x64x2048_S8x5x5x64x2048_d2
  let main_cst_1 : FVec F S_ .f32 := constant S_ .f32 0x00000000#32
  let main_v15 : FVec F S8x5x5x64x2048 .f32 := broadcastInDim S8x5x5x64x2048 ![] bcast_S_S8x5x5x64x2048 main_cst_1
  let main_v16 : IVec S8x5x5x64x2048 1 := cmpf .olt main_v14 main_v15
  let main_cst_2 : FVec F S_ .f32 := constant S_ .f32 0x7F800000#32
  let main_v17 : FVec F S8x5x5x64x2048 .f32 := broadcastInDim S8x5x5x64x2048 ![] bcast_S_S8x5x5x64x2048 main_cst_2
  let main_v18 : FVec F S8x5x5x64x2048 .f32 := select main_v16 main_v17 main_v14
  let main_v19 : FVec F S8x1x1x64x2048 .f32 := broadcastInDim S8x1x1x64x2048 ![0, 3, 4] bcast_S8x64x2048_S8x1x1x64x2048_0_3_4 main_v0
  fn_part1 (F := F) main_cst main_v18 main_v19
-- ==== Pre_in_range.lean ====
abbrev S8x1x64x2048 : Shape := ⟨4, ![8, 1, 64, 2048]⟩
abbrev S8x64x2048 : Shape := ⟨3, ![8, 64, 2048]⟩
abbrev S_ : Shape := ⟨0, ![]⟩

class Facts : Prop where
  shapeCasts_S8x1x64x2048_S8x64x2048 : S8x1x64x2048.ShapeCasts S8x64x2048
  bcast_S_S8x64x2048 : S_.BroadcastsInDim S8x64x2048 (![] : Fin 0 → Fin S8x64x2048.rank)

variable [Facts]

def fn {F : FTy → Type} [FloatOps F] (main_arg0 : FVec F S8x1x64x2048 .f32) (main_arg1 : IVec S8x64x2048 32) : IVec S8x64x2048 1 :=
  let main_v0 : FVec F S8x64x2048 .f32 := shapeCast S8x64x2048 main_arg0 shapeCasts_S8x1x64x2048_S8x64x2048
  let main_cst : FVec F S_ .f32 := constant S_ .f32 0x00000000#32
  let main_v1 : FVec F S8x64x2048 .f32 := broadcastInDim S8x64x2048 ![] bcast_S_S8x64x2048 main_cst
  let main_v2 : IVec S8x64x2048 1 := cmpf .oge main_v0 main_v1
  let main_cst_0 : FVec F S_ .f32 := constant S_ .f32 0x7F800000#32
  let main_v3 : FVec F S8x64x2048 .f32 := broadcastInDim S8x64x2048 ![] bcast_S_S8x64x2048 main_cst_0
  let main_v4 : IVec S8x64x2048 1 := cmpf .olt main_v0 main_v3
  let main_v5 : IVec S8x64x2048 1 := andi main_v2 main_v4
  let main_c : IVec S_ 32 := constantI S_ 32 0#32
  let main_v6 : IVec S8x64x2048 32 := broadcastInDim S8x64x2048 ![] bcast_S_S8x64x2048 main_c
  let main_v7 : IVec S8x64x2048 1 := cmpi .sge main_arg1 main_v6
  let main_v8 : IVec S8x64x2048 1 := andi main_v5 main_v7
  let main_c_1 : IVec S_ 32 := constantI S_ 32 20#32
  let main_v9 : IVec S8x64x2048 32 := broadcastInDim S8x64x2048 ![] bcast_S_S8x64x2048 main_c_1
  let main_v10 : IVec S8x64x2048 1 := cmpi .slt main_arg1 main_v9
  let main_v11 : IVec S8x64x2048 1 := andi main_v8 main_v10
  main_v11
-- ==== Kernel.lean ====
abbrev S8x1x64x2048 : Shape := ⟨4, ![8, 1, 64, 2048]⟩
abbrev S8x64x2048 : Shape := ⟨3, ![8, 64, 2048]⟩
abbrev S_ : Shape := ⟨0, ![]⟩
abbrev S8x72x2056 : Shape := ⟨3, ![8, 72, 2056]⟩
abbrev S8x68x2052 : Shape := ⟨3, ![8, 68, 2052]⟩
abbrev S1x72x2056 : Shape := ⟨3, ![1, 72, 2056]⟩
abbrev S1x68x2052 : Shape := ⟨3, ![1, 68, 2052]⟩
abbrev S1x64x2048 : Shape := ⟨3, ![1, 64, 2048]⟩
abbrev S8x128 : Shape := ⟨2, ![8, 128]⟩
abbrev S72x2056 : Shape := ⟨2, ![72, 2056]⟩
abbrev S68x2052 : Shape := ⟨2, ![68, 2052]⟩
abbrev S72x2048 : Shape := ⟨2, ![72, 2048]⟩
abbrev S1x2048 : Shape := ⟨2, ![1, 2048]⟩
abbrev S68x2048 : Shape := ⟨2, ![68, 2048]⟩
abbrev S64x68 : Shape := ⟨2, ![64, 68]⟩
abbrev S64x2048 : Shape := ⟨2, ![64, 2048]⟩

abbrev nBuf : Space → Nat
  | .hbm => 10
  | .vmem => 7
  | .smem => 0
  | _ => 0

abbrev bufTy : (tb : Table) → Fin (tcTables nBuf tb) → BufTy
  | .hbm, ⟨0, _⟩ => ⟨S8x1x64x2048, .f32⟩
  | .hbm, ⟨1, _⟩ => ⟨S8x64x2048, .i32⟩
  | .hbm, ⟨2, _⟩ => ⟨S8x64x2048, .f32⟩
  | .hbm, ⟨3, _⟩ => ⟨S_, .i32⟩
  | .hbm, ⟨4, _⟩ => ⟨S_, .f32⟩
  | .hbm, ⟨5, _⟩ => ⟨S8x72x2056, .f32⟩
  | .hbm, ⟨6, _⟩ => ⟨S_, .i32⟩
  | .hbm, ⟨7, _⟩ => ⟨S_, .i32⟩
  | .hbm, ⟨8, _⟩ => ⟨S8x68x2052, .i32⟩
  | .hbm, ⟨9, _⟩ => ⟨S8x64x2048, .i32⟩
  | .local _ .vmem, ⟨0, _⟩ => ⟨S1x72x2056, .f32⟩
  | .local _ .vmem, ⟨1, _⟩ => ⟨S1x72x2056, .f32⟩
  | .local _ .vmem, ⟨2, _⟩ => ⟨S1x68x2052, .i32⟩
  | .local _ .vmem, ⟨3, _⟩ => ⟨S1x68x2052, .i32⟩
  | .local _ .vmem, ⟨4, _⟩ => ⟨S1x64x2048, .i32⟩
  | .local _ .vmem, ⟨5, _⟩ => ⟨S1x64x2048, .i32⟩
  | .local _ .vmem, ⟨6, _⟩ => ⟨S8x128, .i32⟩
  | _, _ => ⟨S8x1x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x72x2056 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x68x2052 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x1x64x2048 : Shape := ⟨4, ![8, 1, 64, 2048]⟩
abbrev S8x64x2048 : Shape := ⟨3, ![8, 64, 2048]⟩
abbrev S5 : Shape := ⟨1, ![5]⟩
abbrev S_ : Shape := ⟨0, ![]⟩
abbrev S8x68x2052 : Shape := ⟨3, ![8, 68, 2052]⟩
abbrev S8x1x1x68x2052 : Shape := ⟨5, ![8, 1, 1, 68, 2052]⟩
abbrev S8x1x1x64x2052 : Shape := ⟨5, ![8, 1, 1, 64, 2052]⟩
abbrev S8x5x1x64x2052 : Shape := ⟨5, ![8, 5, 1, 64, 2052]⟩
abbrev S8x5x1x64x2048 : Shape := ⟨5, ![8, 5, 1, 64, 2048]⟩
abbrev S8x5x5x64x2048 : Shape := ⟨5, ![8, 5, 5, 64, 2048]⟩
abbrev S8x1x1x64x2048 : Shape := ⟨5, ![8, 1, 1, 64, 2048]⟩
abbrev S5x1 : Shape := ⟨2, ![5, 1]⟩
abbrev S1x5 : Shape := ⟨2, ![1, 5]⟩
abbrev S5x5 : Shape := ⟨2, ![5, 5]⟩
abbrev S5x5x1x1 : Shape := ⟨4, ![5, 5, 1, 1]⟩
abbrev S8x5x5x68x2052 : Shape := ⟨5, ![8, 5, 5, 68, 2052]⟩
abbrev S8x5x5x1x1x68x2052 : Shape := ⟨7, ![8, 5, 5, 1, 1, 68, 2052]⟩
abbrev S8x5x5x1x1x64x2052 : Shape := ⟨7, ![8, 5, 5, 1, 1, 64, 2052]⟩
abbrev S8x5x5x5x1x64x2052 : Shape := ⟨7, ![8, 5, 5, 5, 1, 64, 2052]⟩
abbrev S8x5x5x5x1x64x2048 : Shape := ⟨7, ![8, 5, 5, 5, 1, 64, 2048]⟩
abbrev S8x5x5x5x5x64x2048 : Shape := ⟨7, ![8, 5, 5, 5, 5, 64, 2048]⟩
abbrev S1x1x1x5x5x1x1 : Shape := ⟨7, ![1, 1, 1, 5, 5, 1, 1]⟩
abbrev S8x25x64x2048 : Shape := ⟨4, ![8, 25, 64, 2048]⟩
abbrev S8x5x64x2048 : Shape := ⟨4, ![8, 5, 64, 2048]⟩
abbrev S20 : Shape := ⟨1, ![20]⟩
abbrev S20x1x1 : Shape := ⟨3, ![20, 1, 1]⟩
abbrev S1x1x20x1x1 : Shape := ⟨5, ![1, 1, 20, 1, 1]⟩
abbrev S8x5x20x64x2048 : Shape := ⟨5, ![8, 5, 20, 64, 2048]⟩
abbrev S8x20x64x2048 : Shape := ⟨4, ![8, 20, 64, 2048]⟩

abbrev nBuf : Space → Nat
  | .hbm => 108
  | .vmem => 0
  | .smem => 0
  | _ => 0

abbrev bufTy : (tb : Table) → Fin (tcTables nBuf tb) → BufTy
  | .hbm, ⟨0, _⟩ => ⟨S8x1x64x2048, .f32⟩
  | .hbm, ⟨1, _⟩ => ⟨S8x64x2048, .i32⟩
  | .hbm, ⟨2, _⟩ => ⟨S5, .f32⟩
  | .hbm, ⟨3, _⟩ => ⟨S8x64x2048, .f32⟩
  | .hbm, ⟨4, _⟩ => ⟨S_, .f32⟩
  | .hbm, ⟨5, _⟩ => ⟨S8x68x2052, .f32⟩
  | .hbm, ⟨6, _⟩ => ⟨S8x1x1x68x2052, .f32⟩
  | .hbm, ⟨7, _⟩ => ⟨S8x1x1x64x2052, .f32⟩
  | .hbm, ⟨8, _⟩ => ⟨S8x1x1x64x2052, .f32⟩
  | .hbm, ⟨9, _⟩ => ⟨S8x1x1x64x2052, .f32⟩
  | .hbm, ⟨10, _⟩ => ⟨S8x1x1x64x2052, .f32⟩
  | .hbm, ⟨11, _⟩ => ⟨S8x1x1x64x2052, .f32⟩
  | .hbm, ⟨12, _⟩ => ⟨S8x5x1x64x2052, .f32⟩
  | .hbm, ⟨13, _⟩ => ⟨S8x5x1x64x2048, .f32⟩
  | .hbm, ⟨14, _⟩ => ⟨S8x5x1x64x2048, .f32⟩
  | .hbm, ⟨15, _⟩ => ⟨S8x5x1x64x2048, .f32⟩
  | .hbm, ⟨16, _⟩ => ⟨S8x5x1x64x2048, .f32⟩
  | .hbm, ⟨17, _⟩ => ⟨S8x5x1x64x2048, .f32⟩
  | .hbm, ⟨18, _⟩ => ⟨S8x5x5x64x2048, .f32⟩
  | .hbm, ⟨19, _⟩ => ⟨S_, .f32⟩
  | .hbm, ⟨20, _⟩ => ⟨S8x5x5x64x2048, .f32⟩
  | .hbm, ⟨21, _⟩ => ⟨S8x5x5x64x2048, .i1⟩
  | .hbm, ⟨22, _⟩ => ⟨S_, .f32⟩
  | .hbm, ⟨23, _⟩ => ⟨S8x5x5x64x2048, .f32⟩
  | .hbm, ⟨24, _⟩ => ⟨S8x5x5x64x2048, .f32⟩
  | .hbm, ⟨25, _⟩ => ⟨S8x1x1x64x2048, .f32⟩
  | .hbm, ⟨26, _⟩ => ⟨S8x5x5x64x2048, .f32⟩
  | .hbm, ⟨27, _⟩ => ⟨S8x5x5x64x2048, .f32⟩
  | .hbm, ⟨28, _⟩ => ⟨S8x5x5x64x2048, .f32⟩
  | .hbm, ⟨29, _⟩ => ⟨S5x1, .f32⟩
  | .hbm, ⟨30, _⟩ => ⟨S1x5, .f32⟩
  | .hbm, ⟨31, _⟩ => ⟨S5x5, .f32⟩
  | .hbm, ⟨32, _⟩ => ⟨S5x5, .f32⟩
  | .hbm, ⟨33, _⟩ => ⟨S5x5, .f32⟩
  | .hbm, ⟨34, _⟩ => ⟨S_, .f32⟩
  | .hbm, ⟨35, _⟩ => ⟨S5x5, .f32⟩
  | .hbm, ⟨36, _⟩ => ⟨S5x5, .f32⟩
  | .hbm, ⟨37, _⟩ => ⟨S5x5x1x1, .f32⟩
  | .hbm, ⟨38, _⟩ => ⟨S_, .f32⟩
  | .hbm, ⟨39, _⟩ => ⟨S8x5x5x68x2052, .f32⟩
  | .hbm, ⟨40, _⟩ => ⟨S8x5x5x1x1x68x2052, .f32⟩
  | .hbm, ⟨41, _⟩ => ⟨S8x5x5x1x1x64x2052, .f32⟩
  | .hbm, ⟨42, _⟩ => ⟨S8x5x5x1x1x64x2052, .f32⟩
  | .hbm, ⟨43, _⟩ => ⟨S8x5x5x1x1x64x2052, .f32⟩
  | .hbm, ⟨44, _⟩ => ⟨S8x5x5x1x1x64x2052, .f32⟩
  | .hbm, ⟨45, _⟩ => ⟨S8x5x5x1x1x64x2052, .f32⟩
  | .hbm, ⟨46, _⟩ => ⟨S8x5x5x5x1x64x2052, .f32⟩
  | .hbm, ⟨47, _⟩ => ⟨S8x5x5x5x1x64x2048, .f32⟩
  | .hbm, ⟨48, _⟩ => ⟨S8x5x5x5x1x64x2048, .f32⟩
  | .hbm, ⟨49, _⟩ => ⟨S8x5x5x5x1x64x2048, .f32⟩
  | .hbm, ⟨50, _⟩ => ⟨S8x5x5x5x1x64x2048, .f32⟩
  | .hbm, ⟨51, _⟩ => ⟨S8x5x5x5x1x64x2048, .f32⟩
  | .hbm, ⟨52, _⟩ => ⟨S8x5x5x5x5x64x2048, .f32⟩
  | .hbm, ⟨53, _⟩ => ⟨S1x1x1x5x5x1x1, .f32⟩
  | .hbm, ⟨54, _⟩ => ⟨S8x5x5x5x5x64x2048, .f32⟩
  | .hbm, ⟨55, _⟩ => ⟨S8x5x5x5x5x64x2048, .f32⟩
  | .hbm, ⟨56, _⟩ => ⟨S_, .f32⟩
  | .hbm, ⟨57, _⟩ => ⟨S8x5x5x64x2048, .f32⟩
  | .hbm, ⟨58, _⟩ => ⟨S8x25x64x2048, .f32⟩
  | .hbm, ⟨59, _⟩ => ⟨S8x64x2048, .f32⟩
  | .hbm, ⟨60, _⟩ => ⟨S_, .f32⟩
  | .hbm, ⟨61, _⟩ => ⟨S8x68x2052, .f32⟩
  | .hbm, ⟨62, _⟩ => ⟨S8x1x1x68x2052, .f32⟩
  | .hbm, ⟨63, _⟩ => ⟨S8x1x1x64x2052, .f32⟩
  | .hbm, ⟨64, _⟩ => ⟨S8x1x1x64x2052, .f32⟩
  | .hbm, ⟨65, _⟩ => ⟨S8x1x1x64x2052, .f32⟩
  | .hbm, ⟨66, _⟩ => ⟨S8x1x1x64x2052, .f32⟩
  | .hbm, ⟨67, _⟩ => ⟨S8x1x1x64x2052, .f32⟩
  | .hbm, ⟨68, _⟩ => ⟨S8x5x1x64x2052, .f32⟩
  | .hbm, ⟨69, _⟩ => ⟨S8x5x1x64x2048, .f32⟩
  | .hbm, ⟨70, _⟩ => ⟨S8x5x1x64x2048, .f32⟩
  | .hbm, ⟨71, _⟩ => ⟨S8x5x1x64x2048, .f32⟩
  | .hbm, ⟨72, _⟩ => ⟨S8x5x1x64x2048, .f32⟩
  | .hbm, ⟨73, _⟩ => ⟨S8x5x1x64x2048, .f32⟩
  | .hbm, ⟨74, _⟩ => ⟨S8x5x5x64x2048, .f32⟩
  | .hbm, ⟨75, _⟩ => ⟨S8x25x64x2048, .f32⟩
  | .hbm, ⟨76, _⟩ => ⟨S8x25x64x2048, .f32⟩
  | .hbm, ⟨77, _⟩ => ⟨S8x25x64x2048, .f32⟩
  | .hbm, ⟨78, _⟩ => ⟨S8x5x64x2048, .f32⟩
  | .hbm, ⟨79, _⟩ => ⟨S8x5x64x2048, .f32⟩
  | .hbm, ⟨80, _⟩ => ⟨S_, .f32⟩
  | .hbm, ⟨81, _⟩ => ⟨S8x5x64x2048, .f32⟩
  | .hbm, ⟨82, _⟩ => ⟨S8x5x64x2048, .i1⟩
  | .hbm, ⟨83, _⟩ => ⟨S_, .f32⟩
  | .hbm, ⟨84, _⟩ => ⟨S8x5x64x2048, .f32⟩
  | .hbm, ⟨85, _⟩ => ⟨S8x5x64x2048, .f32⟩
  | .hbm, ⟨86, _⟩ => ⟨S8x5x64x2048, .i32⟩
  | .hbm, ⟨87, _⟩ => ⟨S20, .i32⟩
  | .hbm, ⟨88, _⟩ => ⟨S20x1x1, .i32⟩
  | .hbm, ⟨89, _⟩ => ⟨S8x5x1x64x2048, .i32⟩
  | .hbm, ⟨90, _⟩ => ⟨S1x1x20x1x1, .i32⟩
  | .hbm, ⟨91, _⟩ => ⟨S8x5x20x64x2048, .i32⟩
  | .hbm, ⟨92, _⟩ => ⟨S8x5x20x64x2048, .i32⟩
  | .hbm, ⟨93, _⟩ => ⟨S8x5x20x64x2048, .i1⟩
  | .hbm, ⟨94, _⟩ => ⟨S8x5x20x64x2048, .f32⟩
  | .hbm, ⟨95, _⟩ => ⟨S_, .f32⟩
  | .hbm, ⟨96, _⟩ => ⟨S8x20x64x2048, .f32⟩
  | .hbm, ⟨97, _⟩ => ⟨S_, .f32⟩
  | .hbm, ⟨98, _⟩ => ⟨S8x64x2048, .f32⟩
  | .hbm, ⟨99, _⟩ => ⟨S8x1x64x2048, .f32⟩
  | .hbm, ⟨100, _⟩ => ⟨S8x20x64x2048, .i32⟩
  | .hbm, ⟨101, _⟩ => ⟨S8x20x64x2048, .f32⟩
  | .hbm, ⟨102, _⟩ => ⟨S8x20x64x2048, .i1⟩
  | .hbm, ⟨103, _⟩ => ⟨S_, .i32⟩
  | .hbm, ⟨104, _⟩ => ⟨S8x20x64x2048, .i32⟩
  | .hbm, ⟨105, _⟩ => ⟨S8x20x64x2048, .i32⟩
  | .hbm, ⟨106, _⟩ => ⟨S_, .i32⟩
  | .hbm, ⟨107, _⟩ => ⟨S8x64x2048, .i32⟩
  | _, _ => ⟨S8x1x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_5 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_6 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66_0 : Ref sig .tc := ⟨.hbm, 76, rfl⟩
abbrev main_v66_1 : Ref sig .tc := ⟨.hbm, 77, rfl⟩
abbrev main_v67 : Ref sig .tc := ⟨.hbm, 78, rfl⟩
abbrev main_v68 : Ref sig .tc := ⟨.hbm, 79, rfl⟩
abbrev main_cst_7 : Ref sig .tc := ⟨.hbm, 80, rfl⟩
abbrev main_v69 : Ref sig .tc := ⟨.hbm, 81, rfl⟩
abbrev main_v70 : Ref sig .tc := ⟨.hbm, 82, rfl⟩
abbrev main_cst_8 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_cst_9 : Ref sig .tc := ⟨.hbm, 95, rfl⟩
abbrev main_v82 : Ref sig .tc := ⟨.hbm, 96, rfl⟩
abbrev main_cst_10 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_c : Ref sig .tc := ⟨.hbm, 103, rfl⟩
abbrev main_v88 : Ref sig .tc := ⟨.hbm, 104, rfl⟩
abbrev main_v89 : Ref sig .tc := ⟨.hbm, 105, rfl⟩
abbrev main_c_11 : Ref sig .tc := ⟨.hbm, 106, rfl⟩
abbrev main_v90 : Ref sig .tc := ⟨.hbm, 107, rfl⟩

abbrev nD : Nat := 1
abbrev τ : Topo := Topo.v7x

variable {F : FTy → Type} [FloatOps F]
-- ==== Proof.KernelValues.lean ====
module

public import proofs.«01_k».proof.Defs
public import proofs.«01_k».proof.Proof.Gen.KernelIdeal.Skeleton

@[expose] public section

set_option maxRecDepth 16384

noncomputable section

/-! The values the kernel body computes from its two input blocks, each under its printed number. -/

namespace Cert.KernelIdeal.Vals

open Idealize.ShloMosaic Idealize.SL.Sem Cert.KernelIdeal Cert.KernelIdeal.Gen

/-- The padded depth block. -/
abbrev A0 := Vec Ideal S1x72x2056 .f32
/-- The padded label block. -/
abbrev A1 := Vec Ideal S1x68x2052 .i32

def w1 (x0 : A0) (x1 : A1) : FVec Ideal S72x2056 .f32 := shapeCast S72x2056 x0 shapeCasts_S1x72x2056_S72x2056
def w3 (x0 : A0) (x1 : A1) : IVec S68x2052 32 := shapeCast S68x2052 x1 shapeCasts_S1x68x2052_S68x2052
def w4 (x0 : A0) (x1 : A1) : FVec Ideal S72x2048 .f32 := extractStridedSlice S72x2048 ![0, 0] (w1 x0 x1) slices_S72x2056_o0_0_S72x2048
def w5 (x0 : A0) (x1 : A1) : FVec Ideal S72x2048 .f32 := extractStridedSlice S72x2048 ![0, 1] (w1 x0 x1) slices_S72x2056_o0_1_S72x2048
def w6 (x0 : A0) (x1 : A1) : FVec Ideal S72x2048 .f32 := extractStridedSlice S72x2048 ![0, 2] (w1 x0 x1) slices_S72x2056_o0_2_S72x2048
def w7 (x0 : A0) (x1 : A1) : FVec Ideal S72x2048 .f32 := extractStridedSlice S72x2048 ![0, 3] (w1 x0 x1) slices_S72x2056_o0_3_S72x2048
def w8 (x0 : A0) (x1 : A1) : FVec Ideal S72x2048 .f32 := extractStridedSlice S72x2048 ![0, 4] (w1 x0 x1) slices_S72x2056_o0_4_S72x2048
def w9 (x0 : A0) (x1 : A1) : FVec Ideal S72x2048 .f32 := extractStridedSlice S72x2048 ![0, 5] (w1 x0 x1) slices_S72x2056_o0_5_S72x2048
def w10 (x0 : A0) (x1 : A1) : FVec Ideal S72x2048 .f32 := extractStridedSlice S72x2048 ![0, 6] (w1 x0 x1) slices_S72x2056_o0_6_S72x2048
def w11 (x0 : A0) (x1 : A1) : FVec Ideal S72x2048 .f32 := extractStridedSlice S72x2048 ![0, 7] (w1 x0 x1) slices_S72x2056_o0_7_S72x2048
def w12 (x0 : A0) (x1 : A1) : FVec Ideal S72x2048 .f32 := extractStridedSlice S72x2048 ![0, 8] (w1 x0 x1) slices_S72x2056_o0_8_S72x2048
def w25 (x0 : A0) (x1 : A1) : FVec Ideal S1x2048 .f32 := select (andi (cmpi .sge (addi (iota .tc S1x2048 32 [1] iota_S1x2048_d1_w32) (broadcast S1x2048 (4294967294#32))) (broadcast S1x2048 (0#32))) (cmpi .sle (addi (iota .tc S1x2048 32 [1] iota_S1x2048_d1_w32) (broadcast S1x2048 (4294967294#32))) (broadcast S1x2048 (2047#32)))) (broadcast S1x2048 ((Scalar.ofBits .f32 0x3F800000#32 : Ideal .f32))) (broadcast S1x2048 ((Scalar.ofBits .f32 0x00000000#32 : Ideal .f32)))
def w37 (x0 : A0) (x1 : A1) : FVec Ideal S1x2048 .f32 := select (andi (cmpi .sge (addi (iota .tc S1x2048 32 [1] iota_S1x2048_d1_w32) (broadcast S1x2048 (4294967295#32))) (broadcast S1x2048 (0#32))) (cmpi .sle (addi (iota .tc S1x2048 32 [1] iota_S1x2048_d1_w32) (broadcast S1x2048 (4294967295#32))) (broadcast S1x2048 (2047#32)))) (broadcast S1x2048 ((Scalar.ofBits .f32 0x3F800000#32 : Ideal .f32))) (broadcast S1x2048 ((Scalar.ofBits .f32 0x00000000#32 : Ideal .f32)))
def w49 (x0 : A0) (x1 : A1) : FVec Ideal S1x2048 .f32 := select (andi (cmpi .sge (addi (iota .tc S1x2048 32 [1] iota_S1x2048_d1_w32) (broadcast S1x2048 (0#32))) (broadcast S1x2048 (0#32))) (cmpi .sle (addi (iota .tc S1x2048 32 [1] iota_S1x2048_d1_w32) (broadcast S1x2048 (0#32))) (broadcast S1x2048 (2047#32)))) (broadcast S1x2048 ((Scalar.ofBits .f32 0x3F800000#32 : Ideal .f32))) (broadcast S1x2048 ((Scalar.ofBits .f32 0x00000000#32 : Ideal .f32)))
def w61 (x0 : A0) (x1 : A1) : FVec Ideal S1x2048 .f32 := select (andi (cmpi .sge (addi (iota .tc S1x2048 32 [1] iota_S1x2048_d1_w32) (broadcast S1x2048 (1#32))) (broadcast S1x2048 (0#32))) (cmpi .sle (addi (iota .tc S1x2048 32 [1] iota_S1x2048_d1_w32) (broadcast S1x2048 (1#32))) (broadcast S1x2048 (2047#32)))) (broadcast S1x2048 ((Scalar.ofBits .f32 0x3F800000#32 : Ideal .f32))) (broadcast S1x2048 ((Scalar.ofBits .f32 0x00000000#32 : Ideal .f32)))
def w73 (x0 : A0) (x1 : A1) : FVec Ideal S1x2048 .f32 := select (andi (cmpi .sge (addi (iota .tc S1x2048 32 [1] iota_S1x2048_d1_w32) (broadcast S1x2048 (2#32))) (broadcast S1x2048 (0#32))) (cmpi .sle (addi (iota .tc S1x2048 32 [1] iota_S1x2048_d1_w32) (broadcast S1x2048 (2#32))) (broadcast S1x2048 (2047#32)))) (broadcast S1x2048 ((Scalar.ofBits .f32 0x3F800000#32 : Ideal .f32))) (broadcast S1x2048 ((Scalar.ofBits .f32 0x00000000#32 : Ideal .f32)))
def w75 (x0 : A0) (x1 : A1) : FVec Ideal S72x2048 .f32 := mulf (w4 x0 x1) (broadcastTo S72x2048 (w25 x0 x1) broadcasts_S1x2048_S72x2048)
def w77 (x0 : A0) (x1 : A1) : FVec Ideal S72x2048 .f32 := mulf (w5 x0 x1) (broadcastTo S72x2048 (w25 x0 x1) broadcasts_S1x2048_S72x2048)
def w79 (x0 : A0) (x1 : A1) : FVec Ideal S72x2048 .f32 := mulf (w6 x0 x1) (broadcastTo S72x2048 (w25 x0 x1) broadcasts_S1x2048_S72x2048)
def w81 (x0 : A0) (x1 : A1) : FVec Ideal S72x2048 .f32 := mulf (w7 x0 x1) (broadcastTo S72x2048 (w25 x0 x1) broadcasts_S1x2048_S72x2048)
def w83 (x0 : A0) (x1 : A1) : FVec Ideal S72x2048 .f32 := mulf (w8 x0 x1) (broadcastTo S72x2048 (w25 x0 x1) broadcasts_S1x2048_S72x2048)
def w85 (x0 : A0) (x1 : A1) : FVec Ideal S72x2048 .f32 := mulf (w5 x0 x1) (broadcastTo S72x2048 (w37 x0 x1) broadcasts_S1x2048_S72x2048)
def w87 (x0 : A0) (x1 : A1) : FVec Ideal S72x2048 .f32 := mulf (w6 x0 x1) (broadcastTo S72x2048 (w37 x0 x1) broadcasts_S1x2048_S72x2048)
def w89 (x0 : A0) (x1 : A1) : FVec Ideal S72x2048 .f32 := mulf (w7 x0 x1) (broadcastTo S72x2048 (w37 x0 x1) broadcasts_S1x2048_S72x2048)
def w91 (x0 : A0) (x1 : A1) : FVec Ideal S72x2048 .f32 := mulf (w8 x0 x1) (broadcastTo S72x2048 (w37 x0 x1) broadcasts_S1x2048_S72x2048)
def w93 (x0 : A0) (x1 : A1) : FVec Ideal S72x2048 .f32 := mulf (w9 x0 x1) (broadcastTo S72x2048 (w37 x0 x1) broadcasts_S1x2048_S72x2048)
def w95 (x0 : A0) (x1 : A1) : FVec Ideal S72x2048 .f32 := mulf (w6 x0 x1) (broadcastTo S72x2048 (w49 x0 x1) broadcasts_S1x2048_S72x2048)
def w97 (x0 : A0) (x1 : A1) : FVec Ideal S72x2048 .f32 := mulf (w7 x0 x1) (broadcastTo S72x2048 (w49 x0 x1) broadcasts_S1x2048_S72x2048)
def w99 (x0 : A0) (x1 : A1) : FVec Ideal S72x2048 .f32 := mulf (w8 x0 x1) (broadcastTo S72x2048 (w49 x0 x1) broadcasts_S1x2048_S72x2048)
def w101 (x0 : A0) (x1 : A1) : FVec Ideal S72x2048 .f32 := mulf (w9 x0 x1) (broadcastTo S72x2048 (w49 x0 x1) broadcasts_S1x2048_S72x2048)
def w103 (x0 : A0) (x1 : A1) : FVec Ideal S72x2048 .f32 := mulf (w10 x0 x1) (broadcastTo S72x2048 (w49 x0 x1) broadcasts_S1x2048_S72x2048)
def w105 (x0 : A0) (x1 : A1) : FVec Ideal S72x2048 .f32 := mulf (w7 x0 x1) (broadcastTo S72x2048 (w61 x0 x1) broadcasts_S1x2048_S72x2048)
def w107 (x0 : A0) (x1 : A1) : FVec Ideal S72x2048 .f32 := mulf (w8 x0 x1) (broadcastTo S72x2048 (w61 x0 x1) broadcasts_S1x2048_S72x2048)
def w109 (x0 : A0) (x1 : A1) : FVec Ideal S72x2048 .f32 := mulf (w9 x0 x1) (broadcastTo S72x2048 (w61 x0 x1) broadcasts_S1x2048_S72x2048)
def w111 (x0 : A0) (x1 : A1) : FVec Ideal S72x2048 .f32 := mulf (w10 x0 x1) (broadcastTo S72x2048 (w61 x0 x1) broadcasts_S1x2048_S72x2048)
def w113 (x0 : A0) (x1 : A1) : FVec Ideal S72x2048 .f32 := mulf (w11 x0 x1) (broadcastTo S72x2048 (w61 x0 x1) broadcasts_S1x2048_S72x2048)
def w115 (x0 : A0) (x1 : A1) : FVec Ideal S72x2048 .f32 := mulf (w8 x0 x1) (broadcastTo S72x2048 (w73 x0 x1) broadcasts_S1x2048_S72x2048)
def w117 (x0 : A0) (x1 : A1) : FVec Ideal S72x2048 .f32 := mulf (w9 x0 x1) (broadcastTo S72x2048 (w73 x0 x1) broadcasts_S1x2048_S72x2048)
def w119 (x0 : A0) (x1 : A1) : FVec Ideal S72x2048 .f32 := mulf (w10 x0 x1) (broadcastTo S72x2048 (w73 x0 x1) broadcasts_S1x2048_S72x2048)
def w121 (x0 : A0) (x1 : A1) : FVec Ideal S72x2048 .f32 := mulf (w11 x0 x1) (broadcastTo S72x2048 (w73 x0 x1) broadcasts_S1x2048_S72x2048)
def w123 (x0 : A0) (x1 : A1) : FVec Ideal S72x2048 .f32 := mulf (w12 x0 x1) (broadcastTo S72x2048 (w73 x0 x1) broadcasts_S1x2048_S72x2048)
def w124 (x0 : A0) (x1 : A1) : FVec Ideal S68x2048 .f32 := extractStridedSlice S68x2048 ![2, 0] (w79 x0 x1) slices_S72x2048_o2_0_S68x2048
def w125 (x0 : A0) (x1 : A1) : FVec Ideal S68x2048 .f32 := extractStridedSlice S68x2048 ![2, 0] (w89 x0 x1) slices_S72x2048_o2_0_S68x2048
def w126 (x0 : A0) (x1 : A1) : FVec Ideal S68x2048 .f32 := extractStridedSlice S68x2048 ![2, 0] (w99 x0 x1) slices_S72x2048_o2_0_S68x2048
def w127 (x0 : A0) (x1 : A1) : FVec Ideal S68x2048 .f32 := extractStridedSlice S68x2048 ![2, 0] (w109 x0 x1) slices_S72x2048_o2_0_S68x2048
def w128 (x0 : A0) (x1 : A1) : FVec Ideal S68x2048 .f32 := extractStridedSlice S68x2048 ![2, 0] (w119 x0 x1) slices_S72x2048_o2_0_S68x2048
def w129 (x0 : A0) (x1 : A1) : IVec S68x2048 32 := extractStridedSlice S68x2048 ![0, 0] (w3 x0 x1) slices_S68x2052_o0_0_S68x2048
def w130 (x0 : A0) (x1 : A1) : IVec S68x2048 32 := extractStridedSlice S68x2048 ![0, 1] (w3 x0 x1) slices_S68x2052_o0_1_S68x2048
def w131 (x0 : A0) (x1 : A1) : IVec S68x2048 32 := extractStridedSlice S68x2048 ![0, 2] (w3 x0 x1) slices_S68x2052_o0_2_S68x2048
def w132 (x0 : A0) (x1 : A1) : IVec S68x2048 32 := extractStridedSlice S68x2048 ![0, 3] (w3 x0 x1) slices_S68x2052_o0_3_S68x2048
def w133 (x0 : A0) (x1 : A1) : IVec S68x2048 32 := extractStridedSlice S68x2048 ![0, 4] (w3 x0 x1) slices_S68x2052_o0_4_S68x2048
def w150 (x0 : A0) (x1 : A1) : FVec Ideal S64x68 .f32 := select (andi (andi (cmpi .sge (subi (iota .tc S64x68 32 [1] iota_S64x68_d1_w32) (iota .tc S64x68 32 [0] iota_S64x68_d0_w32)) (broadcast S64x68 (0#32))) (cmpi .sle (subi (iota .tc S64x68 32 [1] iota_S64x68_d1_w32) (iota .tc S64x68 32 [0] iota_S64x68_d0_w32)) (broadcast S64x68 (4#32)))) (andi (cmpi .sge (iota .tc S64x68 32 [1] iota_S64x68_d1_w32) (broadcast S64x68 (2#32))) (cmpi .slt (iota .tc S64x68 32 [1] iota_S64x68_d1_w32) (broadcast S64x68 (66#32))))) (broadcast S64x68 ((Scalar.ofBits .f32 0x3F800000#32 : Ideal .f32))) (broadcast S64x68 ((Scalar.ofBits .f32 0x00000000#32 : Ideal .f32)))
def w176 (x0 : A0) (x1 : A1) : FVec Ideal S64x68 .f32 := select (andi (cmpi .eq (subi (iota .tc S64x68 32 [1] iota_S64x68_d1_w32) (iota .tc S64x68 32 [0] iota_S64x68_d0_w32)) (broadcast S64x68 (4#32))) (andi (cmpi .sge (iota .tc S64x68 32 [1] iota_S64x68_d1_w32) (broadcast S64x68 (2#32))) (cmpi .slt (iota .tc S64x68 32 [1] iota_S64x68_d1_w32) (broadcast S64x68 (66#32))))) (broadcast S64x68 ((Scalar.ofBits .f32 0x3D5F2F87#32 : Ideal .f32))) (select (andi (cmpi .eq (subi (iota .tc S64x68 32 [1] iota_S64x68_d1_w32) (iota .tc S64x68 32 [0] iota_S64x68_d0_w32)) (broadcast S64x68 (3#32))) (andi (cmpi .sge (iota .tc S64x68 32 [1] iota_S64x68_d1_w32) (broadcast S64x68 (2#32))) (cmpi .slt (iota .tc S64x68 32 [1] iota_S64x68_d1_w32) (broadcast S64x68 (66#32))))) (broadcast S64x68 ((Scalar.ofBits .f32 0x3E7A0FEB#32 : Ideal .f32))) (select (andi (cmpi .eq (subi (iota .tc S64x68 32 [1] iota_S64x68_d1_w32) (iota .tc S64x68 32 [0] iota_S64x68_d0_w32)) (broadcast S64x68 (2#32))) (andi (cmpi .sge (iota .tc S64x68 32 [1] iota_S64x68_d1_w32) (broadcast S64x68 (2#32))) (cmpi .slt (iota .tc S64x68 32 [1] iota_S64x68_d1_w32) (broadcast S64x68 (66#32))))) (broadcast S64x68 ((Scalar.ofBits .f32 0x3ECE2434#32 : Ideal .f32))) (select (andi (cmpi .eq (subi (iota .tc S64x68 32 [1] iota_S64x68_d1_w32) (iota .tc S64x68 32 [0] iota_S64x68_d0_w32)) (broadcast S64x68 (1#32))) (andi (cmpi .sge (iota .tc S64x68 32 [1] iota_S64x68_d1_w32) (broadcast S64x68 (2#32))) (cmpi .slt (iota .tc S64x68 32 [1] iota_S64x68_d1_w32) (broadcast S64x68 (66#32))))) (broadcast S64x68 ((Scalar.ofBits .f32 0x3E7A0FEB#32 : Ideal .f32))) (select (andi (cmpi .eq (subi (iota .tc S64x68 32 [1] iota_S64x68_d1_w32) (iota .tc S64x68 32 [0] iota_S64x68_d0_w32)) (broadcast S64x68 (0#32))) (andi (cmpi .sge (iota .tc S64x68 32 [1] iota_S64x68_d1_w32) (broadcast S64x68 (2#32))) (cmpi .slt (iota .tc S64x68 32 [1] iota_S64x68_d1_w32) (broadcast S64x68 (66#32))))) (broadcast S64x68 ((Scalar.ofBits .f32 0x3D5F2F87#32 : Ideal .f32))) (broadcast S64x68 ((Scalar.ofBits .f32 0x00000000#32 : Ideal .f32)))))))
def w179 (x0 : A0) (x1 : A1) : FVec Ideal S68x2048 .f32 := absf (subf (extractStridedSlice S68x2048 ![0, 0] (w75 x0 x1) slices_S72x2048_o0_0_S68x2048) (w124 x0 x1))
def w182 (x0 : A0) (x1 : A1) : FVec Ideal S68x2048 .f32 := absf (subf (extractStridedSlice S68x2048 ![0, 0] (w85 x0 x1) slices_S72x2048_o0_0_S68x2048) (w125 x0 x1))
def w185 (x0 : A0) (x1 : A1) : FVec Ideal S68x2048 .f32 := absf (subf (extractStridedSlice S68x2048 ![0, 0] (w95 x0 x1) slices_S72x2048_o0_0_S68x2048) (w126 x0 x1))
def w188 (x0 : A0) (x1 : A1) : FVec Ideal S68x2048 .f32 := absf (subf (extractStridedSlice S68x2048 ![0, 0] (w105 x0 x1) slices_S72x2048_o0_0_S68x2048) (w127 x0 x1))
def w191 (x0 : A0) (x1 : A1) : FVec Ideal S68x2048 .f32 := absf (subf (extractStridedSlice S68x2048 ![0, 0] (w115 x0 x1) slices_S72x2048_o0_0_S68x2048) (w128 x0 x1))
def w192 (x0 : A0) (x1 : A1) : FVec Ideal S68x2048 .f32 := addf (w179 x0 x1) (w191 x0 x1)
def w193 (x0 : A0) (x1 : A1) : FVec Ideal S68x2048 .f32 := addf (w182 x0 x1) (w188 x0 x1)
def w194 (x0 : A0) (x1 : A1) : FVec Ideal S68x2048 .f32 := addf (w192 x0 x1) (w193 x0 x1)
def w195 (x0 : A0) (x1 : A1) : FVec Ideal S68x2048 .f32 := addf (w194 x0 x1) (w185 x0 x1)
def w202 (x0 : A0) (x1 : A1) : FVec Ideal S68x2048 .f32 := addf (mulf (broadcast S68x2048 ((Scalar.ofBits .f32 0x3E7A0FEB#32 : Ideal .f32))) (w193 x0 x1)) (mulf (broadcast S68x2048 ((Scalar.ofBits .f32 0x3ECE2434#32 : Ideal .f32))) (w185 x0 x1))
def w203 (x0 : A0) (x1 : A1) : FVec Ideal S68x2048 .f32 := addf (mulf (broadcast S68x2048 ((Scalar.ofBits .f32 0x3D5F2F87#32 : Ideal .f32))) (w192 x0 x1)) (w202 x0 x1)
def w206 (x0 : A0) (x1 : A1) : FVec Ideal S64x2048 .f32 := subf (matmul dot_S64x68_S68x2048_S64x2048_1_0_0_1_n_n (some .fp32) (w150 x0 x1) (w195 x0 x1) (constant S64x2048 .f32 0x00000000#32)) (matmul dot_S64x68_S68x2048_S64x2048_1_0_0_1_n_n (some .fp32) (w176 x0 x1) (w203 x0 x1) (constant S64x2048 .f32 0x00000000#32))
def w207 (x0 : A0) (x1 : A1) : IVec S64x2048 32 := extractStridedSlice S64x2048 ![0, 0] (w129 x0 x1) slices_S68x2048_o0_0_S64x2048
def w210 (x0 : A0) (x1 : A1) : FVec Ideal S68x2048 .f32 := absf (subf (extractStridedSlice S68x2048 ![0, 0] (w77 x0 x1) slices_S72x2048_o0_0_S68x2048) (w124 x0 x1))
def w213 (x0 : A0) (x1 : A1) : FVec Ideal S68x2048 .f32 := absf (subf (extractStridedSlice S68x2048 ![0, 0] (w87 x0 x1) slices_S72x2048_o0_0_S68x2048) (w125 x0 x1))
def w216 (x0 : A0) (x1 : A1) : FVec Ideal S68x2048 .f32 := absf (subf (extractStridedSlice S68x2048 ![0, 0] (w97 x0 x1) slices_S72x2048_o0_0_S68x2048) (w126 x0 x1))
def w219 (x0 : A0) (x1 : A1) : FVec Ideal S68x2048 .f32 := absf (subf (extractStridedSlice S68x2048 ![0, 0] (w107 x0 x1) slices_S72x2048_o0_0_S68x2048) (w127 x0 x1))
def w222 (x0 : A0) (x1 : A1) : FVec Ideal S68x2048 .f32 := absf (subf (extractStridedSlice S68x2048 ![0, 0] (w117 x0 x1) slices_S72x2048_o0_0_S68x2048) (w128 x0 x1))
def w223 (x0 : A0) (x1 : A1) : FVec Ideal S68x2048 .f32 := addf (w210 x0 x1) (w222 x0 x1)
def w224 (x0 : A0) (x1 : A1) : FVec Ideal S68x2048 .f32 := addf (w213 x0 x1) (w219 x0 x1)
def w225 (x0 : A0) (x1 : A1) : FVec Ideal S68x2048 .f32 := addf (w223 x0 x1) (w224 x0 x1)
def w226 (x0 : A0) (x1 : A1) : FVec Ideal S68x2048 .f32 := addf (w225 x0 x1) (w216 x0 x1)
def w233 (x0 : A0) (x1 : A1) : FVec Ideal S68x2048 .f32 := addf (mulf (broadcast S68x2048 ((Scalar.ofBits .f32 0x3E7A0FEB#32 : Ideal .f32))) (w224 x0 x1)) (mulf (broadcast S68x2048 ((Scalar.ofBits .f32 0x3ECE2434#32 : Ideal .f32))) (w216 x0 x1))
def w234 (x0 : A0) (x1 : A1) : FVec Ideal S68x2048 .f32 := addf (mulf (broadcast S68x2048 ((Scalar.ofBits .f32 0x3D5F2F87#32 : Ideal .f32))) (w223 x0 x1)) (w233 x0 x1)
def w237 (x0 : A0) (x1 : A1) : FVec Ideal S64x2048 .f32 := subf (matmul dot_S64x68_S68x2048_S64x2048_1_0_0_1_n_n (some .fp32) (w150 x0 x1) (w226 x0 x1) (constant S64x2048 .f32 0x00000000#32)) (matmul dot_S64x68_S68x2048_S64x2048_1_0_0_1_n_n (some .fp32) (w176 x0 x1) (w234 x0 x1) (constant S64x2048 .f32 0x00000000#32))
def w238 (x0 : A0) (x1 : A1) : IVec S64x2048 32 := extractStridedSlice S64x2048 ![0, 0] (w130 x0 x1) slices_S68x2048_o0_0_S64x2048
def w241 (x0 : A0) (x1 : A1) : FVec Ideal S68x2048 .f32 := absf (subf (extractStridedSlice S68x2048 ![0, 0] (w79 x0 x1) slices_S72x2048_o0_0_S68x2048) (w124 x0 x1))
def w244 (x0 : A0) (x1 : A1) : FVec Ideal S68x2048 .f32 := absf (subf (extractStridedSlice S68x2048 ![0, 0] (w89 x0 x1) slices_S72x2048_o0_0_S68x2048) (w125 x0 x1))
def w247 (x0 : A0) (x1 : A1) : FVec Ideal S68x2048 .f32 := absf (subf (extractStridedSlice S68x2048 ![0, 0] (w99 x0 x1) slices_S72x2048_o0_0_S68x2048) (w126 x0 x1))
def w250 (x0 : A0) (x1 : A1) : FVec Ideal S68x2048 .f32 := absf (subf (extractStridedSlice S68x2048 ![0, 0] (w109 x0 x1) slices_S72x2048_o0_0_S68x2048) (w127 x0 x1))
def w253 (x0 : A0) (x1 : A1) : FVec Ideal S68x2048 .f32 := absf (subf (extractStridedSlice S68x2048 ![0, 0] (w119 x0 x1) slices_S72x2048_o0_0_S68x2048) (w128 x0 x1))
def w254 (x0 : A0) (x1 : A1) : FVec Ideal S68x2048 .f32 := addf (w241 x0 x1) (w253 x0 x1)
def w255 (x0 : A0) (x1 : A1) : FVec Ideal S68x2048 .f32 := addf (w244 x0 x1) (w250 x0 x1)
def w256 (x0 : A0) (x1 : A1) : FVec Ideal S68x2048 .f32 := addf (w254 x0 x1) (w255 x0 x1)
def w257 (x0 : A0) (x1 : A1) : FVec Ideal S68x2048 .f32 := addf (w256 x0 x1) (w247 x0 x1)
def w264 (x0 : A0) (x1 : A1) : FVec Ideal S68x2048 .f32 := addf (mulf (broadcast S68x2048 ((Scalar.ofBits .f32 0x3E7A0FEB#32 : Ideal .f32))) (w255 x0 x1)) (mulf (broadcast S68x2048 ((Scalar.ofBits .f32 0x3ECE2434#32 : Ideal .f32))) (w247 x0 x1))
def w265 (x0 : A0) (x1 : A1) : FVec Ideal S68x2048 .f32 := addf (mulf (broadcast S68x2048 ((Scalar.ofBits .f32 0x3D5F2F87#32 : Ideal .f32))) (w254 x0 x1)) (w264 x0 x1)
def w268 (x0 : A0) (x1 : A1) : FVec Ideal S64x2048 .f32 := subf (matmul dot_S64x68_S68x2048_S64x2048_1_0_0_1_n_n (some .fp32) (w150 x0 x1) (w257 x0 x1) (constant S64x2048 .f32 0x00000000#32)) (matmul dot_S64x68_S68x2048_S64x2048_1_0_0_1_n_n (some .fp32) (w176 x0 x1) (w265 x0 x1) (constant S64x2048 .f32 0x00000000#32))
def w269 (x0 : A0) (x1 : A1) : IVec S64x2048 32 := extractStridedSlice S64x2048 ![0, 0] (w131 x0 x1) slices_S68x2048_o0_0_S64x2048
def w272 (x0 : A0) (x1 : A1) : FVec Ideal S68x2048 .f32 := absf (subf (extractStridedSlice S68x2048 ![0, 0] (w81 x0 x1) slices_S72x2048_o0_0_S68x2048) (w124 x0 x1))
def w275 (x0 : A0) (x1 : A1) : FVec Ideal S68x2048 .f32 := absf (subf (extractStridedSlice S68x2048 ![0, 0] (w91 x0 x1) slices_S72x2048_o0_0_S68x2048) (w125 x0 x1))
def w278 (x0 : A0) (x1 : A1) : FVec Ideal S68x2048 .f32 := absf (subf (extractStridedSlice S68x2048 ![0, 0] (w101 x0 x1) slices_S72x2048_o0_0_S68x2048) (w126 x0 x1))
def w281 (x0 : A0) (x1 : A1) : FVec Ideal S68x2048 .f32 := absf (subf (extractStridedSlice S68x2048 ![0, 0] (w111 x0 x1) slices_S72x2048_o0_0_S68x2048) (w127 x0 x1))
def w284 (x0 : A0) (x1 : A1) : FVec Ideal S68x2048 .f32 := absf (subf (extractStridedSlice S68x2048 ![0, 0] (w121 x0 x1) slices_S72x2048_o0_0_S68x2048) (w128 x0 x1))
def w285 (x0 : A0) (x1 : A1) : FVec Ideal S68x2048 .f32 := addf (w272 x0 x1) (w284 x0 x1)
def w286 (x0 : A0) (x1 : A1) : FVec Ideal S68x2048 .f32 := addf (w275 x0 x1) (w281 x0 x1)
def w287 (x0 : A0) (x1 : A1) : FVec Ideal S68x2048 .f32 := addf (w285 x0 x1) (w286 x0 x1)
def w288 (x0 : A0) (x1 : A1) : FVec Ideal S68x2048 .f32 := addf (w287 x0 x1) (w278 x0 x1)
def w295 (x0 : A0) (x1 : A1) : FVec Ideal S68x2048 .f32 := addf (mulf (broadcast S68x2048 ((Scalar.ofBits .f32 0x3E7A0FEB#32 : Ideal .f32))) (w286 x0 x1)) (mulf (broadcast S68x2048 ((Scalar.ofBits .f32 0x3ECE2434#32 : Ideal .f32))) (w278 x0 x1))
def w296 (x0 : A0) (x1 : A1) : FVec Ideal S68x2048 .f32 := addf (mulf (broadcast S68x2048 ((Scalar.ofBits .f32 0x3D5F2F87#32 : Ideal .f32))) (w285 x0 x1)) (w295 x0 x1)
def w299 (x0 : A0) (x1 : A1) : FVec Ideal S64x2048 .f32 := subf (matmul dot_S64x68_S68x2048_S64x2048_1_0_0_1_n_n (some .fp32) (w150 x0 x1) (w288 x0 x1) (constant S64x2048 .f32 0x00000000#32)) (matmul dot_S64x68_S68x2048_S64x2048_1_0_0_1_n_n (some .fp32) (w176 x0 x1) (w296 x0 x1) (constant S64x2048 .f32 0x00000000#32))
def w300 (x0 : A0) (x1 : A1) : IVec S64x2048 32 := extractStridedSlice S64x2048 ![0, 0] (w132 x0 x1) slices_S68x2048_o0_0_S64x2048
def w303 (x0 : A0) (x1 : A1) : FVec Ideal S68x2048 .f32 := absf (subf (extractStridedSlice S68x2048 ![0, 0] (w83 x0 x1) slices_S72x2048_o0_0_S68x2048) (w124 x0 x1))
def w306 (x0 : A0) (x1 : A1) : FVec Ideal S68x2048 .f32 := absf (subf (extractStridedSlice S68x2048 ![0, 0] (w93 x0 x1) slices_S72x2048_o0_0_S68x2048) (w125 x0 x1))
def w309 (x0 : A0) (x1 : A1) : FVec Ideal S68x2048 .f32 := absf (subf (extractStridedSlice S68x2048 ![0, 0] (w103 x0 x1) slices_S72x2048_o0_0_S68x2048) (w126 x0 x1))
def w312 (x0 : A0) (x1 : A1) : FVec Ideal S68x2048 .f32 := absf (subf (extractStridedSlice S68x2048 ![0, 0] (w113 x0 x1) slices_S72x2048_o0_0_S68x2048) (w127 x0 x1))
def w315 (x0 : A0) (x1 : A1) : FVec Ideal S68x2048 .f32 := absf (subf (extractStridedSlice S68x2048 ![0, 0] (w123 x0 x1) slices_S72x2048_o0_0_S68x2048) (w128 x0 x1))
def w316 (x0 : A0) (x1 : A1) : FVec Ideal S68x2048 .f32 := addf (w303 x0 x1) (w315 x0 x1)
def w317 (x0 : A0) (x1 : A1) : FVec Ideal S68x2048 .f32 := addf (w306 x0 x1) (w312 x0 x1)
def w318 (x0 : A0) (x1 : A1) : FVec Ideal S68x2048 .f32 := addf (w316 x0 x1) (w317 x0 x1)
def w319 (x0 : A0) (x1 : A1) : FVec Ideal S68x2048 .f32 := addf (w318 x0 x1) (w309 x0 x1)
def w326 (x0 : A0) (x1 : A1) : FVec Ideal S68x2048 .f32 := addf (mulf (broadcast S68x2048 ((Scalar.ofBits .f32 0x3E7A0FEB#32 : Ideal .f32))) (w317 x0 x1)) (mulf (broadcast S68x2048 ((Scalar.ofBits .f32 0x3ECE2434#32 : Ideal .f32))) (w309 x0 x1))
def w327 (x0 : A0) (x1 : A1) : FVec Ideal S68x2048 .f32 := addf (mulf (broadcast S68x2048 ((Scalar.ofBits .f32 0x3D5F2F87#32 : Ideal .f32))) (w316 x0 x1)) (w326 x0 x1)
def w330 (x0 : A0) (x1 : A1) : FVec Ideal S64x2048 .f32 := subf (matmul dot_S64x68_S68x2048_S64x2048_1_0_0_1_n_n (some .fp32) (w150 x0 x1) (w319 x0 x1) (constant S64x2048 .f32 0x00000000#32)) (matmul dot_S64x68_S68x2048_S64x2048_1_0_0_1_n_n (some .fp32) (w176 x0 x1) (w327 x0 x1) (constant S64x2048 .f32 0x00000000#32))
def w331 (x0 : A0) (x1 : A1) : IVec S64x2048 32 := extractStridedSlice S64x2048 ![0, 0] (w133 x0 x1) slices_S68x2048_o0_0_S64x2048
def w336 (x0 : A0) (x1 : A1) : IVec S64x2048 1 := ori (cmpf .olt (w330 x0 x1) (w206 x0 x1)) (andi (cmpf .oeq (w330 x0 x1) (w206 x0 x1)) (cmpi .slt (w331 x0 x1) (w207 x0 x1)))
def w337 (x0 : A0) (x1 : A1) : FVec Ideal S64x2048 .f32 := select (w336 x0 x1) (w330 x0 x1) (w206 x0 x1)
def w338 (x0 : A0) (x1 : A1) : IVec S64x2048 32 := select (w336 x0 x1) (w331 x0 x1) (w207 x0 x1)
def w339 (x0 : A0) (x1 : A1) : FVec Ideal S64x2048 .f32 := select (w336 x0 x1) (w206 x0 x1) (w330 x0 x1)
def w340 (x0 : A0) (x1 : A1) : IVec S64x2048 32 := select (w336 x0 x1) (w207 x0 x1) (w331 x0 x1)
def w345 (x0 : A0) (x1 : A1) : IVec S64x2048 1 := ori (cmpf .olt (w339 x0 x1) (w237 x0 x1)) (andi (cmpf .oeq (w339 x0 x1) (w237 x0 x1)) (cmpi .slt (w340 x0 x1) (w238 x0 x1)))
def w346 (x0 : A0) (x1 : A1) : FVec Ideal S64x2048 .f32 := select (w345 x0 x1) (w339 x0 x1) (w237 x0 x1)
def w347 (x0 : A0) (x1 : A1) : IVec S64x2048 32 := select (w345 x0 x1) (w340 x0 x1) (w238 x0 x1)
def w348 (x0 : A0) (x1 : A1) : FVec Ideal S64x2048 .f32 := select (w345 x0 x1) (w237 x0 x1) (w339 x0 x1)
def w349 (x0 : A0) (x1 : A1) : IVec S64x2048 32 := select (w345 x0 x1) (w238 x0 x1) (w340 x0 x1)
def w354 (x0 : A0) (x1 : A1) : IVec S64x2048 1 := ori (cmpf .olt (w348 x0 x1) (w268 x0 x1)) (andi (cmpf .oeq (w348 x0 x1) (w268 x0 x1)) (cmpi .slt (w349 x0 x1) (w269 x0 x1)))
def w355 (x0 : A0) (x1 : A1) : FVec Ideal S64x2048 .f32 := select (w354 x0 x1) (w348 x0 x1) (w268 x0 x1)
def w356 (x0 : A0) (x1 : A1) : IVec S64x2048 32 := select (w354 x0 x1) (w349 x0 x1) (w269 x0 x1)
def w357 (x0 : A0) (x1 : A1) : FVec Ideal S64x2048 .f32 := select (w354 x0 x1) (w268 x0 x1) (w348 x0 x1)
def w358 (x0 : A0) (x1 : A1) : IVec S64x2048 32 := select (w354 x0 x1) (w269 x0 x1) (w349 x0 x1)
def w363 (x0 : A0) (x1 : A1) : IVec S64x2048 1 := ori (cmpf .olt (w357 x0 x1) (w299 x0 x1)) (andi (cmpf .oeq (w357 x0 x1) (w299 x0 x1)) (cmpi .slt (w358 x0 x1) (w300 x0 x1)))
def w364 (x0 : A0) (x1 : A1) : FVec Ideal S64x2048 .f32 := select (w363 x0 x1) (w357 x0 x1) (w299 x0 x1)
def w365 (x0 : A0) (x1 : A1) : IVec S64x2048 32 := select (w363 x0 x1) (w358 x0 x1) (w300 x0 x1)
def w368 (x0 : A0) (x1 : A1) : FVec Ideal S68x2048 .f32 := absf (subf (extractStridedSlice S68x2048 ![1, 0] (w75 x0 x1) slices_S72x2048_o1_0_S68x2048) (w124 x0 x1))
def w371 (x0 : A0) (x1 : A1) : FVec Ideal S68x2048 .f32 := absf (subf (extractStridedSlice S68x2048 ![1, 0] (w85 x0 x1) slices_S72x2048_o1_0_S68x2048) (w125 x0 x1))
def w374 (x0 : A0) (x1 : A1) : FVec Ideal S68x2048 .f32 := absf (subf (extractStridedSlice S68x2048 ![1, 0] (w95 x0 x1) slices_S72x2048_o1_0_S68x2048) (w126 x0 x1))
def w377 (x0 : A0) (x1 : A1) : FVec Ideal S68x2048 .f32 := absf (subf (extractStridedSlice S68x2048 ![1, 0] (w105 x0 x1) slices_S72x2048_o1_0_S68x2048) (w127 x0 x1))
def w380 (x0 : A0) (x1 : A1) : FVec Ideal S68x2048 .f32 := absf (subf (extractStridedSlice S68x2048 ![1, 0] (w115 x0 x1) slices_S72x2048_o1_0_S68x2048) (w128 x0 x1))
def w381 (x0 : A0) (x1 : A1) : FVec Ideal S68x2048 .f32 := addf (w368 x0 x1) (w380 x0 x1)
def w382 (x0 : A0) (x1 : A1) : FVec Ideal S68x2048 .f32 := addf (w371 x0 x1) (w377 x0 x1)
def w383 (x0 : A0) (x1 : A1) : FVec Ideal S68x2048 .f32 := addf (w381 x0 x1) (w382 x0 x1)
def w384 (x0 : A0) (x1 : A1) : FVec Ideal S68x2048 .f32 := addf (w383 x0 x1) (w374 x0 x1)
def w391 (x0 : A0) (x1 : A1) : FVec Ideal S68x2048 .f32 := addf (mulf (broadcast S68x2048 ((Scalar.ofBits .f32 0x3E7A0FEB#32 : Ideal .f32))) (w382 x0 x1)) (mulf (broadcast S68x2048 ((Scalar.ofBits .f32 0x3ECE2434#32 : Ideal .f32))) (w374 x0 x1))
def w392 (x0 : A0) (x1 : A1) : FVec Ideal S68x2048 .f32 := addf (mulf (broadcast S68x2048 ((Scalar.ofBits .f32 0x3D5F2F87#32 : Ideal .f32))) (w381 x0 x1)) (w391 x0 x1)
def w395 (x0 : A0) (x1 : A1) : FVec Ideal S64x2048 .f32 := subf (matmul dot_S64x68_S68x2048_S64x2048_1_0_0_1_n_n (some .fp32) (w150 x0 x1) (w384 x0 x1) (constant S64x2048 .f32 0x00000000#32)) (matmul dot_S64x68_S68x2048_S64x2048_1_0_0_1_n_n (some .fp32) (w176 x0 x1) (w392 x0 x1) (constant S64x2048 .f32 0x00000000#32))
def w396 (x0 : A0) (x1 : A1) : IVec S64x2048 32 := extractStridedSlice S64x2048 ![1, 0] (w129 x0 x1) slices_S68x2048_o1_0_S64x2048
def w401 (x0 : A0) (x1 : A1) : IVec S64x2048 1 := ori (cmpf .olt (w395 x0 x1) (w337 x0 x1)) (andi (cmpf .oeq (w395 x0 x1) (w337 x0 x1)) (cmpi .slt (w396 x0 x1) (w338 x0 x1)))
def w402 (x0 : A0) (x1 : A1) : FVec Ideal S64x2048 .f32 := select (w401 x0 x1) (w395 x0 x1) (w337 x0 x1)
def w403 (x0 : A0) (x1 : A1) : IVec S64x2048 32 := select (w401 x0 x1) (w396 x0 x1) (w338 x0 x1)
def w404 (x0 : A0) (x1 : A1) : FVec Ideal S64x2048 .f32 := select (w401 x0 x1) (w337 x0 x1) (w395 x0 x1)
def w405 (x0 : A0) (x1 : A1) : IVec S64x2048 32 := select (w401 x0 x1) (w338 x0 x1) (w396 x0 x1)
def w410 (x0 : A0) (x1 : A1) : IVec S64x2048 1 := ori (cmpf .olt (w404 x0 x1) (w346 x0 x1)) (andi (cmpf .oeq (w404 x0 x1) (w346 x0 x1)) (cmpi .slt (w405 x0 x1) (w347 x0 x1)))
def w411 (x0 : A0) (x1 : A1) : FVec Ideal S64x2048 .f32 := select (w410 x0 x1) (w404 x0 x1) (w346 x0 x1)
def w412 (x0 : A0) (x1 : A1) : IVec S64x2048 32 := select (w410 x0 x1) (w405 x0 x1) (w347 x0 x1)
def w413 (x0 : A0) (x1 : A1) : FVec Ideal S64x2048 .f32 := select (w410 x0 x1) (w346 x0 x1) (w404 x0 x1)
def w414 (x0 : A0) (x1 : A1) : IVec S64x2048 32 := select (w410 x0 x1) (w347 x0 x1) (w405 x0 x1)
def w419 (x0 : A0) (x1 : A1) : IVec S64x2048 1 := ori (cmpf .olt (w413 x0 x1) (w355 x0 x1)) (andi (cmpf .oeq (w413 x0 x1) (w355 x0 x1)) (cmpi .slt (w414 x0 x1) (w356 x0 x1)))
def w420 (x0 : A0) (x1 : A1) : FVec Ideal S64x2048 .f32 := select (w419 x0 x1) (w413 x0 x1) (w355 x0 x1)
def w421 (x0 : A0) (x1 : A1) : IVec S64x2048 32 := select (w419 x0 x1) (w414 x0 x1) (w356 x0 x1)
def w422 (x0 : A0) (x1 : A1) : FVec Ideal S64x2048 .f32 := select (w419 x0 x1) (w355 x0 x1) (w413 x0 x1)
def w423 (x0 : A0) (x1 : A1) : IVec S64x2048 32 := select (w419 x0 x1) (w356 x0 x1) (w414 x0 x1)
def w428 (x0 : A0) (x1 : A1) : IVec S64x2048 1 := ori (cmpf .olt (w422 x0 x1) (w364 x0 x1)) (andi (cmpf .oeq (w422 x0 x1) (w364 x0 x1)) (cmpi .slt (w423 x0 x1) (w365 x0 x1)))
def w429 (x0 : A0) (x1 : A1) : FVec Ideal S64x2048 .f32 := select (w428 x0 x1) (w422 x0 x1) (w364 x0 x1)
def w430 (x0 : A0) (x1 : A1) : IVec S64x2048 32 := select (w428 x0 x1) (w423 x0 x1) (w365 x0 x1)
def w433 (x0 : A0) (x1 : A1) : FVec Ideal S68x2048 .f32 := absf (subf (extractStridedSlice S68x2048 ![1, 0] (w77 x0 x1) slices_S72x2048_o1_0_S68x2048) (w124 x0 x1))
def w436 (x0 : A0) (x1 : A1) : FVec Ideal S68x2048 .f32 := absf (subf (extractStridedSlice S68x2048 ![1, 0] (w87 x0 x1) slices_S72x2048_o1_0_S68x2048) (w125 x0 x1))
def w439 (x0 : A0) (x1 : A1) : FVec Ideal S68x2048 .f32 := absf (subf (extractStridedSlice S68x2048 ![1, 0] (w97 x0 x1) slices_S72x2048_o1_0_S68x2048) (w126 x0 x1))
def w442 (x0 : A0) (x1 : A1) : FVec Ideal S68x2048 .f32 := absf (subf (extractStridedSlice S68x2048 ![1, 0] (w107 x0 x1) slices_S72x2048_o1_0_S68x2048) (w127 x0 x1))
def w445 (x0 : A0) (x1 : A1) : FVec Ideal S68x2048 .f32 := absf (subf (extractStridedSlice S68x2048 ![1, 0] (w117 x0 x1) slices_S72x2048_o1_0_S68x2048) (w128 x0 x1))
def w446 (x0 : A0) (x1 : A1) : FVec Ideal S68x2048 .f32 := addf (w433 x0 x1) (w445 x0 x1)
def w447 (x0 : A0) (x1 : A1) : FVec Ideal S68x2048 .f32 := addf (w436 x0 x1) (w442 x0 x1)
def w448 (x0 : A0) (x1 : A1) : FVec Ideal S68x2048 .f32 := addf (w446 x0 x1) (w447 x0 x1)
def w449 (x0 : A0) (x1 : A1) : FVec Ideal S68x2048 .f32 := addf (w448 x0 x1) (w439 x0 x1)
def w456 (x0 : A0) (x1 : A1) : FVec Ideal S68x2048 .f32 := addf (mulf (broadcast S68x2048 ((Scalar.ofBits .f32 0x3E7A0FEB#32 : Ideal .f32))) (w447 x0 x1)) (mulf (broadcast S68x2048 ((Scalar.ofBits .f32 0x3ECE2434#32 : Ideal .f32))) (w439 x0 x1))
def w457 (x0 : A0) (x1 : A1) : FVec Ideal S68x2048 .f32 := addf (mulf (broadcast S68x2048 ((Scalar.ofBits .f32 0x3D5F2F87#32 : Ideal .f32))) (w446 x0 x1)) (w456 x0 x1)
def w460 (x0 : A0) (x1 : A1) : FVec Ideal S64x2048 .f32 := subf (matmul dot_S64x68_S68x2048_S64x2048_1_0_0_1_n_n (some .fp32) (w150 x0 x1) (w449 x0 x1) (constant S64x2048 .f32 0x00000000#32)) (matmul dot_S64x68_S68x2048_S64x2048_1_0_0_1_n_n (some .fp32) (w176 x0 x1) (w457 x0 x1) (constant S64x2048 .f32 0x00000000#32))
def w461 (x0 : A0) (x1 : A1) : IVec S64x2048 32 := extractStridedSlice S64x2048 ![1, 0] (w130 x0 x1) slices_S68x2048_o1_0_S64x2048
def w466 (x0 : A0) (x1 : A1) : IVec S64x2048 1 := ori (cmpf .olt (w460 x0 x1) (w402 x0 x1)) (andi (cmpf .oeq (w460 x0 x1) (w402 x0 x1)) (cmpi .slt (w461 x0 x1) (w403 x0 x1)))
def w467 (x0 : A0) (x1 : A1) : FVec Ideal S64x2048 .f32 := select (w466 x0 x1) (w460 x0 x1) (w402 x0 x1)
def w468 (x0 : A0) (x1 : A1) : IVec S64x2048 32 := select (w466 x0 x1) (w461 x0 x1) (w403 x0 x1)
def w469 (x0 : A0) (x1 : A1) : FVec Ideal S64x2048 .f32 := select (w466 x0 x1) (w402 x0 x1) (w460 x0 x1)
def w470 (x0 : A0) (x1 : A1) : IVec S64x2048 32 := select (w466 x0 x1) (w403 x0 x1) (w461 x0 x1)
def w475 (x0 : A0) (x1 : A1) : IVec S64x2048 1 := ori (cmpf .olt (w469 x0 x1) (w411 x0 x1)) (andi (cmpf .oeq (w469 x0 x1) (w411 x0 x1)) (cmpi .slt (w470 x0 x1) (w412 x0 x1)))
def w476 (x0 : A0) (x1 : A1) : FVec Ideal S64x2048 .f32 := select (w475 x0 x1) (w469 x0 x1) (w411 x0 x1)
def w477 (x0 : A0) (x1 : A1) : IVec S64x2048 32 := select (w475 x0 x1) (w470 x0 x1) (w412 x0 x1)
def w478 (x0 : A0) (x1 : A1) : FVec Ideal S64x2048 .f32 := select (w475 x0 x1) (w411 x0 x1) (w469 x0 x1)
def w479 (x0 : A0) (x1 : A1) : IVec S64x2048 32 := select (w475 x0 x1) (w412 x0 x1) (w470 x0 x1)
def w484 (x0 : A0) (x1 : A1) : IVec S64x2048 1 := ori (cmpf .olt (w478 x0 x1) (w420 x0 x1)) (andi (cmpf .oeq (w478 x0 x1) (w420 x0 x1)) (cmpi .slt (w479 x0 x1) (w421 x0 x1)))
def w485 (x0 : A0) (x1 : A1) : FVec Ideal S64x2048 .f32 := select (w484 x0 x1) (w478 x0 x1) (w420 x0 x1)
def w486 (x0 : A0) (x1 : A1) : IVec S64x2048 32 := select (w484 x0 x1) (w479 x0 x1) (w421 x0 x1)
def w487 (x0 : A0) (x1 : A1) : FVec Ideal S64x2048 .f32 := select (w484 x0 x1) (w420 x0 x1) (w478 x0 x1)
def w488 (x0 : A0) (x1 : A1) : IVec S64x2048 32 := select (w484 x0 x1) (w421 x0 x1) (w479 x0 x1)
def w493 (x0 : A0) (x1 : A1) : IVec S64x2048 1 := ori (cmpf .olt (w487 x0 x1) (w429 x0 x1)) (andi (cmpf .oeq (w487 x0 x1) (w429 x0 x1)) (cmpi .slt (w488 x0 x1) (w430 x0 x1)))
def w494 (x0 : A0) (x1 : A1) : FVec Ideal S64x2048 .f32 := select (w493 x0 x1) (w487 x0 x1) (w429 x0 x1)
def w495 (x0 : A0) (x1 : A1) : IVec S64x2048 32 := select (w493 x0 x1) (w488 x0 x1) (w430 x0 x1)
def w498 (x0 : A0) (x1 : A1) : FVec Ideal S68x2048 .f32 := absf (subf (extractStridedSlice S68x2048 ![1, 0] (w79 x0 x1) slices_S72x2048_o1_0_S68x2048) (w124 x0 x1))
def w501 (x0 : A0) (x1 : A1) : FVec Ideal S68x2048 .f32 := absf (subf (extractStridedSlice S68x2048 ![1, 0] (w89 x0 x1) slices_S72x2048_o1_0_S68x2048) (w125 x0 x1))
def w504 (x0 : A0) (x1 : A1) : FVec Ideal S68x2048 .f32 := absf (subf (extractStridedSlice S68x2048 ![1, 0] (w99 x0 x1) slices_S72x2048_o1_0_S68x2048) (w126 x0 x1))
def w507 (x0 : A0) (x1 : A1) : FVec Ideal S68x2048 .f32 := absf (subf (extractStridedSlice S68x2048 ![1, 0] (w109 x0 x1) slices_S72x2048_o1_0_S68x2048) (w127 x0 x1))
def w510 (x0 : A0) (x1 : A1) : FVec Ideal S68x2048 .f32 := absf (subf (extractStridedSlice S68x2048 ![1, 0] (w119 x0 x1) slices_S72x2048_o1_0_S68x2048) (w128 x0 x1))
def w511 (x0 : A0) (x1 : A1) : FVec Ideal S68x2048 .f32 := addf (w498 x0 x1) (w510 x0 x1)
def w512 (x0 : A0) (x1 : A1) : FVec Ideal S68x2048 .f32 := addf (w501 x0 x1) (w507 x0 x1)
def w513 (x0 : A0) (x1 : A1) : FVec Ideal S68x2048 .f32 := addf (w511 x0 x1) (w512 x0 x1)
def w514 (x0 : A0) (x1 : A1) : FVec Ideal S68x2048 .f32 := addf (w513 x0 x1) (w504 x0 x1)
def w521 (x0 : A0) (x1 : A1) : FVec Ideal S68x2048 .f32 := addf (mulf (broadcast S68x2048 ((Scalar.ofBits .f32 0x3E7A0FEB#32 : Ideal .f32))) (w512 x0 x1)) (mulf (broadcast S68x2048 ((Scalar.ofBits .f32 0x3ECE2434#32 : Ideal .f32))) (w504 x0 x1))
def w522 (x0 : A0) (x1 : A1) : FVec Ideal S68x2048 .f32 := addf (mulf (broadcast S68x2048 ((Scalar.ofBits .f32 0x3D5F2F87#32 : Ideal .f32))) (w511 x0 x1)) (w521 x0 x1)
def w525 (x0 : A0) (x1 : A1) : FVec Ideal S64x2048 .f32 := subf (matmul dot_S64x68_S68x2048_S64x2048_1_0_0_1_n_n (some .fp32) (w150 x0 x1) (w514 x0 x1) (constant S64x2048 .f32 0x00000000#32)) (matmul dot_S64x68_S68x2048_S64x2048_1_0_0_1_n_n (some .fp32) (w176 x0 x1) (w522 x0 x1) (constant S64x2048 .f32 0x00000000#32))
def w526 (x0 : A0) (x1 : A1) : IVec S64x2048 32 := extractStridedSlice S64x2048 ![1, 0] (w131 x0 x1) slices_S68x2048_o1_0_S64x2048
def w531 (x0 : A0) (x1 : A1) : IVec S64x2048 1 := ori (cmpf .olt (w525 x0 x1) (w467 x0 x1)) (andi (cmpf .oeq (w525 x0 x1) (w467 x0 x1)) (cmpi .slt (w526 x0 x1) (w468 x0 x1)))
def w532 (x0 : A0) (x1 : A1) : FVec Ideal S64x2048 .f32 := select (w531 x0 x1) (w525 x0 x1) (w467 x0 x1)
def w533 (x0 : A0) (x1 : A1) : IVec S64x2048 32 := select (w531 x0 x1) (w526 x0 x1) (w468 x0 x1)
def w534 (x0 : A0) (x1 : A1) : FVec Ideal S64x2048 .f32 := select (w531 x0 x1) (w467 x0 x1) (w525 x0 x1)
def w535 (x0 : A0) (x1 : A1) : IVec S64x2048 32 := select (w531 x0 x1) (w468 x0 x1) (w526 x0 x1)
def w540 (x0 : A0) (x1 : A1) : IVec S64x2048 1 := ori (cmpf .olt (w534 x0 x1) (w476 x0 x1)) (andi (cmpf .oeq (w534 x0 x1) (w476 x0 x1)) (cmpi .slt (w535 x0 x1) (w477 x0 x1)))
def w541 (x0 : A0) (x1 : A1) : FVec Ideal S64x2048 .f32 := select (w540 x0 x1) (w534 x0 x1) (w476 x0 x1)
def w542 (x0 : A0) (x1 : A1) : IVec S64x2048 32 := select (w540 x0 x1) (w535 x0 x1) (w477 x0 x1)
def w543 (x0 : A0) (x1 : A1) : FVec Ideal S64x2048 .f32 := select (w540 x0 x1) (w476 x0 x1) (w534 x0 x1)
def w544 (x0 : A0) (x1 : A1) : IVec S64x2048 32 := select (w540 x0 x1) (w477 x0 x1) (w535 x0 x1)
def w549 (x0 : A0) (x1 : A1) : IVec S64x2048 1 := ori (cmpf .olt (w543 x0 x1) (w485 x0 x1)) (andi (cmpf .oeq (w543 x0 x1) (w485 x0 x1)) (cmpi .slt (w544 x0 x1) (w486 x0 x1)))
def w550 (x0 : A0) (x1 : A1) : FVec Ideal S64x2048 .f32 := select (w549 x0 x1) (w543 x0 x1) (w485 x0 x1)
def w551 (x0 : A0) (x1 : A1) : IVec S64x2048 32 := select (w549 x0 x1) (w544 x0 x1) (w486 x0 x1)
def w552 (x0 : A0) (x1 : A1) : FVec Ideal S64x2048 .f32 := select (w549 x0 x1) (w485 x0 x1) (w543 x0 x1)
def w553 (x0 : A0) (x1 : A1) : IVec S64x2048 32 := select (w549 x0 x1) (w486 x0 x1) (w544 x0 x1)
def w558 (x0 : A0) (x1 : A1) : IVec S64x2048 1 := ori (cmpf .olt (w552 x0 x1) (w494 x0 x1)) (andi (cmpf .oeq (w552 x0 x1) (w494 x0 x1)) (cmpi .slt (w553 x0 x1) (w495 x0 x1)))
def w559 (x0 : A0) (x1 : A1) : FVec Ideal S64x2048 .f32 := select (w558 x0 x1) (w552 x0 x1) (w494 x0 x1)
def w560 (x0 : A0) (x1 : A1) : IVec S64x2048 32 := select (w558 x0 x1) (w553 x0 x1) (w495 x0 x1)
def w563 (x0 : A0) (x1 : A1) : FVec Ideal S68x2048 .f32 := absf (subf (extractStridedSlice S68x2048 ![1, 0] (w81 x0 x1) slices_S72x2048_o1_0_S68x2048) (w124 x0 x1))
def w566 (x0 : A0) (x1 : A1) : FVec Ideal S68x2048 .f32 := absf (subf (extractStridedSlice S68x2048 ![1, 0] (w91 x0 x1) slices_S72x2048_o1_0_S68x2048) (w125 x0 x1))
def w569 (x0 : A0) (x1 : A1) : FVec Ideal S68x2048 .f32 := absf (subf (extractStridedSlice S68x2048 ![1, 0] (w101 x0 x1) slices_S72x2048_o1_0_S68x2048) (w126 x0 x1))
def w572 (x0 : A0) (x1 : A1) : FVec Ideal S68x2048 .f32 := absf (subf (extractStridedSlice S68x2048 ![1, 0] (w111 x0 x1) slices_S72x2048_o1_0_S68x2048) (w127 x0 x1))
def w575 (x0 : A0) (x1 : A1) : FVec Ideal S68x2048 .f32 := absf (subf (extractStridedSlice S68x2048 ![1, 0] (w121 x0 x1) slices_S72x2048_o1_0_S68x2048) (w128 x0 x1))
def w576 (x0 : A0) (x1 : A1) : FVec Ideal S68x2048 .f32 := addf (w563 x0 x1) (w575 x0 x1)
def w577 (x0 : A0) (x1 : A1) : FVec Ideal S68x2048 .f32 := addf (w566 x0 x1) (w572 x0 x1)
def w578 (x0 : A0) (x1 : A1) : FVec Ideal S68x2048 .f32 := addf (w576 x0 x1) (w577 x0 x1)
def w579 (x0 : A0) (x1 : A1) : FVec Ideal S68x2048 .f32 := addf (w578 x0 x1) (w569 x0 x1)
def w586 (x0 : A0) (x1 : A1) : FVec Ideal S68x2048 .f32 := addf (mulf (broadcast S68x2048 ((Scalar.ofBits .f32 0x3E7A0FEB#32 : Ideal .f32))) (w577 x0 x1)) (mulf (broadcast S68x2048 ((Scalar.ofBits .f32 0x3ECE2434#32 : Ideal .f32))) (w569 x0 x1))
def w587 (x0 : A0) (x1 : A1) : FVec Ideal S68x2048 .f32 := addf (mulf (broadcast S68x2048 ((Scalar.ofBits .f32 0x3D5F2F87#32 : Ideal .f32))) (w576 x0 x1)) (w586 x0 x1)
def w590 (x0 : A0) (x1 : A1) : FVec Ideal S64x2048 .f32 := subf (matmul dot_S64x68_S68x2048_S64x2048_1_0_0_1_n_n (some .fp32) (w150 x0 x1) (w579 x0 x1) (constant S64x2048 .f32 0x00000000#32)) (matmul dot_S64x68_S68x2048_S64x2048_1_0_0_1_n_n (some .fp32) (w176 x0 x1) (w587 x0 x1) (constant S64x2048 .f32 0x00000000#32))
def w591 (x0 : A0) (x1 : A1) : IVec S64x2048 32 := extractStridedSlice S64x2048 ![1, 0] (w132 x0 x1) slices_S68x2048_o1_0_S64x2048
def w596 (x0 : A0) (x1 : A1) : IVec S64x2048 1 := ori (cmpf .olt (w590 x0 x1) (w532 x0 x1)) (andi (cmpf .oeq (w590 x0 x1) (w532 x0 x1)) (cmpi .slt (w591 x0 x1) (w533 x0 x1)))
def w597 (x0 : A0) (x1 : A1) : FVec Ideal S64x2048 .f32 := select (w596 x0 x1) (w590 x0 x1) (w532 x0 x1)
def w598 (x0 : A0) (x1 : A1) : IVec S64x2048 32 := select (w596 x0 x1) (w591 x0 x1) (w533 x0 x1)
def w599 (x0 : A0) (x1 : A1) : FVec Ideal S64x2048 .f32 := select (w596 x0 x1) (w532 x0 x1) (w590 x0 x1)
def w600 (x0 : A0) (x1 : A1) : IVec S64x2048 32 := select (w596 x0 x1) (w533 x0 x1) (w591 x0 x1)
def w605 (x0 : A0) (x1 : A1) : IVec S64x2048 1 := ori (cmpf .olt (w599 x0 x1) (w541 x0 x1)) (andi (cmpf .oeq (w599 x0 x1) (w541 x0 x1)) (cmpi .slt (w600 x0 x1) (w542 x0 x1)))
def w606 (x0 : A0) (x1 : A1) : FVec Ideal S64x2048 .f32 := select (w605 x0 x1) (w599 x0 x1) (w541 x0 x1)
def w607 (x0 : A0) (x1 : A1) : IVec S64x2048 32 := select (w605 x0 x1) (w600 x0 x1) (w542 x0 x1)
def w608 (x0 : A0) (x1 : A1) : FVec Ideal S64x2048 .f32 := select (w605 x0 x1) (w541 x0 x1) (w599 x0 x1)
def w609 (x0 : A0) (x1 : A1) : IVec S64x2048 32 := select (w605 x0 x1) (w542 x0 x1) (w600 x0 x1)
def w614 (x0 : A0) (x1 : A1) : IVec S64x2048 1 := ori (cmpf .olt (w608 x0 x1) (w550 x0 x1)) (andi (cmpf .oeq (w608 x0 x1) (w550 x0 x1)) (cmpi .slt (w609 x0 x1) (w551 x0 x1)))
def w615 (x0 : A0) (x1 : A1) : FVec Ideal S64x2048 .f32 := select (w614 x0 x1) (w608 x0 x1) (w550 x0 x1)
def w616 (x0 : A0) (x1 : A1) : IVec S64x2048 32 := select (w614 x0 x1) (w609 x0 x1) (w551 x0 x1)
def w617 (x0 : A0) (x1 : A1) : FVec Ideal S64x2048 .f32 := select (w614 x0 x1) (w550 x0 x1) (w608 x0 x1)
def w618 (x0 : A0) (x1 : A1) : IVec S64x2048 32 := select (w614 x0 x1) (w551 x0 x1) (w609 x0 x1)
def w623 (x0 : A0) (x1 : A1) : IVec S64x2048 1 := ori (cmpf .olt (w617 x0 x1) (w559 x0 x1)) (andi (cmpf .oeq (w617 x0 x1) (w559 x0 x1)) (cmpi .slt (w618 x0 x1) (w560 x0 x1)))
def w624 (x0 : A0) (x1 : A1) : FVec Ideal S64x2048 .f32 := select (w623 x0 x1) (w617 x0 x1) (w559 x0 x1)
def w625 (x0 : A0) (x1 : A1) : IVec S64x2048 32 := select (w623 x0 x1) (w618 x0 x1) (w560 x0 x1)
def w628 (x0 : A0) (x1 : A1) : FVec Ideal S68x2048 .f32 := absf (subf (extractStridedSlice S68x2048 ![1, 0] (w83 x0 x1) slices_S72x2048_o1_0_S68x2048) (w124 x0 x1))
def w631 (x0 : A0) (x1 : A1) : FVec Ideal S68x2048 .f32 := absf (subf (extractStridedSlice S68x2048 ![1, 0] (w93 x0 x1) slices_S72x2048_o1_0_S68x2048) (w125 x0 x1))
def w634 (x0 : A0) (x1 : A1) : FVec Ideal S68x2048 .f32 := absf (subf (extractStridedSlice S68x2048 ![1, 0] (w103 x0 x1) slices_S72x2048_o1_0_S68x2048) (w126 x0 x1))
def w637 (x0 : A0) (x1 : A1) : FVec Ideal S68x2048 .f32 := absf (subf (extractStridedSlice S68x2048 ![1, 0] (w113 x0 x1) slices_S72x2048_o1_0_S68x2048) (w127 x0 x1))
def w640 (x0 : A0) (x1 : A1) : FVec Ideal S68x2048 .f32 := absf (subf (extractStridedSlice S68x2048 ![1, 0] (w123 x0 x1) slices_S72x2048_o1_0_S68x2048) (w128 x0 x1))
def w641 (x0 : A0) (x1 : A1) : FVec Ideal S68x2048 .f32 := addf (w628 x0 x1) (w640 x0 x1)
def w642 (x0 : A0) (x1 : A1) : FVec Ideal S68x2048 .f32 := addf (w631 x0 x1) (w637 x0 x1)
def w643 (x0 : A0) (x1 : A1) : FVec Ideal S68x2048 .f32 := addf (w641 x0 x1) (w642 x0 x1)
def w644 (x0 : A0) (x1 : A1) : FVec Ideal S68x2048 .f32 := addf (w643 x0 x1) (w634 x0 x1)
def w651 (x0 : A0) (x1 : A1) : FVec Ideal S68x2048 .f32 := addf (mulf (broadcast S68x2048 ((Scalar.ofBits .f32 0x3E7A0FEB#32 : Ideal .f32))) (w642 x0 x1)) (mulf (broadcast S68x2048 ((Scalar.ofBits .f32 0x3ECE2434#32 : Ideal .f32))) (w634 x0 x1))
def w652 (x0 : A0) (x1 : A1) : FVec Ideal S68x2048 .f32 := addf (mulf (broadcast S68x2048 ((Scalar.ofBits .f32 0x3D5F2F87#32 : Ideal .f32))) (w641 x0 x1)) (w651 x0 x1)
def w655 (x0 : A0) (x1 : A1) : FVec Ideal S64x2048 .f32 := subf (matmul dot_S64x68_S68x2048_S64x2048_1_0_0_1_n_n (some .fp32) (w150 x0 x1) (w644 x0 x1) (constant S64x2048 .f32 0x00000000#32)) (matmul dot_S64x68_S68x2048_S64x2048_1_0_0_1_n_n (some .fp32) (w176 x0 x1) (w652 x0 x1) (constant S64x2048 .f32 0x00000000#32))
def w656 (x0 : A0) (x1 : A1) : IVec S64x2048 32 := extractStridedSlice S64x2048 ![1, 0] (w133 x0 x1) slices_S68x2048_o1_0_S64x2048
def w661 (x0 : A0) (x1 : A1) : IVec S64x2048 1 := ori (cmpf .olt (w655 x0 x1) (w597 x0 x1)) (andi (cmpf .oeq (w655 x0 x1) (w597 x0 x1)) (cmpi .slt (w656 x0 x1) (w598 x0 x1)))
def w662 (x0 : A0) (x1 : A1) : FVec Ideal S64x2048 .f32 := select (w661 x0 x1) (w655 x0 x1) (w597 x0 x1)
def w663 (x0 : A0) (x1 : A1) : IVec S64x2048 32 := select (w661 x0 x1) (w656 x0 x1) (w598 x0 x1)
def w664 (x0 : A0) (x1 : A1) : FVec Ideal S64x2048 .f32 := select (w661 x0 x1) (w597 x0 x1) (w655 x0 x1)
def w665 (x0 : A0) (x1 : A1) : IVec S64x2048 32 := select (w661 x0 x1) (w598 x0 x1) (w656 x0 x1)
def w670 (x0 : A0) (x1 : A1) : IVec S64x2048 1 := ori (cmpf .olt (w664 x0 x1) (w606 x0 x1)) (andi (cmpf .oeq (w664 x0 x1) (w606 x0 x1)) (cmpi .slt (w665 x0 x1) (w607 x0 x1)))
def w671 (x0 : A0) (x1 : A1) : FVec Ideal S64x2048 .f32 := select (w670 x0 x1) (w664 x0 x1) (w606 x0 x1)
def w672 (x0 : A0) (x1 : A1) : IVec S64x2048 32 := select (w670 x0 x1) (w665 x0 x1) (w607 x0 x1)
def w673 (x0 : A0) (x1 : A1) : FVec Ideal S64x2048 .f32 := select (w670 x0 x1) (w606 x0 x1) (w664 x0 x1)
def w674 (x0 : A0) (x1 : A1) : IVec S64x2048 32 := select (w670 x0 x1) (w607 x0 x1) (w665 x0 x1)
def w679 (x0 : A0) (x1 : A1) : IVec S64x2048 1 := ori (cmpf .olt (w673 x0 x1) (w615 x0 x1)) (andi (cmpf .oeq (w673 x0 x1) (w615 x0 x1)) (cmpi .slt (w674 x0 x1) (w616 x0 x1)))
def w680 (x0 : A0) (x1 : A1) : FVec Ideal S64x2048 .f32 := select (w679 x0 x1) (w673 x0 x1) (w615 x0 x1)
def w681 (x0 : A0) (x1 : A1) : IVec S64x2048 32 := select (w679 x0 x1) (w674 x0 x1) (w616 x0 x1)
def w682 (x0 : A0) (x1 : A1) : FVec Ideal S64x2048 .f32 := select (w679 x0 x1) (w615 x0 x1) (w673 x0 x1)
def w683 (x0 : A0) (x1 : A1) : IVec S64x2048 32 := select (w679 x0 x1) (w616 x0 x1) (w674 x0 x1)
def w688 (x0 : A0) (x1 : A1) : IVec S64x2048 1 := ori (cmpf .olt (w682 x0 x1) (w624 x0 x1)) (andi (cmpf .oeq (w682 x0 x1) (w624 x0 x1)) (cmpi .slt (w683 x0 x1) (w625 x0 x1)))
def w689 (x0 : A0) (x1 : A1) : FVec Ideal S64x2048 .f32 := select (w688 x0 x1) (w682 x0 x1) (w624 x0 x1)
def w690 (x0 : A0) (x1 : A1) : IVec S64x2048 32 := select (w688 x0 x1) (w683 x0 x1) (w625 x0 x1)
def w693 (x0 : A0) (x1 : A1) : FVec Ideal S68x2048 .f32 := absf (subf (extractStridedSlice S68x2048 ![2, 0] (w75 x0 x1) slices_S72x2048_o2_0_S68x2048) (w124 x0 x1))
def w696 (x0 : A0) (x1 : A1) : FVec Ideal S68x2048 .f32 := absf (subf (extractStridedSlice S68x2048 ![2, 0] (w85 x0 x1) slices_S72x2048_o2_0_S68x2048) (w125 x0 x1))
def w699 (x0 : A0) (x1 : A1) : FVec Ideal S68x2048 .f32 := absf (subf (extractStridedSlice S68x2048 ![2, 0] (w95 x0 x1) slices_S72x2048_o2_0_S68x2048) (w126 x0 x1))
def w702 (x0 : A0) (x1 : A1) : FVec Ideal S68x2048 .f32 := absf (subf (extractStridedSlice S68x2048 ![2, 0] (w105 x0 x1) slices_S72x2048_o2_0_S68x2048) (w127 x0 x1))
def w705 (x0 : A0) (x1 : A1) : FVec Ideal S68x2048 .f32 := absf (subf (extractStridedSlice S68x2048 ![2, 0] (w115 x0 x1) slices_S72x2048_o2_0_S68x2048) (w128 x0 x1))
def w706 (x0 : A0) (x1 : A1) : FVec Ideal S68x2048 .f32 := addf (w693 x0 x1) (w705 x0 x1)
def w707 (x0 : A0) (x1 : A1) : FVec Ideal S68x2048 .f32 := addf (w696 x0 x1) (w702 x0 x1)
def w708 (x0 : A0) (x1 : A1) : FVec Ideal S68x2048 .f32 := addf (w706 x0 x1) (w707 x0 x1)
def w709 (x0 : A0) (x1 : A1) : FVec Ideal S68x2048 .f32 := addf (w708 x0 x1) (w699 x0 x1)
def w716 (x0 : A0) (x1 : A1) : FVec Ideal S68x2048 .f32 := addf (mulf (broadcast S68x2048 ((Scalar.ofBits .f32 0x3E7A0FEB#32 : Ideal .f32))) (w707 x0 x1)) (mulf (broadcast S68x2048 ((Scalar.ofBits .f32 0x3ECE2434#32 : Ideal .f32))) (w699 x0 x1))
def w717 (x0 : A0) (x1 : A1) : FVec Ideal S68x2048 .f32 := addf (mulf (broadcast S68x2048 ((Scalar.ofBits .f32 0x3D5F2F87#32 : Ideal .f32))) (w706 x0 x1)) (w716 x0 x1)
def w720 (x0 : A0) (x1 : A1) : FVec Ideal S64x2048 .f32 := subf (matmul dot_S64x68_S68x2048_S64x2048_1_0_0_1_n_n (some .fp32) (w150 x0 x1) (w709 x0 x1) (constant S64x2048 .f32 0x00000000#32)) (matmul dot_S64x68_S68x2048_S64x2048_1_0_0_1_n_n (some .fp32) (w176 x0 x1) (w717 x0 x1) (constant S64x2048 .f32 0x00000000#32))
def w721 (x0 : A0) (x1 : A1) : IVec S64x2048 32 := extractStridedSlice S64x2048 ![2, 0] (w129 x0 x1) slices_S68x2048_o2_0_S64x2048
def w726 (x0 : A0) (x1 : A1) : IVec S64x2048 1 := ori (cmpf .olt (w720 x0 x1) (w662 x0 x1)) (andi (cmpf .oeq (w720 x0 x1) (w662 x0 x1)) (cmpi .slt (w721 x0 x1) (w663 x0 x1)))
def w727 (x0 : A0) (x1 : A1) : FVec Ideal S64x2048 .f32 := select (w726 x0 x1) (w720 x0 x1) (w662 x0 x1)
def w728 (x0 : A0) (x1 : A1) : IVec S64x2048 32 := select (w726 x0 x1) (w721 x0 x1) (w663 x0 x1)
def w729 (x0 : A0) (x1 : A1) : FVec Ideal S64x2048 .f32 := select (w726 x0 x1) (w662 x0 x1) (w720 x0 x1)
def w730 (x0 : A0) (x1 : A1) : IVec S64x2048 32 := select (w726 x0 x1) (w663 x0 x1) (w721 x0 x1)
def w735 (x0 : A0) (x1 : A1) : IVec S64x2048 1 := ori (cmpf .olt (w729 x0 x1) (w671 x0 x1)) (andi (cmpf .oeq (w729 x0 x1) (w671 x0 x1)) (cmpi .slt (w730 x0 x1) (w672 x0 x1)))
def w736 (x0 : A0) (x1 : A1) : FVec Ideal S64x2048 .f32 := select (w735 x0 x1) (w729 x0 x1) (w671 x0 x1)
def w737 (x0 : A0) (x1 : A1) : IVec S64x2048 32 := select (w735 x0 x1) (w730 x0 x1) (w672 x0 x1)
def w738 (x0 : A0) (x1 : A1) : FVec Ideal S64x2048 .f32 := select (w735 x0 x1) (w671 x0 x1) (w729 x0 x1)
def w739 (x0 : A0) (x1 : A1) : IVec S64x2048 32 := select (w735 x0 x1) (w672 x0 x1) (w730 x0 x1)
def w744 (x0 : A0) (x1 : A1) : IVec S64x2048 1 := ori (cmpf .olt (w738 x0 x1) (w680 x0 x1)) (andi (cmpf .oeq (w738 x0 x1) (w680 x0 x1)) (cmpi .slt (w739 x0 x1) (w681 x0 x1)))
def w745 (x0 : A0) (x1 : A1) : FVec Ideal S64x2048 .f32 := select (w744 x0 x1) (w738 x0 x1) (w680 x0 x1)
def w746 (x0 : A0) (x1 : A1) : IVec S64x2048 32 := select (w744 x0 x1) (w739 x0 x1) (w681 x0 x1)
def w747 (x0 : A0) (x1 : A1) : FVec Ideal S64x2048 .f32 := select (w744 x0 x1) (w680 x0 x1) (w738 x0 x1)
def w748 (x0 : A0) (x1 : A1) : IVec S64x2048 32 := select (w744 x0 x1) (w681 x0 x1) (w739 x0 x1)
def w753 (x0 : A0) (x1 : A1) : IVec S64x2048 1 := ori (cmpf .olt (w747 x0 x1) (w689 x0 x1)) (andi (cmpf .oeq (w747 x0 x1) (w689 x0 x1)) (cmpi .slt (w748 x0 x1) (w690 x0 x1)))
def w754 (x0 : A0) (x1 : A1) : FVec Ideal S64x2048 .f32 := select (w753 x0 x1) (w747 x0 x1) (w689 x0 x1)
def w755 (x0 : A0) (x1 : A1) : IVec S64x2048 32 := select (w753 x0 x1) (w748 x0 x1) (w690 x0 x1)
def w758 (x0 : A0) (x1 : A1) : FVec Ideal S68x2048 .f32 := absf (subf (extractStridedSlice S68x2048 ![2, 0] (w77 x0 x1) slices_S72x2048_o2_0_S68x2048) (w124 x0 x1))
def w761 (x0 : A0) (x1 : A1) : FVec Ideal S68x2048 .f32 := absf (subf (extractStridedSlice S68x2048 ![2, 0] (w87 x0 x1) slices_S72x2048_o2_0_S68x2048) (w125 x0 x1))
def w764 (x0 : A0) (x1 : A1) : FVec Ideal S68x2048 .f32 := absf (subf (extractStridedSlice S68x2048 ![2, 0] (w97 x0 x1) slices_S72x2048_o2_0_S68x2048) (w126 x0 x1))
def w767 (x0 : A0) (x1 : A1) : FVec Ideal S68x2048 .f32 := absf (subf (extractStridedSlice S68x2048 ![2, 0] (w107 x0 x1) slices_S72x2048_o2_0_S68x2048) (w127 x0 x1))
def w770 (x0 : A0) (x1 : A1) : FVec Ideal S68x2048 .f32 := absf (subf (extractStridedSlice S68x2048 ![2, 0] (w117 x0 x1) slices_S72x2048_o2_0_S68x2048) (w128 x0 x1))
def w771 (x0 : A0) (x1 : A1) : FVec Ideal S68x2048 .f32 := addf (w758 x0 x1) (w770 x0 x1)
def w772 (x0 : A0) (x1 : A1) : FVec Ideal S68x2048 .f32 := addf (w761 x0 x1) (w767 x0 x1)
def w773 (x0 : A0) (x1 : A1) : FVec Ideal S68x2048 .f32 := addf (w771 x0 x1) (w772 x0 x1)
def w774 (x0 : A0) (x1 : A1) : FVec Ideal S68x2048 .f32 := addf (w773 x0 x1) (w764 x0 x1)
def w781 (x0 : A0) (x1 : A1) : FVec Ideal S68x2048 .f32 := addf (mulf (broadcast S68x2048 ((Scalar.ofBits .f32 0x3E7A0FEB#32 : Ideal .f32))) (w772 x0 x1)) (mulf (broadcast S68x2048 ((Scalar.ofBits .f32 0x3ECE2434#32 : Ideal .f32))) (w764 x0 x1))
def w782 (x0 : A0) (x1 : A1) : FVec Ideal S68x2048 .f32 := addf (mulf (broadcast S68x2048 ((Scalar.ofBits .f32 0x3D5F2F87#32 : Ideal .f32))) (w771 x0 x1)) (w781 x0 x1)
def w785 (x0 : A0) (x1 : A1) : FVec Ideal S64x2048 .f32 := subf (matmul dot_S64x68_S68x2048_S64x2048_1_0_0_1_n_n (some .fp32) (w150 x0 x1) (w774 x0 x1) (constant S64x2048 .f32 0x00000000#32)) (matmul dot_S64x68_S68x2048_S64x2048_1_0_0_1_n_n (some .fp32) (w176 x0 x1) (w782 x0 x1) (constant S64x2048 .f32 0x00000000#32))
def w786 (x0 : A0) (x1 : A1) : IVec S64x2048 32 := extractStridedSlice S64x2048 ![2, 0] (w130 x0 x1) slices_S68x2048_o2_0_S64x2048
def w791 (x0 : A0) (x1 : A1) : IVec S64x2048 1 := ori (cmpf .olt (w785 x0 x1) (w727 x0 x1)) (andi (cmpf .oeq (w785 x0 x1) (w727 x0 x1)) (cmpi .slt (w786 x0 x1) (w728 x0 x1)))
def w792 (x0 : A0) (x1 : A1) : FVec Ideal S64x2048 .f32 := select (w791 x0 x1) (w785 x0 x1) (w727 x0 x1)
def w793 (x0 : A0) (x1 : A1) : IVec S64x2048 32 := select (w791 x0 x1) (w786 x0 x1) (w728 x0 x1)
def w794 (x0 : A0) (x1 : A1) : FVec Ideal S64x2048 .f32 := select (w791 x0 x1) (w727 x0 x1) (w785 x0 x1)
def w795 (x0 : A0) (x1 : A1) : IVec S64x2048 32 := select (w791 x0 x1) (w728 x0 x1) (w786 x0 x1)
def w800 (x0 : A0) (x1 : A1) : IVec S64x2048 1 := ori (cmpf .olt (w794 x0 x1) (w736 x0 x1)) (andi (cmpf .oeq (w794 x0 x1) (w736 x0 x1)) (cmpi .slt (w795 x0 x1) (w737 x0 x1)))
def w801 (x0 : A0) (x1 : A1) : FVec Ideal S64x2048 .f32 := select (w800 x0 x1) (w794 x0 x1) (w736 x0 x1)
def w802 (x0 : A0) (x1 : A1) : IVec S64x2048 32 := select (w800 x0 x1) (w795 x0 x1) (w737 x0 x1)
def w803 (x0 : A0) (x1 : A1) : FVec Ideal S64x2048 .f32 := select (w800 x0 x1) (w736 x0 x1) (w794 x0 x1)
def w804 (x0 : A0) (x1 : A1) : IVec S64x2048 32 := select (w800 x0 x1) (w737 x0 x1) (w795 x0 x1)
def w809 (x0 : A0) (x1 : A1) : IVec S64x2048 1 := ori (cmpf .olt (w803 x0 x1) (w745 x0 x1)) (andi (cmpf .oeq (w803 x0 x1) (w745 x0 x1)) (cmpi .slt (w804 x0 x1) (w746 x0 x1)))
def w810 (x0 : A0) (x1 : A1) : FVec Ideal S64x2048 .f32 := select (w809 x0 x1) (w803 x0 x1) (w745 x0 x1)
def w811 (x0 : A0) (x1 : A1) : IVec S64x2048 32 := select (w809 x0 x1) (w804 x0 x1) (w746 x0 x1)
def w812 (x0 : A0) (x1 : A1) : FVec Ideal S64x2048 .f32 := select (w809 x0 x1) (w745 x0 x1) (w803 x0 x1)
def w813 (x0 : A0) (x1 : A1) : IVec S64x2048 32 := select (w809 x0 x1) (w746 x0 x1) (w804 x0 x1)
def w818 (x0 : A0) (x1 : A1) : IVec S64x2048 1 := ori (cmpf .olt (w812 x0 x1) (w754 x0 x1)) (andi (cmpf .oeq (w812 x0 x1) (w754 x0 x1)) (cmpi .slt (w813 x0 x1) (w755 x0 x1)))
def w819 (x0 : A0) (x1 : A1) : FVec Ideal S64x2048 .f32 := select (w818 x0 x1) (w812 x0 x1) (w754 x0 x1)
def w820 (x0 : A0) (x1 : A1) : IVec S64x2048 32 := select (w818 x0 x1) (w813 x0 x1) (w755 x0 x1)
def w823 (x0 : A0) (x1 : A1) : FVec Ideal S68x2048 .f32 := absf (subf (extractStridedSlice S68x2048 ![2, 0] (w81 x0 x1) slices_S72x2048_o2_0_S68x2048) (w124 x0 x1))
def w826 (x0 : A0) (x1 : A1) : FVec Ideal S68x2048 .f32 := absf (subf (extractStridedSlice S68x2048 ![2, 0] (w91 x0 x1) slices_S72x2048_o2_0_S68x2048) (w125 x0 x1))
def w829 (x0 : A0) (x1 : A1) : FVec Ideal S68x2048 .f32 := absf (subf (extractStridedSlice S68x2048 ![2, 0] (w101 x0 x1) slices_S72x2048_o2_0_S68x2048) (w126 x0 x1))
def w832 (x0 : A0) (x1 : A1) : FVec Ideal S68x2048 .f32 := absf (subf (extractStridedSlice S68x2048 ![2, 0] (w111 x0 x1) slices_S72x2048_o2_0_S68x2048) (w127 x0 x1))
def w835 (x0 : A0) (x1 : A1) : FVec Ideal S68x2048 .f32 := absf (subf (extractStridedSlice S68x2048 ![2, 0] (w121 x0 x1) slices_S72x2048_o2_0_S68x2048) (w128 x0 x1))
def w836 (x0 : A0) (x1 : A1) : FVec Ideal S68x2048 .f32 := addf (w823 x0 x1) (w835 x0 x1)
def w837 (x0 : A0) (x1 : A1) : FVec Ideal S68x2048 .f32 := addf (w826 x0 x1) (w832 x0 x1)
def w838 (x0 : A0) (x1 : A1) : FVec Ideal S68x2048 .f32 := addf (w836 x0 x1) (w837 x0 x1)
def w839 (x0 : A0) (x1 : A1) : FVec Ideal S68x2048 .f32 := addf (w838 x0 x1) (w829 x0 x1)
def w846 (x0 : A0) (x1 : A1) : FVec Ideal S68x2048 .f32 := addf (mulf (broadcast S68x2048 ((Scalar.ofBits .f32 0x3E7A0FEB#32 : Ideal .f32))) (w837 x0 x1)) (mulf (broadcast S68x2048 ((Scalar.ofBits .f32 0x3ECE2434#32 : Ideal .f32))) (w829 x0 x1))
def w847 (x0 : A0) (x1 : A1) : FVec Ideal S68x2048 .f32 := addf (mulf (broadcast S68x2048 ((Scalar.ofBits .f32 0x3D5F2F87#32 : Ideal .f32))) (w836 x0 x1)) (w846 x0 x1)
def w850 (x0 : A0) (x1 : A1) : FVec Ideal S64x2048 .f32 := subf (matmul dot_S64x68_S68x2048_S64x2048_1_0_0_1_n_n (some .fp32) (w150 x0 x1) (w839 x0 x1) (constant S64x2048 .f32 0x00000000#32)) (matmul dot_S64x68_S68x2048_S64x2048_1_0_0_1_n_n (some .fp32) (w176 x0 x1) (w847 x0 x1) (constant S64x2048 .f32 0x00000000#32))
def w851 (x0 : A0) (x1 : A1) : IVec S64x2048 32 := extractStridedSlice S64x2048 ![2, 0] (w132 x0 x1) slices_S68x2048_o2_0_S64x2048
def w856 (x0 : A0) (x1 : A1) : IVec S64x2048 1 := ori (cmpf .olt (w850 x0 x1) (w792 x0 x1)) (andi (cmpf .oeq (w850 x0 x1) (w792 x0 x1)) (cmpi .slt (w851 x0 x1) (w793 x0 x1)))
def w857 (x0 : A0) (x1 : A1) : FVec Ideal S64x2048 .f32 := select (w856 x0 x1) (w850 x0 x1) (w792 x0 x1)
def w858 (x0 : A0) (x1 : A1) : IVec S64x2048 32 := select (w856 x0 x1) (w851 x0 x1) (w793 x0 x1)
def w859 (x0 : A0) (x1 : A1) : FVec Ideal S64x2048 .f32 := select (w856 x0 x1) (w792 x0 x1) (w850 x0 x1)
def w860 (x0 : A0) (x1 : A1) : IVec S64x2048 32 := select (w856 x0 x1) (w793 x0 x1) (w851 x0 x1)
def w865 (x0 : A0) (x1 : A1) : IVec S64x2048 1 := ori (cmpf .olt (w859 x0 x1) (w801 x0 x1)) (andi (cmpf .oeq (w859 x0 x1) (w801 x0 x1)) (cmpi .slt (w860 x0 x1) (w802 x0 x1)))
def w866 (x0 : A0) (x1 : A1) : FVec Ideal S64x2048 .f32 := select (w865 x0 x1) (w859 x0 x1) (w801 x0 x1)
def w867 (x0 : A0) (x1 : A1) : IVec S64x2048 32 := select (w865 x0 x1) (w860 x0 x1) (w802 x0 x1)
def w868 (x0 : A0) (x1 : A1) : FVec Ideal S64x2048 .f32 := select (w865 x0 x1) (w801 x0 x1) (w859 x0 x1)
def w869 (x0 : A0) (x1 : A1) : IVec S64x2048 32 := select (w865 x0 x1) (w802 x0 x1) (w860 x0 x1)
def w874 (x0 : A0) (x1 : A1) : IVec S64x2048 1 := ori (cmpf .olt (w868 x0 x1) (w810 x0 x1)) (andi (cmpf .oeq (w868 x0 x1) (w810 x0 x1)) (cmpi .slt (w869 x0 x1) (w811 x0 x1)))
def w875 (x0 : A0) (x1 : A1) : FVec Ideal S64x2048 .f32 := select (w874 x0 x1) (w868 x0 x1) (w810 x0 x1)
def w876 (x0 : A0) (x1 : A1) : IVec S64x2048 32 := select (w874 x0 x1) (w869 x0 x1) (w811 x0 x1)
def w877 (x0 : A0) (x1 : A1) : FVec Ideal S64x2048 .f32 := select (w874 x0 x1) (w810 x0 x1) (w868 x0 x1)
def w878 (x0 : A0) (x1 : A1) : IVec S64x2048 32 := select (w874 x0 x1) (w811 x0 x1) (w869 x0 x1)
def w883 (x0 : A0) (x1 : A1) : IVec S64x2048 1 := ori (cmpf .olt (w877 x0 x1) (w819 x0 x1)) (andi (cmpf .oeq (w877 x0 x1) (w819 x0 x1)) (cmpi .slt (w878 x0 x1) (w820 x0 x1)))
def w884 (x0 : A0) (x1 : A1) : FVec Ideal S64x2048 .f32 := select (w883 x0 x1) (w877 x0 x1) (w819 x0 x1)
def w885 (x0 : A0) (x1 : A1) : IVec S64x2048 32 := select (w883 x0 x1) (w878 x0 x1) (w820 x0 x1)
def w888 (x0 : A0) (x1 : A1) : FVec Ideal S68x2048 .f32 := absf (subf (extractStridedSlice S68x2048 ![2, 0] (w83 x0 x1) slices_S72x2048_o2_0_S68x2048) (w124 x0 x1))
def w891 (x0 : A0) (x1 : A1) : FVec Ideal S68x2048 .f32 := absf (subf (extractStridedSlice S68x2048 ![2, 0] (w93 x0 x1) slices_S72x2048_o2_0_S68x2048) (w125 x0 x1))
def w894 (x0 : A0) (x1 : A1) : FVec Ideal S68x2048 .f32 := absf (subf (extractStridedSlice S68x2048 ![2, 0] (w103 x0 x1) slices_S72x2048_o2_0_S68x2048) (w126 x0 x1))
def w897 (x0 : A0) (x1 : A1) : FVec Ideal S68x2048 .f32 := absf (subf (extractStridedSlice S68x2048 ![2, 0] (w113 x0 x1) slices_S72x2048_o2_0_S68x2048) (w127 x0 x1))
def w900 (x0 : A0) (x1 : A1) : FVec Ideal S68x2048 .f32 := absf (subf (extractStridedSlice S68x2048 ![2, 0] (w123 x0 x1) slices_S72x2048_o2_0_S68x2048) (w128 x0 x1))
def w901 (x0 : A0) (x1 : A1) : FVec Ideal S68x2048 .f32 := addf (w888 x0 x1) (w900 x0 x1)
def w902 (x0 : A0) (x1 : A1) : FVec Ideal S68x2048 .f32 := addf (w891 x0 x1) (w897 x0 x1)
def w903 (x0 : A0) (x1 : A1) : FVec Ideal S68x2048 .f32 := addf (w901 x0 x1) (w902 x0 x1)
def w904 (x0 : A0) (x1 : A1) : FVec Ideal S68x2048 .f32 := addf (w903 x0 x1) (w894 x0 x1)
def w911 (x0 : A0) (x1 : A1) : FVec Ideal S68x2048 .f32 := addf (mulf (broadcast S68x2048 ((Scalar.ofBits .f32 0x3E7A0FEB#32 : Ideal .f32))) (w902 x0 x1)) (mulf (broadcast S68x2048 ((Scalar.ofBits .f32 0x3ECE2434#32 : Ideal .f32))) (w894 x0 x1))
def w912 (x0 : A0) (x1 : A1) : FVec Ideal S68x2048 .f32 := addf (mulf (broadcast S68x2048 ((Scalar.ofBits .f32 0x3D5F2F87#32 : Ideal .f32))) (w901 x0 x1)) (w911 x0 x1)
def w915 (x0 : A0) (x1 : A1) : FVec Ideal S64x2048 .f32 := subf (matmul dot_S64x68_S68x2048_S64x2048_1_0_0_1_n_n (some .fp32) (w150 x0 x1) (w904 x0 x1) (constant S64x2048 .f32 0x00000000#32)) (matmul dot_S64x68_S68x2048_S64x2048_1_0_0_1_n_n (some .fp32) (w176 x0 x1) (w912 x0 x1) (constant S64x2048 .f32 0x00000000#32))
def w916 (x0 : A0) (x1 : A1) : IVec S64x2048 32 := extractStridedSlice S64x2048 ![2, 0] (w133 x0 x1) slices_S68x2048_o2_0_S64x2048
def w921 (x0 : A0) (x1 : A1) : IVec S64x2048 1 := ori (cmpf .olt (w915 x0 x1) (w857 x0 x1)) (andi (cmpf .oeq (w915 x0 x1) (w857 x0 x1)) (cmpi .slt (w916 x0 x1) (w858 x0 x1)))
def w922 (x0 : A0) (x1 : A1) : FVec Ideal S64x2048 .f32 := select (w921 x0 x1) (w915 x0 x1) (w857 x0 x1)
def w923 (x0 : A0) (x1 : A1) : IVec S64x2048 32 := select (w921 x0 x1) (w916 x0 x1) (w858 x0 x1)
def w924 (x0 : A0) (x1 : A1) : FVec Ideal S64x2048 .f32 := select (w921 x0 x1) (w857 x0 x1) (w915 x0 x1)
def w925 (x0 : A0) (x1 : A1) : IVec S64x2048 32 := select (w921 x0 x1) (w858 x0 x1) (w916 x0 x1)
def w930 (x0 : A0) (x1 : A1) : IVec S64x2048 1 := ori (cmpf .olt (w924 x0 x1) (w866 x0 x1)) (andi (cmpf .oeq (w924 x0 x1) (w866 x0 x1)) (cmpi .slt (w925 x0 x1) (w867 x0 x1)))
def w931 (x0 : A0) (x1 : A1) : FVec Ideal S64x2048 .f32 := select (w930 x0 x1) (w924 x0 x1) (w866 x0 x1)
def w932 (x0 : A0) (x1 : A1) : IVec S64x2048 32 := select (w930 x0 x1) (w925 x0 x1) (w867 x0 x1)
def w933 (x0 : A0) (x1 : A1) : FVec Ideal S64x2048 .f32 := select (w930 x0 x1) (w866 x0 x1) (w924 x0 x1)
def w934 (x0 : A0) (x1 : A1) : IVec S64x2048 32 := select (w930 x0 x1) (w867 x0 x1) (w925 x0 x1)
def w939 (x0 : A0) (x1 : A1) : IVec S64x2048 1 := ori (cmpf .olt (w933 x0 x1) (w875 x0 x1)) (andi (cmpf .oeq (w933 x0 x1) (w875 x0 x1)) (cmpi .slt (w934 x0 x1) (w876 x0 x1)))
def w940 (x0 : A0) (x1 : A1) : FVec Ideal S64x2048 .f32 := select (w939 x0 x1) (w933 x0 x1) (w875 x0 x1)
def w941 (x0 : A0) (x1 : A1) : IVec S64x2048 32 := select (w939 x0 x1) (w934 x0 x1) (w876 x0 x1)
def w942 (x0 : A0) (x1 : A1) : FVec Ideal S64x2048 .f32 := select (w939 x0 x1) (w875 x0 x1) (w933 x0 x1)
def w943 (x0 : A0) (x1 : A1) : IVec S64x2048 32 := select (w939 x0 x1) (w876 x0 x1) (w934 x0 x1)
def w948 (x0 : A0) (x1 : A1) : IVec S64x2048 1 := ori (cmpf .olt (w942 x0 x1) (w884 x0 x1)) (andi (cmpf .oeq (w942 x0 x1) (w884 x0 x1)) (cmpi .slt (w943 x0 x1) (w885 x0 x1)))
def w949 (x0 : A0) (x1 : A1) : FVec Ideal S64x2048 .f32 := select (w948 x0 x1) (w942 x0 x1) (w884 x0 x1)
def w950 (x0 : A0) (x1 : A1) : IVec S64x2048 32 := select (w948 x0 x1) (w943 x0 x1) (w885 x0 x1)
def w953 (x0 : A0) (x1 : A1) : FVec Ideal S68x2048 .f32 := absf (subf (extractStridedSlice S68x2048 ![3, 0] (w75 x0 x1) slices_S72x2048_o3_0_S68x2048) (w124 x0 x1))
def w956 (x0 : A0) (x1 : A1) : FVec Ideal S68x2048 .f32 := absf (subf (extractStridedSlice S68x2048 ![3, 0] (w85 x0 x1) slices_S72x2048_o3_0_S68x2048) (w125 x0 x1))
def w959 (x0 : A0) (x1 : A1) : FVec Ideal S68x2048 .f32 := absf (subf (extractStridedSlice S68x2048 ![3, 0] (w95 x0 x1) slices_S72x2048_o3_0_S68x2048) (w126 x0 x1))
def w962 (x0 : A0) (x1 : A1) : FVec Ideal S68x2048 .f32 := absf (subf (extractStridedSlice S68x2048 ![3, 0] (w105 x0 x1) slices_S72x2048_o3_0_S68x2048) (w127 x0 x1))
def w965 (x0 : A0) (x1 : A1) : FVec Ideal S68x2048 .f32 := absf (subf (extractStridedSlice S68x2048 ![3, 0] (w115 x0 x1) slices_S72x2048_o3_0_S68x2048) (w128 x0 x1))
def w966 (x0 : A0) (x1 : A1) : FVec Ideal S68x2048 .f32 := addf (w953 x0 x1) (w965 x0 x1)
def w967 (x0 : A0) (x1 : A1) : FVec Ideal S68x2048 .f32 := addf (w956 x0 x1) (w962 x0 x1)
def w968 (x0 : A0) (x1 : A1) : FVec Ideal S68x2048 .f32 := addf (w966 x0 x1) (w967 x0 x1)
def w969 (x0 : A0) (x1 : A1) : FVec Ideal S68x2048 .f32 := addf (w968 x0 x1) (w959 x0 x1)
def w976 (x0 : A0) (x1 : A1) : FVec Ideal S68x2048 .f32 := addf (mulf (broadcast S68x2048 ((Scalar.ofBits .f32 0x3E7A0FEB#32 : Ideal .f32))) (w967 x0 x1)) (mulf (broadcast S68x2048 ((Scalar.ofBits .f32 0x3ECE2434#32 : Ideal .f32))) (w959 x0 x1))
def w977 (x0 : A0) (x1 : A1) : FVec Ideal S68x2048 .f32 := addf (mulf (broadcast S68x2048 ((Scalar.ofBits .f32 0x3D5F2F87#32 : Ideal .f32))) (w966 x0 x1)) (w976 x0 x1)
def w980 (x0 : A0) (x1 : A1) : FVec Ideal S64x2048 .f32 := subf (matmul dot_S64x68_S68x2048_S64x2048_1_0_0_1_n_n (some .fp32) (w150 x0 x1) (w969 x0 x1) (constant S64x2048 .f32 0x00000000#32)) (matmul dot_S64x68_S68x2048_S64x2048_1_0_0_1_n_n (some .fp32) (w176 x0 x1) (w977 x0 x1) (constant S64x2048 .f32 0x00000000#32))
def w981 (x0 : A0) (x1 : A1) : IVec S64x2048 32 := extractStridedSlice S64x2048 ![3, 0] (w129 x0 x1) slices_S68x2048_o3_0_S64x2048
def w986 (x0 : A0) (x1 : A1) : IVec S64x2048 1 := ori (cmpf .olt (w980 x0 x1) (w922 x0 x1)) (andi (cmpf .oeq (w980 x0 x1) (w922 x0 x1)) (cmpi .slt (w981 x0 x1) (w923 x0 x1)))
def w987 (x0 : A0) (x1 : A1) : FVec Ideal S64x2048 .f32 := select (w986 x0 x1) (w980 x0 x1) (w922 x0 x1)
def w988 (x0 : A0) (x1 : A1) : IVec S64x2048 32 := select (w986 x0 x1) (w981 x0 x1) (w923 x0 x1)
def w989 (x0 : A0) (x1 : A1) : FVec Ideal S64x2048 .f32 := select (w986 x0 x1) (w922 x0 x1) (w980 x0 x1)
def w990 (x0 : A0) (x1 : A1) : IVec S64x2048 32 := select (w986 x0 x1) (w923 x0 x1) (w981 x0 x1)
def w995 (x0 : A0) (x1 : A1) : IVec S64x2048 1 := ori (cmpf .olt (w989 x0 x1) (w931 x0 x1)) (andi (cmpf .oeq (w989 x0 x1) (w931 x0 x1)) (cmpi .slt (w990 x0 x1) (w932 x0 x1)))
def w996 (x0 : A0) (x1 : A1) : FVec Ideal S64x2048 .f32 := select (w995 x0 x1) (w989 x0 x1) (w931 x0 x1)
def w997 (x0 : A0) (x1 : A1) : IVec S64x2048 32 := select (w995 x0 x1) (w990 x0 x1) (w932 x0 x1)
def w998 (x0 : A0) (x1 : A1) : FVec Ideal S64x2048 .f32 := select (w995 x0 x1) (w931 x0 x1) (w989 x0 x1)
def w999 (x0 : A0) (x1 : A1) : IVec S64x2048 32 := select (w995 x0 x1) (w932 x0 x1) (w990 x0 x1)
def w1004 (x0 : A0) (x1 : A1) : IVec S64x2048 1 := ori (cmpf .olt (w998 x0 x1) (w940 x0 x1)) (andi (cmpf .oeq (w998 x0 x1) (w940 x0 x1)) (cmpi .slt (w999 x0 x1) (w941 x0 x1)))
def w1005 (x0 : A0) (x1 : A1) : FVec Ideal S64x2048 .f32 := select (w1004 x0 x1) (w998 x0 x1) (w940 x0 x1)
def w1006 (x0 : A0) (x1 : A1) : IVec S64x2048 32 := select (w1004 x0 x1) (w999 x0 x1) (w941 x0 x1)
def w1007 (x0 : A0) (x1 : A1) : FVec Ideal S64x2048 .f32 := select (w1004 x0 x1) (w940 x0 x1) (w998 x0 x1)
def w1008 (x0 : A0) (x1 : A1) : IVec S64x2048 32 := select (w1004 x0 x1) (w941 x0 x1) (w999 x0 x1)
def w1013 (x0 : A0) (x1 : A1) : IVec S64x2048 1 := ori (cmpf .olt (w1007 x0 x1) (w949 x0 x1)) (andi (cmpf .oeq (w1007 x0 x1) (w949 x0 x1)) (cmpi .slt (w1008 x0 x1) (w950 x0 x1)))
def w1014 (x0 : A0) (x1 : A1) : FVec Ideal S64x2048 .f32 := select (w1013 x0 x1) (w1007 x0 x1) (w949 x0 x1)
def w1015 (x0 : A0) (x1 : A1) : IVec S64x2048 32 := select (w1013 x0 x1) (w1008 x0 x1) (w950 x0 x1)
def w1018 (x0 : A0) (x1 : A1) : FVec Ideal S68x2048 .f32 := absf (subf (extractStridedSlice S68x2048 ![3, 0] (w77 x0 x1) slices_S72x2048_o3_0_S68x2048) (w124 x0 x1))
def w1021 (x0 : A0) (x1 : A1) : FVec Ideal S68x2048 .f32 := absf (subf (extractStridedSlice S68x2048 ![3, 0] (w87 x0 x1) slices_S72x2048_o3_0_S68x2048) (w125 x0 x1))
def w1024 (x0 : A0) (x1 : A1) : FVec Ideal S68x2048 .f32 := absf (subf (extractStridedSlice S68x2048 ![3, 0] (w97 x0 x1) slices_S72x2048_o3_0_S68x2048) (w126 x0 x1))
def w1027 (x0 : A0) (x1 : A1) : FVec Ideal S68x2048 .f32 := absf (subf (extractStridedSlice S68x2048 ![3, 0] (w107 x0 x1) slices_S72x2048_o3_0_S68x2048) (w127 x0 x1))
def w1030 (x0 : A0) (x1 : A1) : FVec Ideal S68x2048 .f32 := absf (subf (extractStridedSlice S68x2048 ![3, 0] (w117 x0 x1) slices_S72x2048_o3_0_S68x2048) (w128 x0 x1))
def w1031 (x0 : A0) (x1 : A1) : FVec Ideal S68x2048 .f32 := addf (w1018 x0 x1) (w1030 x0 x1)
def w1032 (x0 : A0) (x1 : A1) : FVec Ideal S68x2048 .f32 := addf (w1021 x0 x1) (w1027 x0 x1)
def w1033 (x0 : A0) (x1 : A1) : FVec Ideal S68x2048 .f32 := addf (w1031 x0 x1) (w1032 x0 x1)
def w1034 (x0 : A0) (x1 : A1) : FVec Ideal S68x2048 .f32 := addf (w1033 x0 x1) (w1024 x0 x1)
def w1041 (x0 : A0) (x1 : A1) : FVec Ideal S68x2048 .f32 := addf (mulf (broadcast S68x2048 ((Scalar.ofBits .f32 0x3E7A0FEB#32 : Ideal .f32))) (w1032 x0 x1)) (mulf (broadcast S68x2048 ((Scalar.ofBits .f32 0x3ECE2434#32 : Ideal .f32))) (w1024 x0 x1))
def w1042 (x0 : A0) (x1 : A1) : FVec Ideal S68x2048 .f32 := addf (mulf (broadcast S68x2048 ((Scalar.ofBits .f32 0x3D5F2F87#32 : Ideal .f32))) (w1031 x0 x1)) (w1041 x0 x1)
def w1045 (x0 : A0) (x1 : A1) : FVec Ideal S64x2048 .f32 := subf (matmul dot_S64x68_S68x2048_S64x2048_1_0_0_1_n_n (some .fp32) (w150 x0 x1) (w1034 x0 x1) (constant S64x2048 .f32 0x00000000#32)) (matmul dot_S64x68_S68x2048_S64x2048_1_0_0_1_n_n (some .fp32) (w176 x0 x1) (w1042 x0 x1) (constant S64x2048 .f32 0x00000000#32))
def w1046 (x0 : A0) (x1 : A1) : IVec S64x2048 32 := extractStridedSlice S64x2048 ![3, 0] (w130 x0 x1) slices_S68x2048_o3_0_S64x2048
def w1051 (x0 : A0) (x1 : A1) : IVec S64x2048 1 := ori (cmpf .olt (w1045 x0 x1) (w987 x0 x1)) (andi (cmpf .oeq (w1045 x0 x1) (w987 x0 x1)) (cmpi .slt (w1046 x0 x1) (w988 x0 x1)))
def w1052 (x0 : A0) (x1 : A1) : FVec Ideal S64x2048 .f32 := select (w1051 x0 x1) (w1045 x0 x1) (w987 x0 x1)
def w1053 (x0 : A0) (x1 : A1) : IVec S64x2048 32 := select (w1051 x0 x1) (w1046 x0 x1) (w988 x0 x1)
def w1054 (x0 : A0) (x1 : A1) : FVec Ideal S64x2048 .f32 := select (w1051 x0 x1) (w987 x0 x1) (w1045 x0 x1)
def w1055 (x0 : A0) (x1 : A1) : IVec S64x2048 32 := select (w1051 x0 x1) (w988 x0 x1) (w1046 x0 x1)
def w1060 (x0 : A0) (x1 : A1) : IVec S64x2048 1 := ori (cmpf .olt (w1054 x0 x1) (w996 x0 x1)) (andi (cmpf .oeq (w1054 x0 x1) (w996 x0 x1)) (cmpi .slt (w1055 x0 x1) (w997 x0 x1)))
def w1061 (x0 : A0) (x1 : A1) : FVec Ideal S64x2048 .f32 := select (w1060 x0 x1) (w1054 x0 x1) (w996 x0 x1)
def w1062 (x0 : A0) (x1 : A1) : IVec S64x2048 32 := select (w1060 x0 x1) (w1055 x0 x1) (w997 x0 x1)
def w1063 (x0 : A0) (x1 : A1) : FVec Ideal S64x2048 .f32 := select (w1060 x0 x1) (w996 x0 x1) (w1054 x0 x1)
def w1064 (x0 : A0) (x1 : A1) : IVec S64x2048 32 := select (w1060 x0 x1) (w997 x0 x1) (w1055 x0 x1)
def w1069 (x0 : A0) (x1 : A1) : IVec S64x2048 1 := ori (cmpf .olt (w1063 x0 x1) (w1005 x0 x1)) (andi (cmpf .oeq (w1063 x0 x1) (w1005 x0 x1)) (cmpi .slt (w1064 x0 x1) (w1006 x0 x1)))
def w1070 (x0 : A0) (x1 : A1) : FVec Ideal S64x2048 .f32 := select (w1069 x0 x1) (w1063 x0 x1) (w1005 x0 x1)
def w1071 (x0 : A0) (x1 : A1) : IVec S64x2048 32 := select (w1069 x0 x1) (w1064 x0 x1) (w1006 x0 x1)
def w1072 (x0 : A0) (x1 : A1) : FVec Ideal S64x2048 .f32 := select (w1069 x0 x1) (w1005 x0 x1) (w1063 x0 x1)
def w1073 (x0 : A0) (x1 : A1) : IVec S64x2048 32 := select (w1069 x0 x1) (w1006 x0 x1) (w1064 x0 x1)
def w1078 (x0 : A0) (x1 : A1) : IVec S64x2048 1 := ori (cmpf .olt (w1072 x0 x1) (w1014 x0 x1)) (andi (cmpf .oeq (w1072 x0 x1) (w1014 x0 x1)) (cmpi .slt (w1073 x0 x1) (w1015 x0 x1)))
def w1079 (x0 : A0) (x1 : A1) : FVec Ideal S64x2048 .f32 := select (w1078 x0 x1) (w1072 x0 x1) (w1014 x0 x1)
def w1080 (x0 : A0) (x1 : A1) : IVec S64x2048 32 := select (w1078 x0 x1) (w1073 x0 x1) (w1015 x0 x1)
def w1083 (x0 : A0) (x1 : A1) : FVec Ideal S68x2048 .f32 := absf (subf (extractStridedSlice S68x2048 ![3, 0] (w79 x0 x1) slices_S72x2048_o3_0_S68x2048) (w124 x0 x1))
def w1086 (x0 : A0) (x1 : A1) : FVec Ideal S68x2048 .f32 := absf (subf (extractStridedSlice S68x2048 ![3, 0] (w89 x0 x1) slices_S72x2048_o3_0_S68x2048) (w125 x0 x1))
def w1089 (x0 : A0) (x1 : A1) : FVec Ideal S68x2048 .f32 := absf (subf (extractStridedSlice S68x2048 ![3, 0] (w99 x0 x1) slices_S72x2048_o3_0_S68x2048) (w126 x0 x1))
def w1092 (x0 : A0) (x1 : A1) : FVec Ideal S68x2048 .f32 := absf (subf (extractStridedSlice S68x2048 ![3, 0] (w109 x0 x1) slices_S72x2048_o3_0_S68x2048) (w127 x0 x1))
def w1095 (x0 : A0) (x1 : A1) : FVec Ideal S68x2048 .f32 := absf (subf (extractStridedSlice S68x2048 ![3, 0] (w119 x0 x1) slices_S72x2048_o3_0_S68x2048) (w128 x0 x1))
def w1096 (x0 : A0) (x1 : A1) : FVec Ideal S68x2048 .f32 := addf (w1083 x0 x1) (w1095 x0 x1)
def w1097 (x0 : A0) (x1 : A1) : FVec Ideal S68x2048 .f32 := addf (w1086 x0 x1) (w1092 x0 x1)
def w1098 (x0 : A0) (x1 : A1) : FVec Ideal S68x2048 .f32 := addf (w1096 x0 x1) (w1097 x0 x1)
def w1099 (x0 : A0) (x1 : A1) : FVec Ideal S68x2048 .f32 := addf (w1098 x0 x1) (w1089 x0 x1)
def w1106 (x0 : A0) (x1 : A1) : FVec Ideal S68x2048 .f32 := addf (mulf (broadcast S68x2048 ((Scalar.ofBits .f32 0x3E7A0FEB#32 : Ideal .f32))) (w1097 x0 x1)) (mulf (broadcast S68x2048 ((Scalar.ofBits .f32 0x3ECE2434#32 : Ideal .f32))) (w1089 x0 x1))
def w1107 (x0 : A0) (x1 : A1) : FVec Ideal S68x2048 .f32 := addf (mulf (broadcast S68x2048 ((Scalar.ofBits .f32 0x3D5F2F87#32 : Ideal .f32))) (w1096 x0 x1)) (w1106 x0 x1)
def w1110 (x0 : A0) (x1 : A1) : FVec Ideal S64x2048 .f32 := subf (matmul dot_S64x68_S68x2048_S64x2048_1_0_0_1_n_n (some .fp32) (w150 x0 x1) (w1099 x0 x1) (constant S64x2048 .f32 0x00000000#32)) (matmul dot_S64x68_S68x2048_S64x2048_1_0_0_1_n_n (some .fp32) (w176 x0 x1) (w1107 x0 x1) (constant S64x2048 .f32 0x00000000#32))
def w1111 (x0 : A0) (x1 : A1) : IVec S64x2048 32 := extractStridedSlice S64x2048 ![3, 0] (w131 x0 x1) slices_S68x2048_o3_0_S64x2048
def w1116 (x0 : A0) (x1 : A1) : IVec S64x2048 1 := ori (cmpf .olt (w1110 x0 x1) (w1052 x0 x1)) (andi (cmpf .oeq (w1110 x0 x1) (w1052 x0 x1)) (cmpi .slt (w1111 x0 x1) (w1053 x0 x1)))
def w1117 (x0 : A0) (x1 : A1) : FVec Ideal S64x2048 .f32 := select (w1116 x0 x1) (w1110 x0 x1) (w1052 x0 x1)
def w1118 (x0 : A0) (x1 : A1) : IVec S64x2048 32 := select (w1116 x0 x1) (w1111 x0 x1) (w1053 x0 x1)
def w1119 (x0 : A0) (x1 : A1) : FVec Ideal S64x2048 .f32 := select (w1116 x0 x1) (w1052 x0 x1) (w1110 x0 x1)
def w1120 (x0 : A0) (x1 : A1) : IVec S64x2048 32 := select (w1116 x0 x1) (w1053 x0 x1) (w1111 x0 x1)
def w1125 (x0 : A0) (x1 : A1) : IVec S64x2048 1 := ori (cmpf .olt (w1119 x0 x1) (w1061 x0 x1)) (andi (cmpf .oeq (w1119 x0 x1) (w1061 x0 x1)) (cmpi .slt (w1120 x0 x1) (w1062 x0 x1)))
def w1126 (x0 : A0) (x1 : A1) : FVec Ideal S64x2048 .f32 := select (w1125 x0 x1) (w1119 x0 x1) (w1061 x0 x1)
def w1127 (x0 : A0) (x1 : A1) : IVec S64x2048 32 := select (w1125 x0 x1) (w1120 x0 x1) (w1062 x0 x1)
def w1128 (x0 : A0) (x1 : A1) : FVec Ideal S64x2048 .f32 := select (w1125 x0 x1) (w1061 x0 x1) (w1119 x0 x1)
def w1129 (x0 : A0) (x1 : A1) : IVec S64x2048 32 := select (w1125 x0 x1) (w1062 x0 x1) (w1120 x0 x1)
def w1134 (x0 : A0) (x1 : A1) : IVec S64x2048 1 := ori (cmpf .olt (w1128 x0 x1) (w1070 x0 x1)) (andi (cmpf .oeq (w1128 x0 x1) (w1070 x0 x1)) (cmpi .slt (w1129 x0 x1) (w1071 x0 x1)))
def w1135 (x0 : A0) (x1 : A1) : FVec Ideal S64x2048 .f32 := select (w1134 x0 x1) (w1128 x0 x1) (w1070 x0 x1)
def w1136 (x0 : A0) (x1 : A1) : IVec S64x2048 32 := select (w1134 x0 x1) (w1129 x0 x1) (w1071 x0 x1)
def w1137 (x0 : A0) (x1 : A1) : FVec Ideal S64x2048 .f32 := select (w1134 x0 x1) (w1070 x0 x1) (w1128 x0 x1)
def w1138 (x0 : A0) (x1 : A1) : IVec S64x2048 32 := select (w1134 x0 x1) (w1071 x0 x1) (w1129 x0 x1)
def w1143 (x0 : A0) (x1 : A1) : IVec S64x2048 1 := ori (cmpf .olt (w1137 x0 x1) (w1079 x0 x1)) (andi (cmpf .oeq (w1137 x0 x1) (w1079 x0 x1)) (cmpi .slt (w1138 x0 x1) (w1080 x0 x1)))
def w1144 (x0 : A0) (x1 : A1) : FVec Ideal S64x2048 .f32 := select (w1143 x0 x1) (w1137 x0 x1) (w1079 x0 x1)
def w1145 (x0 : A0) (x1 : A1) : IVec S64x2048 32 := select (w1143 x0 x1) (w1138 x0 x1) (w1080 x0 x1)
def w1148 (x0 : A0) (x1 : A1) : FVec Ideal S68x2048 .f32 := absf (subf (extractStridedSlice S68x2048 ![3, 0] (w81 x0 x1) slices_S72x2048_o3_0_S68x2048) (w124 x0 x1))
def w1151 (x0 : A0) (x1 : A1) : FVec Ideal S68x2048 .f32 := absf (subf (extractStridedSlice S68x2048 ![3, 0] (w91 x0 x1) slices_S72x2048_o3_0_S68x2048) (w125 x0 x1))
def w1154 (x0 : A0) (x1 : A1) : FVec Ideal S68x2048 .f32 := absf (subf (extractStridedSlice S68x2048 ![3, 0] (w101 x0 x1) slices_S72x2048_o3_0_S68x2048) (w126 x0 x1))
def w1157 (x0 : A0) (x1 : A1) : FVec Ideal S68x2048 .f32 := absf (subf (extractStridedSlice S68x2048 ![3, 0] (w111 x0 x1) slices_S72x2048_o3_0_S68x2048) (w127 x0 x1))
def w1160 (x0 : A0) (x1 : A1) : FVec Ideal S68x2048 .f32 := absf (subf (extractStridedSlice S68x2048 ![3, 0] (w121 x0 x1) slices_S72x2048_o3_0_S68x2048) (w128 x0 x1))
def w1161 (x0 : A0) (x1 : A1) : FVec Ideal S68x2048 .f32 := addf (w1148 x0 x1) (w1160 x0 x1)
def w1162 (x0 : A0) (x1 : A1) : FVec Ideal S68x2048 .f32 := addf (w1151 x0 x1) (w1157 x0 x1)
def w1163 (x0 : A0) (x1 : A1) : FVec Ideal S68x2048 .f32 := addf (w1161 x0 x1) (w1162 x0 x1)
def w1164 (x0 : A0) (x1 : A1) : FVec Ideal S68x2048 .f32 := addf (w1163 x0 x1) (w1154 x0 x1)
def w1171 (x0 : A0) (x1 : A1) : FVec Ideal S68x2048 .f32 := addf (mulf (broadcast S68x2048 ((Scalar.ofBits .f32 0x3E7A0FEB#32 : Ideal .f32))) (w1162 x0 x1)) (mulf (broadcast S68x2048 ((Scalar.ofBits .f32 0x3ECE2434#32 : Ideal .f32))) (w1154 x0 x1))
def w1172 (x0 : A0) (x1 : A1) : FVec Ideal S68x2048 .f32 := addf (mulf (broadcast S68x2048 ((Scalar.ofBits .f32 0x3D5F2F87#32 : Ideal .f32))) (w1161 x0 x1)) (w1171 x0 x1)
def w1175 (x0 : A0) (x1 : A1) : FVec Ideal S64x2048 .f32 := subf (matmul dot_S64x68_S68x2048_S64x2048_1_0_0_1_n_n (some .fp32) (w150 x0 x1) (w1164 x0 x1) (constant S64x2048 .f32 0x00000000#32)) (matmul dot_S64x68_S68x2048_S64x2048_1_0_0_1_n_n (some .fp32) (w176 x0 x1) (w1172 x0 x1) (constant S64x2048 .f32 0x00000000#32))
def w1176 (x0 : A0) (x1 : A1) : IVec S64x2048 32 := extractStridedSlice S64x2048 ![3, 0] (w132 x0 x1) slices_S68x2048_o3_0_S64x2048
def w1181 (x0 : A0) (x1 : A1) : IVec S64x2048 1 := ori (cmpf .olt (w1175 x0 x1) (w1117 x0 x1)) (andi (cmpf .oeq (w1175 x0 x1) (w1117 x0 x1)) (cmpi .slt (w1176 x0 x1) (w1118 x0 x1)))
def w1182 (x0 : A0) (x1 : A1) : FVec Ideal S64x2048 .f32 := select (w1181 x0 x1) (w1175 x0 x1) (w1117 x0 x1)
def w1183 (x0 : A0) (x1 : A1) : IVec S64x2048 32 := select (w1181 x0 x1) (w1176 x0 x1) (w1118 x0 x1)
def w1184 (x0 : A0) (x1 : A1) : FVec Ideal S64x2048 .f32 := select (w1181 x0 x1) (w1117 x0 x1) (w1175 x0 x1)
def w1185 (x0 : A0) (x1 : A1) : IVec S64x2048 32 := select (w1181 x0 x1) (w1118 x0 x1) (w1176 x0 x1)
def w1190 (x0 : A0) (x1 : A1) : IVec S64x2048 1 := ori (cmpf .olt (w1184 x0 x1) (w1126 x0 x1)) (andi (cmpf .oeq (w1184 x0 x1) (w1126 x0 x1)) (cmpi .slt (w1185 x0 x1) (w1127 x0 x1)))
def w1191 (x0 : A0) (x1 : A1) : FVec Ideal S64x2048 .f32 := select (w1190 x0 x1) (w1184 x0 x1) (w1126 x0 x1)
def w1192 (x0 : A0) (x1 : A1) : IVec S64x2048 32 := select (w1190 x0 x1) (w1185 x0 x1) (w1127 x0 x1)
def w1193 (x0 : A0) (x1 : A1) : FVec Ideal S64x2048 .f32 := select (w1190 x0 x1) (w1126 x0 x1) (w1184 x0 x1)
def w1194 (x0 : A0) (x1 : A1) : IVec S64x2048 32 := select (w1190 x0 x1) (w1127 x0 x1) (w1185 x0 x1)
def w1199 (x0 : A0) (x1 : A1) : IVec S64x2048 1 := ori (cmpf .olt (w1193 x0 x1) (w1135 x0 x1)) (andi (cmpf .oeq (w1193 x0 x1) (w1135 x0 x1)) (cmpi .slt (w1194 x0 x1) (w1136 x0 x1)))
def w1200 (x0 : A0) (x1 : A1) : FVec Ideal S64x2048 .f32 := select (w1199 x0 x1) (w1193 x0 x1) (w1135 x0 x1)
def w1201 (x0 : A0) (x1 : A1) : IVec S64x2048 32 := select (w1199 x0 x1) (w1194 x0 x1) (w1136 x0 x1)
def w1202 (x0 : A0) (x1 : A1) : FVec Ideal S64x2048 .f32 := select (w1199 x0 x1) (w1135 x0 x1) (w1193 x0 x1)
def w1203 (x0 : A0) (x1 : A1) : IVec S64x2048 32 := select (w1199 x0 x1) (w1136 x0 x1) (w1194 x0 x1)
def w1208 (x0 : A0) (x1 : A1) : IVec S64x2048 1 := ori (cmpf .olt (w1202 x0 x1) (w1144 x0 x1)) (andi (cmpf .oeq (w1202 x0 x1) (w1144 x0 x1)) (cmpi .slt (w1203 x0 x1) (w1145 x0 x1)))
def w1209 (x0 : A0) (x1 : A1) : FVec Ideal S64x2048 .f32 := select (w1208 x0 x1) (w1202 x0 x1) (w1144 x0 x1)
def w1210 (x0 : A0) (x1 : A1) : IVec S64x2048 32 := select (w1208 x0 x1) (w1203 x0 x1) (w1145 x0 x1)
def w1213 (x0 : A0) (x1 : A1) : FVec Ideal S68x2048 .f32 := absf (subf (extractStridedSlice S68x2048 ![3, 0] (w83 x0 x1) slices_S72x2048_o3_0_S68x2048) (w124 x0 x1))
def w1216 (x0 : A0) (x1 : A1) : FVec Ideal S68x2048 .f32 := absf (subf (extractStridedSlice S68x2048 ![3, 0] (w93 x0 x1) slices_S72x2048_o3_0_S68x2048) (w125 x0 x1))
def w1219 (x0 : A0) (x1 : A1) : FVec Ideal S68x2048 .f32 := absf (subf (extractStridedSlice S68x2048 ![3, 0] (w103 x0 x1) slices_S72x2048_o3_0_S68x2048) (w126 x0 x1))
def w1222 (x0 : A0) (x1 : A1) : FVec Ideal S68x2048 .f32 := absf (subf (extractStridedSlice S68x2048 ![3, 0] (w113 x0 x1) slices_S72x2048_o3_0_S68x2048) (w127 x0 x1))
def w1225 (x0 : A0) (x1 : A1) : FVec Ideal S68x2048 .f32 := absf (subf (extractStridedSlice S68x2048 ![3, 0] (w123 x0 x1) slices_S72x2048_o3_0_S68x2048) (w128 x0 x1))
def w1226 (x0 : A0) (x1 : A1) : FVec Ideal S68x2048 .f32 := addf (w1213 x0 x1) (w1225 x0 x1)
def w1227 (x0 : A0) (x1 : A1) : FVec Ideal S68x2048 .f32 := addf (w1216 x0 x1) (w1222 x0 x1)
def w1228 (x0 : A0) (x1 : A1) : FVec Ideal S68x2048 .f32 := addf (w1226 x0 x1) (w1227 x0 x1)
def w1229 (x0 : A0) (x1 : A1) : FVec Ideal S68x2048 .f32 := addf (w1228 x0 x1) (w1219 x0 x1)
def w1236 (x0 : A0) (x1 : A1) : FVec Ideal S68x2048 .f32 := addf (mulf (broadcast S68x2048 ((Scalar.ofBits .f32 0x3E7A0FEB#32 : Ideal .f32))) (w1227 x0 x1)) (mulf (broadcast S68x2048 ((Scalar.ofBits .f32 0x3ECE2434#32 : Ideal .f32))) (w1219 x0 x1))
def w1237 (x0 : A0) (x1 : A1) : FVec Ideal S68x2048 .f32 := addf (mulf (broadcast S68x2048 ((Scalar.ofBits .f32 0x3D5F2F87#32 : Ideal .f32))) (w1226 x0 x1)) (w1236 x0 x1)
def w1240 (x0 : A0) (x1 : A1) : FVec Ideal S64x2048 .f32 := subf (matmul dot_S64x68_S68x2048_S64x2048_1_0_0_1_n_n (some .fp32) (w150 x0 x1) (w1229 x0 x1) (constant S64x2048 .f32 0x00000000#32)) (matmul dot_S64x68_S68x2048_S64x2048_1_0_0_1_n_n (some .fp32) (w176 x0 x1) (w1237 x0 x1) (constant S64x2048 .f32 0x00000000#32))
def w1241 (x0 : A0) (x1 : A1) : IVec S64x2048 32 := extractStridedSlice S64x2048 ![3, 0] (w133 x0 x1) slices_S68x2048_o3_0_S64x2048
def w1246 (x0 : A0) (x1 : A1) : IVec S64x2048 1 := ori (cmpf .olt (w1240 x0 x1) (w1182 x0 x1)) (andi (cmpf .oeq (w1240 x0 x1) (w1182 x0 x1)) (cmpi .slt (w1241 x0 x1) (w1183 x0 x1)))
def w1247 (x0 : A0) (x1 : A1) : FVec Ideal S64x2048 .f32 := select (w1246 x0 x1) (w1240 x0 x1) (w1182 x0 x1)
def w1248 (x0 : A0) (x1 : A1) : IVec S64x2048 32 := select (w1246 x0 x1) (w1241 x0 x1) (w1183 x0 x1)
def w1249 (x0 : A0) (x1 : A1) : FVec Ideal S64x2048 .f32 := select (w1246 x0 x1) (w1182 x0 x1) (w1240 x0 x1)
def w1250 (x0 : A0) (x1 : A1) : IVec S64x2048 32 := select (w1246 x0 x1) (w1183 x0 x1) (w1241 x0 x1)
def w1255 (x0 : A0) (x1 : A1) : IVec S64x2048 1 := ori (cmpf .olt (w1249 x0 x1) (w1191 x0 x1)) (andi (cmpf .oeq (w1249 x0 x1) (w1191 x0 x1)) (cmpi .slt (w1250 x0 x1) (w1192 x0 x1)))
def w1256 (x0 : A0) (x1 : A1) : FVec Ideal S64x2048 .f32 := select (w1255 x0 x1) (w1249 x0 x1) (w1191 x0 x1)
def w1257 (x0 : A0) (x1 : A1) : IVec S64x2048 32 := select (w1255 x0 x1) (w1250 x0 x1) (w1192 x0 x1)
def w1258 (x0 : A0) (x1 : A1) : FVec Ideal S64x2048 .f32 := select (w1255 x0 x1) (w1191 x0 x1) (w1249 x0 x1)
def w1259 (x0 : A0) (x1 : A1) : IVec S64x2048 32 := select (w1255 x0 x1) (w1192 x0 x1) (w1250 x0 x1)
def w1264 (x0 : A0) (x1 : A1) : IVec S64x2048 1 := ori (cmpf .olt (w1258 x0 x1) (w1200 x0 x1)) (andi (cmpf .oeq (w1258 x0 x1) (w1200 x0 x1)) (cmpi .slt (w1259 x0 x1) (w1201 x0 x1)))
def w1265 (x0 : A0) (x1 : A1) : FVec Ideal S64x2048 .f32 := select (w1264 x0 x1) (w1258 x0 x1) (w1200 x0 x1)
def w1266 (x0 : A0) (x1 : A1) : IVec S64x2048 32 := select (w1264 x0 x1) (w1259 x0 x1) (w1201 x0 x1)
def w1267 (x0 : A0) (x1 : A1) : FVec Ideal S64x2048 .f32 := select (w1264 x0 x1) (w1200 x0 x1) (w1258 x0 x1)
def w1268 (x0 : A0) (x1 : A1) : IVec S64x2048 32 := select (w1264 x0 x1) (w1201 x0 x1) (w1259 x0 x1)
def w1273 (x0 : A0) (x1 : A1) : IVec S64x2048 1 := ori (cmpf .olt (w1267 x0 x1) (w1209 x0 x1)) (andi (cmpf .oeq (w1267 x0 x1) (w1209 x0 x1)) (cmpi .slt (w1268 x0 x1) (w1210 x0 x1)))
def w1274 (x0 : A0) (x1 : A1) : FVec Ideal S64x2048 .f32 := select (w1273 x0 x1) (w1267 x0 x1) (w1209 x0 x1)
def w1275 (x0 : A0) (x1 : A1) : IVec S64x2048 32 := select (w1273 x0 x1) (w1268 x0 x1) (w1210 x0 x1)
def w1278 (x0 : A0) (x1 : A1) : FVec Ideal S68x2048 .f32 := absf (subf (extractStridedSlice S68x2048 ![4, 0] (w75 x0 x1) slices_S72x2048_o4_0_S68x2048) (w124 x0 x1))
def w1281 (x0 : A0) (x1 : A1) : FVec Ideal S68x2048 .f32 := absf (subf (extractStridedSlice S68x2048 ![4, 0] (w85 x0 x1) slices_S72x2048_o4_0_S68x2048) (w125 x0 x1))
def w1284 (x0 : A0) (x1 : A1) : FVec Ideal S68x2048 .f32 := absf (subf (extractStridedSlice S68x2048 ![4, 0] (w95 x0 x1) slices_S72x2048_o4_0_S68x2048) (w126 x0 x1))
def w1287 (x0 : A0) (x1 : A1) : FVec Ideal S68x2048 .f32 := absf (subf (extractStridedSlice S68x2048 ![4, 0] (w105 x0 x1) slices_S72x2048_o4_0_S68x2048) (w127 x0 x1))
def w1290 (x0 : A0) (x1 : A1) : FVec Ideal S68x2048 .f32 := absf (subf (extractStridedSlice S68x2048 ![4, 0] (w115 x0 x1) slices_S72x2048_o4_0_S68x2048) (w128 x0 x1))
def w1291 (x0 : A0) (x1 : A1) : FVec Ideal S68x2048 .f32 := addf (w1278 x0 x1) (w1290 x0 x1)
def w1292 (x0 : A0) (x1 : A1) : FVec Ideal S68x2048 .f32 := addf (w1281 x0 x1) (w1287 x0 x1)
def w1293 (x0 : A0) (x1 : A1) : FVec Ideal S68x2048 .f32 := addf (w1291 x0 x1) (w1292 x0 x1)
def w1294 (x0 : A0) (x1 : A1) : FVec Ideal S68x2048 .f32 := addf (w1293 x0 x1) (w1284 x0 x1)
def w1301 (x0 : A0) (x1 : A1) : FVec Ideal S68x2048 .f32 := addf (mulf (broadcast S68x2048 ((Scalar.ofBits .f32 0x3E7A0FEB#32 : Ideal .f32))) (w1292 x0 x1)) (mulf (broadcast S68x2048 ((Scalar.ofBits .f32 0x3ECE2434#32 : Ideal .f32))) (w1284 x0 x1))
def w1302 (x0 : A0) (x1 : A1) : FVec Ideal S68x2048 .f32 := addf (mulf (broadcast S68x2048 ((Scalar.ofBits .f32 0x3D5F2F87#32 : Ideal .f32))) (w1291 x0 x1)) (w1301 x0 x1)
def w1305 (x0 : A0) (x1 : A1) : FVec Ideal S64x2048 .f32 := subf (matmul dot_S64x68_S68x2048_S64x2048_1_0_0_1_n_n (some .fp32) (w150 x0 x1) (w1294 x0 x1) (constant S64x2048 .f32 0x00000000#32)) (matmul dot_S64x68_S68x2048_S64x2048_1_0_0_1_n_n (some .fp32) (w176 x0 x1) (w1302 x0 x1) (constant S64x2048 .f32 0x00000000#32))
def w1306 (x0 : A0) (x1 : A1) : IVec S64x2048 32 := extractStridedSlice S64x2048 ![4, 0] (w129 x0 x1) slices_S68x2048_o4_0_S64x2048
def w1311 (x0 : A0) (x1 : A1) : IVec S64x2048 1 := ori (cmpf .olt (w1305 x0 x1) (w1247 x0 x1)) (andi (cmpf .oeq (w1305 x0 x1) (w1247 x0 x1)) (cmpi .slt (w1306 x0 x1) (w1248 x0 x1)))
def w1312 (x0 : A0) (x1 : A1) : FVec Ideal S64x2048 .f32 := select (w1311 x0 x1) (w1305 x0 x1) (w1247 x0 x1)
def w1313 (x0 : A0) (x1 : A1) : IVec S64x2048 32 := select (w1311 x0 x1) (w1306 x0 x1) (w1248 x0 x1)
def w1314 (x0 : A0) (x1 : A1) : FVec Ideal S64x2048 .f32 := select (w1311 x0 x1) (w1247 x0 x1) (w1305 x0 x1)
def w1315 (x0 : A0) (x1 : A1) : IVec S64x2048 32 := select (w1311 x0 x1) (w1248 x0 x1) (w1306 x0 x1)
def w1320 (x0 : A0) (x1 : A1) : IVec S64x2048 1 := ori (cmpf .olt (w1314 x0 x1) (w1256 x0 x1)) (andi (cmpf .oeq (w1314 x0 x1) (w1256 x0 x1)) (cmpi .slt (w1315 x0 x1) (w1257 x0 x1)))
def w1321 (x0 : A0) (x1 : A1) : FVec Ideal S64x2048 .f32 := select (w1320 x0 x1) (w1314 x0 x1) (w1256 x0 x1)
def w1322 (x0 : A0) (x1 : A1) : IVec S64x2048 32 := select (w1320 x0 x1) (w1315 x0 x1) (w1257 x0 x1)
def w1323 (x0 : A0) (x1 : A1) : FVec Ideal S64x2048 .f32 := select (w1320 x0 x1) (w1256 x0 x1) (w1314 x0 x1)
def w1324 (x0 : A0) (x1 : A1) : IVec S64x2048 32 := select (w1320 x0 x1) (w1257 x0 x1) (w1315 x0 x1)
def w1329 (x0 : A0) (x1 : A1) : IVec S64x2048 1 := ori (cmpf .olt (w1323 x0 x1) (w1265 x0 x1)) (andi (cmpf .oeq (w1323 x0 x1) (w1265 x0 x1)) (cmpi .slt (w1324 x0 x1) (w1266 x0 x1)))
def w1330 (x0 : A0) (x1 : A1) : FVec Ideal S64x2048 .f32 := select (w1329 x0 x1) (w1323 x0 x1) (w1265 x0 x1)
def w1331 (x0 : A0) (x1 : A1) : IVec S64x2048 32 := select (w1329 x0 x1) (w1324 x0 x1) (w1266 x0 x1)
def w1332 (x0 : A0) (x1 : A1) : FVec Ideal S64x2048 .f32 := select (w1329 x0 x1) (w1265 x0 x1) (w1323 x0 x1)
def w1333 (x0 : A0) (x1 : A1) : IVec S64x2048 32 := select (w1329 x0 x1) (w1266 x0 x1) (w1324 x0 x1)
def w1338 (x0 : A0) (x1 : A1) : IVec S64x2048 1 := ori (cmpf .olt (w1332 x0 x1) (w1274 x0 x1)) (andi (cmpf .oeq (w1332 x0 x1) (w1274 x0 x1)) (cmpi .slt (w1333 x0 x1) (w1275 x0 x1)))
def w1339 (x0 : A0) (x1 : A1) : FVec Ideal S64x2048 .f32 := select (w1338 x0 x1) (w1332 x0 x1) (w1274 x0 x1)
def w1340 (x0 : A0) (x1 : A1) : IVec S64x2048 32 := select (w1338 x0 x1) (w1333 x0 x1) (w1275 x0 x1)
def w1343 (x0 : A0) (x1 : A1) : FVec Ideal S68x2048 .f32 := absf (subf (extractStridedSlice S68x2048 ![4, 0] (w77 x0 x1) slices_S72x2048_o4_0_S68x2048) (w124 x0 x1))
def w1346 (x0 : A0) (x1 : A1) : FVec Ideal S68x2048 .f32 := absf (subf (extractStridedSlice S68x2048 ![4, 0] (w87 x0 x1) slices_S72x2048_o4_0_S68x2048) (w125 x0 x1))
def w1349 (x0 : A0) (x1 : A1) : FVec Ideal S68x2048 .f32 := absf (subf (extractStridedSlice S68x2048 ![4, 0] (w97 x0 x1) slices_S72x2048_o4_0_S68x2048) (w126 x0 x1))
def w1352 (x0 : A0) (x1 : A1) : FVec Ideal S68x2048 .f32 := absf (subf (extractStridedSlice S68x2048 ![4, 0] (w107 x0 x1) slices_S72x2048_o4_0_S68x2048) (w127 x0 x1))
def w1355 (x0 : A0) (x1 : A1) : FVec Ideal S68x2048 .f32 := absf (subf (extractStridedSlice S68x2048 ![4, 0] (w117 x0 x1) slices_S72x2048_o4_0_S68x2048) (w128 x0 x1))
def w1356 (x0 : A0) (x1 : A1) : FVec Ideal S68x2048 .f32 := addf (w1343 x0 x1) (w1355 x0 x1)
def w1357 (x0 : A0) (x1 : A1) : FVec Ideal S68x2048 .f32 := addf (w1346 x0 x1) (w1352 x0 x1)
def w1358 (x0 : A0) (x1 : A1) : FVec Ideal S68x2048 .f32 := addf (w1356 x0 x1) (w1357 x0 x1)
def w1359 (x0 : A0) (x1 : A1) : FVec Ideal S68x2048 .f32 := addf (w1358 x0 x1) (w1349 x0 x1)
def w1366 (x0 : A0) (x1 : A1) : FVec Ideal S68x2048 .f32 := addf (mulf (broadcast S68x2048 ((Scalar.ofBits .f32 0x3E7A0FEB#32 : Ideal .f32))) (w1357 x0 x1)) (mulf (broadcast S68x2048 ((Scalar.ofBits .f32 0x3ECE2434#32 : Ideal .f32))) (w1349 x0 x1))
def w1367 (x0 : A0) (x1 : A1) : FVec Ideal S68x2048 .f32 := addf (mulf (broadcast S68x2048 ((Scalar.ofBits .f32 0x3D5F2F87#32 : Ideal .f32))) (w1356 x0 x1)) (w1366 x0 x1)
def w1370 (x0 : A0) (x1 : A1) : FVec Ideal S64x2048 .f32 := subf (matmul dot_S64x68_S68x2048_S64x2048_1_0_0_1_n_n (some .fp32) (w150 x0 x1) (w1359 x0 x1) (constant S64x2048 .f32 0x00000000#32)) (matmul dot_S64x68_S68x2048_S64x2048_1_0_0_1_n_n (some .fp32) (w176 x0 x1) (w1367 x0 x1) (constant S64x2048 .f32 0x00000000#32))
def w1371 (x0 : A0) (x1 : A1) : IVec S64x2048 32 := extractStridedSlice S64x2048 ![4, 0] (w130 x0 x1) slices_S68x2048_o4_0_S64x2048
def w1376 (x0 : A0) (x1 : A1) : IVec S64x2048 1 := ori (cmpf .olt (w1370 x0 x1) (w1312 x0 x1)) (andi (cmpf .oeq (w1370 x0 x1) (w1312 x0 x1)) (cmpi .slt (w1371 x0 x1) (w1313 x0 x1)))
def w1377 (x0 : A0) (x1 : A1) : FVec Ideal S64x2048 .f32 := select (w1376 x0 x1) (w1370 x0 x1) (w1312 x0 x1)
def w1378 (x0 : A0) (x1 : A1) : IVec S64x2048 32 := select (w1376 x0 x1) (w1371 x0 x1) (w1313 x0 x1)
def w1379 (x0 : A0) (x1 : A1) : FVec Ideal S64x2048 .f32 := select (w1376 x0 x1) (w1312 x0 x1) (w1370 x0 x1)
def w1380 (x0 : A0) (x1 : A1) : IVec S64x2048 32 := select (w1376 x0 x1) (w1313 x0 x1) (w1371 x0 x1)
def w1385 (x0 : A0) (x1 : A1) : IVec S64x2048 1 := ori (cmpf .olt (w1379 x0 x1) (w1321 x0 x1)) (andi (cmpf .oeq (w1379 x0 x1) (w1321 x0 x1)) (cmpi .slt (w1380 x0 x1) (w1322 x0 x1)))
def w1386 (x0 : A0) (x1 : A1) : FVec Ideal S64x2048 .f32 := select (w1385 x0 x1) (w1379 x0 x1) (w1321 x0 x1)
def w1387 (x0 : A0) (x1 : A1) : IVec S64x2048 32 := select (w1385 x0 x1) (w1380 x0 x1) (w1322 x0 x1)
def w1388 (x0 : A0) (x1 : A1) : FVec Ideal S64x2048 .f32 := select (w1385 x0 x1) (w1321 x0 x1) (w1379 x0 x1)
def w1389 (x0 : A0) (x1 : A1) : IVec S64x2048 32 := select (w1385 x0 x1) (w1322 x0 x1) (w1380 x0 x1)
def w1394 (x0 : A0) (x1 : A1) : IVec S64x2048 1 := ori (cmpf .olt (w1388 x0 x1) (w1330 x0 x1)) (andi (cmpf .oeq (w1388 x0 x1) (w1330 x0 x1)) (cmpi .slt (w1389 x0 x1) (w1331 x0 x1)))
def w1395 (x0 : A0) (x1 : A1) : FVec Ideal S64x2048 .f32 := select (w1394 x0 x1) (w1388 x0 x1) (w1330 x0 x1)
def w1396 (x0 : A0) (x1 : A1) : IVec S64x2048 32 := select (w1394 x0 x1) (w1389 x0 x1) (w1331 x0 x1)
def w1397 (x0 : A0) (x1 : A1) : FVec Ideal S64x2048 .f32 := select (w1394 x0 x1) (w1330 x0 x1) (w1388 x0 x1)
def w1398 (x0 : A0) (x1 : A1) : IVec S64x2048 32 := select (w1394 x0 x1) (w1331 x0 x1) (w1389 x0 x1)
def w1403 (x0 : A0) (x1 : A1) : IVec S64x2048 1 := ori (cmpf .olt (w1397 x0 x1) (w1339 x0 x1)) (andi (cmpf .oeq (w1397 x0 x1) (w1339 x0 x1)) (cmpi .slt (w1398 x0 x1) (w1340 x0 x1)))
def w1404 (x0 : A0) (x1 : A1) : FVec Ideal S64x2048 .f32 := select (w1403 x0 x1) (w1397 x0 x1) (w1339 x0 x1)
def w1405 (x0 : A0) (x1 : A1) : IVec S64x2048 32 := select (w1403 x0 x1) (w1398 x0 x1) (w1340 x0 x1)
def w1408 (x0 : A0) (x1 : A1) : FVec Ideal S68x2048 .f32 := absf (subf (extractStridedSlice S68x2048 ![4, 0] (w79 x0 x1) slices_S72x2048_o4_0_S68x2048) (w124 x0 x1))
def w1411 (x0 : A0) (x1 : A1) : FVec Ideal S68x2048 .f32 := absf (subf (extractStridedSlice S68x2048 ![4, 0] (w89 x0 x1) slices_S72x2048_o4_0_S68x2048) (w125 x0 x1))
def w1414 (x0 : A0) (x1 : A1) : FVec Ideal S68x2048 .f32 := absf (subf (extractStridedSlice S68x2048 ![4, 0] (w99 x0 x1) slices_S72x2048_o4_0_S68x2048) (w126 x0 x1))
def w1417 (x0 : A0) (x1 : A1) : FVec Ideal S68x2048 .f32 := absf (subf (extractStridedSlice S68x2048 ![4, 0] (w109 x0 x1) slices_S72x2048_o4_0_S68x2048) (w127 x0 x1))
def w1420 (x0 : A0) (x1 : A1) : FVec Ideal S68x2048 .f32 := absf (subf (extractStridedSlice S68x2048 ![4, 0] (w119 x0 x1) slices_S72x2048_o4_0_S68x2048) (w128 x0 x1))
def w1421 (x0 : A0) (x1 : A1) : FVec Ideal S68x2048 .f32 := addf (w1408 x0 x1) (w1420 x0 x1)
def w1422 (x0 : A0) (x1 : A1) : FVec Ideal S68x2048 .f32 := addf (w1411 x0 x1) (w1417 x0 x1)
def w1423 (x0 : A0) (x1 : A1) : FVec Ideal S68x2048 .f32 := addf (w1421 x0 x1) (w1422 x0 x1)
def w1424 (x0 : A0) (x1 : A1) : FVec Ideal S68x2048 .f32 := addf (w1423 x0 x1) (w1414 x0 x1)
def w1431 (x0 : A0) (x1 : A1) : FVec Ideal S68x2048 .f32 := addf (mulf (broadcast S68x2048 ((Scalar.ofBits .f32 0x3E7A0FEB#32 : Ideal .f32))) (w1422 x0 x1)) (mulf (broadcast S68x2048 ((Scalar.ofBits .f32 0x3ECE2434#32 : Ideal .f32))) (w1414 x0 x1))
def w1432 (x0 : A0) (x1 : A1) : FVec Ideal S68x2048 .f32 := addf (mulf (broadcast S68x2048 ((Scalar.ofBits .f32 0x3D5F2F87#32 : Ideal .f32))) (w1421 x0 x1)) (w1431 x0 x1)
def w1435 (x0 : A0) (x1 : A1) : FVec Ideal S64x2048 .f32 := subf (matmul dot_S64x68_S68x2048_S64x2048_1_0_0_1_n_n (some .fp32) (w150 x0 x1) (w1424 x0 x1) (constant S64x2048 .f32 0x00000000#32)) (matmul dot_S64x68_S68x2048_S64x2048_1_0_0_1_n_n (some .fp32) (w176 x0 x1) (w1432 x0 x1) (constant S64x2048 .f32 0x00000000#32))
def w1436 (x0 : A0) (x1 : A1) : IVec S64x2048 32 := extractStridedSlice S64x2048 ![4, 0] (w131 x0 x1) slices_S68x2048_o4_0_S64x2048
def w1441 (x0 : A0) (x1 : A1) : IVec S64x2048 1 := ori (cmpf .olt (w1435 x0 x1) (w1377 x0 x1)) (andi (cmpf .oeq (w1435 x0 x1) (w1377 x0 x1)) (cmpi .slt (w1436 x0 x1) (w1378 x0 x1)))
def w1442 (x0 : A0) (x1 : A1) : FVec Ideal S64x2048 .f32 := select (w1441 x0 x1) (w1435 x0 x1) (w1377 x0 x1)
def w1443 (x0 : A0) (x1 : A1) : IVec S64x2048 32 := select (w1441 x0 x1) (w1436 x0 x1) (w1378 x0 x1)
def w1444 (x0 : A0) (x1 : A1) : FVec Ideal S64x2048 .f32 := select (w1441 x0 x1) (w1377 x0 x1) (w1435 x0 x1)
def w1445 (x0 : A0) (x1 : A1) : IVec S64x2048 32 := select (w1441 x0 x1) (w1378 x0 x1) (w1436 x0 x1)
def w1450 (x0 : A0) (x1 : A1) : IVec S64x2048 1 := ori (cmpf .olt (w1444 x0 x1) (w1386 x0 x1)) (andi (cmpf .oeq (w1444 x0 x1) (w1386 x0 x1)) (cmpi .slt (w1445 x0 x1) (w1387 x0 x1)))
def w1451 (x0 : A0) (x1 : A1) : FVec Ideal S64x2048 .f32 := select (w1450 x0 x1) (w1444 x0 x1) (w1386 x0 x1)
def w1452 (x0 : A0) (x1 : A1) : IVec S64x2048 32 := select (w1450 x0 x1) (w1445 x0 x1) (w1387 x0 x1)
def w1453 (x0 : A0) (x1 : A1) : FVec Ideal S64x2048 .f32 := select (w1450 x0 x1) (w1386 x0 x1) (w1444 x0 x1)
def w1454 (x0 : A0) (x1 : A1) : IVec S64x2048 32 := select (w1450 x0 x1) (w1387 x0 x1) (w1445 x0 x1)
def w1459 (x0 : A0) (x1 : A1) : IVec S64x2048 1 := ori (cmpf .olt (w1453 x0 x1) (w1395 x0 x1)) (andi (cmpf .oeq (w1453 x0 x1) (w1395 x0 x1)) (cmpi .slt (w1454 x0 x1) (w1396 x0 x1)))
def w1460 (x0 : A0) (x1 : A1) : FVec Ideal S64x2048 .f32 := select (w1459 x0 x1) (w1453 x0 x1) (w1395 x0 x1)
def w1461 (x0 : A0) (x1 : A1) : IVec S64x2048 32 := select (w1459 x0 x1) (w1454 x0 x1) (w1396 x0 x1)
def w1462 (x0 : A0) (x1 : A1) : FVec Ideal S64x2048 .f32 := select (w1459 x0 x1) (w1395 x0 x1) (w1453 x0 x1)
def w1463 (x0 : A0) (x1 : A1) : IVec S64x2048 32 := select (w1459 x0 x1) (w1396 x0 x1) (w1454 x0 x1)
def w1468 (x0 : A0) (x1 : A1) : IVec S64x2048 1 := ori (cmpf .olt (w1462 x0 x1) (w1404 x0 x1)) (andi (cmpf .oeq (w1462 x0 x1) (w1404 x0 x1)) (cmpi .slt (w1463 x0 x1) (w1405 x0 x1)))
def w1469 (x0 : A0) (x1 : A1) : FVec Ideal S64x2048 .f32 := select (w1468 x0 x1) (w1462 x0 x1) (w1404 x0 x1)
def w1470 (x0 : A0) (x1 : A1) : IVec S64x2048 32 := select (w1468 x0 x1) (w1463 x0 x1) (w1405 x0 x1)
def w1473 (x0 : A0) (x1 : A1) : FVec Ideal S68x2048 .f32 := absf (subf (extractStridedSlice S68x2048 ![4, 0] (w81 x0 x1) slices_S72x2048_o4_0_S68x2048) (w124 x0 x1))
def w1476 (x0 : A0) (x1 : A1) : FVec Ideal S68x2048 .f32 := absf (subf (extractStridedSlice S68x2048 ![4, 0] (w91 x0 x1) slices_S72x2048_o4_0_S68x2048) (w125 x0 x1))
def w1479 (x0 : A0) (x1 : A1) : FVec Ideal S68x2048 .f32 := absf (subf (extractStridedSlice S68x2048 ![4, 0] (w101 x0 x1) slices_S72x2048_o4_0_S68x2048) (w126 x0 x1))
def w1482 (x0 : A0) (x1 : A1) : FVec Ideal S68x2048 .f32 := absf (subf (extractStridedSlice S68x2048 ![4, 0] (w111 x0 x1) slices_S72x2048_o4_0_S68x2048) (w127 x0 x1))
def w1485 (x0 : A0) (x1 : A1) : FVec Ideal S68x2048 .f32 := absf (subf (extractStridedSlice S68x2048 ![4, 0] (w121 x0 x1) slices_S72x2048_o4_0_S68x2048) (w128 x0 x1))
def w1486 (x0 : A0) (x1 : A1) : FVec Ideal S68x2048 .f32 := addf (w1473 x0 x1) (w1485 x0 x1)
def w1487 (x0 : A0) (x1 : A1) : FVec Ideal S68x2048 .f32 := addf (w1476 x0 x1) (w1482 x0 x1)
def w1488 (x0 : A0) (x1 : A1) : FVec Ideal S68x2048 .f32 := addf (w1486 x0 x1) (w1487 x0 x1)
def w1489 (x0 : A0) (x1 : A1) : FVec Ideal S68x2048 .f32 := addf (w1488 x0 x1) (w1479 x0 x1)
def w1496 (x0 : A0) (x1 : A1) : FVec Ideal S68x2048 .f32 := addf (mulf (broadcast S68x2048 ((Scalar.ofBits .f32 0x3E7A0FEB#32 : Ideal .f32))) (w1487 x0 x1)) (mulf (broadcast S68x2048 ((Scalar.ofBits .f32 0x3ECE2434#32 : Ideal .f32))) (w1479 x0 x1))
def w1497 (x0 : A0) (x1 : A1) : FVec Ideal S68x2048 .f32 := addf (mulf (broadcast S68x2048 ((Scalar.ofBits .f32 0x3D5F2F87#32 : Ideal .f32))) (w1486 x0 x1)) (w1496 x0 x1)
def w1500 (x0 : A0) (x1 : A1) : FVec Ideal S64x2048 .f32 := subf (matmul dot_S64x68_S68x2048_S64x2048_1_0_0_1_n_n (some .fp32) (w150 x0 x1) (w1489 x0 x1) (constant S64x2048 .f32 0x00000000#32)) (matmul dot_S64x68_S68x2048_S64x2048_1_0_0_1_n_n (some .fp32) (w176 x0 x1) (w1497 x0 x1) (constant S64x2048 .f32 0x00000000#32))
def w1501 (x0 : A0) (x1 : A1) : IVec S64x2048 32 := extractStridedSlice S64x2048 ![4, 0] (w132 x0 x1) slices_S68x2048_o4_0_S64x2048
def w1506 (x0 : A0) (x1 : A1) : IVec S64x2048 1 := ori (cmpf .olt (w1500 x0 x1) (w1442 x0 x1)) (andi (cmpf .oeq (w1500 x0 x1) (w1442 x0 x1)) (cmpi .slt (w1501 x0 x1) (w1443 x0 x1)))
def w1507 (x0 : A0) (x1 : A1) : FVec Ideal S64x2048 .f32 := select (w1506 x0 x1) (w1500 x0 x1) (w1442 x0 x1)
def w1508 (x0 : A0) (x1 : A1) : IVec S64x2048 32 := select (w1506 x0 x1) (w1501 x0 x1) (w1443 x0 x1)
def w1509 (x0 : A0) (x1 : A1) : FVec Ideal S64x2048 .f32 := select (w1506 x0 x1) (w1442 x0 x1) (w1500 x0 x1)
def w1510 (x0 : A0) (x1 : A1) : IVec S64x2048 32 := select (w1506 x0 x1) (w1443 x0 x1) (w1501 x0 x1)
def w1515 (x0 : A0) (x1 : A1) : IVec S64x2048 1 := ori (cmpf .olt (w1509 x0 x1) (w1451 x0 x1)) (andi (cmpf .oeq (w1509 x0 x1) (w1451 x0 x1)) (cmpi .slt (w1510 x0 x1) (w1452 x0 x1)))
def w1516 (x0 : A0) (x1 : A1) : FVec Ideal S64x2048 .f32 := select (w1515 x0 x1) (w1509 x0 x1) (w1451 x0 x1)
def w1517 (x0 : A0) (x1 : A1) : IVec S64x2048 32 := select (w1515 x0 x1) (w1510 x0 x1) (w1452 x0 x1)
def w1518 (x0 : A0) (x1 : A1) : FVec Ideal S64x2048 .f32 := select (w1515 x0 x1) (w1451 x0 x1) (w1509 x0 x1)
def w1519 (x0 : A0) (x1 : A1) : IVec S64x2048 32 := select (w1515 x0 x1) (w1452 x0 x1) (w1510 x0 x1)
def w1524 (x0 : A0) (x1 : A1) : IVec S64x2048 1 := ori (cmpf .olt (w1518 x0 x1) (w1460 x0 x1)) (andi (cmpf .oeq (w1518 x0 x1) (w1460 x0 x1)) (cmpi .slt (w1519 x0 x1) (w1461 x0 x1)))
def w1525 (x0 : A0) (x1 : A1) : FVec Ideal S64x2048 .f32 := select (w1524 x0 x1) (w1518 x0 x1) (w1460 x0 x1)
def w1526 (x0 : A0) (x1 : A1) : IVec S64x2048 32 := select (w1524 x0 x1) (w1519 x0 x1) (w1461 x0 x1)
def w1527 (x0 : A0) (x1 : A1) : FVec Ideal S64x2048 .f32 := select (w1524 x0 x1) (w1460 x0 x1) (w1518 x0 x1)
def w1528 (x0 : A0) (x1 : A1) : IVec S64x2048 32 := select (w1524 x0 x1) (w1461 x0 x1) (w1519 x0 x1)
def w1533 (x0 : A0) (x1 : A1) : IVec S64x2048 1 := ori (cmpf .olt (w1527 x0 x1) (w1469 x0 x1)) (andi (cmpf .oeq (w1527 x0 x1) (w1469 x0 x1)) (cmpi .slt (w1528 x0 x1) (w1470 x0 x1)))
def w1534 (x0 : A0) (x1 : A1) : FVec Ideal S64x2048 .f32 := select (w1533 x0 x1) (w1527 x0 x1) (w1469 x0 x1)
def w1535 (x0 : A0) (x1 : A1) : IVec S64x2048 32 := select (w1533 x0 x1) (w1528 x0 x1) (w1470 x0 x1)
def w1538 (x0 : A0) (x1 : A1) : FVec Ideal S68x2048 .f32 := absf (subf (extractStridedSlice S68x2048 ![4, 0] (w83 x0 x1) slices_S72x2048_o4_0_S68x2048) (w124 x0 x1))
def w1541 (x0 : A0) (x1 : A1) : FVec Ideal S68x2048 .f32 := absf (subf (extractStridedSlice S68x2048 ![4, 0] (w93 x0 x1) slices_S72x2048_o4_0_S68x2048) (w125 x0 x1))
def w1544 (x0 : A0) (x1 : A1) : FVec Ideal S68x2048 .f32 := absf (subf (extractStridedSlice S68x2048 ![4, 0] (w103 x0 x1) slices_S72x2048_o4_0_S68x2048) (w126 x0 x1))
def w1547 (x0 : A0) (x1 : A1) : FVec Ideal S68x2048 .f32 := absf (subf (extractStridedSlice S68x2048 ![4, 0] (w113 x0 x1) slices_S72x2048_o4_0_S68x2048) (w127 x0 x1))
def w1550 (x0 : A0) (x1 : A1) : FVec Ideal S68x2048 .f32 := absf (subf (extractStridedSlice S68x2048 ![4, 0] (w123 x0 x1) slices_S72x2048_o4_0_S68x2048) (w128 x0 x1))
def w1551 (x0 : A0) (x1 : A1) : FVec Ideal S68x2048 .f32 := addf (w1538 x0 x1) (w1550 x0 x1)
def w1552 (x0 : A0) (x1 : A1) : FVec Ideal S68x2048 .f32 := addf (w1541 x0 x1) (w1547 x0 x1)
def w1553 (x0 : A0) (x1 : A1) : FVec Ideal S68x2048 .f32 := addf (w1551 x0 x1) (w1552 x0 x1)
def w1554 (x0 : A0) (x1 : A1) : FVec Ideal S68x2048 .f32 := addf (w1553 x0 x1) (w1544 x0 x1)
def w1561 (x0 : A0) (x1 : A1) : FVec Ideal S68x2048 .f32 := addf (mulf (broadcast S68x2048 ((Scalar.ofBits .f32 0x3E7A0FEB#32 : Ideal .f32))) (w1552 x0 x1)) (mulf (broadcast S68x2048 ((Scalar.ofBits .f32 0x3ECE2434#32 : Ideal .f32))) (w1544 x0 x1))
def w1562 (x0 : A0) (x1 : A1) : FVec Ideal S68x2048 .f32 := addf (mulf (broadcast S68x2048 ((Scalar.ofBits .f32 0x3D5F2F87#32 : Ideal .f32))) (w1551 x0 x1)) (w1561 x0 x1)
def w1565 (x0 : A0) (x1 : A1) : FVec Ideal S64x2048 .f32 := subf (matmul dot_S64x68_S68x2048_S64x2048_1_0_0_1_n_n (some .fp32) (w150 x0 x1) (w1554 x0 x1) (constant S64x2048 .f32 0x00000000#32)) (matmul dot_S64x68_S68x2048_S64x2048_1_0_0_1_n_n (some .fp32) (w176 x0 x1) (w1562 x0 x1) (constant S64x2048 .f32 0x00000000#32))
def w1566 (x0 : A0) (x1 : A1) : IVec S64x2048 32 := extractStridedSlice S64x2048 ![4, 0] (w133 x0 x1) slices_S68x2048_o4_0_S64x2048
def w1571 (x0 : A0) (x1 : A1) : IVec S64x2048 1 := ori (cmpf .olt (w1565 x0 x1) (w1507 x0 x1)) (andi (cmpf .oeq (w1565 x0 x1) (w1507 x0 x1)) (cmpi .slt (w1566 x0 x1) (w1508 x0 x1)))
def w1572 (x0 : A0) (x1 : A1) : FVec Ideal S64x2048 .f32 := select (w1571 x0 x1) (w1565 x0 x1) (w1507 x0 x1)
def w1573 (x0 : A0) (x1 : A1) : IVec S64x2048 32 := select (w1571 x0 x1) (w1566 x0 x1) (w1508 x0 x1)
def w1574 (x0 : A0) (x1 : A1) : FVec Ideal S64x2048 .f32 := select (w1571 x0 x1) (w1507 x0 x1) (w1565 x0 x1)
def w1575 (x0 : A0) (x1 : A1) : IVec S64x2048 32 := select (w1571 x0 x1) (w1508 x0 x1) (w1566 x0 x1)
def w1580 (x0 : A0) (x1 : A1) : IVec S64x2048 1 := ori (cmpf .olt (w1574 x0 x1) (w1516 x0 x1)) (andi (cmpf .oeq (w1574 x0 x1) (w1516 x0 x1)) (cmpi .slt (w1575 x0 x1) (w1517 x0 x1)))
def w1581 (x0 : A0) (x1 : A1) : FVec Ideal S64x2048 .f32 := select (w1580 x0 x1) (w1574 x0 x1) (w1516 x0 x1)
def w1582 (x0 : A0) (x1 : A1) : IVec S64x2048 32 := select (w1580 x0 x1) (w1575 x0 x1) (w1517 x0 x1)
def w1583 (x0 : A0) (x1 : A1) : FVec Ideal S64x2048 .f32 := select (w1580 x0 x1) (w1516 x0 x1) (w1574 x0 x1)
def w1584 (x0 : A0) (x1 : A1) : IVec S64x2048 32 := select (w1580 x0 x1) (w1517 x0 x1) (w1575 x0 x1)
def w1589 (x0 : A0) (x1 : A1) : IVec S64x2048 1 := ori (cmpf .olt (w1583 x0 x1) (w1525 x0 x1)) (andi (cmpf .oeq (w1583 x0 x1) (w1525 x0 x1)) (cmpi .slt (w1584 x0 x1) (w1526 x0 x1)))
def w1590 (x0 : A0) (x1 : A1) : FVec Ideal S64x2048 .f32 := select (w1589 x0 x1) (w1583 x0 x1) (w1525 x0 x1)
def w1591 (x0 : A0) (x1 : A1) : IVec S64x2048 32 := select (w1589 x0 x1) (w1584 x0 x1) (w1526 x0 x1)
def w1592 (x0 : A0) (x1 : A1) : FVec Ideal S64x2048 .f32 := select (w1589 x0 x1) (w1525 x0 x1) (w1583 x0 x1)
def w1593 (x0 : A0) (x1 : A1) : IVec S64x2048 32 := select (w1589 x0 x1) (w1526 x0 x1) (w1584 x0 x1)
def w1598 (x0 : A0) (x1 : A1) : IVec S64x2048 1 := ori (cmpf .olt (w1592 x0 x1) (w1534 x0 x1)) (andi (cmpf .oeq (w1592 x0 x1) (w1534 x0 x1)) (cmpi .slt (w1593 x0 x1) (w1535 x0 x1)))
def w1599 (x0 : A0) (x1 : A1) : FVec Ideal S64x2048 .f32 := select (w1598 x0 x1) (w1592 x0 x1) (w1534 x0 x1)
def w1600 (x0 : A0) (x1 : A1) : IVec S64x2048 32 := select (w1598 x0 x1) (w1593 x0 x1) (w1535 x0 x1)
def w1601 (x0 : A0) (x1 : A1) : IVec S64x2048 32 := extractStridedSlice S64x2048 ![2, 2] (w3 x0 x1) slices_S68x2052_o2_2_S64x2048
def w1605 (x0 : A0) (x1 : A1) : IVec S64x2048 32 := select (cmpf .ogt (w1572 x0 x1) (broadcast S64x2048 ((Scalar.ofBits .f32 0x3F800000#32 : Ideal .f32)))) (broadcast S64x2048 (20#32)) (w1573 x0 x1)
def w1609 (x0 : A0) (x1 : A1) : IVec S64x2048 32 := select (cmpf .ogt (w1581 x0 x1) (broadcast S64x2048 ((Scalar.ofBits .f32 0x3F800000#32 : Ideal .f32)))) (broadcast S64x2048 (20#32)) (w1582 x0 x1)
def w1613 (x0 : A0) (x1 : A1) : IVec S64x2048 32 := select (cmpf .ogt (w1590 x0 x1) (broadcast S64x2048 ((Scalar.ofBits .f32 0x3F800000#32 : Ideal .f32)))) (broadcast S64x2048 (20#32)) (w1591 x0 x1)
def w1617 (x0 : A0) (x1 : A1) : IVec S64x2048 32 := select (cmpf .ogt (w1599 x0 x1) (broadcast S64x2048 ((Scalar.ofBits .f32 0x3F800000#32 : Ideal .f32)))) (broadcast S64x2048 (20#32)) (w1600 x0 x1)
def w1622 (x0 : A0) (x1 : A1) : IVec S64x2048 32 := select (cmpi .eq (w1601 x0 x1) (w1605 x0 x1)) (broadcast S64x2048 (1#32)) (broadcast S64x2048 (0#32))
def w1623 (x0 : A0) (x1 : A1) : IVec S64x2048 32 := addi (broadcast S64x2048 (1#32)) (w1622 x0 x1)
def w1624 (x0 : A0) (x1 : A1) : IVec S64x2048 32 := addi (broadcast S64x2048 (1#32)) (w1622 x0 x1)
def w1628 (x0 : A0) (x1 : A1) : IVec S64x2048 32 := select (cmpi .eq (w1601 x0 x1) (w1609 x0 x1)) (broadcast S64x2048 (1#32)) (broadcast S64x2048 (0#32))
def w1629 (x0 : A0) (x1 : A1) : IVec S64x2048 32 := addi (w1623 x0 x1) (w1628 x0 x1)
def w1630 (x0 : A0) (x1 : A1) : IVec S64x2048 32 := addi (broadcast S64x2048 (1#32)) (w1628 x0 x1)
def w1634 (x0 : A0) (x1 : A1) : IVec S64x2048 32 := select (cmpi .eq (w1601 x0 x1) (w1613 x0 x1)) (broadcast S64x2048 (1#32)) (broadcast S64x2048 (0#32))
def w1635 (x0 : A0) (x1 : A1) : IVec S64x2048 32 := addi (w1629 x0 x1) (w1634 x0 x1)
def w1636 (x0 : A0) (x1 : A1) : IVec S64x2048 32 := addi (broadcast S64x2048 (1#32)) (w1634 x0 x1)
def w1640 (x0 : A0) (x1 : A1) : IVec S64x2048 32 := select (cmpi .eq (w1601 x0 x1) (w1617 x0 x1)) (broadcast S64x2048 (1#32)) (broadcast S64x2048 (0#32))
def w1641 (x0 : A0) (x1 : A1) : IVec S64x2048 32 := addi (w1635 x0 x1) (w1640 x0 x1)
def w1642 (x0 : A0) (x1 : A1) : IVec S64x2048 32 := addi (broadcast S64x2048 (1#32)) (w1640 x0 x1)
def w1646 (x0 : A0) (x1 : A1) : IVec S64x2048 32 := select (cmpi .eq (w1605 x0 x1) (w1609 x0 x1)) (broadcast S64x2048 (1#32)) (broadcast S64x2048 (0#32))
def w1647 (x0 : A0) (x1 : A1) : IVec S64x2048 32 := addi (w1624 x0 x1) (w1646 x0 x1)
def w1648 (x0 : A0) (x1 : A1) : IVec S64x2048 32 := addi (w1630 x0 x1) (w1646 x0 x1)
def w1652 (x0 : A0) (x1 : A1) : IVec S64x2048 32 := select (cmpi .eq (w1605 x0 x1) (w1613 x0 x1)) (broadcast S64x2048 (1#32)) (broadcast S64x2048 (0#32))
def w1653 (x0 : A0) (x1 : A1) : IVec S64x2048 32 := addi (w1647 x0 x1) (w1652 x0 x1)
def w1654 (x0 : A0) (x1 : A1) : IVec S64x2048 32 := addi (w1636 x0 x1) (w1652 x0 x1)
def w1658 (x0 : A0) (x1 : A1) : IVec S64x2048 32 := select (cmpi .eq (w1605 x0 x1) (w1617 x0 x1)) (broadcast S64x2048 (1#32)) (broadcast S64x2048 (0#32))
def w1659 (x0 : A0) (x1 : A1) : IVec S64x2048 32 := addi (w1653 x0 x1) (w1658 x0 x1)
def w1660 (x0 : A0) (x1 : A1) : IVec S64x2048 32 := addi (w1642 x0 x1) (w1658 x0 x1)
def w1664 (x0 : A0) (x1 : A1) : IVec S64x2048 32 := select (cmpi .eq (w1609 x0 x1) (w1613 x0 x1)) (broadcast S64x2048 (1#32)) (broadcast S64x2048 (0#32))
def w1665 (x0 : A0) (x1 : A1) : IVec S64x2048 32 := addi (w1648 x0 x1) (w1664 x0 x1)
def w1666 (x0 : A0) (x1 : A1) : IVec S64x2048 32 := addi (w1654 x0 x1) (w1664 x0 x1)
def w1670 (x0 : A0) (x1 : A1) : IVec S64x2048 32 := select (cmpi .eq (w1609 x0 x1) (w1617 x0 x1)) (broadcast S64x2048 (1#32)) (broadcast S64x2048 (0#32))
def w1671 (x0 : A0) (x1 : A1) : IVec S64x2048 32 := addi (w1665 x0 x1) (w1670 x0 x1)
def w1672 (x0 : A0) (x1 : A1) : IVec S64x2048 32 := addi (w1660 x0 x1) (w1670 x0 x1)
def w1676 (x0 : A0) (x1 : A1) : IVec S64x2048 32 := select (cmpi .eq (w1613 x0 x1) (w1617 x0 x1)) (broadcast S64x2048 (1#32)) (broadcast S64x2048 (0#32))
def w1677 (x0 : A0) (x1 : A1) : IVec S64x2048 32 := addi (w1666 x0 x1) (w1676 x0 x1)
def w1678 (x0 : A0) (x1 : A1) : IVec S64x2048 32 := addi (w1672 x0 x1) (w1676 x0 x1)
def w1688 (x0 : A0) (x1 : A1) : IVec S64x2048 32 := select (cmpi .eq (w1601 x0 x1) (broadcast S64x2048 (20#32))) (broadcast S64x2048 (0#32)) (addi (muli (w1641 x0 x1) (broadcast S64x2048 (32#32))) (subi (broadcast S64x2048 (31#32)) (w1601 x0 x1)))
def w1689 (x0 : A0) (x1 : A1) : IVec S64x2048 32 := maxsi (broadcast S64x2048 (0#32)) (w1688 x0 x1)
def w1698 (x0 : A0) (x1 : A1) : IVec S64x2048 32 := select (cmpi .eq (w1605 x0 x1) (broadcast S64x2048 (20#32))) (broadcast S64x2048 (0#32)) (addi (muli (w1659 x0 x1) (broadcast S64x2048 (32#32))) (subi (broadcast S64x2048 (31#32)) (w1605 x0 x1)))
def w1699 (x0 : A0) (x1 : A1) : IVec S64x2048 32 := maxsi (w1689 x0 x1) (w1698 x0 x1)
def w1708 (x0 : A0) (x1 : A1) : IVec S64x2048 32 := select (cmpi .eq (w1609 x0 x1) (broadcast S64x2048 (20#32))) (broadcast S64x2048 (0#32)) (addi (muli (w1671 x0 x1) (broadcast S64x2048 (32#32))) (subi (broadcast S64x2048 (31#32)) (w1609 x0 x1)))
def w1709 (x0 : A0) (x1 : A1) : IVec S64x2048 32 := maxsi (w1699 x0 x1) (w1708 x0 x1)
def w1718 (x0 : A0) (x1 : A1) : IVec S64x2048 32 := select (cmpi .eq (w1613 x0 x1) (broadcast S64x2048 (20#32))) (broadcast S64x2048 (0#32)) (addi (muli (w1677 x0 x1) (broadcast S64x2048 (32#32))) (subi (broadcast S64x2048 (31#32)) (w1613 x0 x1)))
def w1719 (x0 : A0) (x1 : A1) : IVec S64x2048 32 := maxsi (w1709 x0 x1) (w1718 x0 x1)
def w1728 (x0 : A0) (x1 : A1) : IVec S64x2048 32 := select (cmpi .eq (w1617 x0 x1) (broadcast S64x2048 (20#32))) (broadcast S64x2048 (0#32)) (addi (muli (w1678 x0 x1) (broadcast S64x2048 (32#32))) (subi (broadcast S64x2048 (31#32)) (w1617 x0 x1)))
def w1729 (x0 : A0) (x1 : A1) : IVec S64x2048 32 := maxsi (w1719 x0 x1) (w1728 x0 x1)
def w1737 (x0 : A0) (x1 : A1) : IVec S64x2048 32 := select (cmpi .sgt (w1729 x0 x1) (broadcast S64x2048 (0#32))) (subi (broadcast S64x2048 (31#32)) (andi (w1729 x0 x1) (broadcast S64x2048 (31#32)))) (broadcast S64x2048 (0#32))
def w1740 (x0 : A0) (x1 : A1) : IVec S1x64x2048 32 := shapeCast S1x64x2048 (w1737 x0 x1) shapeCasts_S64x2048_S1x64x2048

end Cert.KernelIdeal.Vals

end
-- ==== Proof.Sel.lean ====
module

public import proofs.«01_k».proof.Defs
public import Mathlib.Data.Multiset.AddSub
public import Mathlib.Data.Multiset.Count

@[expose] public section

noncomputable section

/-! Selecting the nearest: a row of four slots, through which every further candidate is exchanged, keeps the four
nearest of all; and the nearest few are the same however they were selected, if the next one is strictly farther. -/

namespace Cert.Sel

open Idealize.ShloMosaic

/-- A distance with its label. -/
abbrev P := EReal × BitVec 32

/-- The comparison of two candidates: by distance, then by label. -/
def ltb (c s : P) : BitVec 1 :=
  IntOp.ori (Ideal.cmp .olt c.1 s.1) (IntOp.andi (Ideal.cmp .oeq c.1 s.1) (IntOp.cmpi .slt c.2 s.2))

/-- What the slot keeps. -/
def exLo (c s : P) : P := (Scalar.select (ltb c s) c.1 s.1, Scalar.select (ltb c s) c.2 s.2)
/-- What is carried on to the next slot. -/
def exHi (c s : P) : P := (Scalar.select (ltb c s) s.1 c.1, Scalar.select (ltb c s) s.2 c.2)

theorem ltb_spec (c s : P) : (ltb c s = 1 ∧ c.1 ≤ s.1) ∨ (ltb c s ≠ 1 ∧ s.1 ≤ c.1) := by
  unfold ltb IntOp.ori IntOp.andi Ideal.cmp IntOp.cmpi
  rcases lt_trichotomy c.1 s.1 with h | h | h
  · left; refine ⟨?_, h.le⟩
    simp only [h, decide_true]
    generalize BitVec.ofBool (decide (c.1 = s.1)) &&& BitVec.ofBool (c.2.slt s.2) = z
    revert z; decide
  · by_cases hz : c.2.slt s.2 = true
    · left; refine ⟨?_, h.le⟩; simp [h, hz]
    · right; refine ⟨?_, h.ge⟩
      simp only [Bool.not_eq_true] at hz
      simp [h, hz]
  · right; refine ⟨?_, h.le⟩
    simp [not_lt.mpr h.le, h.ne']

theorem ex_cases (c s : P) : (exLo c s = c ∧ exHi c s = s ∧ c.1 ≤ s.1) ∨ (exLo c s = s ∧ exHi c s = c ∧ s.1 ≤ c.1) := by
  rcases ltb_spec c s with ⟨h, h'⟩ | ⟨h, h'⟩
  · left; unfold exLo exHi Scalar.select; exact ⟨by rw [if_pos h, if_pos h], by rw [if_pos h, if_pos h], h'⟩
  · right; unfold exLo exHi Scalar.select; exact ⟨by rw [if_neg h, if_neg h], by rw [if_neg h, if_neg h], h'⟩

/-- Four slots. -/
abbrev S4 := P × P × P × P

def ms (S : S4) : Multiset P := {S.1} + {S.2.1} + {S.2.2.1} + {S.2.2.2}

/-- A candidate exchanged through the four slots. -/
def ins (S : S4) (c : P) : S4 :=
  (exLo c S.1, exLo (exHi c S.1) S.2.1, exLo (exHi (exHi c S.1) S.2.1) S.2.2.1,
    exLo (exHi (exHi (exHi c S.1) S.2.1) S.2.2.1) S.2.2.2)

/-- What falls out of the last slot. -/
def drop (S : S4) (c : P) : P := exHi (exHi (exHi (exHi c S.1) S.2.1) S.2.2.1) S.2.2.2

theorem ex_pair (c s : P) : ({exLo c s} + {exHi c s} : Multiset P) = {s} + {c} := by
  rcases ex_cases c s with ⟨h1, h2, _⟩ | ⟨h1, h2, _⟩
  · rw [h1, h2, add_comm]
  · rw [h1, h2]

theorem lo_le (c s : P) : (exLo c s).1 ≤ s.1 := by
  rcases ex_cases c s with ⟨h1, _, h⟩ | ⟨h1, _, h⟩ <;> rw [h1]
  exact h

theorem lo_le_hi (c s : P) : (exLo c s).1 ≤ (exHi c s).1 := by
  rcases ex_cases c s with ⟨h1, h2, h⟩ | ⟨h1, h2, h⟩ <;> rw [h1, h2] <;> exact h

theorem le_hi (c s : P) : c.1 ≤ (exHi c s).1 := by
  rcases ex_cases c s with ⟨_, h2, h⟩ | ⟨_, h2, h⟩ <;> rw [h2]
  exact h

theorem chain_sum {a b d e c l1 l2 l3 l4 h1 h2 h3 h4 : Multiset P} (e1 : l1 + h1 = a + c) (e2 : l2 + h2 = b + h1)
    (e3 : l3 + h3 = d + h2) (e4 : l4 + h4 = e + h3) : l1 + l2 + l3 + l4 + h4 = a + b + d + e + c := by
  calc l1 + l2 + l3 + l4 + h4 = l1 + l2 + l3 + (l4 + h4) := by abel
    _ = l1 + l2 + (l3 + h3) + e := by rw [e4]; abel
    _ = l1 + (l2 + h2) + d + e := by rw [e3]; abel
    _ = (l1 + h1) + b + d + e := by rw [e2]; abel
    _ = a + b + d + e + c := by rw [e1]; abel

theorem ins_ms (S : S4) (c : P) : ms (ins S c) + {drop S c} = ms S + {c} := by
  obtain ⟨a, b, d, e⟩ := S
  unfold ms ins drop
  have h1 := ex_pair c a
  have h2 := ex_pair (exHi c a) b
  have h3 := ex_pair (exHi (exHi c a) b) d
  have h4 := ex_pair (exHi (exHi (exHi c a) b) d) e
  simp only
  exact chain_sum h1 h2 h3 h4

theorem mem_ms {S : S4} {x : P} : x ∈ ms S ↔ x = S.1 ∨ x = S.2.1 ∨ x = S.2.2.1 ∨ x = S.2.2.2 := by
  simp [ms, or_assoc]

theorem ins_le_drop (S : S4) (c : P) : ∀ x ∈ ms (ins S c), x.1 ≤ (drop S c).1 := by
  obtain ⟨a, b, d, e⟩ := S
  intro x hx
  rw [mem_ms] at hx
  have l4 := le_hi (exHi (exHi (exHi c a) b) d) e
  have l3 := (le_hi (exHi (exHi c a) b) d).trans l4
  have l2 := (le_hi (exHi c a) b).trans l3
  rcases hx with rfl | rfl | rfl | rfl
  · exact (lo_le_hi c a).trans l2
  · exact (lo_le_hi (exHi c a) b).trans l3
  · exact (lo_le_hi (exHi (exHi c a) b) d).trans l4
  · exact lo_le_hi (exHi (exHi (exHi c a) b) d) e

theorem ins_le (S : S4) (c : P) (θ : EReal) (h : ∀ x ∈ ms S, x.1 ≤ θ) : ∀ x ∈ ms (ins S c), x.1 ≤ θ := by
  intro x hx
  rw [mem_ms] at hx
  rcases hx with rfl | rfl | rfl | rfl
  · exact (lo_le _ _).trans (h _ (mem_ms.mpr (Or.inl rfl)))
  · exact (lo_le _ _).trans (h _ (mem_ms.mpr (Or.inr (Or.inl rfl))))
  · exact (lo_le _ _).trans (h _ (mem_ms.mpr (Or.inr (Or.inr (Or.inl rfl)))))
  · exact (lo_le _ _).trans (h _ (mem_ms.mpr (Or.inr (Or.inr (Or.inr rfl)))))

/-- However many candidates pass, the slots hold some of all that were seen, none farther than any that fell out. -/
theorem foldl_spec (cs : List P) : ∀ (S : S4) (R : Multiset P), (∀ x ∈ ms S, ∀ r ∈ R, x.1 ≤ r.1) →
    ∃ R' : Multiset P, ms (cs.foldl ins S) + R' = ms S + R + (cs : Multiset P) ∧ ∀ x ∈ ms (cs.foldl ins S), ∀ r ∈ R', x.1 ≤ r.1 := by
  induction cs with
  | nil => intro S R h; exact ⟨R, by simp, h⟩
  | cons c cs ih =>
    intro S R h
    obtain ⟨R', e, h'⟩ := ih (ins S c) (R + {drop S c}) (by
      intro x hx r hr
      rcases Multiset.mem_add.mp hr with hr | hr
      · exact ins_le S c r.1 (fun x hx => h x hx r hr) x hx
      · rw [Multiset.mem_singleton.mp hr]; exact ins_le_drop S c x hx)
    refine ⟨R', ?_, h'⟩
    rw [List.foldl_cons, e]
    have e2 := ins_ms S c
    have e3 : ((c :: cs : List P) : Multiset P) = {c} + (cs : Multiset P) := rfl
    calc ms (ins S c) + (R + {drop S c}) + (cs : Multiset P) = (ms (ins S c) + {drop S c}) + R + cs := by abel
      _ = ms S + R + ({c} + (cs : Multiset P)) := by rw [e2]; abel
      _ = _ := by rw [e3]

/-- The nearest few are determined, if no other is as near. -/
theorem nearest_unique (A R T R' : Multiset P) (e : A + R = T + R') (hc : Multiset.card A = Multiset.card T)
    (hA : ∀ x ∈ A, ∀ r ∈ R, x.1 ≤ r.1) (hT : ∀ x ∈ T, ∀ r ∈ R', x.1 < r.1) : A = T := by
  classical
  have hle : T ≤ A := by
    by_contra hn
    rw [Multiset.le_iff_count] at hn
    push Not at hn
    obtain ⟨t, ht⟩ := hn
    have hn2 : ¬ A ≤ T := by
      intro h
      have := Multiset.eq_of_le_of_card_le h hc.ge
      rw [this] at ht; exact lt_irrefl _ ht
    rw [Multiset.le_iff_count] at hn2
    push Not at hn2
    obtain ⟨a, ha⟩ := hn2
    have c1 := congrArg (Multiset.count t) e
    have c2 := congrArg (Multiset.count a) e
    simp only [Multiset.count_add] at c1 c2
    have m1 : t ∈ T := Multiset.count_pos.mp (by omega)
    have m2 : t ∈ R := Multiset.count_pos.mp (by omega)
    have m3 : a ∈ A := Multiset.count_pos.mp (by omega)
    have m4 : a ∈ R' := Multiset.count_pos.mp (by omega)
    exact absurd (hT t m1 a m4) (not_lt.mpr (hA a m3 t m2))
  exact (Multiset.eq_of_le_of_card_le hle hc.le).symm

end Cert.Sel

end
-- ==== Proof.Vote.lean ====
module

public import proofs.«01_k».proof.Defs
public import Mathlib.Data.Multiset.Count
public import Mathlib.Tactic.IntervalCases

@[expose] public section

noncomputable section

/-! The vote among five labels, a label being a class below 20 or the number 20 of a neighbour cut off. -/

namespace Cert.Vote

open Idealize.ShloMosaic

/-- Whether two labels agree, as a number. -/
def eB (a b : BitVec 32) : BitVec 32 := Scalar.select (IntOp.cmpi .eq a b) 1#32 0#32

def cnt (x a b c : BitVec 32) : BitVec 32 := IntOp.addi (IntOp.addi (IntOp.addi (IntOp.addi 1#32 x) a) b) c

def key (l n : BitVec 32) : BitVec 32 :=
  Scalar.select (IntOp.cmpi .eq l 20#32) 0#32 (IntOp.addi (IntOp.muli n 32#32) (IntOp.subi 31#32 l))

/-- The kernel's vote. -/
def voteK (l0 l1 l2 l3 l4 : BitVec 32) : BitVec 32 :=
  let m := IntOp.maxsi (IntOp.maxsi (IntOp.maxsi (IntOp.maxsi (IntOp.maxsi 0#32
    (key l0 (cnt (eB l0 l1) (eB l0 l2) (eB l0 l3) (eB l0 l4)))) (key l1 (cnt (eB l0 l1) (eB l1 l2) (eB l1 l3) (eB l1 l4))))
    (key l2 (cnt (eB l0 l2) (eB l1 l2) (eB l2 l3) (eB l2 l4)))) (key l3 (cnt (eB l0 l3) (eB l1 l3) (eB l2 l3) (eB l3 l4))))
    (key l4 (cnt (eB l0 l4) (eB l1 l4) (eB l2 l4) (eB l3 l4)))
  Scalar.select (IntOp.cmpi .sgt m 0#32) (IntOp.subi 31#32 (IntOp.andi m 31#32)) 0#32

/-- The first of the classes that most of the labels name. -/
def IsVote (L : Multiset (BitVec 32)) (r : BitVec 32) : Prop :=
  r.toNat < 20 ∧ ∀ d : BitVec 32, d.toNat < 20 → L.count d ≤ L.count r ∧ (d.toNat < r.toNat → L.count d < L.count r)

theorem IsVote.unique {L : Multiset (BitVec 32)} {r s : BitVec 32} (hr : IsVote L r) (hs : IsVote L s) : r = s := by
  have h1 := hr.2 s hs.1
  have h2 := hs.2 r hr.1
  apply BitVec.eq_of_toNat_eq
  rcases lt_trichotomy r.toNat s.toNat with h | h | h
  · have := h2.2 h; omega
  · exact h
  · have := h1.2 h; omega

/-- Agreement as a natural number. -/
def eN (a b : BitVec 32) : ℕ := if a = b then 1 else 0

theorem eN_le (a b : BitVec 32) : eN a b ≤ 1 := by unfold eN; split <;> omega
theorem eN_comm (a b : BitVec 32) : eN a b = eN b a := by unfold eN; simp only [eq_comm]
theorem eN_self (a : BitVec 32) : eN a a = 1 := by unfold eN; simp

theorem eB_toNat (a b : BitVec 32) : (eB a b).toNat = eN a b := by
  unfold eB eN Scalar.select IntOp.cmpi
  by_cases h : a = b
  · simp [h]
  · rw [show (a == b) = false from beq_eq_false_iff_ne.mpr h, if_neg h]; rfl

theorem cnt_toNat (x a b c : BitVec 32) (h1 : x.toNat ≤ 1) (h2 : a.toNat ≤ 1) (h3 : b.toNat ≤ 1) (h4 : c.toNat ≤ 1) :
    (cnt x a b c).toNat = 1 + x.toNat + a.toNat + b.toNat + c.toNat := by
  unfold cnt IntOp.addi
  simp only [BitVec.toNat_add, BitVec.toNat_ofNat]
  omega

theorem count5 (d l0 l1 l2 l3 l4 : BitVec 32) :
    Multiset.count d ({l0} + {l1} + {l2} + {l3} + {l4}) = eN d l0 + eN d l1 + eN d l2 + eN d l3 + eN d l4 := by
  simp only [Multiset.count_add, Multiset.count_singleton, eN]

theorem key_toNat (l n : BitVec 32) (hl : l.toNat ≤ 20) (hn : n.toNat ≤ 5) :
    (key l n).toNat = if l.toNat = 20 then 0 else n.toNat * 32 + (31 - l.toNat) := by
  unfold key Scalar.select IntOp.cmpi IntOp.addi IntOp.muli IntOp.subi
  by_cases h : l = 20#32
  · subst h; simp
  · have h' : l.toNat ≠ 20 := fun e => h (BitVec.eq_of_toNat_eq (by simpa using e))
    simp only [h, h', beq_iff_eq, if_false, BitVec.ofBool, beq_eq_false_iff_ne.mpr h, cond_false]
    rw [if_neg (by decide)]
    simp only [BitVec.toNat_add, BitVec.toNat_mul, BitVec.toNat_sub, BitVec.toNat_ofNat]
    omega

theorem maxsi_toNat (x y : BitVec 32) (hx : x.toNat < 1000) (hy : y.toNat < 1000) :
    (IntOp.maxsi x y).toNat = max x.toNat y.toNat := by
  unfold IntOp.maxsi
  have h : y.slt x = decide (y.toNat < x.toNat) := by
    rw [BitVec.slt_eq_decide, BitVec.toInt_eq_toNat_of_lt (by omega), BitVec.toInt_eq_toNat_of_lt (by omega)]
    simp
  rw [h]
  by_cases hh : y.toNat < x.toNat
  · simp only [hh, decide_true, if_true]; omega
  · simp only [hh, decide_false, Bool.false_eq_true, if_false]; omega

theorem last_toNat (m : BitVec 32) (hm : m.toNat < 1000) (h0 : 0 < m.toNat) :
    (Scalar.select (IntOp.cmpi .sgt m 0#32) (IntOp.subi 31#32 (IntOp.andi m 31#32)) 0#32).toNat = 31 - m.toNat % 32 := by
  unfold Scalar.select IntOp.cmpi IntOp.subi IntOp.andi
  have h : (0#32).slt m = true := by
    rw [BitVec.slt_eq_decide, BitVec.toInt_eq_toNat_of_lt (x := m) (by omega)]
    simpa using h0
  simp only [h, BitVec.ofBool_true]
  rw [if_pos trivial]
  have h31 : (m &&& 31#32).toNat = m.toNat % 32 := by
    rw [BitVec.toNat_and]
    exact Nat.and_two_pow_sub_one_eq_mod m.toNat 5
  rw [BitVec.toNat_sub, h31]
  simp only [BitVec.toNat_ofNat]
  omega

theorem key_lt (l n : BitVec 32) (hl : l.toNat ≤ 20) (hn : n.toNat ≤ 5) : (key l n).toNat < 1000 := by
  rw [key_toNat l n hl hn]; split <;> omega

/-- The rest is about natural numbers: five keys of which the largest is taken. -/
theorem pick (N C : Fin 5 → ℕ) (M : ℕ) (hN : ∀ i, N i ≤ 20) (hC : ∀ i, 1 ≤ C i ∧ C i ≤ 5) (h0 : N 0 < 20)
    (hge : ∀ i, (if N i = 20 then 0 else C i * 32 + (31 - N i)) ≤ M)
    (hex : M = 0 ∨ ∃ i, M = if N i = 20 then 0 else C i * 32 + (31 - N i)) :
    0 < M ∧ ∃ i, N i < 20 ∧ 31 - M % 32 = N i ∧ ∀ j, N j < 20 → C j ≤ C i ∧ (N j < N i → C j < C i) := by
  have hM : 0 < M := by
    have := hge 0; have := (hC 0).1; rw [if_neg (by omega)] at *; omega
  refine ⟨hM, ?_⟩
  obtain h | ⟨i, hi⟩ := hex
  · omega
  have hNi := hN i
  have hCi := hC i
  by_cases h20 : N i = 20
  · rw [if_pos h20] at hi; omega
  rw [if_neg h20] at hi
  refine ⟨i, by omega, by omega, fun j hj => ?_⟩
  have := hge j
  rw [if_neg (by omega)] at this
  have := hC j
  constructor
  · omega
  · intro h; omega

theorem max5 {m a b c d e : ℕ} (h : m = max (max (max (max (max 0 a) b) c) d) e) :
    a ≤ m ∧ b ≤ m ∧ c ≤ m ∧ d ≤ m ∧ e ≤ m ∧ (m = 0 ∨ m = a ∨ m = b ∨ m = c ∨ m = d ∨ m = e) := by omega

set_option maxHeartbeats 2000000 in
theorem voteK_isVote (l0 l1 l2 l3 l4 : BitVec 32) (h0 : l0.toNat < 20) (h1 : l1.toNat ≤ 20) (h2 : l2.toNat ≤ 20)
    (h3 : l3.toNat ≤ 20) (h4 : l4.toNat ≤ 20) : IsVote ({l0} + {l1} + {l2} + {l3} + {l4}) (voteK l0 l1 l2 l3 l4) := by
  have e (a b : BitVec 32) : (eB a b).toNat ≤ 1 := by rw [eB_toNat]; exact eN_le a b
  have k (x a b c : BitVec 32) (h1 : x.toNat ≤ 1) (h2 : a.toNat ≤ 1) (h3 : b.toNat ≤ 1) (h4 : c.toNat ≤ 1) :
      (cnt x a b c).toNat ≤ 5 := by rw [cnt_toNat x a b c h1 h2 h3 h4]; omega
  have c0 := cnt_toNat (eB l0 l1) (eB l0 l2) (eB l0 l3) (eB l0 l4) (e _ _) (e _ _) (e _ _) (e _ _)
  have c1 := cnt_toNat (eB l0 l1) (eB l1 l2) (eB l1 l3) (eB l1 l4) (e _ _) (e _ _) (e _ _) (e _ _)
  have c2 := cnt_toNat (eB l0 l2) (eB l1 l2) (eB l2 l3) (eB l2 l4) (e _ _) (e _ _) (e _ _) (e _ _)
  have c3 := cnt_toNat (eB l0 l3) (eB l1 l3) (eB l2 l3) (eB l3 l4) (e _ _) (e _ _) (e _ _) (e _ _)
  have c4 := cnt_toNat (eB l0 l4) (eB l1 l4) (eB l2 l4) (eB l3 l4) (e _ _) (e _ _) (e _ _) (e _ _)
  simp only [eB_toNat] at c0 c1 c2 c3 c4
  unfold voteK
  have q0 := k (eB l0 l1) (eB l0 l2) (eB l0 l3) (eB l0 l4) (e _ _) (e _ _) (e _ _) (e _ _)
  have q1 := k (eB l0 l1) (eB l1 l2) (eB l1 l3) (eB l1 l4) (e _ _) (e _ _) (e _ _) (e _ _)
  have q2 := k (eB l0 l2) (eB l1 l2) (eB l2 l3) (eB l2 l4) (e _ _) (e _ _) (e _ _) (e _ _)
  have q3 := k (eB l0 l3) (eB l1 l3) (eB l2 l3) (eB l3 l4) (e _ _) (e _ _) (e _ _) (e _ _)
  have q4 := k (eB l0 l4) (eB l1 l4) (eB l2 l4) (eB l3 l4) (e _ _) (e _ _) (e _ _) (e _ _)
  generalize cnt (eB l0 l1) (eB l0 l2) (eB l0 l3) (eB l0 l4) = n0 at *
  generalize cnt (eB l0 l1) (eB l1 l2) (eB l1 l3) (eB l1 l4) = n1 at *
  generalize cnt (eB l0 l2) (eB l1 l2) (eB l2 l3) (eB l2 l4) = n2 at *
  generalize cnt (eB l0 l3) (eB l1 l3) (eB l2 l3) (eB l3 l4) = n3 at *
  generalize cnt (eB l0 l4) (eB l1 l4) (eB l2 l4) (eB l3 l4) = n4 at *
  have y0 := key_toNat l0 n0 h0.le q0
  have y1 := key_toNat l1 n1 h1 q1
  have y2 := key_toNat l2 n2 h2 q2
  have y3 := key_toNat l3 n3 h3 q3
  have y4 := key_toNat l4 n4 h4 q4
  have z0 := key_lt l0 n0 h0.le q0
  have z1 := key_lt l1 n1 h1 q1
  have z2 := key_lt l2 n2 h2 q2
  have z3 := key_lt l3 n3 h3 q3
  have z4 := key_lt l4 n4 h4 q4
  generalize key l0 n0 = k0 at *
  generalize key l1 n1 = k1 at *
  generalize key l2 n2 = k2 at *
  generalize key l3 n3 = k3 at *
  generalize key l4 n4 = k4 at *
  have m0 := maxsi_toNat 0#32 k0 (by decide) z0
  have m1 := maxsi_toNat _ k1 (by rw [m0]; exact max_lt (by decide) z0) z1
  have m2 := maxsi_toNat _ k2 (by rw [m1, m0]; exact max_lt (max_lt (by decide) z0) z1) z2
  have m3 := maxsi_toNat _ k3 (by rw [m2, m1, m0]; exact max_lt (max_lt (max_lt (by decide) z0) z1) z2) z3
  have m4 := maxsi_toNat _ k4 (by rw [m3, m2, m1, m0]; exact max_lt (max_lt (max_lt (max_lt (by decide) z0) z1) z2) z3) z4
  rw [m3, m2, m1, m0] at m4
  generalize IntOp.maxsi (IntOp.maxsi (IntOp.maxsi (IntOp.maxsi (IntOp.maxsi 0#32 k0) k1) k2) k3) k4 = m at *
  have hm0 : (0#32 : BitVec 32).toNat = 0 := rfl
  rw [hm0] at m4
  have mx := max5 m4
  have hmlt : m.toNat < 1000 := by
    rcases mx.2.2.2.2.2 with h | h | h | h | h | h <;> rw [h] <;> first | assumption | decide
  obtain ⟨hpos, i, hi1, hi2, hi3⟩ := pick ![l0.toNat, l1.toNat, l2.toNat, l3.toNat, l4.toNat] ![n0.toNat, n1.toNat, n2.toNat, n3.toNat, n4.toNat] m.toNat
    (by intro i; fin_cases i; exacts [h0.le, h1, h2, h3, h4])
    (by
      intro i
      fin_cases i
      · show 1 ≤ n0.toNat ∧ n0.toNat ≤ 5; exact ⟨by rw [c0]; omega, q0⟩
      · show 1 ≤ n1.toNat ∧ n1.toNat ≤ 5; exact ⟨by rw [c1]; omega, q1⟩
      · show 1 ≤ n2.toNat ∧ n2.toNat ≤ 5; exact ⟨by rw [c2]; omega, q2⟩
      · show 1 ≤ n3.toNat ∧ n3.toNat ≤ 5; exact ⟨by rw [c3]; omega, q3⟩
      · show 1 ≤ n4.toNat ∧ n4.toNat ≤ 5; exact ⟨by rw [c4]; omega, q4⟩)
    h0
    (by
      intro i
      fin_cases i
      · exact y0 ▸ mx.1
      · exact y1 ▸ mx.2.1
      · exact y2 ▸ mx.2.2.1
      · exact y3 ▸ mx.2.2.2.1
      · exact y4 ▸ mx.2.2.2.2.1)
    (by
      rcases mx.2.2.2.2.2 with h | h | h | h | h | h
      · exact Or.inl h
      · exact Or.inr ⟨0, h.trans y0⟩
      · exact Or.inr ⟨1, h.trans y1⟩
      · exact Or.inr ⟨2, h.trans y2⟩
      · exact Or.inr ⟨3, h.trans y3⟩
      · exact Or.inr ⟨4, h.trans y4⟩)
  have hr := last_toNat m hmlt hpos
  simp only
  generalize Scalar.select (IntOp.cmpi .sgt m 0#32) (IntOp.subi 31#32 (IntOp.andi m 31#32)) 0#32 = r at *
  have hri : r.toNat = ![l0.toNat, l1.toNat, l2.toNat, l3.toNat, l4.toNat] i := hr.trans hi2
  have C : ∀ j, Multiset.count (![l0, l1, l2, l3, l4] j) ({l0} + {l1} + {l2} + {l3} + {l4}) = ![n0.toNat, n1.toNat, n2.toNat, n3.toNat, n4.toNat] j := by
    intro j
    rw [count5]
    fin_cases j
    · show eN l0 l0 + eN l0 l1 + eN l0 l2 + eN l0 l3 + eN l0 l4 = n0.toNat
      rw [c0, eN_self]
    · show eN l1 l0 + eN l1 l1 + eN l1 l2 + eN l1 l3 + eN l1 l4 = n1.toNat
      rw [c1, eN_self, eN_comm l1 l0]; omega
    · show eN l2 l0 + eN l2 l1 + eN l2 l2 + eN l2 l3 + eN l2 l4 = n2.toNat
      rw [c2, eN_self, eN_comm l2 l0, eN_comm l2 l1]; omega
    · show eN l3 l0 + eN l3 l1 + eN l3 l2 + eN l3 l3 + eN l3 l4 = n3.toNat
      rw [c3, eN_self, eN_comm l3 l0, eN_comm l3 l1, eN_comm l3 l2]; omega
    · show eN l4 l0 + eN l4 l1 + eN l4 l2 + eN l4 l3 + eN l4 l4 = n4.toNat
      rw [c4, eN_self, eN_comm l4 l0, eN_comm l4 l1, eN_comm l4 l2, eN_comm l4 l3]; omega
  have V : ∀ j, (![l0, l1, l2, l3, l4] j).toNat = ![l0.toNat, l1.toNat, l2.toNat, l3.toNat, l4.toNat] j := by
    intro j; fin_cases j <;> rfl
  have hreq : r = ![l0, l1, l2, l3, l4] i := BitVec.eq_of_toNat_eq (hri.trans (V i).symm)
  refine ⟨by rw [hri]; exact hi1, fun d hd => ?_⟩
  have hcr := C i
  rw [← hreq] at hcr
  by_cases hz : Multiset.count d ({l0} + {l1} + {l2} + {l3} + {l4}) = 0
  · have : 1 ≤ ![n0.toNat, n1.toNat, n2.toNat, n3.toNat, n4.toNat] i := by
      fin_cases i
      · show 1 ≤ n0.toNat; rw [c0]; omega
      · show 1 ≤ n1.toNat; rw [c1]; omega
      · show 1 ≤ n2.toNat; rw [c2]; omega
      · show 1 ≤ n3.toNat; rw [c3]; omega
      · show 1 ≤ n4.toNat; rw [c4]; omega
    omega
  · have hm : d ∈ ({l0} + {l1} + {l2} + {l3} + {l4} : Multiset (BitVec 32)) := Multiset.count_ne_zero.mp hz
    have : ∃ j, d = ![l0, l1, l2, l3, l4] j := by
      simp only [Multiset.mem_add, Multiset.mem_singleton] at hm
      rcases hm with (((h | h) | h) | h) | h
      · exact ⟨0, h⟩
      · exact ⟨1, h⟩
      · exact ⟨2, h⟩
      · exact ⟨3, h⟩
      · exact ⟨4, h⟩
    obtain ⟨j, hj⟩ := this
    have hj3 := hi3 j (by rw [← V j, ← hj]; exact hd)
    have hcd := C j
    rw [← hj] at hcd
    have hVj := V j
    rw [← hj] at hVj
    rw [hcd, hcr, hVj, hri]
    exact hj3

end Cert.Vote

end
-- ==== Proof.KernelChain.lean ====
module

public import proofs.«01_k».proof.Proof.KernelValues
public import proofs.«01_k».proof.Proof.Sel
public import proofs.«01_k».proof.Proof.Vote
public import proofs.«01_k».proof.Proof.Gen.KernelIdeal.Skeleton

@[expose] public section

set_option maxRecDepth 16384

noncomputable section

/-! The body's values at one pixel: 24 candidates exchanged through four slots, and a vote. -/

namespace Cert.KernelIdeal.Vals

open Idealize.ShloMosaic Idealize.SL.Sem Cert.KernelIdeal Cert.KernelIdeal.Gen Cert.Sel

theorem slc_col (c : Fin 9) : S72x2056.Slices ![0, c.val] S72x2048 := by revert c; decide
theorem slc_row (d : Fin 5) : S72x2048.Slices ![d.val, 0] S68x2048 := by revert d; decide
theorem slc_lcol (c : Fin 5) : S68x2052.Slices ![0, c.val] S68x2048 := by revert c; decide
theorem slc_lrow (d : Fin 5) : S68x2048.Slices ![d.val, 0] S64x2048 := by revert d; decide

/-- The columns of the padded depth from `a + dw` on. -/
def colS (x0 : A0) (x1 : A1) (dw a : Fin 5) : FVec Ideal S72x2048 .f32 :=
  extractStridedSlice S72x2048 ![0, (⟨a.val + dw.val, by omega⟩ : Fin 9).val] (w1 x0 x1) (slc_col _)

/-- Which of them stand for a column of the image, `a - 2` away. -/
def cmG (a : Fin 5) : FVec Ideal S1x2048 .f32 :=
  select (andi (cmpi .sge (addi (iota .tc S1x2048 32 [1] iota_S1x2048_d1_w32) (broadcast S1x2048 (![4294967294#32, 4294967295#32, 0#32, 1#32, 2#32] a))) (broadcast S1x2048 (0#32))) (cmpi .sle (addi (iota .tc S1x2048 32 [1] iota_S1x2048_d1_w32) (broadcast S1x2048 (![4294967294#32, 4294967295#32, 0#32, 1#32, 2#32] a))) (broadcast S1x2048 (2047#32)))) (broadcast S1x2048 ((Scalar.ofBits .f32 0x3F800000#32 : Ideal .f32))) (broadcast S1x2048 ((Scalar.ofBits .f32 0x00000000#32 : Ideal .f32)))

def sm (x0 : A0) (x1 : A1) (dw a : Fin 5) : FVec Ideal S72x2048 .f32 :=
  mulf (colS x0 x1 dw a) (broadcastTo S72x2048 (cmG a) broadcasts_S1x2048_S72x2048)

/-- The jumps from the pixels in column `a - 2` to their neighbours `dh - 2` rows and `dw - 2` columns away. -/
def tG (x0 : A0) (x1 : A1) (dh dw a : Fin 5) : FVec Ideal S68x2048 .f32 :=
  absf (subf (extractStridedSlice S68x2048 ![dh.val, 0] (sm x0 x1 dw a) (slc_row dh)) (extractStridedSlice S68x2048 ![(2 : Fin 5).val, 0] (sm x0 x1 2 a) (slc_row 2)))

/-- Their plain row sum, and their weighted one. -/
def rbG (x0 : A0) (x1 : A1) (dh dw : Fin 5) : FVec Ideal S68x2048 .f32 :=
  addf (addf (addf (tG x0 x1 dh dw 0) (tG x0 x1 dh dw 4)) (addf (tG x0 x1 dh dw 1) (tG x0 x1 dh dw 3))) (tG x0 x1 dh dw 2)
def rgG (x0 : A0) (x1 : A1) (dh dw : Fin 5) : FVec Ideal S68x2048 .f32 :=
  addf (mulf (broadcast S68x2048 ((Scalar.ofBits .f32 0x3D5F2F87#32 : Ideal .f32))) (addf (tG x0 x1 dh dw 0) (tG x0 x1 dh dw 4)))
    (addf (mulf (broadcast S68x2048 ((Scalar.ofBits .f32 0x3E7A0FEB#32 : Ideal .f32))) (addf (tG x0 x1 dh dw 1) (tG x0 x1 dh dw 3)))
      (mulf (broadcast S68x2048 ((Scalar.ofBits .f32 0x3ECE2434#32 : Ideal .f32))) (tG x0 x1 dh dw 2)))

/-- The distance to the neighbour. -/
def dG (x0 : A0) (x1 : A1) (dh dw : Fin 5) : FVec Ideal S64x2048 .f32 :=
  subf (matmul dot_S64x68_S68x2048_S64x2048_1_0_0_1_n_n (some .fp32) (w150 x0 x1) (rbG x0 x1 dh dw) (constant S64x2048 .f32 0x00000000#32))
    (matmul dot_S64x68_S68x2048_S64x2048_1_0_0_1_n_n (some .fp32) (w176 x0 x1) (rgG x0 x1 dh dw) (constant S64x2048 .f32 0x00000000#32))

/-- Its label. -/
def lG (x0 : A0) (x1 : A1) (dh dw : Fin 5) : IVec S64x2048 32 :=
  extractStridedSlice S64x2048 ![dh.val, 0] (extractStridedSlice S68x2048 ![0, dw.val] (w3 x0 x1) (slc_lcol dw)) (slc_lrow dh)

def cd (x0 : A0) (x1 : A1) (dh dw : Fin 5) (i : S64x2048.Idx) : P := (dG x0 x1 dh dw i, lG x0 x1 dh dw i)

theorem dist_0 (x0 : A0) (x1 : A1) : w206 x0 x1 = dG x0 x1 0 0 := rfl
theorem label_0 (x0 : A0) (x1 : A1) : w207 x0 x1 = lG x0 x1 0 0 := rfl
theorem dist_1 (x0 : A0) (x1 : A1) : w237 x0 x1 = dG x0 x1 0 1 := rfl
theorem label_1 (x0 : A0) (x1 : A1) : w238 x0 x1 = lG x0 x1 0 1 := rfl
theorem dist_2 (x0 : A0) (x1 : A1) : w268 x0 x1 = dG x0 x1 0 2 := rfl
theorem label_2 (x0 : A0) (x1 : A1) : w269 x0 x1 = lG x0 x1 0 2 := rfl
theorem dist_3 (x0 : A0) (x1 : A1) : w299 x0 x1 = dG x0 x1 0 3 := rfl
theorem label_3 (x0 : A0) (x1 : A1) : w300 x0 x1 = lG x0 x1 0 3 := rfl
theorem dist_4 (x0 : A0) (x1 : A1) : w330 x0 x1 = dG x0 x1 0 4 := rfl
theorem label_4 (x0 : A0) (x1 : A1) : w331 x0 x1 = lG x0 x1 0 4 := rfl
theorem dist_5 (x0 : A0) (x1 : A1) : w395 x0 x1 = dG x0 x1 1 0 := rfl
theorem label_5 (x0 : A0) (x1 : A1) : w396 x0 x1 = lG x0 x1 1 0 := rfl
theorem dist_6 (x0 : A0) (x1 : A1) : w460 x0 x1 = dG x0 x1 1 1 := rfl
theorem label_6 (x0 : A0) (x1 : A1) : w461 x0 x1 = lG x0 x1 1 1 := rfl
theorem dist_7 (x0 : A0) (x1 : A1) : w525 x0 x1 = dG x0 x1 1 2 := rfl
theorem label_7 (x0 : A0) (x1 : A1) : w526 x0 x1 = lG x0 x1 1 2 := rfl
theorem dist_8 (x0 : A0) (x1 : A1) : w590 x0 x1 = dG x0 x1 1 3 := rfl
theorem label_8 (x0 : A0) (x1 : A1) : w591 x0 x1 = lG x0 x1 1 3 := rfl
theorem dist_9 (x0 : A0) (x1 : A1) : w655 x0 x1 = dG x0 x1 1 4 := rfl
theorem label_9 (x0 : A0) (x1 : A1) : w656 x0 x1 = lG x0 x1 1 4 := rfl
theorem dist_10 (x0 : A0) (x1 : A1) : w720 x0 x1 = dG x0 x1 2 0 := rfl
theorem label_10 (x0 : A0) (x1 : A1) : w721 x0 x1 = lG x0 x1 2 0 := rfl
theorem dist_11 (x0 : A0) (x1 : A1) : w785 x0 x1 = dG x0 x1 2 1 := rfl
theorem label_11 (x0 : A0) (x1 : A1) : w786 x0 x1 = lG x0 x1 2 1 := rfl
theorem dist_13 (x0 : A0) (x1 : A1) : w850 x0 x1 = dG x0 x1 2 3 := rfl
theorem label_13 (x0 : A0) (x1 : A1) : w851 x0 x1 = lG x0 x1 2 3 := rfl
theorem dist_14 (x0 : A0) (x1 : A1) : w915 x0 x1 = dG x0 x1 2 4 := rfl
theorem label_14 (x0 : A0) (x1 : A1) : w916 x0 x1 = lG x0 x1 2 4 := rfl
theorem dist_15 (x0 : A0) (x1 : A1) : w980 x0 x1 = dG x0 x1 3 0 := rfl
theorem label_15 (x0 : A0) (x1 : A1) : w981 x0 x1 = lG x0 x1 3 0 := rfl
theorem dist_16 (x0 : A0) (x1 : A1) : w1045 x0 x1 = dG x0 x1 3 1 := rfl
theorem label_16 (x0 : A0) (x1 : A1) : w1046 x0 x1 = lG x0 x1 3 1 := rfl
theorem dist_17 (x0 : A0) (x1 : A1) : w1110 x0 x1 = dG x0 x1 3 2 := rfl
theorem label_17 (x0 : A0) (x1 : A1) : w1111 x0 x1 = lG x0 x1 3 2 := rfl
theorem dist_18 (x0 : A0) (x1 : A1) : w1175 x0 x1 = dG x0 x1 3 3 := rfl
theorem label_18 (x0 : A0) (x1 : A1) : w1176 x0 x1 = lG x0 x1 3 3 := rfl
theorem dist_19 (x0 : A0) (x1 : A1) : w1240 x0 x1 = dG x0 x1 3 4 := rfl
theorem label_19 (x0 : A0) (x1 : A1) : w1241 x0 x1 = lG x0 x1 3 4 := rfl
theorem dist_20 (x0 : A0) (x1 : A1) : w1305 x0 x1 = dG x0 x1 4 0 := rfl
theorem label_20 (x0 : A0) (x1 : A1) : w1306 x0 x1 = lG x0 x1 4 0 := rfl
theorem dist_21 (x0 : A0) (x1 : A1) : w1370 x0 x1 = dG x0 x1 4 1 := rfl
theorem label_21 (x0 : A0) (x1 : A1) : w1371 x0 x1 = lG x0 x1 4 1 := rfl
theorem dist_22 (x0 : A0) (x1 : A1) : w1435 x0 x1 = dG x0 x1 4 2 := rfl
theorem label_22 (x0 : A0) (x1 : A1) : w1436 x0 x1 = lG x0 x1 4 2 := rfl
theorem dist_23 (x0 : A0) (x1 : A1) : w1500 x0 x1 = dG x0 x1 4 3 := rfl
theorem label_23 (x0 : A0) (x1 : A1) : w1501 x0 x1 = lG x0 x1 4 3 := rfl
theorem dist_24 (x0 : A0) (x1 : A1) : w1565 x0 x1 = dG x0 x1 4 4 := rfl
theorem label_24 (x0 : A0) (x1 : A1) : w1566 x0 x1 = lG x0 x1 4 4 := rfl
theorem stage_0 (x0 : A0) (x1 : A1) (i : S64x2048.Idx) :
    (((w337 x0 x1 i, w338 x0 x1 i), (w346 x0 x1 i, w347 x0 x1 i), (w355 x0 x1 i, w356 x0 x1 i), (w364 x0 x1 i, w365 x0 x1 i)) : S4) =
      ins ((w206 x0 x1 i, w207 x0 x1 i), (w237 x0 x1 i, w238 x0 x1 i), (w268 x0 x1 i, w269 x0 x1 i), (w299 x0 x1 i, w300 x0 x1 i)) (w330 x0 x1 i, w331 x0 x1 i) := rfl
theorem stage_1 (x0 : A0) (x1 : A1) (i : S64x2048.Idx) :
    (((w402 x0 x1 i, w403 x0 x1 i), (w411 x0 x1 i, w412 x0 x1 i), (w420 x0 x1 i, w421 x0 x1 i), (w429 x0 x1 i, w430 x0 x1 i)) : S4) =
      ins ((w337 x0 x1 i, w338 x0 x1 i), (w346 x0 x1 i, w347 x0 x1 i), (w355 x0 x1 i, w356 x0 x1 i), (w364 x0 x1 i, w365 x0 x1 i)) (w395 x0 x1 i, w396 x0 x1 i) := rfl
theorem stage_2 (x0 : A0) (x1 : A1) (i : S64x2048.Idx) :
    (((w467 x0 x1 i, w468 x0 x1 i), (w476 x0 x1 i, w477 x0 x1 i), (w485 x0 x1 i, w486 x0 x1 i), (w494 x0 x1 i, w495 x0 x1 i)) : S4) =
      ins ((w402 x0 x1 i, w403 x0 x1 i), (w411 x0 x1 i, w412 x0 x1 i), (w420 x0 x1 i, w421 x0 x1 i), (w429 x0 x1 i, w430 x0 x1 i)) (w460 x0 x1 i, w461 x0 x1 i) := rfl
theorem stage_3 (x0 : A0) (x1 : A1) (i : S64x2048.Idx) :
    (((w532 x0 x1 i, w533 x0 x1 i), (w541 x0 x1 i, w542 x0 x1 i), (w550 x0 x1 i, w551 x0 x1 i), (w559 x0 x1 i, w560 x0 x1 i)) : S4) =
      ins ((w467 x0 x1 i, w468 x0 x1 i), (w476 x0 x1 i, w477 x0 x1 i), (w485 x0 x1 i, w486 x0 x1 i), (w494 x0 x1 i, w495 x0 x1 i)) (w525 x0 x1 i, w526 x0 x1 i) := rfl
theorem stage_4 (x0 : A0) (x1 : A1) (i : S64x2048.Idx) :
    (((w597 x0 x1 i, w598 x0 x1 i), (w606 x0 x1 i, w607 x0 x1 i), (w615 x0 x1 i, w616 x0 x1 i), (w624 x0 x1 i, w625 x0 x1 i)) : S4) =
      ins ((w532 x0 x1 i, w533 x0 x1 i), (w541 x0 x1 i, w542 x0 x1 i), (w550 x0 x1 i, w551 x0 x1 i), (w559 x0 x1 i, w560 x0 x1 i)) (w590 x0 x1 i, w591 x0 x1 i) := rfl
theorem stage_5 (x0 : A0) (x1 : A1) (i : S64x2048.Idx) :
    (((w662 x0 x1 i, w663 x0 x1 i), (w671 x0 x1 i, w672 x0 x1 i), (w680 x0 x1 i, w681 x0 x1 i), (w689 x0 x1 i, w690 x0 x1 i)) : S4) =
      ins ((w597 x0 x1 i, w598 x0 x1 i), (w606 x0 x1 i, w607 x0 x1 i), (w615 x0 x1 i, w616 x0 x1 i), (w624 x0 x1 i, w625 x0 x1 i)) (w655 x0 x1 i, w656 x0 x1 i) := rfl
theorem stage_6 (x0 : A0) (x1 : A1) (i : S64x2048.Idx) :
    (((w727 x0 x1 i, w728 x0 x1 i), (w736 x0 x1 i, w737 x0 x1 i), (w745 x0 x1 i, w746 x0 x1 i), (w754 x0 x1 i, w755 x0 x1 i)) : S4) =
      ins ((w662 x0 x1 i, w663 x0 x1 i), (w671 x0 x1 i, w672 x0 x1 i), (w680 x0 x1 i, w681 x0 x1 i), (w689 x0 x1 i, w690 x0 x1 i)) (w720 x0 x1 i, w721 x0 x1 i) := rfl
theorem stage_7 (x0 : A0) (x1 : A1) (i : S64x2048.Idx) :
    (((w792 x0 x1 i, w793 x0 x1 i), (w801 x0 x1 i, w802 x0 x1 i), (w810 x0 x1 i, w811 x0 x1 i), (w819 x0 x1 i, w820 x0 x1 i)) : S4) =
      ins ((w727 x0 x1 i, w728 x0 x1 i), (w736 x0 x1 i, w737 x0 x1 i), (w745 x0 x1 i, w746 x0 x1 i), (w754 x0 x1 i, w755 x0 x1 i)) (w785 x0 x1 i, w786 x0 x1 i) := rfl
theorem stage_8 (x0 : A0) (x1 : A1) (i : S64x2048.Idx) :
    (((w857 x0 x1 i, w858 x0 x1 i), (w866 x0 x1 i, w867 x0 x1 i), (w875 x0 x1 i, w876 x0 x1 i), (w884 x0 x1 i, w885 x0 x1 i)) : S4) =
      ins ((w792 x0 x1 i, w793 x0 x1 i), (w801 x0 x1 i, w802 x0 x1 i), (w810 x0 x1 i, w811 x0 x1 i), (w819 x0 x1 i, w820 x0 x1 i)) (w850 x0 x1 i, w851 x0 x1 i) := rfl
theorem stage_9 (x0 : A0) (x1 : A1) (i : S64x2048.Idx) :
    (((w922 x0 x1 i, w923 x0 x1 i), (w931 x0 x1 i, w932 x0 x1 i), (w940 x0 x1 i, w941 x0 x1 i), (w949 x0 x1 i, w950 x0 x1 i)) : S4) =
      ins ((w857 x0 x1 i, w858 x0 x1 i), (w866 x0 x1 i, w867 x0 x1 i), (w875 x0 x1 i, w876 x0 x1 i), (w884 x0 x1 i, w885 x0 x1 i)) (w915 x0 x1 i, w916 x0 x1 i) := rfl
theorem stage_10 (x0 : A0) (x1 : A1) (i : S64x2048.Idx) :
    (((w987 x0 x1 i, w988 x0 x1 i), (w996 x0 x1 i, w997 x0 x1 i), (w1005 x0 x1 i, w1006 x0 x1 i), (w1014 x0 x1 i, w1015 x0 x1 i)) : S4) =
      ins ((w922 x0 x1 i, w923 x0 x1 i), (w931 x0 x1 i, w932 x0 x1 i), (w940 x0 x1 i, w941 x0 x1 i), (w949 x0 x1 i, w950 x0 x1 i)) (w980 x0 x1 i, w981 x0 x1 i) := rfl
theorem stage_11 (x0 : A0) (x1 : A1) (i : S64x2048.Idx) :
    (((w1052 x0 x1 i, w1053 x0 x1 i), (w1061 x0 x1 i, w1062 x0 x1 i), (w1070 x0 x1 i, w1071 x0 x1 i), (w1079 x0 x1 i, w1080 x0 x1 i)) : S4) =
      ins ((w987 x0 x1 i, w988 x0 x1 i), (w996 x0 x1 i, w997 x0 x1 i), (w1005 x0 x1 i, w1006 x0 x1 i), (w1014 x0 x1 i, w1015 x0 x1 i)) (w1045 x0 x1 i, w1046 x0 x1 i) := rfl
theorem stage_12 (x0 : A0) (x1 : A1) (i : S64x2048.Idx) :
    (((w1117 x0 x1 i, w1118 x0 x1 i), (w1126 x0 x1 i, w1127 x0 x1 i), (w1135 x0 x1 i, w1136 x0 x1 i), (w1144 x0 x1 i, w1145 x0 x1 i)) : S4) =
      ins ((w1052 x0 x1 i, w1053 x0 x1 i), (w1061 x0 x1 i, w1062 x0 x1 i), (w1070 x0 x1 i, w1071 x0 x1 i), (w1079 x0 x1 i, w1080 x0 x1 i)) (w1110 x0 x1 i, w1111 x0 x1 i) := rfl
theorem stage_13 (x0 : A0) (x1 : A1) (i : S64x2048.Idx) :
    (((w1182 x0 x1 i, w1183 x0 x1 i), (w1191 x0 x1 i, w1192 x0 x1 i), (w1200 x0 x1 i, w1201 x0 x1 i), (w1209 x0 x1 i, w1210 x0 x1 i)) : S4) =
      ins ((w1117 x0 x1 i, w1118 x0 x1 i), (w1126 x0 x1 i, w1127 x0 x1 i), (w1135 x0 x1 i, w1136 x0 x1 i), (w1144 x0 x1 i, w1145 x0 x1 i)) (w1175 x0 x1 i, w1176 x0 x1 i) := rfl
theorem stage_14 (x0 : A0) (x1 : A1) (i : S64x2048.Idx) :
    (((w1247 x0 x1 i, w1248 x0 x1 i), (w1256 x0 x1 i, w1257 x0 x1 i), (w1265 x0 x1 i, w1266 x0 x1 i), (w1274 x0 x1 i, w1275 x0 x1 i)) : S4) =
      ins ((w1182 x0 x1 i, w1183 x0 x1 i), (w1191 x0 x1 i, w1192 x0 x1 i), (w1200 x0 x1 i, w1201 x0 x1 i), (w1209 x0 x1 i, w1210 x0 x1 i)) (w1240 x0 x1 i, w1241 x0 x1 i) := rfl
theorem stage_15 (x0 : A0) (x1 : A1) (i : S64x2048.Idx) :
    (((w1312 x0 x1 i, w1313 x0 x1 i), (w1321 x0 x1 i, w1322 x0 x1 i), (w1330 x0 x1 i, w1331 x0 x1 i), (w1339 x0 x1 i, w1340 x0 x1 i)) : S4) =
      ins ((w1247 x0 x1 i, w1248 x0 x1 i), (w1256 x0 x1 i, w1257 x0 x1 i), (w1265 x0 x1 i, w1266 x0 x1 i), (w1274 x0 x1 i, w1275 x0 x1 i)) (w1305 x0 x1 i, w1306 x0 x1 i) := rfl
theorem stage_16 (x0 : A0) (x1 : A1) (i : S64x2048.Idx) :
    (((w1377 x0 x1 i, w1378 x0 x1 i), (w1386 x0 x1 i, w1387 x0 x1 i), (w1395 x0 x1 i, w1396 x0 x1 i), (w1404 x0 x1 i, w1405 x0 x1 i)) : S4) =
      ins ((w1312 x0 x1 i, w1313 x0 x1 i), (w1321 x0 x1 i, w1322 x0 x1 i), (w1330 x0 x1 i, w1331 x0 x1 i), (w1339 x0 x1 i, w1340 x0 x1 i)) (w1370 x0 x1 i, w1371 x0 x1 i) := rfl
theorem stage_17 (x0 : A0) (x1 : A1) (i : S64x2048.Idx) :
    (((w1442 x0 x1 i, w1443 x0 x1 i), (w1451 x0 x1 i, w1452 x0 x1 i), (w1460 x0 x1 i, w1461 x0 x1 i), (w1469 x0 x1 i, w1470 x0 x1 i)) : S4) =
      ins ((w1377 x0 x1 i, w1378 x0 x1 i), (w1386 x0 x1 i, w1387 x0 x1 i), (w1395 x0 x1 i, w1396 x0 x1 i), (w1404 x0 x1 i, w1405 x0 x1 i)) (w1435 x0 x1 i, w1436 x0 x1 i) := rfl
theorem stage_18 (x0 : A0) (x1 : A1) (i : S64x2048.Idx) :
    (((w1507 x0 x1 i, w1508 x0 x1 i), (w1516 x0 x1 i, w1517 x0 x1 i), (w1525 x0 x1 i, w1526 x0 x1 i), (w1534 x0 x1 i, w1535 x0 x1 i)) : S4) =
      ins ((w1442 x0 x1 i, w1443 x0 x1 i), (w1451 x0 x1 i, w1452 x0 x1 i), (w1460 x0 x1 i, w1461 x0 x1 i), (w1469 x0 x1 i, w1470 x0 x1 i)) (w1500 x0 x1 i, w1501 x0 x1 i) := rfl
theorem stage_19 (x0 : A0) (x1 : A1) (i : S64x2048.Idx) :
    (((w1572 x0 x1 i, w1573 x0 x1 i), (w1581 x0 x1 i, w1582 x0 x1 i), (w1590 x0 x1 i, w1591 x0 x1 i), (w1599 x0 x1 i, w1600 x0 x1 i)) : S4) =
      ins ((w1507 x0 x1 i, w1508 x0 x1 i), (w1516 x0 x1 i, w1517 x0 x1 i), (w1525 x0 x1 i, w1526 x0 x1 i), (w1534 x0 x1 i, w1535 x0 x1 i)) (w1565 x0 x1 i, w1566 x0 x1 i) := rfl
/-- The four slots at the end. -/
def slots (x0 : A0) (x1 : A1) (i : S64x2048.Idx) : S4 := ((w1572 x0 x1 i, w1573 x0 x1 i), (w1581 x0 x1 i, w1582 x0 x1 i), (w1590 x0 x1 i, w1591 x0 x1 i), (w1599 x0 x1 i, w1600 x0 x1 i))

theorem slots_eq (x0 : A0) (x1 : A1) (i : S64x2048.Idx) :
    slots x0 x1 i = List.foldl ins (cd x0 x1 0 0 i, cd x0 x1 0 1 i, cd x0 x1 0 2 i, cd x0 x1 0 3 i)
      [cd x0 x1 0 4 i, cd x0 x1 1 0 i, cd x0 x1 1 1 i, cd x0 x1 1 2 i, cd x0 x1 1 3 i, cd x0 x1 1 4 i, cd x0 x1 2 0 i, cd x0 x1 2 1 i, cd x0 x1 2 3 i, cd x0 x1 2 4 i, cd x0 x1 3 0 i, cd x0 x1 3 1 i, cd x0 x1 3 2 i, cd x0 x1 3 3 i, cd x0 x1 3 4 i, cd x0 x1 4 0 i, cd x0 x1 4 1 i, cd x0 x1 4 2 i, cd x0 x1 4 3 i, cd x0 x1 4 4 i] := by
  unfold slots
  rw [stage_19, stage_18, stage_17, stage_16, stage_15, stage_14, stage_13, stage_12, stage_11, stage_10, stage_9, stage_8, stage_7, stage_6, stage_5, stage_4, stage_3, stage_2, stage_1, stage_0]
  rw [dist_0, label_0, dist_1, label_1, dist_2, label_2, dist_3, label_3, dist_4, label_4, dist_5, label_5, dist_6, label_6, dist_7, label_7, dist_8, label_8, dist_9, label_9, dist_10, label_10, dist_11, label_11, dist_13, label_13, dist_14, label_14, dist_15, label_15, dist_16, label_16, dist_17, label_17, dist_18, label_18, dist_19, label_19, dist_20, label_20, dist_21, label_21, dist_22, label_22, dist_23, label_23, dist_24, label_24]
  rfl

/-- What the label of a neighbour counts as. -/
def cut (p : P) : BitVec 32 := Scalar.select (Ideal.cmp .ogt p.1 (Ideal.ofBits .f32 0x3F800000#32)) 20#32 p.2

theorem result (x0 : A0) (x1 : A1) (i : S64x2048.Idx) :
    w1737 x0 x1 i = Vote.voteK (w1601 x0 x1 i) (cut (slots x0 x1 i).1) (cut (slots x0 x1 i).2.1) (cut (slots x0 x1 i).2.2.1)
      (cut (slots x0 x1 i).2.2.2) := rfl

end Cert.KernelIdeal.Vals

end
-- ==== Proof.Real.lean ====
module

public import proofs.«01_k».proof.Defs
public import Idealize.ShloMosaic.Lib.IdealHost
public import Mathlib.Algebra.BigOperators.Fin

@[expose] public section

noncomputable section

/-! The distance as a real number: over the 5 by 5 window around a pixel, the jumps to the neighbour, each weighted by one
less its Gaussian weight. -/

namespace Cert.Dist

open Idealize.ShloMosaic
open scoped BigOperators

/-- A sum of reals read as extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- The three weights of the Gaussian's outer product. -/
def c0 : ℝ := 14626695 * (2 : ℝ) ^ (-28 : ℤ)
def c1 : ℝ := 16388075 * (2 : ℝ) ^ (-26 : ℤ)
def c2 : ℝ := 13509684 * (2 : ℝ) ^ (-25 : ℤ)

theorem ofBits_c0 : Ideal.ofBits .f32 0x3D5F2F87#32 = ((c0 : ℝ) : EReal) := by
  simp [Ideal.ofBits, Ideal.ieee, c0, -EReal.coe_mul]
theorem ofBits_c1 : Ideal.ofBits .f32 0x3E7A0FEB#32 = ((c1 : ℝ) : EReal) := by
  simp [Ideal.ofBits, Ideal.ieee, c1, -EReal.coe_mul]
theorem ofBits_c2 : Ideal.ofBits .f32 0x3ECE2434#32 = ((c2 : ℝ) : EReal) := by
  simp [Ideal.ofBits, Ideal.ieee, c2, -EReal.coe_mul]

/-- The weights of one row. -/
def V : Fin 5 → ℝ := ![c0, c1, c2, c1, c0]

theorem V_nonneg (i : Fin 5) : 0 ≤ V i := by
  fin_cases i <;> simp [V, c0, c1, c2]
theorem V_le (i : Fin 5) : V i ≤ 1 := by
  fin_cases i <;> simp [V, c0, c1, c2] <;> norm_num

/-- The jump at a pixel `(y, u)` of the image, whose depth is `x (y + 2) (u + 2)` in the array `x` padded by four, to the
neighbour `dh - 2` rows and `dw - 2` columns away; nothing off the image. -/
def J (x : ℕ → ℕ → ℝ) (dh dw y u : ℕ) : ℝ :=
  if (2 ≤ y ∧ y < 66) ∧ (2 ≤ u ∧ u < 2050) then |x (y + dh) (u + dw) - x (y + 2) (u + 2)| else 0

theorem J_nonneg (x : ℕ → ℕ → ℝ) (dh dw y u : ℕ) : 0 ≤ J x dh dw y u := by
  unfold J; split
  · exact abs_nonneg _
  · exact le_refl _

/-- The distance. -/
def dR (x : ℕ → ℕ → ℝ) (dh dw h w : ℕ) : ℝ :=
  ∑ i : Fin 5, ∑ j : Fin 5, (1 - V i * V j) * J x dh dw (h + i.val) (w + j.val)

theorem dR_nonneg (x : ℕ → ℕ → ℝ) (dh dw h w : ℕ) : 0 ≤ dR x dh dw h w := by
  refine Finset.sum_nonneg fun i _ => Finset.sum_nonneg fun j _ => mul_nonneg ?_ (J_nonneg _ _ _ _ _)
  have := mul_le_one₀ (V_le i) (V_nonneg j) (V_le j)
  linarith

theorem dR_centre (x : ℕ → ℕ → ℝ) (h w : ℕ) : dR x 2 2 h w = 0 := by
  unfold dR J
  refine Finset.sum_eq_zero fun i _ => Finset.sum_eq_zero fun j _ => ?_
  split <;> simp

/-- The jumps with the columns off the image left out, but not the rows. -/
def T (x : ℕ → ℕ → ℝ) (dh dw r w : ℕ) (a : Fin 5) : ℝ :=
  if 2 ≤ w + a.val ∧ w + a.val < 2050 then |x (r + dh) (w + a.val + dw) - x (r + 2) (w + a.val + 2)| else 0

/-- The row mask, once plain and once with the weights. -/
def mbR (h r : ℕ) : ℝ := if (h ≤ r ∧ r ≤ h + 4) ∧ (2 ≤ r ∧ r < 66) then 1 else 0
def mgR (h r : ℕ) : ℝ :=
  if r = h + 4 ∧ (2 ≤ r ∧ r < 66) then c0 else if r = h + 3 ∧ (2 ≤ r ∧ r < 66) then c1
  else if r = h + 2 ∧ (2 ≤ r ∧ r < 66) then c2 else if r = h + 1 ∧ (2 ≤ r ∧ r < 66) then c1
  else if r = h ∧ (2 ≤ r ∧ r < 66) then c0 else 0

theorem band_sum (h : ℕ) (hh : h < 64) (m : ℕ → ℝ) (W : Fin 5 → ℝ) (F : ℕ → ℝ)
    (hin : ∀ i : Fin 5, m (h + i.val) = if 2 ≤ h + i.val ∧ h + i.val < 66 then W i else 0)
    (hout : ∀ r, ¬(h ≤ r ∧ r ≤ h + 4) → m r = 0) :
    ∑ r : Fin 68, m r.val * F r.val = ∑ i : Fin 5, (if 2 ≤ h + i.val ∧ h + i.val < 66 then W i else 0) * F (h + i.val) := by
  symm
  refine Finset.sum_of_injOn (fun i : Fin 5 => (⟨h + i.val, by omega⟩ : Fin 68)) ?_ ?_ ?_ ?_
  · intro a _ b _ e
    have := congrArg Fin.val e
    exact Fin.ext (by simpa using this)
  · intro a _; exact Finset.mem_coe.mpr (Finset.mem_univ _)
  · intro r _ hr
    rw [hout r.val, zero_mul]
    intro hc
    apply hr
    exact ⟨⟨r.val - h, by omega⟩, Finset.mem_coe.mpr (Finset.mem_univ _), Fin.ext (by simp; omega)⟩
  · intro i _
    rw [← hin i]

theorem mb_sum (h : ℕ) (hh : h < 64) (F : ℕ → ℝ) :
    ∑ r : Fin 68, mbR h r.val * F r.val = ∑ i : Fin 5, (if 2 ≤ h + i.val ∧ h + i.val < 66 then 1 else 0) * F (h + i.val) := by
  refine band_sum h hh (mbR h) (fun _ => 1) F (fun i => ?_) (fun r hr => ?_)
  · unfold mbR
    have : h ≤ h + i.val ∧ h + i.val ≤ h + 4 := by omega
    simp [this]
  · unfold mbR; rw [if_neg (fun hc => hr hc.1)]

theorem mg_sum (h : ℕ) (hh : h < 64) (F : ℕ → ℝ) :
    ∑ r : Fin 68, mgR h r.val * F r.val = ∑ i : Fin 5, (if 2 ≤ h + i.val ∧ h + i.val < 66 then V i else 0) * F (h + i.val) := by
  refine band_sum h hh (mgR h) V F (fun i => ?_) (fun r hr => ?_)
  · unfold mgR
    fin_cases i <;> simp [V]
  · unfold mgR
    rw [if_neg (by omega), if_neg (by omega), if_neg (by omega), if_neg (by omega), if_neg (by omega)]

/-- The two banded products, the second subtracted from the first, are the distance. -/
theorem dR_eq (x : ℕ → ℕ → ℝ) (dh dw h w : ℕ) (hh : h < 64) :
    (∑ r : Fin 68, mbR h r.val * (((T x dh dw r.val w 0 + T x dh dw r.val w 4) + (T x dh dw r.val w 1 + T x dh dw r.val w 3)) + T x dh dw r.val w 2))
      - (∑ r : Fin 68, mgR h r.val * (c0 * (T x dh dw r.val w 0 + T x dh dw r.val w 4) + (c1 * (T x dh dw r.val w 1 + T x dh dw r.val w 3) + c2 * T x dh dw r.val w 2)))
      = dR x dh dw h w := by
  rw [mb_sum h hh (fun r => ((T x dh dw r w 0 + T x dh dw r w 4) + (T x dh dw r w 1 + T x dh dw r w 3)) + T x dh dw r w 2),
    mg_sum h hh (fun r => c0 * (T x dh dw r w 0 + T x dh dw r w 4) + (c1 * (T x dh dw r w 1 + T x dh dw r w 3) + c2 * T x dh dw r w 2)),
    ← Finset.sum_sub_distrib]
  unfold dR
  refine Finset.sum_congr rfl fun i _ => ?_
  have e : ∀ j : Fin 5, J x dh dw (h + i.val) (w + j.val) = (if 2 ≤ h + i.val ∧ h + i.val < 66 then 1 else 0) * T x dh dw (h + i.val) w j := by
    intro j
    unfold J T
    by_cases h1 : 2 ≤ h + i.val ∧ h + i.val < 66
    · simp only [h1, true_and, and_self, if_true, one_mul]
    · simp only [h1, false_and, if_false, zero_mul]
  simp only [e, Fin.sum_univ_five]
  have v0 : V 0 = c0 := rfl
  have v1 : V 1 = c1 := rfl
  have v2 : V 2 = c2 := rfl
  have v3 : V 3 = c1 := rfl
  have v4 : V 4 = c0 := rfl
  rw [v0, v1, v2, v3, v4]
  by_cases h1 : 2 ≤ h + i.val ∧ h + i.val < 66
  · simp only [h1, and_self, if_true]; ring
  · simp only [h1, if_false]; ring

end Cert.Dist

end
-- ==== Proof.KernelDist.lean ====
module

public import proofs.«01_k».proof.Proof.KernelChain
public import proofs.«01_k».proof.Proof.Real
public import Idealize.ShloMosaic.Lib.MatmulPlain
public import Idealize.ShloMosaic.Lib.ValueIdx

@[expose] public section

set_option maxRecDepth 16384

noncomputable section

/-! The kernel's distance to a neighbour, two banded matrix products, is the real one. -/

namespace Cert.KernelIdeal.Vals

open Idealize.ShloMosaic Idealize.ShloMosaic.ValueIdx Idealize.SL.Sem Cert.KernelIdeal Cert.KernelIdeal.Gen Cert.Dist
open scoped BigOperators

theorem toInt_small (n : ℕ) (h : n < 100000) : (BitVec.ofNat 32 n).toInt = (n : ℤ) := by
  rw [BitVec.toInt_eq_toNat_of_lt] <;> simp only [BitVec.toNat_ofNat] <;> omega

theorem toInt_sub_small (m n : ℕ) (hm : m < 100000) (hn : n < 100000) :
    (BitVec.ofNat 32 m - BitVec.ofNat 32 n).toInt = (m : ℤ) - n := by
  rw [BitVec.toInt_eq_toNat_cond, BitVec.toNat_sub]
  simp only [BitVec.toNat_ofNat]
  split <;> omega

theorem toInt_add_small (w : Fin 2048) (c : BitVec 32) (k : ℤ) (hc : (c.toNat : ℤ) = k ∨ (c.toNat : ℤ) = k + 4294967296) (h1 : -2 ≤ k)
    (h2 : k ≤ 2) : (BitVec.ofNat 32 w.val + c).toInt = (w.val : ℤ) + k := by
  have hw := w.isLt
  rw [BitVec.toInt_eq_toNat_cond, BitVec.toNat_add]
  simp only [BitVec.toNat_ofNat]
  rcases hc with h | h <;> split <;> omega

theorem one_or_zero {p : Prop} [Decidable p] : Scalar.select (BitVec.ofBool (decide p)) (1 : EReal) 0 = (((if p then 1 else 0) : ℝ) : EReal) := by
  unfold Scalar.select
  by_cases h : p <;> simp [h]

theorem and_ofBool (p q : Bool) : IntOp.andi (BitVec.ofBool p) (BitVec.ofBool q) = BitVec.ofBool (p && q) := by
  revert p q; decide

theorem cmp_sge (x y : BitVec 32) : IntOp.cmpi .sge x y = BitVec.ofBool (decide (y.toInt ≤ x.toInt)) := by
  show BitVec.ofBool (y.sle x) = _; rw [BitVec.sle_eq_decide]
theorem cmp_sle (x y : BitVec 32) : IntOp.cmpi .sle x y = BitVec.ofBool (decide (x.toInt ≤ y.toInt)) := by
  show BitVec.ofBool (x.sle y) = _; rw [BitVec.sle_eq_decide]
theorem cmp_slt (x y : BitVec 32) : IntOp.cmpi .slt x y = BitVec.ofBool (decide (x.toInt < y.toInt)) := by
  show BitVec.ofBool (x.slt y) = _; rw [BitVec.slt_eq_decide]
theorem cmp_eq (x y : BitVec 32) : IntOp.cmpi .eq x y = BitVec.ofBool (decide (x.toInt = y.toInt)) := by
  unfold IntOp.cmpi
  congr 1
  by_cases h : x = y
  · simp [h]
  · have : x.toInt ≠ y.toInt := fun e => h (BitVec.eq_of_toInt_eq e)
    simp [h, this]

/-- A column mask at a column. -/
theorem cm_apply (a : Fin 5) (w : Fin 2048) :
    cmG a (ix2 0 w) = (((if 2 ≤ w.val + a.val ∧ w.val + a.val < 2050 then 1 else 0) : ℝ) : EReal) := by
  have e : cmG a (ix2 0 w) = Scalar.select (IntOp.andi
      (IntOp.cmpi .sge (BitVec.ofNat 32 (0 * 2048 + w.val) + ![4294967294#32, 4294967295#32, 0#32, 1#32, 2#32] a) 0#32)
      (IntOp.cmpi .sle (BitVec.ofNat 32 (0 * 2048 + w.val) + ![4294967294#32, 4294967295#32, 0#32, 1#32, 2#32] a) 2047#32))
      (Ideal.ofBits .f32 0x3F800000#32) (Ideal.ofBits .f32 0x00000000#32) := rfl
  have t : (BitVec.ofNat 32 w.val + ![4294967294#32, 4294967295#32, 0#32, 1#32, 2#32] a).toInt = (w.val : ℤ) + a.val - 2 := by
    fin_cases a
    · exact (toInt_add_small w _ (-2) (Or.inr rfl) (by decide) (by decide)).trans (by show (w.val : ℤ) + -2 = w.val + ((0 : ℕ) : ℤ) - 2; omega)
    · exact (toInt_add_small w _ (-1) (Or.inr rfl) (by decide) (by decide)).trans (by show (w.val : ℤ) + -1 = w.val + ((1 : ℕ) : ℤ) - 2; omega)
    · exact (toInt_add_small w _ 0 (Or.inl rfl) (by decide) (by decide)).trans (by show (w.val : ℤ) + 0 = w.val + ((2 : ℕ) : ℤ) - 2; omega)
    · exact (toInt_add_small w _ 1 (Or.inl rfl) (by decide) (by decide)).trans (by show (w.val : ℤ) + 1 = w.val + ((3 : ℕ) : ℤ) - 2; omega)
    · exact (toInt_add_small w _ 2 (Or.inl rfl) (by decide) (by decide)).trans (by show (w.val : ℤ) + 2 = w.val + ((4 : ℕ) : ℤ) - 2; omega)
  rw [e]
  simp only [Nat.zero_mul, Nat.zero_add]
  rw [cmp_sge, cmp_sle, t, and_ofBool, Ideal.ofBits_one_f32, Ideal.ofBits_zero_f32, ← Bool.decide_and, one_or_zero]
  congr 2
  have z0 : (0#32 : BitVec 32).toInt = 0 := rfl
  have z1 : (2047#32 : BitVec 32).toInt = 2047 := rfl
  rw [z0, z1]
  apply propext
  omega

/-- The plain band with its rows off the image left out. -/
theorem mb_apply (x0 : A0) (x1 : A1) (h : Fin 64) (r : Fin 68) : w150 x0 x1 (ix2 h r) = ((mbR h.val r.val : ℝ) : EReal) := by
  have e : w150 x0 x1 (ix2 h r) = Scalar.select (IntOp.andi (IntOp.andi
      (IntOp.cmpi .sge (BitVec.ofNat 32 (0 * 68 + r.val) - BitVec.ofNat 32 (0 * 64 + h.val)) 0#32)
      (IntOp.cmpi .sle (BitVec.ofNat 32 (0 * 68 + r.val) - BitVec.ofNat 32 (0 * 64 + h.val)) 4#32))
      (IntOp.andi (IntOp.cmpi .sge (BitVec.ofNat 32 (0 * 68 + r.val)) 2#32) (IntOp.cmpi .slt (BitVec.ofNat 32 (0 * 68 + r.val)) 66#32)))
      (Ideal.ofBits .f32 0x3F800000#32) (Ideal.ofBits .f32 0x00000000#32) := rfl
  have hh := h.isLt
  have hr := r.isLt
  rw [e]
  simp only [Nat.zero_mul, Nat.zero_add]
  rw [cmp_sge, cmp_sle, cmp_sge, cmp_slt, toInt_sub_small _ _ (by omega) (by omega), toInt_small r.val (by omega),
    and_ofBool, and_ofBool, and_ofBool, Ideal.ofBits_one_f32, Ideal.ofBits_zero_f32, ← Bool.decide_and, ← Bool.decide_and, ← Bool.decide_and, one_or_zero]
  unfold mbR
  congr 2
  have z0 : (0#32 : BitVec 32).toInt = 0 := rfl
  have z1 : (4#32 : BitVec 32).toInt = 4 := rfl
  have z2 : (2#32 : BitVec 32).toInt = 2 := rfl
  have z3 : (66#32 : BitVec 32).toInt = 66 := rfl
  rw [z0, z1, z2, z3]
  apply propext
  omega

theorem sel_if {p : Prop} [Decidable p] (a b : EReal) : Scalar.select (BitVec.ofBool (decide p)) a b = if p then a else b := by
  unfold Scalar.select
  by_cases h : p <;> simp [h]

/-- The weighted band. -/
theorem mg_apply (x0 : A0) (x1 : A1) (h : Fin 64) (r : Fin 68) : w176 x0 x1 (ix2 h r) = ((mgR h.val r.val : ℝ) : EReal) := by
  have e : w176 x0 x1 (ix2 h r) =
      let d := BitVec.ofNat 32 (0 * 68 + r.val) - BitVec.ofNat 32 (0 * 64 + h.val)
      let row := IntOp.andi (IntOp.cmpi .sge (BitVec.ofNat 32 (0 * 68 + r.val)) 2#32) (IntOp.cmpi .slt (BitVec.ofNat 32 (0 * 68 + r.val)) 66#32)
      Scalar.select (IntOp.andi (IntOp.cmpi .eq d 4#32) row) (Ideal.ofBits .f32 0x3D5F2F87#32)
      (Scalar.select (IntOp.andi (IntOp.cmpi .eq d 3#32) row) (Ideal.ofBits .f32 0x3E7A0FEB#32)
      (Scalar.select (IntOp.andi (IntOp.cmpi .eq d 2#32) row) (Ideal.ofBits .f32 0x3ECE2434#32)
      (Scalar.select (IntOp.andi (IntOp.cmpi .eq d 1#32) row) (Ideal.ofBits .f32 0x3E7A0FEB#32)
      (Scalar.select (IntOp.andi (IntOp.cmpi .eq d 0#32) row) (Ideal.ofBits .f32 0x3D5F2F87#32) (Ideal.ofBits .f32 0x00000000#32))))) := rfl
  have hh := h.isLt
  have hr := r.isLt
  rw [e]
  simp only [Nat.zero_mul, Nat.zero_add]
  rw [cmp_sge, cmp_slt, cmp_eq, cmp_eq, cmp_eq, cmp_eq, cmp_eq, toInt_sub_small _ _ (by omega) (by omega), toInt_small r.val (by omega)]
  simp only [and_ofBool, ← Bool.decide_and, sel_if, ofBits_c0, ofBits_c1, ofBits_c2, Ideal.ofBits_zero_f32]
  unfold mgR
  have z0 : (0#32 : BitVec 32).toInt = 0 := rfl
  have z5 : (1#32 : BitVec 32).toInt = 1 := rfl
  have z6 : (3#32 : BitVec 32).toInt = 3 := rfl
  have z1 : (4#32 : BitVec 32).toInt = 4 := rfl
  have z2 : (2#32 : BitVec 32).toInt = 2 := rfl
  have z3 : (66#32 : BitVec 32).toInt = 66 := rfl
  rw [z0, z1, z2, z3, z5, z6]
  have q (k : ℕ) : (((r.val : ℤ) - h.val = k) ∧ ((2:ℤ) ≤ r.val ∧ (r.val : ℤ) < 66)) = (r.val = h.val + k ∧ (2 ≤ r.val ∧ r.val < 66)) := by
    apply propext; omega
  have q4 := q 4
  have q3 := q 3
  have q2 := q 2
  have q1 := q 1
  have q0 := q 0
  simp only [Nat.cast_ofNat, Nat.cast_one, Nat.cast_zero, Nat.add_zero] at q4 q3 q2 q1 q0
  simp only [q4, q3, q2, q1, q0]
  split_ifs <;> simp

/-- A jump. -/
theorem t_apply (x0 : A0) (x1 : A1) (x : ℕ → ℕ → ℝ) (hx : ∀ (r : Fin 72) (c : Fin 2056), w1 x0 x1 (ix2 r c) = ((x r.val c.val : ℝ) : EReal))
    (dh dw a : Fin 5) (r : Fin 68) (w : Fin 2048) : tG x0 x1 dh dw a (ix2 r w) = ((Dist.T x dh.val dw.val r.val w.val a : ℝ) : EReal) := by
  have s (dh dw : Fin 5) : extractStridedSlice S68x2048 ![dh.val, 0] (sm x0 x1 dw a) (slc_row dh) (ix2 r w)
      = ((x (r.val + dh.val) (w.val + a.val + dw.val) * (if 2 ≤ w.val + a.val ∧ w.val + a.val < 2050 then 1 else 0) : ℝ) : EReal) := by
    have hr := r.isLt
    have hw := w.isLt
    have hd := dh.isLt
    have ha := a.isLt
    have e : extractStridedSlice S68x2048 ![dh.val, 0] (sm x0 x1 dw a) (slc_row dh) (ix2 r w)
        = w1 x0 x1 (ix2 ⟨r.val + dh.val, by omega⟩ ⟨w.val + a.val + dw.val, by omega⟩) * cmG a (ix2 0 w) := by
      unfold extractStridedSlice sm
      rw [mulf_apply]
      unfold colS extractStridedSlice broadcastTo
      congr 1
      · congr 1
        funext b
        fin_cases b <;> apply Fin.ext
        · show 0 + (dh.val + r.val) = r.val + dh.val; omega
        · show a.val + dw.val + (0 + w.val) = w.val + a.val + dw.val; omega
      · congr 1
        funext b
        fin_cases b <;> apply Fin.ext
        · rfl
        · show 0 + w.val = w.val; omega
    rw [e, hx, cm_apply, ← EReal.coe_mul]
  unfold tG
  show max (subf _ _ (ix2 r w)) (-(subf _ _ (ix2 r w))) = _
  rw [subf_apply, s dh dw, s 2 2]
  rw [← EReal.coe_sub, ← EReal.coe_neg, ← EReal.coe_strictMono.monotone.map_max]
  congr 1
  unfold Dist.T
  split
  · rw [mul_one, mul_one]; rfl
  · rw [mul_zero, mul_zero]; simp

/-- The distance the kernel computes. -/
theorem d_apply (x0 : A0) (x1 : A1) (x : ℕ → ℕ → ℝ) (hx : ∀ (r : Fin 72) (c : Fin 2056), w1 x0 x1 (ix2 r c) = ((x r.val c.val : ℝ) : EReal))
    (dh dw : Fin 5) (h : Fin 64) (w : Fin 2048) : dG x0 x1 dh dw (ix2 h w) = ((dR x dh.val dw.val h.val w.val : ℝ) : EReal) := by
  unfold dG
  rw [subf_apply]
  have m (lhs : FVec Ideal S64x68 .f32) (rhs : FVec Ideal S68x2048 .f32) :
      matmul dot_S64x68_S68x2048_S64x2048_1_0_0_1_n_n (some .fp32) lhs rhs (constant S64x2048 .f32 0x00000000#32) (ix2 h w)
        = ∑ k : Fin 68, lhs (ix2 h k) * rhs (ix2 k w) := by
    refine (Ideal.matmul_plain_apply (M := 64) (K := 68) (N := 2048) (some .fp32) lhs rhs (constant S64x2048 .f32 0x00000000#32) h w).trans ?_
    rw [constant_apply, Ideal.ofBits_zero_f32, zero_add]
  rw [m, m, ← dR_eq x dh.val dw.val h.val w.val h.isLt, EReal.coe_sub, coe_sum, coe_sum]
  congr 1
  · refine Finset.sum_congr rfl fun k _ => ?_
    rw [mb_apply, EReal.coe_mul]
    congr 1
    unfold rbG
    simp only [addf_apply, t_apply x0 x1 x hx, EReal.coe_add]
  · refine Finset.sum_congr rfl fun k _ => ?_
    rw [mg_apply, EReal.coe_mul]
    congr 1
    have b (c : Ideal .f32) : broadcast S68x2048 c (ix2 k w) = c := rfl
    unfold rgG
    simp only [addf_apply, mulf_apply, t_apply x0 x1 x hx, EReal.coe_add, EReal.coe_mul]
    simp only [b, ← ofBits_c0, ← ofBits_c1, ← ofBits_c2]
    rfl

end Cert.KernelIdeal.Vals

end
-- ==== Proof.KernelPixel.lean ====
module

public import proofs.«01_k».proof.Proof.KernelDist

@[expose] public section

set_option maxRecDepth 16384

noncomputable section

/-! The kernel's label at a pixel is the vote of the five nearest neighbours, wherever the distances determine these. -/

namespace Cert.Dist

open Idealize.ShloMosaic Cert.Sel

/-- The neighbour in row `dh` and column `dw` of the window: its distance and its label. -/
def pq (x : ℕ → ℕ → ℝ) (y : ℕ → ℕ → BitVec 32) (h w dh dw : ℕ) : P := (((dR x dh dw h w : ℝ) : EReal), y (h + dh) (w + dw))

/-- The neighbours in their order. -/
def pr (x : ℕ → ℕ → ℝ) (y : ℕ → ℕ → BitVec 32) (h w : ℕ) (k : Fin 25) : P := pq x y h w (k.val / 5) (k.val % 5)

/-- All of them. -/
def cands (x : ℕ → ℕ → ℝ) (y : ℕ → ℕ → BitVec 32) (h w : ℕ) : Multiset P := (Finset.univ : Finset (Fin 25)).val.map (pr x y h w)

theorem cands_eq (x : ℕ → ℕ → ℝ) (y : ℕ → ℕ → BitVec 32) (h w : ℕ) :
    cands x y h w = ((List.finRange 25).map (pr x y h w) : Multiset P) := rfl

theorem mem_cands {x : ℕ → ℕ → ℝ} {y : ℕ → ℕ → BitVec 32} {h w : ℕ} {p : P} (hp : p ∈ cands x y h w) :
    ∃ k, p = pr x y h w k := by
  obtain ⟨k, _, hk⟩ := Multiset.mem_map.mp hp
  exact ⟨k, hk.symm⟩

end Cert.Dist

namespace Cert.KernelIdeal.Vals

open Idealize.ShloMosaic Idealize.ShloMosaic.ValueIdx Idealize.SL.Sem Cert.KernelIdeal Cert.KernelIdeal.Gen Cert.Dist Cert.Sel

theorem l_apply (x0 : A0) (x1 : A1) (y : ℕ → ℕ → BitVec 32) (hy : ∀ (r : Fin 68) (c : Fin 2052), w3 x0 x1 (ix2 r c) = y r.val c.val)
    (dh dw : Fin 5) (h : Fin 64) (w : Fin 2048) : lG x0 x1 dh dw (ix2 h w) = y (h.val + dh.val) (w.val + dw.val) := by
  have hh := h.isLt
  have hw := w.isLt
  have hd := dh.isLt
  have he := dw.isLt
  refine Eq.trans ?_ (hy ⟨h.val + dh.val, by omega⟩ ⟨w.val + dw.val, by omega⟩)
  unfold lG extractStridedSlice
  congr 1
  funext b
  fin_cases b <;> apply Fin.ext
  · show 0 + (dh.val + h.val) = h.val + dh.val; omega
  · show dw.val + (0 + w.val) = w.val + dw.val; omega

theorem centre_apply (x0 : A0) (x1 : A1) (y : ℕ → ℕ → BitVec 32) (hy : ∀ (r : Fin 68) (c : Fin 2052), w3 x0 x1 (ix2 r c) = y r.val c.val)
    (h : Fin 64) (w : Fin 2048) : w1601 x0 x1 (ix2 h w) = y (h.val + 2) (w.val + 2) := by
  have hh := h.isLt
  have hw := w.isLt
  refine Eq.trans ?_ (hy ⟨h.val + 2, by omega⟩ ⟨w.val + 2, by omega⟩)
  unfold w1601 extractStridedSlice
  congr 1
  funext b
  fin_cases b <;> apply Fin.ext
  · show 2 + h.val = h.val + 2; omega
  · show 2 + w.val = w.val + 2; omega

theorem cd_apply (x0 : A0) (x1 : A1) (x : ℕ → ℕ → ℝ) (hx : ∀ (r : Fin 72) (c : Fin 2056), w1 x0 x1 (ix2 r c) = ((x r.val c.val : ℝ) : EReal))
    (y : ℕ → ℕ → BitVec 32) (hy : ∀ (r : Fin 68) (c : Fin 2052), w3 x0 x1 (ix2 r c) = y r.val c.val)
    (dh dw : Fin 5) (h : Fin 64) (w : Fin 2048) : cd x0 x1 dh dw (ix2 h w) = pq x y h.val w.val dh.val dw.val := by
  unfold cd pq
  rw [d_apply x0 x1 x hx, l_apply x0 x1 y hy]

theorem cut_le (p : P) (h : p.2.toNat < 20) : (cut p).toNat ≤ 20 := by
  unfold cut Scalar.select
  split
  · decide
  · omega

theorem cut_near (p : P) (h : p.1 ≤ 1) : cut p = p.2 := by
  unfold cut Scalar.select
  rw [Ideal.ofBits_one_f32]
  refine if_neg ?_
  intro e
  have : Ideal.cmp .ogt p.1 1 = BitVec.ofBool (decide (1 < p.1)) := rfl
  rw [this, decide_eq_false (not_lt.mpr h)] at e
  exact absurd e (by decide)

theorem pixel (x0 : A0) (x1 : A1) (x : ℕ → ℕ → ℝ) (hx : ∀ (r : Fin 72) (c : Fin 2056), w1 x0 x1 (ix2 r c) = ((x r.val c.val : ℝ) : EReal))
    (y : ℕ → ℕ → BitVec 32) (hy : ∀ (r : Fin 68) (c : Fin 2052), w3 x0 x1 (ix2 r c) = y r.val c.val)
    (hl : ∀ r c, (y r c).toNat < 20) (h : Fin 64) (w : Fin 2048) (T R : Multiset P) (hc : Multiset.card T = 5)
    (e : T + R = cands x y h.val w.val) (lt : ∀ a ∈ T, ∀ b ∈ R, a.1 < b.1) :
    Vote.IsVote (T.map cut) (w1737 x0 x1 (ix2 h w)) := by
  rw [result, centre_apply x0 x1 y hy]
  have hs := slots_eq x0 x1 (ix2 h w)
  simp only [cd_apply x0 x1 x hx y hy] at hs
  obtain ⟨R', e', le'⟩ := foldl_spec [pq x y h.val w.val 0 4, pq x y h.val w.val 1 0, pq x y h.val w.val 1 1, pq x y h.val w.val 1 2, pq x y h.val w.val 1 3, pq x y h.val w.val 1 4, pq x y h.val w.val 2 0, pq x y h.val w.val 2 1, pq x y h.val w.val 2 3, pq x y h.val w.val 2 4, pq x y h.val w.val 3 0, pq x y h.val w.val 3 1, pq x y h.val w.val 3 2, pq x y h.val w.val 3 3, pq x y h.val w.val 3 4, pq x y h.val w.val 4 0, pq x y h.val w.val 4 1, pq x y h.val w.val 4 2, pq x y h.val w.val 4 3, pq x y h.val w.val 4 4]
    (pq x y h.val w.val 0 0, pq x y h.val w.val 0 1, pq x y h.val w.val 0 2, pq x y h.val w.val 0 3) 0 (by simp)
  have hs' : slots x0 x1 (ix2 h w) = List.foldl ins (pq x y h.val w.val 0 0, pq x y h.val w.val 0 1, pq x y h.val w.val 0 2, pq x y h.val w.val 0 3) [pq x y h.val w.val 0 4, pq x y h.val w.val 1 0, pq x y h.val w.val 1 1, pq x y h.val w.val 1 2, pq x y h.val w.val 1 3, pq x y h.val w.val 1 4, pq x y h.val w.val 2 0, pq x y h.val w.val 2 1, pq x y h.val w.val 2 3, pq x y h.val w.val 2 4, pq x y h.val w.val 3 0, pq x y h.val w.val 3 1, pq x y h.val w.val 3 2, pq x y h.val w.val 3 3, pq x y h.val w.val 3 4, pq x y h.val w.val 4 0, pq x y h.val w.val 4 1, pq x y h.val w.val 4 2, pq x y h.val w.val 4 3, pq x y h.val w.val 4 4] := hs
  rw [← hs'] at e' le'
  rw [add_zero] at e'
  generalize slots x0 x1 (ix2 h w) = S at e' le' ⊢
  have all : ({pq x y h.val w.val 2 2} + ms S) + R' = cands x y h.val w.val := by
    rw [add_assoc, e', cands_eq]
    have p : (([pq x y h.val w.val 0 0, pq x y h.val w.val 0 1, pq x y h.val w.val 0 2, pq x y h.val w.val 0 3, pq x y h.val w.val 0 4, pq x y h.val w.val 1 0, pq x y h.val w.val 1 1, pq x y h.val w.val 1 2, pq x y h.val w.val 1 3, pq x y h.val w.val 1 4, pq x y h.val w.val 2 0, pq x y h.val w.val 2 1] ++ pq x y h.val w.val 2 2 :: [pq x y h.val w.val 2 3, pq x y h.val w.val 2 4, pq x y h.val w.val 3 0, pq x y h.val w.val 3 1, pq x y h.val w.val 3 2, pq x y h.val w.val 3 3, pq x y h.val w.val 3 4, pq x y h.val w.val 4 0, pq x y h.val w.val 4 1, pq x y h.val w.val 4 2, pq x y h.val w.val 4 3, pq x y h.val w.val 4 4] : List P) : Multiset P) = _ :=
      Multiset.coe_eq_coe.mpr List.perm_middle
    exact p.symm
  have dist (p : P) (hp : p ∈ ms S + R') : (0 : EReal) ≤ p.1 := by
    have : p ∈ cands x y h.val w.val := by rw [← all, add_assoc]; exact Multiset.mem_add.mpr (Or.inr hp)
    obtain ⟨k, rfl⟩ := mem_cands this
    exact EReal.coe_nonneg.mpr (dR_nonneg x _ _ _ _)
  have lab (p : P) (hp : p ∈ ms S) : p.2.toNat < 20 := by
    have : p ∈ cands x y h.val w.val := by
      rw [← all, add_assoc]; exact Multiset.mem_add.mpr (Or.inr (Multiset.mem_add.mpr (Or.inl hp)))
    obtain ⟨k, rfl⟩ := mem_cands this
    exact hl _ _
  have zero : (pq x y h.val w.val 2 2).1 = 0 := by
    unfold pq
    rw [dR_centre]; rfl
  have same := nearest_unique ({pq x y h.val w.val 2 2} + ms S) R' T R (all.trans e.symm) (by rw [hc]; rfl) (by
    intro a ha b hb
    rcases Multiset.mem_add.mp ha with h1 | h1
    · rw [Multiset.mem_singleton.mp h1, zero]; exact dist b (Multiset.mem_add.mpr (Or.inr hb))
    · exact le' a h1 b hb) lt
  rw [← same]
  have v := Vote.voteK_isVote (y (h.val + 2) (w.val + 2)) (cut S.1) (cut S.2.1) (cut S.2.2.1) (cut S.2.2.2) (hl _ _)
    (cut_le _ (lab _ (mem_ms.mpr (Or.inl rfl)))) (cut_le _ (lab _ (mem_ms.mpr (Or.inr (Or.inl rfl)))))
    (cut_le _ (lab _ (mem_ms.mpr (Or.inr (Or.inr (Or.inl rfl)))))) (cut_le _ (lab _ (mem_ms.mpr (Or.inr (Or.inr (Or.inr rfl))))))
  have m : Multiset.map cut ({pq x y h.val w.val 2 2} + ms S)
      = {y (h.val + 2) (w.val + 2)} + {cut S.1} + {cut S.2.1} + {cut S.2.2.1} + {cut S.2.2.2} := by
    unfold ms
    simp only [Multiset.map_add, Multiset.map_singleton, ← add_assoc]
    rw [cut_near (pq x y h.val w.val 2 2) (by rw [zero]; exact zero_le_one)]
    rfl
  rw [m]
  exact v

end Cert.KernelIdeal.Vals

end
-- ==== Proof.KernelPayloads.lean ====
module

public import proofs.«01_k».proof.Proof.KernelValues

@[expose] public section

set_option maxRecDepth 16384

noncomputable section

/-! Each printed payload, at the values before it, is the value of its own number. -/

namespace Cert.KernelIdeal.Vals

open Idealize.ShloMosaic Idealize.SL.Sem Cert.KernelIdeal Cert.KernelIdeal.Gen

theorem e_pay1 (x0 : A0) (x1 : A1) : k0_pay1 (w1617 x0 x1) (w1719 x0 x1) (cmpi .eq (w1617 x0 x1) (broadcast S64x2048 (20#32))) (muli (w1678 x0 x1) (broadcast S64x2048 (32#32))) (broadcast S64x2048 (31#32)) = (w1740 x0 x1) := rfl
theorem e_pay2 (x0 : A0) (x1 : A1) : k0_pay2 (F := Ideal) x0 = (w1 x0 x1) := rfl
theorem e_pay3 (x0 : A0) (x1 : A1) : k0_pay3 (F := Ideal) x1 = (w3 x0 x1) := rfl
theorem e_pay4 (x0 : A0) (x1 : A1) : k0_pay4 (F := Ideal) x0 = (w4 x0 x1) := rfl
theorem e_pay5 (x0 : A0) (x1 : A1) : k0_pay5 (F := Ideal) x0 = (w5 x0 x1) := rfl
theorem e_pay6 (x0 : A0) (x1 : A1) : k0_pay6 (F := Ideal) x0 = (w6 x0 x1) := rfl
theorem e_pay7 (x0 : A0) (x1 : A1) : k0_pay7 (F := Ideal) x0 = (w7 x0 x1) := rfl
theorem e_pay8 (x0 : A0) (x1 : A1) : k0_pay8 (F := Ideal) x0 = (w8 x0 x1) := rfl
theorem e_pay9 (x0 : A0) (x1 : A1) : k0_pay9 (F := Ideal) x0 = (w9 x0 x1) := rfl
theorem e_pay10 (x0 : A0) (x1 : A1) : k0_pay10 (F := Ideal) x0 = (w10 x0 x1) := rfl
theorem e_pay11 (x0 : A0) (x1 : A1) : k0_pay11 (F := Ideal) x0 = (w11 x0 x1) := rfl
theorem e_pay12 (x0 : A0) (x1 : A1) : k0_pay12 (F := Ideal) x0 = (w12 x0 x1) := rfl
theorem e_pay13 (x0 : A0) (x1 : A1) : k0_pay13 (F := Ideal) = (w25 x0 x1) := rfl
theorem e_pay14 (x0 : A0) (x1 : A1) : k0_pay14 (F := Ideal) = (w37 x0 x1) := rfl
theorem e_pay15 (x0 : A0) (x1 : A1) : k0_pay15 = (addi (iota .tc S1x2048 32 [1] iota_S1x2048_d1_w32) (broadcast S1x2048 (0#32))) := rfl
theorem e_pay16 (x0 : A0) (x1 : A1) : k0_pay16 (F := Ideal) (iota .tc S1x2048 32 [1] iota_S1x2048_d1_w32) (addi (iota .tc S1x2048 32 [1] iota_S1x2048_d1_w32) (broadcast S1x2048 (0#32))) = (w49 x0 x1) := rfl
theorem e_pay17 (x0 : A0) (x1 : A1) : k0_pay17 (F := Ideal) (iota .tc S1x2048 32 [1] iota_S1x2048_d1_w32) = (w61 x0 x1) := rfl
theorem e_pay18 (x0 : A0) (x1 : A1) : k0_pay18 (F := Ideal) (iota .tc S1x2048 32 [1] iota_S1x2048_d1_w32) = (w73 x0 x1) := rfl
theorem e_pay19 (x0 : A0) (x1 : A1) : k0_pay19 (F := Ideal) (w4 x0 x1) (w25 x0 x1) = (w75 x0 x1) := rfl
theorem e_pay20 (x0 : A0) (x1 : A1) : k0_pay20 (F := Ideal) (w5 x0 x1) (w25 x0 x1) = (w77 x0 x1) := rfl
theorem e_pay21 (x0 : A0) (x1 : A1) : k0_pay21 (F := Ideal) (w6 x0 x1) (w25 x0 x1) = (w79 x0 x1) := rfl
theorem e_pay22 (x0 : A0) (x1 : A1) : k0_pay22 (F := Ideal) (w7 x0 x1) (w25 x0 x1) = (w81 x0 x1) := rfl
theorem e_pay23 (x0 : A0) (x1 : A1) : k0_pay23 (F := Ideal) (w25 x0 x1) = (broadcastTo S72x2048 (w25 x0 x1) broadcasts_S1x2048_S72x2048) := rfl
theorem e_pay24 (x0 : A0) (x1 : A1) : k0_pay24 (F := Ideal) (w8 x0 x1) (broadcastTo S72x2048 (w25 x0 x1) broadcasts_S1x2048_S72x2048) = (w83 x0 x1) := rfl
theorem e_pay25 (x0 : A0) (x1 : A1) : k0_pay25 (F := Ideal) (w5 x0 x1) (w37 x0 x1) = (w85 x0 x1) := rfl
theorem e_pay26 (x0 : A0) (x1 : A1) : k0_pay26 (F := Ideal) (w6 x0 x1) (w37 x0 x1) = (w87 x0 x1) := rfl
theorem e_pay27 (x0 : A0) (x1 : A1) : k0_pay27 (F := Ideal) (w7 x0 x1) (w37 x0 x1) = (w89 x0 x1) := rfl
theorem e_pay28 (x0 : A0) (x1 : A1) : k0_pay28 (F := Ideal) (w8 x0 x1) (w37 x0 x1) = (w91 x0 x1) := rfl
theorem e_pay29 (x0 : A0) (x1 : A1) : k0_pay29 (F := Ideal) (w9 x0 x1) (w37 x0 x1) = (w93 x0 x1) := rfl
theorem e_pay30 (x0 : A0) (x1 : A1) : k0_pay30 (F := Ideal) (w6 x0 x1) (w49 x0 x1) = (w95 x0 x1) := rfl
theorem e_pay31 (x0 : A0) (x1 : A1) : k0_pay31 (F := Ideal) (w7 x0 x1) (w49 x0 x1) = (w97 x0 x1) := rfl
theorem e_pay32 (x0 : A0) (x1 : A1) : k0_pay32 (F := Ideal) (w8 x0 x1) (w49 x0 x1) = (w99 x0 x1) := rfl
theorem e_pay33 (x0 : A0) (x1 : A1) : k0_pay33 (F := Ideal) (w9 x0 x1) (w49 x0 x1) = (w101 x0 x1) := rfl
theorem e_pay34 (x0 : A0) (x1 : A1) : k0_pay34 (F := Ideal) (w10 x0 x1) (w49 x0 x1) = (w103 x0 x1) := rfl
theorem e_pay35 (x0 : A0) (x1 : A1) : k0_pay35 (F := Ideal) (w7 x0 x1) (w61 x0 x1) = (w105 x0 x1) := rfl
theorem e_pay36 (x0 : A0) (x1 : A1) : k0_pay36 (F := Ideal) (w8 x0 x1) (w61 x0 x1) = (w107 x0 x1) := rfl
theorem e_pay37 (x0 : A0) (x1 : A1) : k0_pay37 (F := Ideal) (w9 x0 x1) (w61 x0 x1) = (w109 x0 x1) := rfl
theorem e_pay38 (x0 : A0) (x1 : A1) : k0_pay38 (F := Ideal) (w10 x0 x1) (w61 x0 x1) = (w111 x0 x1) := rfl
theorem e_pay39 (x0 : A0) (x1 : A1) : k0_pay39 (F := Ideal) (w11 x0 x1) (w61 x0 x1) = (w113 x0 x1) := rfl
theorem e_pay40 (x0 : A0) (x1 : A1) : k0_pay40 (F := Ideal) (w8 x0 x1) (w73 x0 x1) = (w115 x0 x1) := rfl
theorem e_pay41 (x0 : A0) (x1 : A1) : k0_pay41 (F := Ideal) (w9 x0 x1) (w73 x0 x1) = (w117 x0 x1) := rfl
theorem e_pay42 (x0 : A0) (x1 : A1) : k0_pay42 (F := Ideal) (w10 x0 x1) (w73 x0 x1) = (w119 x0 x1) := rfl
theorem e_pay43 (x0 : A0) (x1 : A1) : k0_pay43 (F := Ideal) (w11 x0 x1) (w73 x0 x1) = (w121 x0 x1) := rfl
theorem e_pay44 (x0 : A0) (x1 : A1) : k0_pay44 (F := Ideal) (w12 x0 x1) (w73 x0 x1) = (w123 x0 x1) := rfl
theorem e_pay45 (x0 : A0) (x1 : A1) : k0_pay45 (F := Ideal) (w79 x0 x1) = (w124 x0 x1) := rfl
theorem e_pay46 (x0 : A0) (x1 : A1) : k0_pay46 (F := Ideal) (w7 x0 x1) (w37 x0 x1) = (w125 x0 x1) := rfl
theorem e_pay47 (x0 : A0) (x1 : A1) : k0_pay47 (F := Ideal) (w8 x0 x1) (w49 x0 x1) = (w126 x0 x1) := rfl
theorem e_pay48 (x0 : A0) (x1 : A1) : k0_pay48 (F := Ideal) (w9 x0 x1) (w61 x0 x1) = (w127 x0 x1) := rfl
theorem e_pay49 (x0 : A0) (x1 : A1) : k0_pay49 (F := Ideal) (w10 x0 x1) (w73 x0 x1) = (w128 x0 x1) := rfl
theorem e_pay50 (x0 : A0) (x1 : A1) : k0_pay50 (w3 x0 x1) = (w129 x0 x1) := rfl
theorem e_pay51 (x0 : A0) (x1 : A1) : k0_pay51 (w3 x0 x1) = (w130 x0 x1) := rfl
theorem e_pay52 (x0 : A0) (x1 : A1) : k0_pay52 (w3 x0 x1) = (w131 x0 x1) := rfl
theorem e_pay53 (x0 : A0) (x1 : A1) : k0_pay53 (w3 x0 x1) = (w132 x0 x1) := rfl
theorem e_pay54 (x0 : A0) (x1 : A1) : k0_pay54 (w3 x0 x1) = (w133 x0 x1) := rfl
theorem e_pay55 (x0 : A0) (x1 : A1) : k0_pay55 = (subi (iota .tc S64x68 32 [1] iota_S64x68_d1_w32) (iota .tc S64x68 32 [0] iota_S64x68_d0_w32)) := rfl
theorem e_pay56 (x0 : A0) (x1 : A1) : k0_pay56 = (cmpi .sge (iota .tc S64x68 32 [1] iota_S64x68_d1_w32) (broadcast S64x68 (2#32))) := rfl
theorem e_pay57 (x0 : A0) (x1 : A1) : k0_pay57 = (cmpi .slt (iota .tc S64x68 32 [1] iota_S64x68_d1_w32) (broadcast S64x68 (66#32))) := rfl
theorem e_pay58 (x0 : A0) (x1 : A1) : k0_pay58 (cmpi .sge (iota .tc S64x68 32 [1] iota_S64x68_d1_w32) (broadcast S64x68 (2#32))) (cmpi .slt (iota .tc S64x68 32 [1] iota_S64x68_d1_w32) (broadcast S64x68 (66#32))) = (andi (cmpi .sge (iota .tc S64x68 32 [1] iota_S64x68_d1_w32) (broadcast S64x68 (2#32))) (cmpi .slt (iota .tc S64x68 32 [1] iota_S64x68_d1_w32) (broadcast S64x68 (66#32)))) := rfl
theorem e_pay59 (x0 : A0) (x1 : A1) : k0_pay59 (F := Ideal) (subi (iota .tc S64x68 32 [1] iota_S64x68_d1_w32) (iota .tc S64x68 32 [0] iota_S64x68_d0_w32)) (cmpi .sge (iota .tc S64x68 32 [1] iota_S64x68_d1_w32) (broadcast S64x68 (2#32))) (cmpi .slt (iota .tc S64x68 32 [1] iota_S64x68_d1_w32) (broadcast S64x68 (66#32))) = (w150 x0 x1) := rfl
theorem e_pay60 (x0 : A0) (x1 : A1) : k0_pay60 (F := Ideal) (subi (iota .tc S64x68 32 [1] iota_S64x68_d1_w32) (iota .tc S64x68 32 [0] iota_S64x68_d0_w32)) (cmpi .sge (iota .tc S64x68 32 [1] iota_S64x68_d1_w32) (broadcast S64x68 (2#32))) (cmpi .slt (iota .tc S64x68 32 [1] iota_S64x68_d1_w32) (broadcast S64x68 (66#32))) = (w176 x0 x1) := rfl
theorem e_pay61 (x0 : A0) (x1 : A1) : k0_pay61 (F := Ideal) (w75 x0 x1) (w124 x0 x1) = (w179 x0 x1) := rfl
theorem e_pay62 (x0 : A0) (x1 : A1) : k0_pay62 (F := Ideal) (w85 x0 x1) (w125 x0 x1) = (w182 x0 x1) := rfl
theorem e_pay63 (x0 : A0) (x1 : A1) : k0_pay63 (F := Ideal) (w95 x0 x1) (w126 x0 x1) = (w185 x0 x1) := rfl
theorem e_pay64 (x0 : A0) (x1 : A1) : k0_pay64 (F := Ideal) (w105 x0 x1) (w115 x0 x1) (w127 x0 x1) (w128 x0 x1) (w150 x0 x1) (w176 x0 x1) (w179 x0 x1) (w182 x0 x1) (w185 x0 x1) = (w206 x0 x1) := rfl
theorem e_pay65 (x0 : A0) (x1 : A1) : k0_pay65 (w129 x0 x1) = (w207 x0 x1) := rfl
theorem e_pay66 (x0 : A0) (x1 : A1) : k0_pay66 (F := Ideal) (w97 x0 x1) (w126 x0 x1) = (w216 x0 x1) := rfl
theorem e_pay67 (x0 : A0) (x1 : A1) : k0_pay67 (F := Ideal) (w77 x0 x1) (w117 x0 x1) (w124 x0 x1) (w128 x0 x1) = (w223 x0 x1) := rfl
theorem e_pay68 (x0 : A0) (x1 : A1) : k0_pay68 (F := Ideal) (w87 x0 x1) (w107 x0 x1) (w125 x0 x1) (w127 x0 x1) = (w224 x0 x1) := rfl
theorem e_pay69 (x0 : A0) (x1 : A1) : k0_pay69 (F := Ideal) (w77 x0 x1) (w87 x0 x1) (w97 x0 x1) (w107 x0 x1) (w117 x0 x1) (w124 x0 x1) (w125 x0 x1) (w126 x0 x1) (w127 x0 x1) (w128 x0 x1) = (w234 x0 x1) := rfl
theorem e_pay70 (x0 : A0) (x1 : A1) : k0_pay70 (F := Ideal) (w77 x0 x1) (w87 x0 x1) (w97 x0 x1) (w107 x0 x1) (w117 x0 x1) (w124 x0 x1) (w125 x0 x1) (w126 x0 x1) (w127 x0 x1) (w128 x0 x1) (w150 x0 x1) = (matmul dot_S64x68_S68x2048_S64x2048_1_0_0_1_n_n (some .fp32) (w150 x0 x1) (w226 x0 x1) (constant S64x2048 .f32 0x00000000#32)) := rfl
theorem e_pay71 (x0 : A0) (x1 : A1) : k0_pay71 (F := Ideal) (w176 x0 x1) (w234 x0 x1) (matmul dot_S64x68_S68x2048_S64x2048_1_0_0_1_n_n (some .fp32) (w150 x0 x1) (w226 x0 x1) (constant S64x2048 .f32 0x00000000#32)) (constant S64x2048 .f32 0x00000000#32) = (w237 x0 x1) := rfl
theorem e_pay72 (x0 : A0) (x1 : A1) : k0_pay72 (w130 x0 x1) = (w238 x0 x1) := rfl
theorem e_pay73 (x0 : A0) (x1 : A1) : k0_pay73 (F := Ideal) (w79 x0 x1) (w89 x0 x1) (w99 x0 x1) (w109 x0 x1) (w119 x0 x1) (w124 x0 x1) (w125 x0 x1) (w126 x0 x1) (w127 x0 x1) (w128 x0 x1) (w150 x0 x1) (w176 x0 x1) = (w268 x0 x1) := rfl
theorem e_pay74 (x0 : A0) (x1 : A1) : k0_pay74 (w131 x0 x1) = (w269 x0 x1) := rfl
theorem e_pay75 (x0 : A0) (x1 : A1) : k0_pay75 (F := Ideal) (w101 x0 x1) (w126 x0 x1) = (w278 x0 x1) := rfl
theorem e_pay76 (x0 : A0) (x1 : A1) : k0_pay76 (F := Ideal) (w81 x0 x1) (w121 x0 x1) (w124 x0 x1) (w128 x0 x1) = (w285 x0 x1) := rfl
theorem e_pay77 (x0 : A0) (x1 : A1) : k0_pay77 (F := Ideal) (w91 x0 x1) (w111 x0 x1) (w125 x0 x1) (w127 x0 x1) = (w286 x0 x1) := rfl
theorem e_pay78 (x0 : A0) (x1 : A1) : k0_pay78 (F := Ideal) (w81 x0 x1) (w91 x0 x1) (w101 x0 x1) (w111 x0 x1) (w121 x0 x1) (w124 x0 x1) (w125 x0 x1) (w126 x0 x1) (w127 x0 x1) (w128 x0 x1) = (w288 x0 x1) := rfl
theorem e_pay79 (x0 : A0) (x1 : A1) : k0_pay79 (F := Ideal) = (broadcast S68x2048 ((Scalar.ofBits .f32 0x3D5F2F87#32 : Ideal .f32))) := rfl
theorem e_pay80 (x0 : A0) (x1 : A1) : k0_pay80 (F := Ideal) (w150 x0 x1) (w176 x0 x1) (w278 x0 x1) (w285 x0 x1) (w286 x0 x1) (w288 x0 x1) (broadcast S68x2048 ((Scalar.ofBits .f32 0x3D5F2F87#32 : Ideal .f32))) = (w299 x0 x1) := rfl
theorem e_pay81 (x0 : A0) (x1 : A1) : k0_pay81 (w132 x0 x1) = (w300 x0 x1) := rfl
theorem e_pay82 (x0 : A0) (x1 : A1) : k0_pay82 (F := Ideal) (w83 x0 x1) (w93 x0 x1) (w103 x0 x1) (w113 x0 x1) (w123 x0 x1) (w124 x0 x1) (w125 x0 x1) (w126 x0 x1) (w127 x0 x1) (w128 x0 x1) (w150 x0 x1) (w176 x0 x1) = (w330 x0 x1) := rfl
theorem e_pay83 (x0 : A0) (x1 : A1) : k0_pay83 (w133 x0 x1) = (w331 x0 x1) := rfl
theorem e_pay84 (x0 : A0) (x1 : A1) : k0_pay84 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w206 x0 x1) (w207 x0 x1) = (w336 x0 x1) := rfl
theorem e_pay85 (x0 : A0) (x1 : A1) : k0_pay85 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w206 x0 x1) (w207 x0 x1) = (w337 x0 x1) := rfl
theorem e_pay86 (x0 : A0) (x1 : A1) : k0_pay86 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w206 x0 x1) (w207 x0 x1) = (w338 x0 x1) := rfl
theorem e_pay87 (x0 : A0) (x1 : A1) : k0_pay87 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w206 x0 x1) (w207 x0 x1) = (w339 x0 x1) := rfl
theorem e_pay88 (x0 : A0) (x1 : A1) : k0_pay88 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w206 x0 x1) (w207 x0 x1) = (w340 x0 x1) := rfl
theorem e_pay89 (x0 : A0) (x1 : A1) : k0_pay89 (F := Ideal) (w237 x0 x1) (w238 x0 x1) (w339 x0 x1) (w340 x0 x1) = (w345 x0 x1) := rfl
theorem e_pay90 (x0 : A0) (x1 : A1) : k0_pay90 (F := Ideal) (w237 x0 x1) (w238 x0 x1) (w339 x0 x1) (w340 x0 x1) = (w346 x0 x1) := rfl
theorem e_pay91 (x0 : A0) (x1 : A1) : k0_pay91 (F := Ideal) (w237 x0 x1) (w238 x0 x1) (w339 x0 x1) (w340 x0 x1) = (w347 x0 x1) := rfl
theorem e_pay92 (x0 : A0) (x1 : A1) : k0_pay92 (F := Ideal) (w237 x0 x1) (w238 x0 x1) (w339 x0 x1) (w340 x0 x1) = (w348 x0 x1) := rfl
theorem e_pay93 (x0 : A0) (x1 : A1) : k0_pay93 (F := Ideal) (w237 x0 x1) (w238 x0 x1) (w339 x0 x1) (w340 x0 x1) = (w349 x0 x1) := rfl
theorem e_pay94 (x0 : A0) (x1 : A1) : k0_pay94 (F := Ideal) (w237 x0 x1) (w238 x0 x1) (w268 x0 x1) (w269 x0 x1) (w339 x0 x1) (w340 x0 x1) = (w354 x0 x1) := rfl
theorem e_pay95 (x0 : A0) (x1 : A1) : k0_pay95 (F := Ideal) (w237 x0 x1) (w238 x0 x1) (w268 x0 x1) (w269 x0 x1) (w339 x0 x1) (w340 x0 x1) = (w355 x0 x1) := rfl
theorem e_pay96 (x0 : A0) (x1 : A1) : k0_pay96 (F := Ideal) (w237 x0 x1) (w238 x0 x1) (w268 x0 x1) (w269 x0 x1) (w339 x0 x1) (w340 x0 x1) = (w356 x0 x1) := rfl
theorem e_pay97 (x0 : A0) (x1 : A1) : k0_pay97 (F := Ideal) (w237 x0 x1) (w238 x0 x1) (w268 x0 x1) (w269 x0 x1) (w339 x0 x1) (w340 x0 x1) = (w357 x0 x1) := rfl
theorem e_pay98 (x0 : A0) (x1 : A1) : k0_pay98 (F := Ideal) (w237 x0 x1) (w238 x0 x1) (w268 x0 x1) (w269 x0 x1) (w339 x0 x1) (w340 x0 x1) = (w358 x0 x1) := rfl
theorem e_pay99 (x0 : A0) (x1 : A1) : k0_pay99 (F := Ideal) (w237 x0 x1) (w238 x0 x1) (w268 x0 x1) (w269 x0 x1) (w299 x0 x1) (w300 x0 x1) (w339 x0 x1) (w340 x0 x1) = (w363 x0 x1) := rfl
theorem e_pay100 (x0 : A0) (x1 : A1) : k0_pay100 (F := Ideal) (w237 x0 x1) (w238 x0 x1) (w268 x0 x1) (w269 x0 x1) (w299 x0 x1) (w300 x0 x1) (w339 x0 x1) (w340 x0 x1) = (w364 x0 x1) := rfl
theorem e_pay101 (x0 : A0) (x1 : A1) : k0_pay101 (F := Ideal) (w237 x0 x1) (w238 x0 x1) (w268 x0 x1) (w269 x0 x1) (w299 x0 x1) (w300 x0 x1) (w339 x0 x1) (w340 x0 x1) = (w365 x0 x1) := rfl
theorem e_pay102 (x0 : A0) (x1 : A1) : k0_pay102 (F := Ideal) (w75 x0 x1) (w85 x0 x1) (w95 x0 x1) (w105 x0 x1) (w115 x0 x1) (w124 x0 x1) (w125 x0 x1) (w126 x0 x1) (w127 x0 x1) (w128 x0 x1) (w150 x0 x1) (w176 x0 x1) = (w395 x0 x1) := rfl
theorem e_pay103 (x0 : A0) (x1 : A1) : k0_pay103 (w129 x0 x1) = (w396 x0 x1) := rfl
theorem e_pay104 (x0 : A0) (x1 : A1) : k0_pay104 (F := Ideal) (w129 x0 x1) (w337 x0 x1) (w338 x0 x1) (w395 x0 x1) = (w401 x0 x1) := rfl
theorem e_pay105 (x0 : A0) (x1 : A1) : k0_pay105 (F := Ideal) (w129 x0 x1) (w337 x0 x1) (w338 x0 x1) (w395 x0 x1) = (w402 x0 x1) := rfl
theorem e_pay106 (x0 : A0) (x1 : A1) : k0_pay106 (F := Ideal) (w129 x0 x1) (w337 x0 x1) (w338 x0 x1) (w395 x0 x1) = (w403 x0 x1) := rfl
theorem e_pay107 (x0 : A0) (x1 : A1) : k0_pay107 (F := Ideal) (w129 x0 x1) (w337 x0 x1) (w338 x0 x1) (w395 x0 x1) = (w404 x0 x1) := rfl
theorem e_pay108 (x0 : A0) (x1 : A1) : k0_pay108 (F := Ideal) (w129 x0 x1) (w337 x0 x1) (w338 x0 x1) (w395 x0 x1) = (w405 x0 x1) := rfl
theorem e_pay109 (x0 : A0) (x1 : A1) : k0_pay109 (F := Ideal) (w129 x0 x1) (w337 x0 x1) (w338 x0 x1) (w346 x0 x1) (w347 x0 x1) (w395 x0 x1) = (w410 x0 x1) := rfl
theorem e_pay110 (x0 : A0) (x1 : A1) : k0_pay110 (F := Ideal) (w129 x0 x1) (w337 x0 x1) (w338 x0 x1) (w346 x0 x1) (w347 x0 x1) (w395 x0 x1) = (w411 x0 x1) := rfl
theorem e_pay111 (x0 : A0) (x1 : A1) : k0_pay111 (F := Ideal) (w129 x0 x1) (w337 x0 x1) (w338 x0 x1) (w346 x0 x1) (w347 x0 x1) (w395 x0 x1) = (w412 x0 x1) := rfl
theorem e_pay112 (x0 : A0) (x1 : A1) : k0_pay112 (F := Ideal) (w129 x0 x1) (w337 x0 x1) (w338 x0 x1) (w346 x0 x1) (w347 x0 x1) (w395 x0 x1) = (w413 x0 x1) := rfl
theorem e_pay113 (x0 : A0) (x1 : A1) : k0_pay113 (F := Ideal) (w129 x0 x1) (w337 x0 x1) (w338 x0 x1) (w346 x0 x1) (w347 x0 x1) (w395 x0 x1) = (w414 x0 x1) := rfl
theorem e_pay114 (x0 : A0) (x1 : A1) : k0_pay114 (F := Ideal) (w129 x0 x1) (w337 x0 x1) (w338 x0 x1) (w346 x0 x1) (w347 x0 x1) (w355 x0 x1) (w356 x0 x1) (w395 x0 x1) = (w419 x0 x1) := rfl
theorem e_pay115 (x0 : A0) (x1 : A1) : k0_pay115 (F := Ideal) (w129 x0 x1) (w337 x0 x1) (w338 x0 x1) (w346 x0 x1) (w347 x0 x1) (w355 x0 x1) (w356 x0 x1) (w395 x0 x1) = (w420 x0 x1) := rfl
theorem e_pay116 (x0 : A0) (x1 : A1) : k0_pay116 (F := Ideal) (w129 x0 x1) (w337 x0 x1) (w338 x0 x1) (w346 x0 x1) (w347 x0 x1) (w355 x0 x1) (w356 x0 x1) (w395 x0 x1) = (w421 x0 x1) := rfl
theorem e_pay117 (x0 : A0) (x1 : A1) : k0_pay117 (F := Ideal) (w129 x0 x1) (w337 x0 x1) (w338 x0 x1) (w346 x0 x1) (w347 x0 x1) (w355 x0 x1) (w356 x0 x1) (w395 x0 x1) = (w422 x0 x1) := rfl
theorem e_pay118 (x0 : A0) (x1 : A1) : k0_pay118 (F := Ideal) (w129 x0 x1) (w337 x0 x1) (w338 x0 x1) (w346 x0 x1) (w347 x0 x1) (w355 x0 x1) (w356 x0 x1) (w395 x0 x1) = (w423 x0 x1) := rfl
theorem e_pay119 (x0 : A0) (x1 : A1) : k0_pay119 (F := Ideal) (w129 x0 x1) (w337 x0 x1) (w338 x0 x1) (w346 x0 x1) (w347 x0 x1) (w355 x0 x1) (w356 x0 x1) (w364 x0 x1) (w365 x0 x1) (w395 x0 x1) = (w428 x0 x1) := rfl
theorem e_pay120 (x0 : A0) (x1 : A1) : k0_pay120 (F := Ideal) (w129 x0 x1) (w337 x0 x1) (w338 x0 x1) (w346 x0 x1) (w347 x0 x1) (w355 x0 x1) (w356 x0 x1) (w364 x0 x1) (w365 x0 x1) (w395 x0 x1) = (w429 x0 x1) := rfl
theorem e_pay121 (x0 : A0) (x1 : A1) : k0_pay121 (F := Ideal) (w129 x0 x1) (w337 x0 x1) (w338 x0 x1) (w346 x0 x1) (w347 x0 x1) (w355 x0 x1) (w356 x0 x1) (w364 x0 x1) (w365 x0 x1) (w395 x0 x1) = (w430 x0 x1) := rfl
theorem e_pay122 (x0 : A0) (x1 : A1) : k0_pay122 (F := Ideal) (w97 x0 x1) (w126 x0 x1) = (w439 x0 x1) := rfl
theorem e_pay123 (x0 : A0) (x1 : A1) : k0_pay123 (F := Ideal) (w77 x0 x1) (w117 x0 x1) (w124 x0 x1) (w128 x0 x1) = (w446 x0 x1) := rfl
theorem e_pay124 (x0 : A0) (x1 : A1) : k0_pay124 (F := Ideal) (w87 x0 x1) (w107 x0 x1) (w125 x0 x1) (w127 x0 x1) = (w447 x0 x1) := rfl
theorem e_pay125 (x0 : A0) (x1 : A1) : k0_pay125 (F := Ideal) (w77 x0 x1) (w87 x0 x1) (w97 x0 x1) (w107 x0 x1) (w117 x0 x1) (w124 x0 x1) (w125 x0 x1) (w126 x0 x1) (w127 x0 x1) (w128 x0 x1) = (w449 x0 x1) := rfl
theorem e_pay126 (x0 : A0) (x1 : A1) : k0_pay126 (F := Ideal) (w77 x0 x1) (w117 x0 x1) (w124 x0 x1) (w128 x0 x1) = (mulf (broadcast S68x2048 ((Scalar.ofBits .f32 0x3D5F2F87#32 : Ideal .f32))) (w446 x0 x1)) := rfl
theorem e_pay127 (x0 : A0) (x1 : A1) : k0_pay127 (F := Ideal) (w87 x0 x1) (w107 x0 x1) (w125 x0 x1) (w127 x0 x1) = (mulf (broadcast S68x2048 ((Scalar.ofBits .f32 0x3E7A0FEB#32 : Ideal .f32))) (w447 x0 x1)) := rfl
theorem e_pay128 (x0 : A0) (x1 : A1) : k0_pay128 (F := Ideal) (w150 x0 x1) (w176 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w460 x0 x1) := rfl
theorem e_pay129 (x0 : A0) (x1 : A1) : k0_pay129 (w130 x0 x1) = (w461 x0 x1) := rfl
theorem e_pay130 (x0 : A0) (x1 : A1) : k0_pay130 (F := Ideal) (w130 x0 x1) (w150 x0 x1) (w176 x0 x1) (w402 x0 x1) (w403 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w466 x0 x1) := rfl
theorem e_pay131 (x0 : A0) (x1 : A1) : k0_pay131 (F := Ideal) (w130 x0 x1) (w150 x0 x1) (w176 x0 x1) (w402 x0 x1) (w403 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w467 x0 x1) := rfl
theorem e_pay132 (x0 : A0) (x1 : A1) : k0_pay132 (F := Ideal) (w130 x0 x1) (w150 x0 x1) (w176 x0 x1) (w402 x0 x1) (w403 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w468 x0 x1) := rfl
theorem e_pay133 (x0 : A0) (x1 : A1) : k0_pay133 (F := Ideal) (w130 x0 x1) (w150 x0 x1) (w176 x0 x1) (w402 x0 x1) (w403 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w469 x0 x1) := rfl
theorem e_pay134 (x0 : A0) (x1 : A1) : k0_pay134 (F := Ideal) (w130 x0 x1) (w150 x0 x1) (w176 x0 x1) (w402 x0 x1) (w403 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w470 x0 x1) := rfl
theorem e_pay135 (x0 : A0) (x1 : A1) : k0_pay135 (F := Ideal) (w130 x0 x1) (w150 x0 x1) (w176 x0 x1) (w402 x0 x1) (w403 x0 x1) (w411 x0 x1) (w412 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w475 x0 x1) := rfl
theorem e_pay136 (x0 : A0) (x1 : A1) : k0_pay136 (F := Ideal) (w130 x0 x1) (w150 x0 x1) (w176 x0 x1) (w402 x0 x1) (w403 x0 x1) (w411 x0 x1) (w412 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w476 x0 x1) := rfl
theorem e_pay137 (x0 : A0) (x1 : A1) : k0_pay137 (F := Ideal) (w130 x0 x1) (w150 x0 x1) (w176 x0 x1) (w402 x0 x1) (w403 x0 x1) (w411 x0 x1) (w412 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w477 x0 x1) := rfl
theorem e_pay138 (x0 : A0) (x1 : A1) : k0_pay138 (F := Ideal) (w130 x0 x1) (w150 x0 x1) (w176 x0 x1) (w402 x0 x1) (w403 x0 x1) (w411 x0 x1) (w412 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w478 x0 x1) := rfl
theorem e_pay139 (x0 : A0) (x1 : A1) : k0_pay139 (F := Ideal) (w130 x0 x1) (w150 x0 x1) (w176 x0 x1) (w402 x0 x1) (w403 x0 x1) (w411 x0 x1) (w412 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w479 x0 x1) := rfl
theorem e_pay140 (x0 : A0) (x1 : A1) : k0_pay140 (F := Ideal) (w130 x0 x1) (w150 x0 x1) (w176 x0 x1) (w402 x0 x1) (w403 x0 x1) (w411 x0 x1) (w412 x0 x1) (w420 x0 x1) (w421 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w484 x0 x1) := rfl
theorem e_pay141 (x0 : A0) (x1 : A1) : k0_pay141 (F := Ideal) (w130 x0 x1) (w150 x0 x1) (w176 x0 x1) (w402 x0 x1) (w403 x0 x1) (w411 x0 x1) (w412 x0 x1) (w420 x0 x1) (w421 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w485 x0 x1) := rfl
theorem e_pay142 (x0 : A0) (x1 : A1) : k0_pay142 (F := Ideal) (w130 x0 x1) (w150 x0 x1) (w176 x0 x1) (w402 x0 x1) (w403 x0 x1) (w411 x0 x1) (w412 x0 x1) (w420 x0 x1) (w421 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w486 x0 x1) := rfl
theorem e_pay143 (x0 : A0) (x1 : A1) : k0_pay143 (F := Ideal) (w130 x0 x1) (w150 x0 x1) (w176 x0 x1) (w402 x0 x1) (w403 x0 x1) (w411 x0 x1) (w412 x0 x1) (w420 x0 x1) (w421 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w487 x0 x1) := rfl
theorem e_pay144 (x0 : A0) (x1 : A1) : k0_pay144 (F := Ideal) (w130 x0 x1) (w150 x0 x1) (w176 x0 x1) (w402 x0 x1) (w403 x0 x1) (w411 x0 x1) (w412 x0 x1) (w420 x0 x1) (w421 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w488 x0 x1) := rfl
theorem e_pay145 (x0 : A0) (x1 : A1) : k0_pay145 (F := Ideal) (w130 x0 x1) (w150 x0 x1) (w176 x0 x1) (w402 x0 x1) (w403 x0 x1) (w411 x0 x1) (w412 x0 x1) (w420 x0 x1) (w421 x0 x1) (w429 x0 x1) (w430 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w493 x0 x1) := rfl
theorem e_pay146 (x0 : A0) (x1 : A1) : k0_pay146 (F := Ideal) (w130 x0 x1) (w150 x0 x1) (w176 x0 x1) (w402 x0 x1) (w403 x0 x1) (w411 x0 x1) (w412 x0 x1) (w420 x0 x1) (w421 x0 x1) (w429 x0 x1) (w430 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w494 x0 x1) := rfl
theorem e_pay147 (x0 : A0) (x1 : A1) : k0_pay147 (F := Ideal) (w130 x0 x1) (w150 x0 x1) (w176 x0 x1) (w402 x0 x1) (w403 x0 x1) (w411 x0 x1) (w412 x0 x1) (w420 x0 x1) (w421 x0 x1) (w429 x0 x1) (w430 x0 x1) (w439 x0 x1) (w449 x0 x1) (mulf (broadcast S68x2048 ((Scalar.ofBits .f32 0x3D5F2F87#32 : Ideal .f32))) (w446 x0 x1)) (mulf (broadcast S68x2048 ((Scalar.ofBits .f32 0x3E7A0FEB#32 : Ideal .f32))) (w447 x0 x1)) = (w495 x0 x1) := rfl
theorem e_pay148 (x0 : A0) (x1 : A1) : k0_pay148 (F := Ideal) (w79 x0 x1) (w124 x0 x1) = (w498 x0 x1) := rfl
theorem e_pay149 (x0 : A0) (x1 : A1) : k0_pay149 (F := Ideal) (w89 x0 x1) (w125 x0 x1) = (w501 x0 x1) := rfl
theorem e_pay150 (x0 : A0) (x1 : A1) : k0_pay150 (F := Ideal) (w99 x0 x1) (w126 x0 x1) = (w504 x0 x1) := rfl
theorem e_pay151 (x0 : A0) (x1 : A1) : k0_pay151 (F := Ideal) (w109 x0 x1) (w127 x0 x1) = (w507 x0 x1) := rfl
theorem e_pay152 (x0 : A0) (x1 : A1) : k0_pay152 (F := Ideal) (w119 x0 x1) (w128 x0 x1) = (w510 x0 x1) := rfl
theorem e_pay153 (x0 : A0) (x1 : A1) : k0_pay153 (F := Ideal) (w150 x0 x1) (w176 x0 x1) (w498 x0 x1) (w501 x0 x1) (w504 x0 x1) (w507 x0 x1) (w510 x0 x1) = (w525 x0 x1) := rfl
theorem e_pay154 (x0 : A0) (x1 : A1) : k0_pay154 (w131 x0 x1) = (w526 x0 x1) := rfl
theorem e_pay155 (x0 : A0) (x1 : A1) : k0_pay155 (F := Ideal) (w131 x0 x1) (w150 x0 x1) (w176 x0 x1) (w467 x0 x1) (w468 x0 x1) (w498 x0 x1) (w501 x0 x1) (w504 x0 x1) (w507 x0 x1) (w510 x0 x1) = (w531 x0 x1) := rfl
theorem e_pay156 (x0 : A0) (x1 : A1) : k0_pay156 (F := Ideal) (w131 x0 x1) (w150 x0 x1) (w176 x0 x1) (w467 x0 x1) (w468 x0 x1) (w498 x0 x1) (w501 x0 x1) (w504 x0 x1) (w507 x0 x1) (w510 x0 x1) = (w532 x0 x1) := rfl
theorem e_pay157 (x0 : A0) (x1 : A1) : k0_pay157 (F := Ideal) (w131 x0 x1) (w150 x0 x1) (w176 x0 x1) (w467 x0 x1) (w468 x0 x1) (w498 x0 x1) (w501 x0 x1) (w504 x0 x1) (w507 x0 x1) (w510 x0 x1) = (w533 x0 x1) := rfl
theorem e_pay158 (x0 : A0) (x1 : A1) : k0_pay158 (F := Ideal) (w131 x0 x1) (w150 x0 x1) (w176 x0 x1) (w467 x0 x1) (w468 x0 x1) (w498 x0 x1) (w501 x0 x1) (w504 x0 x1) (w507 x0 x1) (w510 x0 x1) = (w534 x0 x1) := rfl
theorem e_pay159 (x0 : A0) (x1 : A1) : k0_pay159 (F := Ideal) (w131 x0 x1) (w150 x0 x1) (w176 x0 x1) (w467 x0 x1) (w468 x0 x1) (w498 x0 x1) (w501 x0 x1) (w504 x0 x1) (w507 x0 x1) (w510 x0 x1) = (w535 x0 x1) := rfl
theorem e_pay160 (x0 : A0) (x1 : A1) : k0_pay160 (F := Ideal) (w131 x0 x1) (w150 x0 x1) (w176 x0 x1) (w467 x0 x1) (w468 x0 x1) (w476 x0 x1) (w477 x0 x1) (w498 x0 x1) (w501 x0 x1) (w504 x0 x1) (w507 x0 x1) (w510 x0 x1) = (w540 x0 x1) := rfl
theorem e_pay161 (x0 : A0) (x1 : A1) : k0_pay161 (F := Ideal) (w131 x0 x1) (w150 x0 x1) (w176 x0 x1) (w467 x0 x1) (w468 x0 x1) (w476 x0 x1) (w477 x0 x1) (w498 x0 x1) (w501 x0 x1) (w504 x0 x1) (w507 x0 x1) (w510 x0 x1) = (w541 x0 x1) := rfl
theorem e_pay162 (x0 : A0) (x1 : A1) : k0_pay162 (F := Ideal) (w131 x0 x1) (w150 x0 x1) (w176 x0 x1) (w467 x0 x1) (w468 x0 x1) (w476 x0 x1) (w477 x0 x1) (w498 x0 x1) (w501 x0 x1) (w504 x0 x1) (w507 x0 x1) (w510 x0 x1) = (w542 x0 x1) := rfl
theorem e_pay163 (x0 : A0) (x1 : A1) : k0_pay163 (F := Ideal) (w131 x0 x1) (w150 x0 x1) (w176 x0 x1) (w467 x0 x1) (w468 x0 x1) (w476 x0 x1) (w477 x0 x1) (w498 x0 x1) (w501 x0 x1) (w504 x0 x1) (w507 x0 x1) (w510 x0 x1) = (w543 x0 x1) := rfl
theorem e_pay164 (x0 : A0) (x1 : A1) : k0_pay164 (F := Ideal) (w131 x0 x1) (w150 x0 x1) (w176 x0 x1) (w467 x0 x1) (w468 x0 x1) (w476 x0 x1) (w477 x0 x1) (w498 x0 x1) (w501 x0 x1) (w504 x0 x1) (w507 x0 x1) (w510 x0 x1) = (w544 x0 x1) := rfl
theorem e_pay165 (x0 : A0) (x1 : A1) : k0_pay165 (F := Ideal) (w131 x0 x1) (w150 x0 x1) (w176 x0 x1) (w467 x0 x1) (w468 x0 x1) (w476 x0 x1) (w477 x0 x1) (w485 x0 x1) (w486 x0 x1) (w498 x0 x1) (w501 x0 x1) (w504 x0 x1) (w507 x0 x1) (w510 x0 x1) = (w549 x0 x1) := rfl
theorem e_pay166 (x0 : A0) (x1 : A1) : k0_pay166 (F := Ideal) (w131 x0 x1) (w150 x0 x1) (w176 x0 x1) (w467 x0 x1) (w468 x0 x1) (w476 x0 x1) (w477 x0 x1) (w485 x0 x1) (w486 x0 x1) (w498 x0 x1) (w501 x0 x1) (w504 x0 x1) (w507 x0 x1) (w510 x0 x1) = (w550 x0 x1) := rfl
theorem e_pay167 (x0 : A0) (x1 : A1) : k0_pay167 (F := Ideal) (w131 x0 x1) (w150 x0 x1) (w176 x0 x1) (w467 x0 x1) (w468 x0 x1) (w476 x0 x1) (w477 x0 x1) (w485 x0 x1) (w486 x0 x1) (w498 x0 x1) (w501 x0 x1) (w504 x0 x1) (w507 x0 x1) (w510 x0 x1) = (w551 x0 x1) := rfl
theorem e_pay168 (x0 : A0) (x1 : A1) : k0_pay168 (F := Ideal) (w131 x0 x1) (w150 x0 x1) (w176 x0 x1) (w467 x0 x1) (w468 x0 x1) (w476 x0 x1) (w477 x0 x1) (w485 x0 x1) (w486 x0 x1) (w498 x0 x1) (w501 x0 x1) (w504 x0 x1) (w507 x0 x1) (w510 x0 x1) = (w552 x0 x1) := rfl
theorem e_pay169 (x0 : A0) (x1 : A1) : k0_pay169 (F := Ideal) (w131 x0 x1) (w150 x0 x1) (w176 x0 x1) (w467 x0 x1) (w468 x0 x1) (w476 x0 x1) (w477 x0 x1) (w485 x0 x1) (w486 x0 x1) (w498 x0 x1) (w501 x0 x1) (w504 x0 x1) (w507 x0 x1) (w510 x0 x1) = (w553 x0 x1) := rfl
theorem e_pay170 (x0 : A0) (x1 : A1) : k0_pay170 (F := Ideal) (w131 x0 x1) (w150 x0 x1) (w176 x0 x1) (w467 x0 x1) (w468 x0 x1) (w476 x0 x1) (w477 x0 x1) (w485 x0 x1) (w486 x0 x1) (w494 x0 x1) (w495 x0 x1) (w498 x0 x1) (w501 x0 x1) (w504 x0 x1) (w507 x0 x1) (w510 x0 x1) = (w558 x0 x1) := rfl
theorem e_pay171 (x0 : A0) (x1 : A1) : k0_pay171 (F := Ideal) (w131 x0 x1) (w150 x0 x1) (w176 x0 x1) (w467 x0 x1) (w468 x0 x1) (w476 x0 x1) (w477 x0 x1) (w485 x0 x1) (w486 x0 x1) (w494 x0 x1) (w495 x0 x1) (w498 x0 x1) (w501 x0 x1) (w504 x0 x1) (w507 x0 x1) (w510 x0 x1) = (w559 x0 x1) := rfl
theorem e_pay172 (x0 : A0) (x1 : A1) : k0_pay172 (F := Ideal) (w131 x0 x1) (w150 x0 x1) (w176 x0 x1) (w467 x0 x1) (w468 x0 x1) (w476 x0 x1) (w477 x0 x1) (w485 x0 x1) (w486 x0 x1) (w494 x0 x1) (w495 x0 x1) (w498 x0 x1) (w501 x0 x1) (w504 x0 x1) (w507 x0 x1) (w510 x0 x1) = (w560 x0 x1) := rfl
theorem e_pay173 (x0 : A0) (x1 : A1) : k0_pay173 (F := Ideal) (w81 x0 x1) (w124 x0 x1) = (w563 x0 x1) := rfl
theorem e_pay174 (x0 : A0) (x1 : A1) : k0_pay174 (F := Ideal) (w91 x0 x1) (w125 x0 x1) = (subf (extractStridedSlice S68x2048 ![1, 0] (w91 x0 x1) slices_S72x2048_o1_0_S68x2048) (w125 x0 x1)) := rfl
theorem e_pay175 (x0 : A0) (x1 : A1) : k0_pay175 (F := Ideal) (w101 x0 x1) (w111 x0 x1) (w121 x0 x1) (w126 x0 x1) (w127 x0 x1) (w128 x0 x1) (w150 x0 x1) (w176 x0 x1) (w563 x0 x1) (subf (extractStridedSlice S68x2048 ![1, 0] (w91 x0 x1) slices_S72x2048_o1_0_S68x2048) (w125 x0 x1)) = (w590 x0 x1) := rfl
theorem e_pay176 (x0 : A0) (x1 : A1) : k0_pay176 (w132 x0 x1) = (w591 x0 x1) := rfl
theorem e_pay177 (x0 : A0) (x1 : A1) : k0_pay177 (F := Ideal) (w101 x0 x1) (w111 x0 x1) (w121 x0 x1) (w126 x0 x1) (w127 x0 x1) (w128 x0 x1) (w132 x0 x1) (w150 x0 x1) (w176 x0 x1) (w532 x0 x1) (w533 x0 x1) (w563 x0 x1) (subf (extractStridedSlice S68x2048 ![1, 0] (w91 x0 x1) slices_S72x2048_o1_0_S68x2048) (w125 x0 x1)) = (w596 x0 x1) := rfl
theorem e_pay178 (x0 : A0) (x1 : A1) : k0_pay178 (F := Ideal) (w101 x0 x1) (w111 x0 x1) (w121 x0 x1) (w126 x0 x1) (w127 x0 x1) (w128 x0 x1) (w132 x0 x1) (w150 x0 x1) (w176 x0 x1) (w532 x0 x1) (w533 x0 x1) (w563 x0 x1) (subf (extractStridedSlice S68x2048 ![1, 0] (w91 x0 x1) slices_S72x2048_o1_0_S68x2048) (w125 x0 x1)) = (w597 x0 x1) := rfl
theorem e_pay179 (x0 : A0) (x1 : A1) : k0_pay179 (F := Ideal) (w101 x0 x1) (w111 x0 x1) (w121 x0 x1) (w126 x0 x1) (w127 x0 x1) (w128 x0 x1) (w132 x0 x1) (w150 x0 x1) (w176 x0 x1) (w532 x0 x1) (w533 x0 x1) (w563 x0 x1) (subf (extractStridedSlice S68x2048 ![1, 0] (w91 x0 x1) slices_S72x2048_o1_0_S68x2048) (w125 x0 x1)) = (w598 x0 x1) := rfl
theorem e_pay180 (x0 : A0) (x1 : A1) : k0_pay180 (F := Ideal) (w101 x0 x1) (w111 x0 x1) (w121 x0 x1) (w126 x0 x1) (w127 x0 x1) (w128 x0 x1) (w132 x0 x1) (w150 x0 x1) (w176 x0 x1) (w532 x0 x1) (w533 x0 x1) (w563 x0 x1) (subf (extractStridedSlice S68x2048 ![1, 0] (w91 x0 x1) slices_S72x2048_o1_0_S68x2048) (w125 x0 x1)) = (w599 x0 x1) := rfl
theorem e_pay181 (x0 : A0) (x1 : A1) : k0_pay181 (F := Ideal) (w101 x0 x1) (w111 x0 x1) (w121 x0 x1) (w126 x0 x1) (w127 x0 x1) (w128 x0 x1) (w132 x0 x1) (w150 x0 x1) (w176 x0 x1) (w532 x0 x1) (w533 x0 x1) (w563 x0 x1) (subf (extractStridedSlice S68x2048 ![1, 0] (w91 x0 x1) slices_S72x2048_o1_0_S68x2048) (w125 x0 x1)) = (w600 x0 x1) := rfl
theorem e_pay182 (x0 : A0) (x1 : A1) : k0_pay182 (F := Ideal) (w101 x0 x1) (w111 x0 x1) (w121 x0 x1) (w126 x0 x1) (w127 x0 x1) (w128 x0 x1) (w132 x0 x1) (w150 x0 x1) (w176 x0 x1) (w532 x0 x1) (w533 x0 x1) (w541 x0 x1) (w542 x0 x1) (w563 x0 x1) (subf (extractStridedSlice S68x2048 ![1, 0] (w91 x0 x1) slices_S72x2048_o1_0_S68x2048) (w125 x0 x1)) = (w605 x0 x1) := rfl
theorem e_pay183 (x0 : A0) (x1 : A1) : k0_pay183 (F := Ideal) (w101 x0 x1) (w111 x0 x1) (w121 x0 x1) (w126 x0 x1) (w127 x0 x1) (w128 x0 x1) (w132 x0 x1) (w150 x0 x1) (w176 x0 x1) (w532 x0 x1) (w533 x0 x1) (w541 x0 x1) (w542 x0 x1) (w563 x0 x1) (subf (extractStridedSlice S68x2048 ![1, 0] (w91 x0 x1) slices_S72x2048_o1_0_S68x2048) (w125 x0 x1)) = (w606 x0 x1) := rfl
theorem e_pay184 (x0 : A0) (x1 : A1) : k0_pay184 (F := Ideal) (w101 x0 x1) (w111 x0 x1) (w121 x0 x1) (w126 x0 x1) (w127 x0 x1) (w128 x0 x1) (w132 x0 x1) (w150 x0 x1) (w176 x0 x1) (w532 x0 x1) (w533 x0 x1) (w541 x0 x1) (w542 x0 x1) (w563 x0 x1) (subf (extractStridedSlice S68x2048 ![1, 0] (w91 x0 x1) slices_S72x2048_o1_0_S68x2048) (w125 x0 x1)) = (w607 x0 x1) := rfl
theorem e_pay185 (x0 : A0) (x1 : A1) : k0_pay185 (F := Ideal) (w101 x0 x1) (w111 x0 x1) (w121 x0 x1) (w126 x0 x1) (w127 x0 x1) (w128 x0 x1) (w132 x0 x1) (w150 x0 x1) (w176 x0 x1) (w532 x0 x1) (w533 x0 x1) (w541 x0 x1) (w542 x0 x1) (w563 x0 x1) (subf (extractStridedSlice S68x2048 ![1, 0] (w91 x0 x1) slices_S72x2048_o1_0_S68x2048) (w125 x0 x1)) = (w608 x0 x1) := rfl
theorem e_pay186 (x0 : A0) (x1 : A1) : k0_pay186 (F := Ideal) (w101 x0 x1) (w111 x0 x1) (w121 x0 x1) (w126 x0 x1) (w127 x0 x1) (w128 x0 x1) (w132 x0 x1) (w150 x0 x1) (w176 x0 x1) (w532 x0 x1) (w533 x0 x1) (w541 x0 x1) (w542 x0 x1) (w563 x0 x1) (subf (extractStridedSlice S68x2048 ![1, 0] (w91 x0 x1) slices_S72x2048_o1_0_S68x2048) (w125 x0 x1)) = (w609 x0 x1) := rfl
theorem e_pay187 (x0 : A0) (x1 : A1) : k0_pay187 (F := Ideal) (w101 x0 x1) (w111 x0 x1) (w121 x0 x1) (w126 x0 x1) (w127 x0 x1) (w128 x0 x1) (w132 x0 x1) (w150 x0 x1) (w176 x0 x1) (w532 x0 x1) (w533 x0 x1) (w541 x0 x1) (w542 x0 x1) (w550 x0 x1) (w551 x0 x1) (w563 x0 x1) (subf (extractStridedSlice S68x2048 ![1, 0] (w91 x0 x1) slices_S72x2048_o1_0_S68x2048) (w125 x0 x1)) = (w614 x0 x1) := rfl
theorem e_pay188 (x0 : A0) (x1 : A1) : k0_pay188 (F := Ideal) (w101 x0 x1) (w111 x0 x1) (w121 x0 x1) (w126 x0 x1) (w127 x0 x1) (w128 x0 x1) (w132 x0 x1) (w150 x0 x1) (w176 x0 x1) (w532 x0 x1) (w533 x0 x1) (w541 x0 x1) (w542 x0 x1) (w550 x0 x1) (w551 x0 x1) (w563 x0 x1) (subf (extractStridedSlice S68x2048 ![1, 0] (w91 x0 x1) slices_S72x2048_o1_0_S68x2048) (w125 x0 x1)) = (w615 x0 x1) := rfl
theorem e_pay189 (x0 : A0) (x1 : A1) : k0_pay189 (F := Ideal) (w101 x0 x1) (w111 x0 x1) (w121 x0 x1) (w126 x0 x1) (w127 x0 x1) (w128 x0 x1) (w132 x0 x1) (w150 x0 x1) (w176 x0 x1) (w532 x0 x1) (w533 x0 x1) (w541 x0 x1) (w542 x0 x1) (w550 x0 x1) (w551 x0 x1) (w563 x0 x1) (subf (extractStridedSlice S68x2048 ![1, 0] (w91 x0 x1) slices_S72x2048_o1_0_S68x2048) (w125 x0 x1)) = (w616 x0 x1) := rfl
theorem e_pay190 (x0 : A0) (x1 : A1) : k0_pay190 (F := Ideal) (w101 x0 x1) (w111 x0 x1) (w121 x0 x1) (w126 x0 x1) (w127 x0 x1) (w128 x0 x1) (w132 x0 x1) (w150 x0 x1) (w176 x0 x1) (w532 x0 x1) (w533 x0 x1) (w541 x0 x1) (w542 x0 x1) (w550 x0 x1) (w551 x0 x1) (w563 x0 x1) (subf (extractStridedSlice S68x2048 ![1, 0] (w91 x0 x1) slices_S72x2048_o1_0_S68x2048) (w125 x0 x1)) = (w617 x0 x1) := rfl
theorem e_pay191 (x0 : A0) (x1 : A1) : k0_pay191 (F := Ideal) (w101 x0 x1) (w111 x0 x1) (w121 x0 x1) (w126 x0 x1) (w127 x0 x1) (w128 x0 x1) (w132 x0 x1) (w150 x0 x1) (w176 x0 x1) (w532 x0 x1) (w533 x0 x1) (w541 x0 x1) (w542 x0 x1) (w550 x0 x1) (w551 x0 x1) (w563 x0 x1) (subf (extractStridedSlice S68x2048 ![1, 0] (w91 x0 x1) slices_S72x2048_o1_0_S68x2048) (w125 x0 x1)) = (w618 x0 x1) := rfl
theorem e_pay192 (x0 : A0) (x1 : A1) : k0_pay192 (F := Ideal) (w101 x0 x1) (w111 x0 x1) (w121 x0 x1) (w126 x0 x1) (w127 x0 x1) (w128 x0 x1) (w132 x0 x1) (w150 x0 x1) (w176 x0 x1) (w532 x0 x1) (w533 x0 x1) (w541 x0 x1) (w542 x0 x1) (w550 x0 x1) (w551 x0 x1) (w559 x0 x1) (w563 x0 x1) (subf (extractStridedSlice S68x2048 ![1, 0] (w91 x0 x1) slices_S72x2048_o1_0_S68x2048) (w125 x0 x1)) = (cmpf .olt (w617 x0 x1) (w559 x0 x1)) := rfl
theorem e_pay193 (x0 : A0) (x1 : A1) : k0_pay193 (F := Ideal) (w101 x0 x1) (w111 x0 x1) (w121 x0 x1) (w126 x0 x1) (w127 x0 x1) (w128 x0 x1) (w132 x0 x1) (w150 x0 x1) (w176 x0 x1) (w532 x0 x1) (w533 x0 x1) (w541 x0 x1) (w542 x0 x1) (w550 x0 x1) (w551 x0 x1) (w559 x0 x1) (w563 x0 x1) (subf (extractStridedSlice S68x2048 ![1, 0] (w91 x0 x1) slices_S72x2048_o1_0_S68x2048) (w125 x0 x1)) = (cmpf .oeq (w617 x0 x1) (w559 x0 x1)) := rfl
theorem e_pay194 (x0 : A0) (x1 : A1) : k0_pay194 (w560 x0 x1) (w618 x0 x1) (cmpf .olt (w617 x0 x1) (w559 x0 x1)) (cmpf .oeq (w617 x0 x1) (w559 x0 x1)) = (w623 x0 x1) := rfl
theorem e_pay195 (x0 : A0) (x1 : A1) : k0_pay195 (F := Ideal) (w559 x0 x1) (w560 x0 x1) (w617 x0 x1) (w618 x0 x1) (cmpf .olt (w617 x0 x1) (w559 x0 x1)) (cmpf .oeq (w617 x0 x1) (w559 x0 x1)) = (w624 x0 x1) := rfl
theorem e_pay196 (x0 : A0) (x1 : A1) : k0_pay196 (w560 x0 x1) (w618 x0 x1) (cmpf .olt (w617 x0 x1) (w559 x0 x1)) (cmpf .oeq (w617 x0 x1) (w559 x0 x1)) = (w625 x0 x1) := rfl
theorem e_pay197 (x0 : A0) (x1 : A1) : k0_pay197 (F := Ideal) (w83 x0 x1) (w93 x0 x1) (w103 x0 x1) (w113 x0 x1) (w123 x0 x1) (w124 x0 x1) (w125 x0 x1) (w126 x0 x1) (w127 x0 x1) (w128 x0 x1) (w150 x0 x1) (w176 x0 x1) = (w655 x0 x1) := rfl
theorem e_pay198 (x0 : A0) (x1 : A1) : k0_pay198 (w133 x0 x1) = (w656 x0 x1) := rfl
theorem e_pay199 (x0 : A0) (x1 : A1) : k0_pay199 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w597 x0 x1) (w598 x0 x1) = (w661 x0 x1) := rfl
theorem e_pay200 (x0 : A0) (x1 : A1) : k0_pay200 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w597 x0 x1) (w598 x0 x1) = (w662 x0 x1) := rfl
theorem e_pay201 (x0 : A0) (x1 : A1) : k0_pay201 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w597 x0 x1) (w598 x0 x1) = (w663 x0 x1) := rfl
theorem e_pay202 (x0 : A0) (x1 : A1) : k0_pay202 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w597 x0 x1) (w598 x0 x1) = (w664 x0 x1) := rfl
theorem e_pay203 (x0 : A0) (x1 : A1) : k0_pay203 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w597 x0 x1) (w598 x0 x1) = (w665 x0 x1) := rfl
theorem e_pay204 (x0 : A0) (x1 : A1) : k0_pay204 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w597 x0 x1) (w598 x0 x1) (w606 x0 x1) (w607 x0 x1) = (w670 x0 x1) := rfl
theorem e_pay205 (x0 : A0) (x1 : A1) : k0_pay205 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w597 x0 x1) (w598 x0 x1) (w606 x0 x1) (w607 x0 x1) = (w671 x0 x1) := rfl
theorem e_pay206 (x0 : A0) (x1 : A1) : k0_pay206 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w597 x0 x1) (w598 x0 x1) (w606 x0 x1) (w607 x0 x1) = (w672 x0 x1) := rfl
theorem e_pay207 (x0 : A0) (x1 : A1) : k0_pay207 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w597 x0 x1) (w598 x0 x1) (w606 x0 x1) (w607 x0 x1) = (w673 x0 x1) := rfl
theorem e_pay208 (x0 : A0) (x1 : A1) : k0_pay208 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w597 x0 x1) (w598 x0 x1) (w606 x0 x1) (w607 x0 x1) = (w674 x0 x1) := rfl
theorem e_pay209 (x0 : A0) (x1 : A1) : k0_pay209 (F := Ideal) (w83 x0 x1) (w93 x0 x1) (w103 x0 x1) (w113 x0 x1) (w123 x0 x1) (w124 x0 x1) (w125 x0 x1) (w126 x0 x1) (w127 x0 x1) (w128 x0 x1) (w133 x0 x1) (w150 x0 x1) (w176 x0 x1) (w597 x0 x1) (w598 x0 x1) (w606 x0 x1) (w607 x0 x1) (w615 x0 x1) = (cmpf .olt (w673 x0 x1) (w615 x0 x1)) := rfl
theorem e_pay210 (x0 : A0) (x1 : A1) : k0_pay210 (F := Ideal) (w615 x0 x1) (w616 x0 x1) (w673 x0 x1) (w674 x0 x1) (cmpf .olt (w673 x0 x1) (w615 x0 x1)) = (w679 x0 x1) := rfl
theorem e_pay211 (x0 : A0) (x1 : A1) : k0_pay211 (F := Ideal) (w615 x0 x1) (w616 x0 x1) (w673 x0 x1) (w674 x0 x1) (cmpf .olt (w673 x0 x1) (w615 x0 x1)) = (w680 x0 x1) := rfl
theorem e_pay212 (x0 : A0) (x1 : A1) : k0_pay212 (F := Ideal) (w615 x0 x1) (w616 x0 x1) (w673 x0 x1) (w674 x0 x1) (cmpf .olt (w673 x0 x1) (w615 x0 x1)) = (w681 x0 x1) := rfl
theorem e_pay213 (x0 : A0) (x1 : A1) : k0_pay213 (F := Ideal) (w615 x0 x1) (w616 x0 x1) (w673 x0 x1) (w674 x0 x1) (cmpf .olt (w673 x0 x1) (w615 x0 x1)) = (w682 x0 x1) := rfl
theorem e_pay214 (x0 : A0) (x1 : A1) : k0_pay214 (F := Ideal) (w615 x0 x1) (w616 x0 x1) (w673 x0 x1) (w674 x0 x1) (cmpf .olt (w673 x0 x1) (w615 x0 x1)) = (w683 x0 x1) := rfl
theorem e_pay215 (x0 : A0) (x1 : A1) : k0_pay215 (F := Ideal) (w615 x0 x1) (w616 x0 x1) (w624 x0 x1) (w625 x0 x1) (w673 x0 x1) (w674 x0 x1) (cmpf .olt (w673 x0 x1) (w615 x0 x1)) = (w688 x0 x1) := rfl
theorem e_pay216 (x0 : A0) (x1 : A1) : k0_pay216 (F := Ideal) (w615 x0 x1) (w616 x0 x1) (w624 x0 x1) (w625 x0 x1) (w673 x0 x1) (w674 x0 x1) (cmpf .olt (w673 x0 x1) (w615 x0 x1)) = (w689 x0 x1) := rfl
theorem e_pay217 (x0 : A0) (x1 : A1) : k0_pay217 (F := Ideal) (w615 x0 x1) (w616 x0 x1) (w624 x0 x1) (w625 x0 x1) (w673 x0 x1) (w674 x0 x1) (cmpf .olt (w673 x0 x1) (w615 x0 x1)) = (w690 x0 x1) := rfl
theorem e_pay218 (x0 : A0) (x1 : A1) : k0_pay218 (F := Ideal) (w75 x0 x1) (w85 x0 x1) (w95 x0 x1) (w105 x0 x1) (w115 x0 x1) (w124 x0 x1) (w125 x0 x1) (w126 x0 x1) (w127 x0 x1) (w128 x0 x1) (w150 x0 x1) (w176 x0 x1) = (w720 x0 x1) := rfl
theorem e_pay219 (x0 : A0) (x1 : A1) : k0_pay219 (w129 x0 x1) = (w721 x0 x1) := rfl
theorem e_pay220 (x0 : A0) (x1 : A1) : k0_pay220 (F := Ideal) (w75 x0 x1) (w85 x0 x1) (w95 x0 x1) (w105 x0 x1) (w115 x0 x1) (w124 x0 x1) (w125 x0 x1) (w126 x0 x1) (w127 x0 x1) (w128 x0 x1) (w129 x0 x1) (w150 x0 x1) (w176 x0 x1) (w662 x0 x1) (w663 x0 x1) = (w726 x0 x1) := rfl
theorem e_pay221 (x0 : A0) (x1 : A1) : k0_pay221 (F := Ideal) (w75 x0 x1) (w85 x0 x1) (w95 x0 x1) (w105 x0 x1) (w115 x0 x1) (w124 x0 x1) (w125 x0 x1) (w126 x0 x1) (w127 x0 x1) (w128 x0 x1) (w129 x0 x1) (w150 x0 x1) (w176 x0 x1) (w662 x0 x1) (w663 x0 x1) = (w727 x0 x1) := rfl
theorem e_pay222 (x0 : A0) (x1 : A1) : k0_pay222 (F := Ideal) (w75 x0 x1) (w85 x0 x1) (w95 x0 x1) (w105 x0 x1) (w115 x0 x1) (w124 x0 x1) (w125 x0 x1) (w126 x0 x1) (w127 x0 x1) (w128 x0 x1) (w129 x0 x1) (w150 x0 x1) (w176 x0 x1) (w662 x0 x1) (w663 x0 x1) = (w728 x0 x1) := rfl
theorem e_pay223 (x0 : A0) (x1 : A1) : k0_pay223 (F := Ideal) (w75 x0 x1) (w85 x0 x1) (w95 x0 x1) (w105 x0 x1) (w115 x0 x1) (w124 x0 x1) (w125 x0 x1) (w126 x0 x1) (w127 x0 x1) (w128 x0 x1) (w129 x0 x1) (w150 x0 x1) (w176 x0 x1) (w662 x0 x1) (w663 x0 x1) = (w729 x0 x1) := rfl
theorem e_pay224 (x0 : A0) (x1 : A1) : k0_pay224 (F := Ideal) (w75 x0 x1) (w85 x0 x1) (w95 x0 x1) (w105 x0 x1) (w115 x0 x1) (w124 x0 x1) (w125 x0 x1) (w126 x0 x1) (w127 x0 x1) (w128 x0 x1) (w129 x0 x1) (w150 x0 x1) (w176 x0 x1) (w662 x0 x1) (w663 x0 x1) = (w730 x0 x1) := rfl
theorem e_pay225 (x0 : A0) (x1 : A1) : k0_pay225 (F := Ideal) (w671 x0 x1) (w672 x0 x1) (w729 x0 x1) (w730 x0 x1) = (w735 x0 x1) := rfl
theorem e_pay226 (x0 : A0) (x1 : A1) : k0_pay226 (F := Ideal) (w671 x0 x1) (w672 x0 x1) (w729 x0 x1) (w730 x0 x1) = (w736 x0 x1) := rfl
theorem e_pay227 (x0 : A0) (x1 : A1) : k0_pay227 (F := Ideal) (w671 x0 x1) (w672 x0 x1) (w729 x0 x1) (w730 x0 x1) = (w737 x0 x1) := rfl
theorem e_pay228 (x0 : A0) (x1 : A1) : k0_pay228 (F := Ideal) (w671 x0 x1) (w672 x0 x1) (w729 x0 x1) (w730 x0 x1) = (w738 x0 x1) := rfl
theorem e_pay229 (x0 : A0) (x1 : A1) : k0_pay229 (F := Ideal) (w671 x0 x1) (w672 x0 x1) (w729 x0 x1) (w730 x0 x1) = (w739 x0 x1) := rfl
theorem e_pay230 (x0 : A0) (x1 : A1) : k0_pay230 (F := Ideal) (w671 x0 x1) (w672 x0 x1) (w680 x0 x1) (w681 x0 x1) (w729 x0 x1) (w730 x0 x1) = (w744 x0 x1) := rfl
theorem e_pay231 (x0 : A0) (x1 : A1) : k0_pay231 (F := Ideal) (w671 x0 x1) (w672 x0 x1) (w680 x0 x1) (w681 x0 x1) (w729 x0 x1) (w730 x0 x1) = (w745 x0 x1) := rfl
theorem e_pay232 (x0 : A0) (x1 : A1) : k0_pay232 (F := Ideal) (w671 x0 x1) (w672 x0 x1) (w680 x0 x1) (w681 x0 x1) (w729 x0 x1) (w730 x0 x1) = (w746 x0 x1) := rfl
theorem e_pay233 (x0 : A0) (x1 : A1) : k0_pay233 (F := Ideal) (w671 x0 x1) (w672 x0 x1) (w680 x0 x1) (w681 x0 x1) (w729 x0 x1) (w730 x0 x1) = (w747 x0 x1) := rfl
theorem e_pay234 (x0 : A0) (x1 : A1) : k0_pay234 (F := Ideal) (w671 x0 x1) (w672 x0 x1) (w680 x0 x1) (w681 x0 x1) (w729 x0 x1) (w730 x0 x1) = (w748 x0 x1) := rfl
theorem e_pay235 (x0 : A0) (x1 : A1) : k0_pay235 (F := Ideal) (w671 x0 x1) (w672 x0 x1) (w680 x0 x1) (w681 x0 x1) (w689 x0 x1) (w690 x0 x1) (w729 x0 x1) (w730 x0 x1) = (w753 x0 x1) := rfl
theorem e_pay236 (x0 : A0) (x1 : A1) : k0_pay236 (F := Ideal) (w671 x0 x1) (w672 x0 x1) (w680 x0 x1) (w681 x0 x1) (w689 x0 x1) (w690 x0 x1) (w729 x0 x1) (w730 x0 x1) = (w754 x0 x1) := rfl
theorem e_pay237 (x0 : A0) (x1 : A1) : k0_pay237 (F := Ideal) (w671 x0 x1) (w672 x0 x1) (w680 x0 x1) (w681 x0 x1) (w689 x0 x1) (w690 x0 x1) (w729 x0 x1) (w730 x0 x1) = (w755 x0 x1) := rfl
theorem e_pay238 (x0 : A0) (x1 : A1) : k0_pay238 (F := Ideal) (w77 x0 x1) (w87 x0 x1) (w97 x0 x1) (w107 x0 x1) (w117 x0 x1) (w124 x0 x1) (w125 x0 x1) (w126 x0 x1) (w127 x0 x1) (w128 x0 x1) (w150 x0 x1) (w176 x0 x1) = (w785 x0 x1) := rfl
theorem e_pay239 (x0 : A0) (x1 : A1) : k0_pay239 (w130 x0 x1) = (w786 x0 x1) := rfl
theorem e_pay240 (x0 : A0) (x1 : A1) : k0_pay240 (F := Ideal) (w130 x0 x1) (w727 x0 x1) (w728 x0 x1) (w785 x0 x1) = (w791 x0 x1) := rfl
theorem e_pay241 (x0 : A0) (x1 : A1) : k0_pay241 (F := Ideal) (w130 x0 x1) (w727 x0 x1) (w728 x0 x1) (w785 x0 x1) = (w792 x0 x1) := rfl
theorem e_pay242 (x0 : A0) (x1 : A1) : k0_pay242 (F := Ideal) (w130 x0 x1) (w727 x0 x1) (w728 x0 x1) (w785 x0 x1) = (w793 x0 x1) := rfl
theorem e_pay243 (x0 : A0) (x1 : A1) : k0_pay243 (F := Ideal) (w130 x0 x1) (w727 x0 x1) (w728 x0 x1) (w785 x0 x1) = (w794 x0 x1) := rfl
theorem e_pay244 (x0 : A0) (x1 : A1) : k0_pay244 (F := Ideal) (w130 x0 x1) (w727 x0 x1) (w728 x0 x1) (w785 x0 x1) = (w795 x0 x1) := rfl
theorem e_pay245 (x0 : A0) (x1 : A1) : k0_pay245 (F := Ideal) (w130 x0 x1) (w727 x0 x1) (w728 x0 x1) (w736 x0 x1) (w737 x0 x1) (w785 x0 x1) = (w800 x0 x1) := rfl
theorem e_pay246 (x0 : A0) (x1 : A1) : k0_pay246 (F := Ideal) (w130 x0 x1) (w727 x0 x1) (w728 x0 x1) (w736 x0 x1) (w737 x0 x1) (w785 x0 x1) = (w801 x0 x1) := rfl
theorem e_pay247 (x0 : A0) (x1 : A1) : k0_pay247 (F := Ideal) (w130 x0 x1) (w727 x0 x1) (w728 x0 x1) (w736 x0 x1) (w737 x0 x1) (w785 x0 x1) = (w802 x0 x1) := rfl
theorem e_pay248 (x0 : A0) (x1 : A1) : k0_pay248 (F := Ideal) (w130 x0 x1) (w727 x0 x1) (w728 x0 x1) (w736 x0 x1) (w737 x0 x1) (w785 x0 x1) = (w803 x0 x1) := rfl
theorem e_pay249 (x0 : A0) (x1 : A1) : k0_pay249 (F := Ideal) (w130 x0 x1) (w727 x0 x1) (w728 x0 x1) (w736 x0 x1) (w737 x0 x1) (w785 x0 x1) = (w804 x0 x1) := rfl
theorem e_pay250 (x0 : A0) (x1 : A1) : k0_pay250 (F := Ideal) (w130 x0 x1) (w727 x0 x1) (w728 x0 x1) (w736 x0 x1) (w737 x0 x1) (w745 x0 x1) (w746 x0 x1) (w785 x0 x1) = (w809 x0 x1) := rfl
theorem e_pay251 (x0 : A0) (x1 : A1) : k0_pay251 (F := Ideal) (w130 x0 x1) (w727 x0 x1) (w728 x0 x1) (w736 x0 x1) (w737 x0 x1) (w745 x0 x1) (w746 x0 x1) (w785 x0 x1) = (w810 x0 x1) := rfl
theorem e_pay252 (x0 : A0) (x1 : A1) : k0_pay252 (F := Ideal) (w130 x0 x1) (w727 x0 x1) (w728 x0 x1) (w736 x0 x1) (w737 x0 x1) (w745 x0 x1) (w746 x0 x1) (w785 x0 x1) = (w811 x0 x1) := rfl
theorem e_pay253 (x0 : A0) (x1 : A1) : k0_pay253 (F := Ideal) (w130 x0 x1) (w727 x0 x1) (w728 x0 x1) (w736 x0 x1) (w737 x0 x1) (w745 x0 x1) (w746 x0 x1) (w785 x0 x1) = (w812 x0 x1) := rfl
theorem e_pay254 (x0 : A0) (x1 : A1) : k0_pay254 (F := Ideal) (w130 x0 x1) (w727 x0 x1) (w728 x0 x1) (w736 x0 x1) (w737 x0 x1) (w745 x0 x1) (w746 x0 x1) (w785 x0 x1) = (w813 x0 x1) := rfl
theorem e_pay255 (x0 : A0) (x1 : A1) : k0_pay255 (F := Ideal) (w130 x0 x1) (w727 x0 x1) (w728 x0 x1) (w736 x0 x1) (w737 x0 x1) (w745 x0 x1) (w746 x0 x1) (w754 x0 x1) (w755 x0 x1) (w785 x0 x1) = (w818 x0 x1) := rfl
theorem e_pay256 (x0 : A0) (x1 : A1) : k0_pay256 (F := Ideal) (w130 x0 x1) (w727 x0 x1) (w728 x0 x1) (w736 x0 x1) (w737 x0 x1) (w745 x0 x1) (w746 x0 x1) (w754 x0 x1) (w755 x0 x1) (w785 x0 x1) = (w819 x0 x1) := rfl
theorem e_pay257 (x0 : A0) (x1 : A1) : k0_pay257 (F := Ideal) (w130 x0 x1) (w727 x0 x1) (w728 x0 x1) (w736 x0 x1) (w737 x0 x1) (w745 x0 x1) (w746 x0 x1) (w754 x0 x1) (w755 x0 x1) (w785 x0 x1) = (w820 x0 x1) := rfl
theorem e_pay258 (x0 : A0) (x1 : A1) : k0_pay258 (F := Ideal) (w101 x0 x1) (w126 x0 x1) = (w829 x0 x1) := rfl
theorem e_pay259 (x0 : A0) (x1 : A1) : k0_pay259 (F := Ideal) (w81 x0 x1) (w121 x0 x1) (w124 x0 x1) (w128 x0 x1) = (w836 x0 x1) := rfl
theorem e_pay260 (x0 : A0) (x1 : A1) : k0_pay260 (F := Ideal) (w91 x0 x1) (w111 x0 x1) (w125 x0 x1) (w127 x0 x1) = (w837 x0 x1) := rfl
theorem e_pay261 (x0 : A0) (x1 : A1) : k0_pay261 (F := Ideal) (w81 x0 x1) (w91 x0 x1) (w101 x0 x1) (w111 x0 x1) (w121 x0 x1) (w124 x0 x1) (w125 x0 x1) (w126 x0 x1) (w127 x0 x1) (w128 x0 x1) = (w839 x0 x1) := rfl
theorem e_pay262 (x0 : A0) (x1 : A1) : k0_pay262 (F := Ideal) (w81 x0 x1) (w121 x0 x1) (w124 x0 x1) (w128 x0 x1) = (mulf (broadcast S68x2048 ((Scalar.ofBits .f32 0x3D5F2F87#32 : Ideal .f32))) (w836 x0 x1)) := rfl
theorem e_pay263 (x0 : A0) (x1 : A1) : k0_pay263 (F := Ideal) (w91 x0 x1) (w111 x0 x1) (w125 x0 x1) (w127 x0 x1) = (mulf (broadcast S68x2048 ((Scalar.ofBits .f32 0x3E7A0FEB#32 : Ideal .f32))) (w837 x0 x1)) := rfl
theorem e_pay264 (x0 : A0) (x1 : A1) : k0_pay264 (F := Ideal) (w150 x0 x1) (w176 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w850 x0 x1) := rfl
theorem e_pay265 (x0 : A0) (x1 : A1) : k0_pay265 (w132 x0 x1) = (w851 x0 x1) := rfl
theorem e_pay266 (x0 : A0) (x1 : A1) : k0_pay266 (F := Ideal) (w132 x0 x1) (w150 x0 x1) (w176 x0 x1) (w792 x0 x1) (w793 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w856 x0 x1) := rfl
theorem e_pay267 (x0 : A0) (x1 : A1) : k0_pay267 (F := Ideal) (w132 x0 x1) (w150 x0 x1) (w176 x0 x1) (w792 x0 x1) (w793 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w857 x0 x1) := rfl
theorem e_pay268 (x0 : A0) (x1 : A1) : k0_pay268 (F := Ideal) (w132 x0 x1) (w150 x0 x1) (w176 x0 x1) (w792 x0 x1) (w793 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w858 x0 x1) := rfl
theorem e_pay269 (x0 : A0) (x1 : A1) : k0_pay269 (F := Ideal) (w132 x0 x1) (w150 x0 x1) (w176 x0 x1) (w792 x0 x1) (w793 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w859 x0 x1) := rfl
theorem e_pay270 (x0 : A0) (x1 : A1) : k0_pay270 (F := Ideal) (w132 x0 x1) (w150 x0 x1) (w176 x0 x1) (w792 x0 x1) (w793 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w860 x0 x1) := rfl
theorem e_pay271 (x0 : A0) (x1 : A1) : k0_pay271 (F := Ideal) (w132 x0 x1) (w150 x0 x1) (w176 x0 x1) (w792 x0 x1) (w793 x0 x1) (w801 x0 x1) (w802 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w865 x0 x1) := rfl
theorem e_pay272 (x0 : A0) (x1 : A1) : k0_pay272 (F := Ideal) (w132 x0 x1) (w150 x0 x1) (w176 x0 x1) (w792 x0 x1) (w793 x0 x1) (w801 x0 x1) (w802 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w866 x0 x1) := rfl
theorem e_pay273 (x0 : A0) (x1 : A1) : k0_pay273 (F := Ideal) (w132 x0 x1) (w150 x0 x1) (w176 x0 x1) (w792 x0 x1) (w793 x0 x1) (w801 x0 x1) (w802 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w867 x0 x1) := rfl
theorem e_pay274 (x0 : A0) (x1 : A1) : k0_pay274 (F := Ideal) (w132 x0 x1) (w150 x0 x1) (w176 x0 x1) (w792 x0 x1) (w793 x0 x1) (w801 x0 x1) (w802 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w868 x0 x1) := rfl
theorem e_pay275 (x0 : A0) (x1 : A1) : k0_pay275 (F := Ideal) (w132 x0 x1) (w150 x0 x1) (w176 x0 x1) (w792 x0 x1) (w793 x0 x1) (w801 x0 x1) (w802 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w869 x0 x1) := rfl
theorem e_pay276 (x0 : A0) (x1 : A1) : k0_pay276 (F := Ideal) (w132 x0 x1) (w150 x0 x1) (w176 x0 x1) (w792 x0 x1) (w793 x0 x1) (w801 x0 x1) (w802 x0 x1) (w810 x0 x1) (w811 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w874 x0 x1) := rfl
theorem e_pay277 (x0 : A0) (x1 : A1) : k0_pay277 (F := Ideal) (w132 x0 x1) (w150 x0 x1) (w176 x0 x1) (w792 x0 x1) (w793 x0 x1) (w801 x0 x1) (w802 x0 x1) (w810 x0 x1) (w811 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w875 x0 x1) := rfl
theorem e_pay278 (x0 : A0) (x1 : A1) : k0_pay278 (F := Ideal) (w132 x0 x1) (w150 x0 x1) (w176 x0 x1) (w792 x0 x1) (w793 x0 x1) (w801 x0 x1) (w802 x0 x1) (w810 x0 x1) (w811 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w876 x0 x1) := rfl
theorem e_pay279 (x0 : A0) (x1 : A1) : k0_pay279 (F := Ideal) (w132 x0 x1) (w150 x0 x1) (w176 x0 x1) (w792 x0 x1) (w793 x0 x1) (w801 x0 x1) (w802 x0 x1) (w810 x0 x1) (w811 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w877 x0 x1) := rfl
theorem e_pay280 (x0 : A0) (x1 : A1) : k0_pay280 (F := Ideal) (w132 x0 x1) (w150 x0 x1) (w176 x0 x1) (w792 x0 x1) (w793 x0 x1) (w801 x0 x1) (w802 x0 x1) (w810 x0 x1) (w811 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w878 x0 x1) := rfl
theorem e_pay281 (x0 : A0) (x1 : A1) : k0_pay281 (F := Ideal) (w132 x0 x1) (w150 x0 x1) (w176 x0 x1) (w792 x0 x1) (w793 x0 x1) (w801 x0 x1) (w802 x0 x1) (w810 x0 x1) (w811 x0 x1) (w819 x0 x1) (w820 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w883 x0 x1) := rfl
theorem e_pay282 (x0 : A0) (x1 : A1) : k0_pay282 (F := Ideal) (w132 x0 x1) (w150 x0 x1) (w176 x0 x1) (w792 x0 x1) (w793 x0 x1) (w801 x0 x1) (w802 x0 x1) (w810 x0 x1) (w811 x0 x1) (w819 x0 x1) (w820 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w884 x0 x1) := rfl
theorem e_pay283 (x0 : A0) (x1 : A1) : k0_pay283 (F := Ideal) (w132 x0 x1) (w150 x0 x1) (w176 x0 x1) (w792 x0 x1) (w793 x0 x1) (w801 x0 x1) (w802 x0 x1) (w810 x0 x1) (w811 x0 x1) (w819 x0 x1) (w820 x0 x1) (w829 x0 x1) (w839 x0 x1) (mulf (broadcast S68x2048 ((Scalar.ofBits .f32 0x3D5F2F87#32 : Ideal .f32))) (w836 x0 x1)) (mulf (broadcast S68x2048 ((Scalar.ofBits .f32 0x3E7A0FEB#32 : Ideal .f32))) (w837 x0 x1)) = (w885 x0 x1) := rfl
theorem e_pay284 (x0 : A0) (x1 : A1) : k0_pay284 (F := Ideal) (w83 x0 x1) (w124 x0 x1) = (w888 x0 x1) := rfl
theorem e_pay285 (x0 : A0) (x1 : A1) : k0_pay285 (F := Ideal) (w93 x0 x1) (w125 x0 x1) = (w891 x0 x1) := rfl
theorem e_pay286 (x0 : A0) (x1 : A1) : k0_pay286 (F := Ideal) (w103 x0 x1) (w126 x0 x1) = (w894 x0 x1) := rfl
theorem e_pay287 (x0 : A0) (x1 : A1) : k0_pay287 (F := Ideal) (w113 x0 x1) (w127 x0 x1) = (w897 x0 x1) := rfl
theorem e_pay288 (x0 : A0) (x1 : A1) : k0_pay288 (F := Ideal) (w123 x0 x1) (w128 x0 x1) = (w900 x0 x1) := rfl
theorem e_pay289 (x0 : A0) (x1 : A1) : k0_pay289 (F := Ideal) (w150 x0 x1) (w176 x0 x1) (w888 x0 x1) (w891 x0 x1) (w894 x0 x1) (w897 x0 x1) (w900 x0 x1) = (w915 x0 x1) := rfl
theorem e_pay290 (x0 : A0) (x1 : A1) : k0_pay290 (w133 x0 x1) = (w916 x0 x1) := rfl
theorem e_pay291 (x0 : A0) (x1 : A1) : k0_pay291 (F := Ideal) (w133 x0 x1) (w150 x0 x1) (w176 x0 x1) (w857 x0 x1) (w858 x0 x1) (w888 x0 x1) (w891 x0 x1) (w894 x0 x1) (w897 x0 x1) (w900 x0 x1) = (w921 x0 x1) := rfl
theorem e_pay292 (x0 : A0) (x1 : A1) : k0_pay292 (F := Ideal) (w133 x0 x1) (w150 x0 x1) (w176 x0 x1) (w857 x0 x1) (w858 x0 x1) (w888 x0 x1) (w891 x0 x1) (w894 x0 x1) (w897 x0 x1) (w900 x0 x1) = (w922 x0 x1) := rfl
theorem e_pay293 (x0 : A0) (x1 : A1) : k0_pay293 (F := Ideal) (w133 x0 x1) (w150 x0 x1) (w176 x0 x1) (w857 x0 x1) (w858 x0 x1) (w888 x0 x1) (w891 x0 x1) (w894 x0 x1) (w897 x0 x1) (w900 x0 x1) = (w923 x0 x1) := rfl
theorem e_pay294 (x0 : A0) (x1 : A1) : k0_pay294 (F := Ideal) (w133 x0 x1) (w150 x0 x1) (w176 x0 x1) (w857 x0 x1) (w858 x0 x1) (w888 x0 x1) (w891 x0 x1) (w894 x0 x1) (w897 x0 x1) (w900 x0 x1) = (w924 x0 x1) := rfl
theorem e_pay295 (x0 : A0) (x1 : A1) : k0_pay295 (F := Ideal) (w133 x0 x1) (w150 x0 x1) (w176 x0 x1) (w857 x0 x1) (w858 x0 x1) (w888 x0 x1) (w891 x0 x1) (w894 x0 x1) (w897 x0 x1) (w900 x0 x1) = (w925 x0 x1) := rfl
theorem e_pay296 (x0 : A0) (x1 : A1) : k0_pay296 (F := Ideal) (w133 x0 x1) (w150 x0 x1) (w176 x0 x1) (w857 x0 x1) (w858 x0 x1) (w866 x0 x1) (w867 x0 x1) (w888 x0 x1) (w891 x0 x1) (w894 x0 x1) (w897 x0 x1) (w900 x0 x1) = (w930 x0 x1) := rfl
theorem e_pay297 (x0 : A0) (x1 : A1) : k0_pay297 (F := Ideal) (w133 x0 x1) (w150 x0 x1) (w176 x0 x1) (w857 x0 x1) (w858 x0 x1) (w866 x0 x1) (w867 x0 x1) (w888 x0 x1) (w891 x0 x1) (w894 x0 x1) (w897 x0 x1) (w900 x0 x1) = (w931 x0 x1) := rfl
theorem e_pay298 (x0 : A0) (x1 : A1) : k0_pay298 (F := Ideal) (w133 x0 x1) (w150 x0 x1) (w176 x0 x1) (w857 x0 x1) (w858 x0 x1) (w866 x0 x1) (w867 x0 x1) (w888 x0 x1) (w891 x0 x1) (w894 x0 x1) (w897 x0 x1) (w900 x0 x1) = (w932 x0 x1) := rfl
theorem e_pay299 (x0 : A0) (x1 : A1) : k0_pay299 (F := Ideal) (w133 x0 x1) (w150 x0 x1) (w176 x0 x1) (w857 x0 x1) (w858 x0 x1) (w866 x0 x1) (w867 x0 x1) (w888 x0 x1) (w891 x0 x1) (w894 x0 x1) (w897 x0 x1) (w900 x0 x1) = (w933 x0 x1) := rfl
theorem e_pay300 (x0 : A0) (x1 : A1) : k0_pay300 (F := Ideal) (w133 x0 x1) (w150 x0 x1) (w176 x0 x1) (w857 x0 x1) (w858 x0 x1) (w866 x0 x1) (w867 x0 x1) (w888 x0 x1) (w891 x0 x1) (w894 x0 x1) (w897 x0 x1) (w900 x0 x1) = (w934 x0 x1) := rfl
theorem e_pay301 (x0 : A0) (x1 : A1) : k0_pay301 (F := Ideal) (w133 x0 x1) (w150 x0 x1) (w176 x0 x1) (w857 x0 x1) (w858 x0 x1) (w866 x0 x1) (w867 x0 x1) (w875 x0 x1) (w876 x0 x1) (w888 x0 x1) (w891 x0 x1) (w894 x0 x1) (w897 x0 x1) (w900 x0 x1) = (w939 x0 x1) := rfl
theorem e_pay302 (x0 : A0) (x1 : A1) : k0_pay302 (F := Ideal) (w133 x0 x1) (w150 x0 x1) (w176 x0 x1) (w857 x0 x1) (w858 x0 x1) (w866 x0 x1) (w867 x0 x1) (w875 x0 x1) (w876 x0 x1) (w888 x0 x1) (w891 x0 x1) (w894 x0 x1) (w897 x0 x1) (w900 x0 x1) = (w940 x0 x1) := rfl
theorem e_pay303 (x0 : A0) (x1 : A1) : k0_pay303 (F := Ideal) (w133 x0 x1) (w150 x0 x1) (w176 x0 x1) (w857 x0 x1) (w858 x0 x1) (w866 x0 x1) (w867 x0 x1) (w875 x0 x1) (w876 x0 x1) (w888 x0 x1) (w891 x0 x1) (w894 x0 x1) (w897 x0 x1) (w900 x0 x1) = (w941 x0 x1) := rfl
theorem e_pay304 (x0 : A0) (x1 : A1) : k0_pay304 (F := Ideal) (w133 x0 x1) (w150 x0 x1) (w176 x0 x1) (w857 x0 x1) (w858 x0 x1) (w866 x0 x1) (w867 x0 x1) (w875 x0 x1) (w876 x0 x1) (w888 x0 x1) (w891 x0 x1) (w894 x0 x1) (w897 x0 x1) (w900 x0 x1) = (w942 x0 x1) := rfl
theorem e_pay305 (x0 : A0) (x1 : A1) : k0_pay305 (F := Ideal) (w133 x0 x1) (w150 x0 x1) (w176 x0 x1) (w857 x0 x1) (w858 x0 x1) (w866 x0 x1) (w867 x0 x1) (w875 x0 x1) (w876 x0 x1) (w888 x0 x1) (w891 x0 x1) (w894 x0 x1) (w897 x0 x1) (w900 x0 x1) = (w943 x0 x1) := rfl
theorem e_pay306 (x0 : A0) (x1 : A1) : k0_pay306 (F := Ideal) (w133 x0 x1) (w150 x0 x1) (w176 x0 x1) (w857 x0 x1) (w858 x0 x1) (w866 x0 x1) (w867 x0 x1) (w875 x0 x1) (w876 x0 x1) (w884 x0 x1) (w885 x0 x1) (w888 x0 x1) (w891 x0 x1) (w894 x0 x1) (w897 x0 x1) (w900 x0 x1) = (w948 x0 x1) := rfl
theorem e_pay307 (x0 : A0) (x1 : A1) : k0_pay307 (F := Ideal) (w133 x0 x1) (w150 x0 x1) (w176 x0 x1) (w857 x0 x1) (w858 x0 x1) (w866 x0 x1) (w867 x0 x1) (w875 x0 x1) (w876 x0 x1) (w884 x0 x1) (w885 x0 x1) (w888 x0 x1) (w891 x0 x1) (w894 x0 x1) (w897 x0 x1) (w900 x0 x1) = (w949 x0 x1) := rfl
theorem e_pay308 (x0 : A0) (x1 : A1) : k0_pay308 (F := Ideal) (w133 x0 x1) (w150 x0 x1) (w176 x0 x1) (w857 x0 x1) (w858 x0 x1) (w866 x0 x1) (w867 x0 x1) (w875 x0 x1) (w876 x0 x1) (w884 x0 x1) (w885 x0 x1) (w888 x0 x1) (w891 x0 x1) (w894 x0 x1) (w897 x0 x1) (w900 x0 x1) = (w950 x0 x1) := rfl
theorem e_pay309 (x0 : A0) (x1 : A1) : k0_pay309 (F := Ideal) (w75 x0 x1) (w124 x0 x1) = (w953 x0 x1) := rfl
theorem e_pay310 (x0 : A0) (x1 : A1) : k0_pay310 (F := Ideal) (w85 x0 x1) (w125 x0 x1) = (subf (extractStridedSlice S68x2048 ![3, 0] (w85 x0 x1) slices_S72x2048_o3_0_S68x2048) (w125 x0 x1)) := rfl
theorem e_pay311 (x0 : A0) (x1 : A1) : k0_pay311 (F := Ideal) (w95 x0 x1) (w105 x0 x1) (w115 x0 x1) (w126 x0 x1) (w127 x0 x1) (w128 x0 x1) (w150 x0 x1) (w176 x0 x1) (w953 x0 x1) (subf (extractStridedSlice S68x2048 ![3, 0] (w85 x0 x1) slices_S72x2048_o3_0_S68x2048) (w125 x0 x1)) = (w980 x0 x1) := rfl
theorem e_pay312 (x0 : A0) (x1 : A1) : k0_pay312 (w129 x0 x1) = (w981 x0 x1) := rfl
theorem e_pay313 (x0 : A0) (x1 : A1) : k0_pay313 (F := Ideal) (w95 x0 x1) (w105 x0 x1) (w115 x0 x1) (w126 x0 x1) (w127 x0 x1) (w128 x0 x1) (w129 x0 x1) (w150 x0 x1) (w176 x0 x1) (w922 x0 x1) (w923 x0 x1) (w953 x0 x1) (subf (extractStridedSlice S68x2048 ![3, 0] (w85 x0 x1) slices_S72x2048_o3_0_S68x2048) (w125 x0 x1)) = (w986 x0 x1) := rfl
theorem e_pay314 (x0 : A0) (x1 : A1) : k0_pay314 (F := Ideal) (w95 x0 x1) (w105 x0 x1) (w115 x0 x1) (w126 x0 x1) (w127 x0 x1) (w128 x0 x1) (w129 x0 x1) (w150 x0 x1) (w176 x0 x1) (w922 x0 x1) (w923 x0 x1) (w953 x0 x1) (subf (extractStridedSlice S68x2048 ![3, 0] (w85 x0 x1) slices_S72x2048_o3_0_S68x2048) (w125 x0 x1)) = (w987 x0 x1) := rfl
theorem e_pay315 (x0 : A0) (x1 : A1) : k0_pay315 (F := Ideal) (w95 x0 x1) (w105 x0 x1) (w115 x0 x1) (w126 x0 x1) (w127 x0 x1) (w128 x0 x1) (w129 x0 x1) (w150 x0 x1) (w176 x0 x1) (w922 x0 x1) (w923 x0 x1) (w953 x0 x1) (subf (extractStridedSlice S68x2048 ![3, 0] (w85 x0 x1) slices_S72x2048_o3_0_S68x2048) (w125 x0 x1)) = (w988 x0 x1) := rfl
theorem e_pay316 (x0 : A0) (x1 : A1) : k0_pay316 (F := Ideal) (w95 x0 x1) (w105 x0 x1) (w115 x0 x1) (w126 x0 x1) (w127 x0 x1) (w128 x0 x1) (w129 x0 x1) (w150 x0 x1) (w176 x0 x1) (w922 x0 x1) (w923 x0 x1) (w953 x0 x1) (subf (extractStridedSlice S68x2048 ![3, 0] (w85 x0 x1) slices_S72x2048_o3_0_S68x2048) (w125 x0 x1)) = (w989 x0 x1) := rfl
theorem e_pay317 (x0 : A0) (x1 : A1) : k0_pay317 (F := Ideal) (w95 x0 x1) (w105 x0 x1) (w115 x0 x1) (w126 x0 x1) (w127 x0 x1) (w128 x0 x1) (w129 x0 x1) (w150 x0 x1) (w176 x0 x1) (w922 x0 x1) (w923 x0 x1) (w953 x0 x1) (subf (extractStridedSlice S68x2048 ![3, 0] (w85 x0 x1) slices_S72x2048_o3_0_S68x2048) (w125 x0 x1)) = (w990 x0 x1) := rfl
theorem e_pay318 (x0 : A0) (x1 : A1) : k0_pay318 (F := Ideal) (w95 x0 x1) (w105 x0 x1) (w115 x0 x1) (w126 x0 x1) (w127 x0 x1) (w128 x0 x1) (w129 x0 x1) (w150 x0 x1) (w176 x0 x1) (w922 x0 x1) (w923 x0 x1) (w931 x0 x1) (w932 x0 x1) (w953 x0 x1) (subf (extractStridedSlice S68x2048 ![3, 0] (w85 x0 x1) slices_S72x2048_o3_0_S68x2048) (w125 x0 x1)) = (w995 x0 x1) := rfl
theorem e_pay319 (x0 : A0) (x1 : A1) : k0_pay319 (F := Ideal) (w95 x0 x1) (w105 x0 x1) (w115 x0 x1) (w126 x0 x1) (w127 x0 x1) (w128 x0 x1) (w129 x0 x1) (w150 x0 x1) (w176 x0 x1) (w922 x0 x1) (w923 x0 x1) (w931 x0 x1) (w932 x0 x1) (w953 x0 x1) (subf (extractStridedSlice S68x2048 ![3, 0] (w85 x0 x1) slices_S72x2048_o3_0_S68x2048) (w125 x0 x1)) = (w996 x0 x1) := rfl
theorem e_pay320 (x0 : A0) (x1 : A1) : k0_pay320 (F := Ideal) (w95 x0 x1) (w105 x0 x1) (w115 x0 x1) (w126 x0 x1) (w127 x0 x1) (w128 x0 x1) (w129 x0 x1) (w150 x0 x1) (w176 x0 x1) (w922 x0 x1) (w923 x0 x1) (w931 x0 x1) (w932 x0 x1) (w953 x0 x1) (subf (extractStridedSlice S68x2048 ![3, 0] (w85 x0 x1) slices_S72x2048_o3_0_S68x2048) (w125 x0 x1)) = (w997 x0 x1) := rfl
theorem e_pay321 (x0 : A0) (x1 : A1) : k0_pay321 (F := Ideal) (w95 x0 x1) (w105 x0 x1) (w115 x0 x1) (w126 x0 x1) (w127 x0 x1) (w128 x0 x1) (w129 x0 x1) (w150 x0 x1) (w176 x0 x1) (w922 x0 x1) (w923 x0 x1) (w931 x0 x1) (w932 x0 x1) (w953 x0 x1) (subf (extractStridedSlice S68x2048 ![3, 0] (w85 x0 x1) slices_S72x2048_o3_0_S68x2048) (w125 x0 x1)) = (w998 x0 x1) := rfl
theorem e_pay322 (x0 : A0) (x1 : A1) : k0_pay322 (F := Ideal) (w95 x0 x1) (w105 x0 x1) (w115 x0 x1) (w126 x0 x1) (w127 x0 x1) (w128 x0 x1) (w129 x0 x1) (w150 x0 x1) (w176 x0 x1) (w922 x0 x1) (w923 x0 x1) (w931 x0 x1) (w932 x0 x1) (w953 x0 x1) (subf (extractStridedSlice S68x2048 ![3, 0] (w85 x0 x1) slices_S72x2048_o3_0_S68x2048) (w125 x0 x1)) = (w999 x0 x1) := rfl
theorem e_pay323 (x0 : A0) (x1 : A1) : k0_pay323 (F := Ideal) (w95 x0 x1) (w105 x0 x1) (w115 x0 x1) (w126 x0 x1) (w127 x0 x1) (w128 x0 x1) (w129 x0 x1) (w150 x0 x1) (w176 x0 x1) (w922 x0 x1) (w923 x0 x1) (w931 x0 x1) (w932 x0 x1) (w940 x0 x1) (w941 x0 x1) (w953 x0 x1) (subf (extractStridedSlice S68x2048 ![3, 0] (w85 x0 x1) slices_S72x2048_o3_0_S68x2048) (w125 x0 x1)) = (w1004 x0 x1) := rfl
theorem e_pay324 (x0 : A0) (x1 : A1) : k0_pay324 (F := Ideal) (w95 x0 x1) (w105 x0 x1) (w115 x0 x1) (w126 x0 x1) (w127 x0 x1) (w128 x0 x1) (w129 x0 x1) (w150 x0 x1) (w176 x0 x1) (w922 x0 x1) (w923 x0 x1) (w931 x0 x1) (w932 x0 x1) (w940 x0 x1) (w941 x0 x1) (w953 x0 x1) (subf (extractStridedSlice S68x2048 ![3, 0] (w85 x0 x1) slices_S72x2048_o3_0_S68x2048) (w125 x0 x1)) = (w1005 x0 x1) := rfl
theorem e_pay325 (x0 : A0) (x1 : A1) : k0_pay325 (F := Ideal) (w95 x0 x1) (w105 x0 x1) (w115 x0 x1) (w126 x0 x1) (w127 x0 x1) (w128 x0 x1) (w129 x0 x1) (w150 x0 x1) (w176 x0 x1) (w922 x0 x1) (w923 x0 x1) (w931 x0 x1) (w932 x0 x1) (w940 x0 x1) (w941 x0 x1) (w953 x0 x1) (subf (extractStridedSlice S68x2048 ![3, 0] (w85 x0 x1) slices_S72x2048_o3_0_S68x2048) (w125 x0 x1)) = (w1006 x0 x1) := rfl
theorem e_pay326 (x0 : A0) (x1 : A1) : k0_pay326 (F := Ideal) (w95 x0 x1) (w105 x0 x1) (w115 x0 x1) (w126 x0 x1) (w127 x0 x1) (w128 x0 x1) (w129 x0 x1) (w150 x0 x1) (w176 x0 x1) (w922 x0 x1) (w923 x0 x1) (w931 x0 x1) (w932 x0 x1) (w940 x0 x1) (w941 x0 x1) (w953 x0 x1) (subf (extractStridedSlice S68x2048 ![3, 0] (w85 x0 x1) slices_S72x2048_o3_0_S68x2048) (w125 x0 x1)) = (w1007 x0 x1) := rfl
theorem e_pay327 (x0 : A0) (x1 : A1) : k0_pay327 (F := Ideal) (w95 x0 x1) (w105 x0 x1) (w115 x0 x1) (w126 x0 x1) (w127 x0 x1) (w128 x0 x1) (w129 x0 x1) (w150 x0 x1) (w176 x0 x1) (w922 x0 x1) (w923 x0 x1) (w931 x0 x1) (w932 x0 x1) (w940 x0 x1) (w941 x0 x1) (w953 x0 x1) (subf (extractStridedSlice S68x2048 ![3, 0] (w85 x0 x1) slices_S72x2048_o3_0_S68x2048) (w125 x0 x1)) = (w1008 x0 x1) := rfl
theorem e_pay328 (x0 : A0) (x1 : A1) : k0_pay328 (F := Ideal) (w95 x0 x1) (w105 x0 x1) (w115 x0 x1) (w126 x0 x1) (w127 x0 x1) (w128 x0 x1) (w129 x0 x1) (w150 x0 x1) (w176 x0 x1) (w922 x0 x1) (w923 x0 x1) (w931 x0 x1) (w932 x0 x1) (w940 x0 x1) (w941 x0 x1) (w949 x0 x1) (w953 x0 x1) (subf (extractStridedSlice S68x2048 ![3, 0] (w85 x0 x1) slices_S72x2048_o3_0_S68x2048) (w125 x0 x1)) = (cmpf .olt (w1007 x0 x1) (w949 x0 x1)) := rfl
theorem e_pay329 (x0 : A0) (x1 : A1) : k0_pay329 (F := Ideal) (w95 x0 x1) (w105 x0 x1) (w115 x0 x1) (w126 x0 x1) (w127 x0 x1) (w128 x0 x1) (w129 x0 x1) (w150 x0 x1) (w176 x0 x1) (w922 x0 x1) (w923 x0 x1) (w931 x0 x1) (w932 x0 x1) (w940 x0 x1) (w941 x0 x1) (w949 x0 x1) (w953 x0 x1) (subf (extractStridedSlice S68x2048 ![3, 0] (w85 x0 x1) slices_S72x2048_o3_0_S68x2048) (w125 x0 x1)) = (cmpf .oeq (w1007 x0 x1) (w949 x0 x1)) := rfl
theorem e_pay330 (x0 : A0) (x1 : A1) : k0_pay330 (w950 x0 x1) (w1008 x0 x1) (cmpf .olt (w1007 x0 x1) (w949 x0 x1)) (cmpf .oeq (w1007 x0 x1) (w949 x0 x1)) = (w1013 x0 x1) := rfl
theorem e_pay331 (x0 : A0) (x1 : A1) : k0_pay331 (F := Ideal) (w949 x0 x1) (w950 x0 x1) (w1007 x0 x1) (w1008 x0 x1) (cmpf .olt (w1007 x0 x1) (w949 x0 x1)) (cmpf .oeq (w1007 x0 x1) (w949 x0 x1)) = (w1014 x0 x1) := rfl
theorem e_pay332 (x0 : A0) (x1 : A1) : k0_pay332 (w950 x0 x1) (w1008 x0 x1) (cmpf .olt (w1007 x0 x1) (w949 x0 x1)) (cmpf .oeq (w1007 x0 x1) (w949 x0 x1)) = (w1015 x0 x1) := rfl
theorem e_pay333 (x0 : A0) (x1 : A1) : k0_pay333 (F := Ideal) (w77 x0 x1) (w87 x0 x1) (w97 x0 x1) (w107 x0 x1) (w117 x0 x1) (w124 x0 x1) (w125 x0 x1) (w126 x0 x1) (w127 x0 x1) (w128 x0 x1) (w150 x0 x1) (w176 x0 x1) = (w1045 x0 x1) := rfl
theorem e_pay334 (x0 : A0) (x1 : A1) : k0_pay334 (w130 x0 x1) = (w1046 x0 x1) := rfl
theorem e_pay335 (x0 : A0) (x1 : A1) : k0_pay335 (F := Ideal) (w77 x0 x1) (w87 x0 x1) (w97 x0 x1) (w107 x0 x1) (w117 x0 x1) (w124 x0 x1) (w125 x0 x1) (w126 x0 x1) (w127 x0 x1) (w128 x0 x1) (w130 x0 x1) (w150 x0 x1) (w176 x0 x1) (w987 x0 x1) (w988 x0 x1) = (w1051 x0 x1) := rfl
theorem e_pay336 (x0 : A0) (x1 : A1) : k0_pay336 (F := Ideal) (w77 x0 x1) (w87 x0 x1) (w97 x0 x1) (w107 x0 x1) (w117 x0 x1) (w124 x0 x1) (w125 x0 x1) (w126 x0 x1) (w127 x0 x1) (w128 x0 x1) (w130 x0 x1) (w150 x0 x1) (w176 x0 x1) (w987 x0 x1) (w988 x0 x1) = (w1052 x0 x1) := rfl
theorem e_pay337 (x0 : A0) (x1 : A1) : k0_pay337 (F := Ideal) (w77 x0 x1) (w87 x0 x1) (w97 x0 x1) (w107 x0 x1) (w117 x0 x1) (w124 x0 x1) (w125 x0 x1) (w126 x0 x1) (w127 x0 x1) (w128 x0 x1) (w130 x0 x1) (w150 x0 x1) (w176 x0 x1) (w987 x0 x1) (w988 x0 x1) = (w1053 x0 x1) := rfl
theorem e_pay338 (x0 : A0) (x1 : A1) : k0_pay338 (F := Ideal) (w77 x0 x1) (w87 x0 x1) (w97 x0 x1) (w107 x0 x1) (w117 x0 x1) (w124 x0 x1) (w125 x0 x1) (w126 x0 x1) (w127 x0 x1) (w128 x0 x1) (w130 x0 x1) (w150 x0 x1) (w176 x0 x1) (w987 x0 x1) (w988 x0 x1) = (w1054 x0 x1) := rfl
theorem e_pay339 (x0 : A0) (x1 : A1) : k0_pay339 (F := Ideal) (w77 x0 x1) (w87 x0 x1) (w97 x0 x1) (w107 x0 x1) (w117 x0 x1) (w124 x0 x1) (w125 x0 x1) (w126 x0 x1) (w127 x0 x1) (w128 x0 x1) (w130 x0 x1) (w150 x0 x1) (w176 x0 x1) (w987 x0 x1) (w988 x0 x1) = (w1055 x0 x1) := rfl
theorem e_pay340 (x0 : A0) (x1 : A1) : k0_pay340 (F := Ideal) (w77 x0 x1) (w87 x0 x1) (w97 x0 x1) (w107 x0 x1) (w117 x0 x1) (w124 x0 x1) (w125 x0 x1) (w126 x0 x1) (w127 x0 x1) (w128 x0 x1) (w130 x0 x1) (w150 x0 x1) (w176 x0 x1) (w987 x0 x1) (w988 x0 x1) (w996 x0 x1) (w997 x0 x1) = (w1060 x0 x1) := rfl
theorem e_pay341 (x0 : A0) (x1 : A1) : k0_pay341 (F := Ideal) (w77 x0 x1) (w87 x0 x1) (w97 x0 x1) (w107 x0 x1) (w117 x0 x1) (w124 x0 x1) (w125 x0 x1) (w126 x0 x1) (w127 x0 x1) (w128 x0 x1) (w130 x0 x1) (w150 x0 x1) (w176 x0 x1) (w987 x0 x1) (w988 x0 x1) (w996 x0 x1) (w997 x0 x1) = (w1061 x0 x1) := rfl
theorem e_pay342 (x0 : A0) (x1 : A1) : k0_pay342 (F := Ideal) (w77 x0 x1) (w87 x0 x1) (w97 x0 x1) (w107 x0 x1) (w117 x0 x1) (w124 x0 x1) (w125 x0 x1) (w126 x0 x1) (w127 x0 x1) (w128 x0 x1) (w130 x0 x1) (w150 x0 x1) (w176 x0 x1) (w987 x0 x1) (w988 x0 x1) (w996 x0 x1) (w997 x0 x1) = (w1062 x0 x1) := rfl
theorem e_pay343 (x0 : A0) (x1 : A1) : k0_pay343 (F := Ideal) (w77 x0 x1) (w87 x0 x1) (w97 x0 x1) (w107 x0 x1) (w117 x0 x1) (w124 x0 x1) (w125 x0 x1) (w126 x0 x1) (w127 x0 x1) (w128 x0 x1) (w130 x0 x1) (w150 x0 x1) (w176 x0 x1) (w987 x0 x1) (w988 x0 x1) (w996 x0 x1) (w997 x0 x1) = (w1063 x0 x1) := rfl
theorem e_pay344 (x0 : A0) (x1 : A1) : k0_pay344 (F := Ideal) (w77 x0 x1) (w87 x0 x1) (w97 x0 x1) (w107 x0 x1) (w117 x0 x1) (w124 x0 x1) (w125 x0 x1) (w126 x0 x1) (w127 x0 x1) (w128 x0 x1) (w130 x0 x1) (w150 x0 x1) (w176 x0 x1) (w987 x0 x1) (w988 x0 x1) (w996 x0 x1) (w997 x0 x1) = (w1064 x0 x1) := rfl
theorem e_pay345 (x0 : A0) (x1 : A1) : k0_pay345 (F := Ideal) (w77 x0 x1) (w87 x0 x1) (w97 x0 x1) (w107 x0 x1) (w117 x0 x1) (w124 x0 x1) (w125 x0 x1) (w126 x0 x1) (w127 x0 x1) (w128 x0 x1) (w130 x0 x1) (w150 x0 x1) (w176 x0 x1) (w987 x0 x1) (w988 x0 x1) (w996 x0 x1) (w997 x0 x1) (w1005 x0 x1) = (cmpf .olt (w1063 x0 x1) (w1005 x0 x1)) := rfl
theorem e_pay346 (x0 : A0) (x1 : A1) : k0_pay346 (F := Ideal) (w1005 x0 x1) (w1006 x0 x1) (w1063 x0 x1) (w1064 x0 x1) (cmpf .olt (w1063 x0 x1) (w1005 x0 x1)) = (w1069 x0 x1) := rfl
theorem e_pay347 (x0 : A0) (x1 : A1) : k0_pay347 (F := Ideal) (w1005 x0 x1) (w1006 x0 x1) (w1063 x0 x1) (w1064 x0 x1) (cmpf .olt (w1063 x0 x1) (w1005 x0 x1)) = (w1070 x0 x1) := rfl
theorem e_pay348 (x0 : A0) (x1 : A1) : k0_pay348 (F := Ideal) (w1005 x0 x1) (w1006 x0 x1) (w1063 x0 x1) (w1064 x0 x1) (cmpf .olt (w1063 x0 x1) (w1005 x0 x1)) = (w1071 x0 x1) := rfl
theorem e_pay349 (x0 : A0) (x1 : A1) : k0_pay349 (F := Ideal) (w1005 x0 x1) (w1006 x0 x1) (w1063 x0 x1) (w1064 x0 x1) (cmpf .olt (w1063 x0 x1) (w1005 x0 x1)) = (w1072 x0 x1) := rfl
theorem e_pay350 (x0 : A0) (x1 : A1) : k0_pay350 (F := Ideal) (w1005 x0 x1) (w1006 x0 x1) (w1063 x0 x1) (w1064 x0 x1) (cmpf .olt (w1063 x0 x1) (w1005 x0 x1)) = (w1073 x0 x1) := rfl
theorem e_pay351 (x0 : A0) (x1 : A1) : k0_pay351 (F := Ideal) (w1005 x0 x1) (w1006 x0 x1) (w1014 x0 x1) (w1015 x0 x1) (w1063 x0 x1) (w1064 x0 x1) (cmpf .olt (w1063 x0 x1) (w1005 x0 x1)) = (w1078 x0 x1) := rfl
theorem e_pay352 (x0 : A0) (x1 : A1) : k0_pay352 (F := Ideal) (w1005 x0 x1) (w1006 x0 x1) (w1014 x0 x1) (w1015 x0 x1) (w1063 x0 x1) (w1064 x0 x1) (cmpf .olt (w1063 x0 x1) (w1005 x0 x1)) = (w1079 x0 x1) := rfl
theorem e_pay353 (x0 : A0) (x1 : A1) : k0_pay353 (F := Ideal) (w1005 x0 x1) (w1006 x0 x1) (w1014 x0 x1) (w1015 x0 x1) (w1063 x0 x1) (w1064 x0 x1) (cmpf .olt (w1063 x0 x1) (w1005 x0 x1)) = (w1080 x0 x1) := rfl
theorem e_pay354 (x0 : A0) (x1 : A1) : k0_pay354 (F := Ideal) (w79 x0 x1) (w89 x0 x1) (w99 x0 x1) (w109 x0 x1) (w119 x0 x1) (w124 x0 x1) (w125 x0 x1) (w126 x0 x1) (w127 x0 x1) (w128 x0 x1) (w150 x0 x1) (w176 x0 x1) = (w1110 x0 x1) := rfl
theorem e_pay355 (x0 : A0) (x1 : A1) : k0_pay355 (w131 x0 x1) = (w1111 x0 x1) := rfl
theorem e_pay356 (x0 : A0) (x1 : A1) : k0_pay356 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1052 x0 x1) (w1053 x0 x1) = (w1116 x0 x1) := rfl
theorem e_pay357 (x0 : A0) (x1 : A1) : k0_pay357 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1052 x0 x1) (w1053 x0 x1) = (w1117 x0 x1) := rfl
theorem e_pay358 (x0 : A0) (x1 : A1) : k0_pay358 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1052 x0 x1) (w1053 x0 x1) = (w1118 x0 x1) := rfl
theorem e_pay359 (x0 : A0) (x1 : A1) : k0_pay359 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1052 x0 x1) (w1053 x0 x1) = (w1119 x0 x1) := rfl
theorem e_pay360 (x0 : A0) (x1 : A1) : k0_pay360 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1052 x0 x1) (w1053 x0 x1) = (w1120 x0 x1) := rfl
theorem e_pay361 (x0 : A0) (x1 : A1) : k0_pay361 (F := Ideal) (w1061 x0 x1) (w1062 x0 x1) (w1119 x0 x1) (w1120 x0 x1) = (w1125 x0 x1) := rfl
theorem e_pay362 (x0 : A0) (x1 : A1) : k0_pay362 (F := Ideal) (w1061 x0 x1) (w1062 x0 x1) (w1119 x0 x1) (w1120 x0 x1) = (w1126 x0 x1) := rfl
theorem e_pay363 (x0 : A0) (x1 : A1) : k0_pay363 (F := Ideal) (w1061 x0 x1) (w1062 x0 x1) (w1119 x0 x1) (w1120 x0 x1) = (w1127 x0 x1) := rfl
theorem e_pay364 (x0 : A0) (x1 : A1) : k0_pay364 (F := Ideal) (w1061 x0 x1) (w1062 x0 x1) (w1119 x0 x1) (w1120 x0 x1) = (w1128 x0 x1) := rfl
theorem e_pay365 (x0 : A0) (x1 : A1) : k0_pay365 (F := Ideal) (w1061 x0 x1) (w1062 x0 x1) (w1119 x0 x1) (w1120 x0 x1) = (w1129 x0 x1) := rfl
theorem e_pay366 (x0 : A0) (x1 : A1) : k0_pay366 (F := Ideal) (w1061 x0 x1) (w1062 x0 x1) (w1070 x0 x1) (w1071 x0 x1) (w1119 x0 x1) (w1120 x0 x1) = (w1134 x0 x1) := rfl
theorem e_pay367 (x0 : A0) (x1 : A1) : k0_pay367 (F := Ideal) (w1061 x0 x1) (w1062 x0 x1) (w1070 x0 x1) (w1071 x0 x1) (w1119 x0 x1) (w1120 x0 x1) = (w1135 x0 x1) := rfl
theorem e_pay368 (x0 : A0) (x1 : A1) : k0_pay368 (F := Ideal) (w1061 x0 x1) (w1062 x0 x1) (w1070 x0 x1) (w1071 x0 x1) (w1119 x0 x1) (w1120 x0 x1) = (w1136 x0 x1) := rfl
theorem e_pay369 (x0 : A0) (x1 : A1) : k0_pay369 (F := Ideal) (w1061 x0 x1) (w1062 x0 x1) (w1070 x0 x1) (w1071 x0 x1) (w1119 x0 x1) (w1120 x0 x1) = (w1137 x0 x1) := rfl
theorem e_pay370 (x0 : A0) (x1 : A1) : k0_pay370 (F := Ideal) (w1061 x0 x1) (w1062 x0 x1) (w1070 x0 x1) (w1071 x0 x1) (w1119 x0 x1) (w1120 x0 x1) = (w1138 x0 x1) := rfl
theorem e_pay371 (x0 : A0) (x1 : A1) : k0_pay371 (F := Ideal) (w1061 x0 x1) (w1062 x0 x1) (w1070 x0 x1) (w1071 x0 x1) (w1079 x0 x1) (w1080 x0 x1) (w1119 x0 x1) (w1120 x0 x1) = (w1143 x0 x1) := rfl
theorem e_pay372 (x0 : A0) (x1 : A1) : k0_pay372 (F := Ideal) (w1061 x0 x1) (w1062 x0 x1) (w1070 x0 x1) (w1071 x0 x1) (w1079 x0 x1) (w1080 x0 x1) (w1119 x0 x1) (w1120 x0 x1) = (w1144 x0 x1) := rfl
theorem e_pay373 (x0 : A0) (x1 : A1) : k0_pay373 (F := Ideal) (w1061 x0 x1) (w1062 x0 x1) (w1070 x0 x1) (w1071 x0 x1) (w1079 x0 x1) (w1080 x0 x1) (w1119 x0 x1) (w1120 x0 x1) = (w1145 x0 x1) := rfl
theorem e_pay374 (x0 : A0) (x1 : A1) : k0_pay374 (F := Ideal) (w81 x0 x1) (w91 x0 x1) (w101 x0 x1) (w111 x0 x1) (w121 x0 x1) (w124 x0 x1) (w125 x0 x1) (w126 x0 x1) (w127 x0 x1) (w128 x0 x1) (w150 x0 x1) (w176 x0 x1) = (w1175 x0 x1) := rfl
theorem e_pay375 (x0 : A0) (x1 : A1) : k0_pay375 (w132 x0 x1) = (w1176 x0 x1) := rfl
theorem e_pay376 (x0 : A0) (x1 : A1) : k0_pay376 (F := Ideal) (w132 x0 x1) (w1117 x0 x1) (w1118 x0 x1) (w1175 x0 x1) = (w1181 x0 x1) := rfl
theorem e_pay377 (x0 : A0) (x1 : A1) : k0_pay377 (F := Ideal) (w132 x0 x1) (w1117 x0 x1) (w1118 x0 x1) (w1175 x0 x1) = (w1182 x0 x1) := rfl
theorem e_pay378 (x0 : A0) (x1 : A1) : k0_pay378 (F := Ideal) (w132 x0 x1) (w1117 x0 x1) (w1118 x0 x1) (w1175 x0 x1) = (w1183 x0 x1) := rfl
theorem e_pay379 (x0 : A0) (x1 : A1) : k0_pay379 (F := Ideal) (w132 x0 x1) (w1117 x0 x1) (w1118 x0 x1) (w1175 x0 x1) = (w1184 x0 x1) := rfl
theorem e_pay380 (x0 : A0) (x1 : A1) : k0_pay380 (F := Ideal) (w132 x0 x1) (w1117 x0 x1) (w1118 x0 x1) (w1175 x0 x1) = (w1185 x0 x1) := rfl
theorem e_pay381 (x0 : A0) (x1 : A1) : k0_pay381 (F := Ideal) (w132 x0 x1) (w1117 x0 x1) (w1118 x0 x1) (w1126 x0 x1) (w1127 x0 x1) (w1175 x0 x1) = (w1190 x0 x1) := rfl
theorem e_pay382 (x0 : A0) (x1 : A1) : k0_pay382 (F := Ideal) (w132 x0 x1) (w1117 x0 x1) (w1118 x0 x1) (w1126 x0 x1) (w1127 x0 x1) (w1175 x0 x1) = (w1191 x0 x1) := rfl
theorem e_pay383 (x0 : A0) (x1 : A1) : k0_pay383 (F := Ideal) (w132 x0 x1) (w1117 x0 x1) (w1118 x0 x1) (w1126 x0 x1) (w1127 x0 x1) (w1175 x0 x1) = (w1192 x0 x1) := rfl
theorem e_pay384 (x0 : A0) (x1 : A1) : k0_pay384 (F := Ideal) (w132 x0 x1) (w1117 x0 x1) (w1118 x0 x1) (w1126 x0 x1) (w1127 x0 x1) (w1175 x0 x1) = (w1193 x0 x1) := rfl
theorem e_pay385 (x0 : A0) (x1 : A1) : k0_pay385 (F := Ideal) (w132 x0 x1) (w1117 x0 x1) (w1118 x0 x1) (w1126 x0 x1) (w1127 x0 x1) (w1175 x0 x1) = (w1194 x0 x1) := rfl
theorem e_pay386 (x0 : A0) (x1 : A1) : k0_pay386 (F := Ideal) (w132 x0 x1) (w1117 x0 x1) (w1118 x0 x1) (w1126 x0 x1) (w1127 x0 x1) (w1135 x0 x1) (w1136 x0 x1) (w1175 x0 x1) = (w1199 x0 x1) := rfl
theorem e_pay387 (x0 : A0) (x1 : A1) : k0_pay387 (F := Ideal) (w132 x0 x1) (w1117 x0 x1) (w1118 x0 x1) (w1126 x0 x1) (w1127 x0 x1) (w1135 x0 x1) (w1136 x0 x1) (w1175 x0 x1) = (w1200 x0 x1) := rfl
theorem e_pay388 (x0 : A0) (x1 : A1) : k0_pay388 (F := Ideal) (w132 x0 x1) (w1117 x0 x1) (w1118 x0 x1) (w1126 x0 x1) (w1127 x0 x1) (w1135 x0 x1) (w1136 x0 x1) (w1175 x0 x1) = (w1201 x0 x1) := rfl
theorem e_pay389 (x0 : A0) (x1 : A1) : k0_pay389 (F := Ideal) (w132 x0 x1) (w1117 x0 x1) (w1118 x0 x1) (w1126 x0 x1) (w1127 x0 x1) (w1135 x0 x1) (w1136 x0 x1) (w1175 x0 x1) = (w1202 x0 x1) := rfl
theorem e_pay390 (x0 : A0) (x1 : A1) : k0_pay390 (F := Ideal) (w132 x0 x1) (w1117 x0 x1) (w1118 x0 x1) (w1126 x0 x1) (w1127 x0 x1) (w1135 x0 x1) (w1136 x0 x1) (w1175 x0 x1) = (w1203 x0 x1) := rfl
theorem e_pay391 (x0 : A0) (x1 : A1) : k0_pay391 (F := Ideal) (w132 x0 x1) (w1117 x0 x1) (w1118 x0 x1) (w1126 x0 x1) (w1127 x0 x1) (w1135 x0 x1) (w1136 x0 x1) (w1144 x0 x1) (w1145 x0 x1) (w1175 x0 x1) = (w1208 x0 x1) := rfl
theorem e_pay392 (x0 : A0) (x1 : A1) : k0_pay392 (F := Ideal) (w132 x0 x1) (w1117 x0 x1) (w1118 x0 x1) (w1126 x0 x1) (w1127 x0 x1) (w1135 x0 x1) (w1136 x0 x1) (w1144 x0 x1) (w1145 x0 x1) (w1175 x0 x1) = (w1209 x0 x1) := rfl
theorem e_pay393 (x0 : A0) (x1 : A1) : k0_pay393 (F := Ideal) (w132 x0 x1) (w1117 x0 x1) (w1118 x0 x1) (w1126 x0 x1) (w1127 x0 x1) (w1135 x0 x1) (w1136 x0 x1) (w1144 x0 x1) (w1145 x0 x1) (w1175 x0 x1) = (w1210 x0 x1) := rfl
theorem e_pay394 (x0 : A0) (x1 : A1) : k0_pay394 (F := Ideal) (w103 x0 x1) (w126 x0 x1) = (w1219 x0 x1) := rfl
theorem e_pay395 (x0 : A0) (x1 : A1) : k0_pay395 (F := Ideal) (w83 x0 x1) (w123 x0 x1) (w124 x0 x1) (w128 x0 x1) = (w1226 x0 x1) := rfl
theorem e_pay396 (x0 : A0) (x1 : A1) : k0_pay396 (F := Ideal) (w93 x0 x1) (w113 x0 x1) (w125 x0 x1) (w127 x0 x1) = (w1227 x0 x1) := rfl
theorem e_pay397 (x0 : A0) (x1 : A1) : k0_pay397 (F := Ideal) (w83 x0 x1) (w93 x0 x1) (w103 x0 x1) (w113 x0 x1) (w123 x0 x1) (w124 x0 x1) (w125 x0 x1) (w126 x0 x1) (w127 x0 x1) (w128 x0 x1) = (w1229 x0 x1) := rfl
theorem e_pay398 (x0 : A0) (x1 : A1) : k0_pay398 (F := Ideal) (w83 x0 x1) (w123 x0 x1) (w124 x0 x1) (w128 x0 x1) = (mulf (broadcast S68x2048 ((Scalar.ofBits .f32 0x3D5F2F87#32 : Ideal .f32))) (w1226 x0 x1)) := rfl
theorem e_pay399 (x0 : A0) (x1 : A1) : k0_pay399 (F := Ideal) (w93 x0 x1) (w113 x0 x1) (w125 x0 x1) (w127 x0 x1) = (mulf (broadcast S68x2048 ((Scalar.ofBits .f32 0x3E7A0FEB#32 : Ideal .f32))) (w1227 x0 x1)) := rfl
theorem e_pay400 (x0 : A0) (x1 : A1) : k0_pay400 (F := Ideal) (w150 x0 x1) (w176 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1240 x0 x1) := rfl
theorem e_pay401 (x0 : A0) (x1 : A1) : k0_pay401 (w133 x0 x1) = (w1241 x0 x1) := rfl
theorem e_pay402 (x0 : A0) (x1 : A1) : k0_pay402 (F := Ideal) (w133 x0 x1) (w150 x0 x1) (w176 x0 x1) (w1182 x0 x1) (w1183 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1246 x0 x1) := rfl
theorem e_pay403 (x0 : A0) (x1 : A1) : k0_pay403 (F := Ideal) (w133 x0 x1) (w150 x0 x1) (w176 x0 x1) (w1182 x0 x1) (w1183 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1247 x0 x1) := rfl
theorem e_pay404 (x0 : A0) (x1 : A1) : k0_pay404 (F := Ideal) (w133 x0 x1) (w150 x0 x1) (w176 x0 x1) (w1182 x0 x1) (w1183 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1248 x0 x1) := rfl
theorem e_pay405 (x0 : A0) (x1 : A1) : k0_pay405 (F := Ideal) (w133 x0 x1) (w150 x0 x1) (w176 x0 x1) (w1182 x0 x1) (w1183 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1249 x0 x1) := rfl
theorem e_pay406 (x0 : A0) (x1 : A1) : k0_pay406 (F := Ideal) (w133 x0 x1) (w150 x0 x1) (w176 x0 x1) (w1182 x0 x1) (w1183 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1250 x0 x1) := rfl
theorem e_pay407 (x0 : A0) (x1 : A1) : k0_pay407 (F := Ideal) (w133 x0 x1) (w150 x0 x1) (w176 x0 x1) (w1182 x0 x1) (w1183 x0 x1) (w1191 x0 x1) (w1192 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1255 x0 x1) := rfl
theorem e_pay408 (x0 : A0) (x1 : A1) : k0_pay408 (F := Ideal) (w133 x0 x1) (w150 x0 x1) (w176 x0 x1) (w1182 x0 x1) (w1183 x0 x1) (w1191 x0 x1) (w1192 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1256 x0 x1) := rfl
theorem e_pay409 (x0 : A0) (x1 : A1) : k0_pay409 (F := Ideal) (w133 x0 x1) (w150 x0 x1) (w176 x0 x1) (w1182 x0 x1) (w1183 x0 x1) (w1191 x0 x1) (w1192 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1257 x0 x1) := rfl
theorem e_pay410 (x0 : A0) (x1 : A1) : k0_pay410 (F := Ideal) (w133 x0 x1) (w150 x0 x1) (w176 x0 x1) (w1182 x0 x1) (w1183 x0 x1) (w1191 x0 x1) (w1192 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1258 x0 x1) := rfl
theorem e_pay411 (x0 : A0) (x1 : A1) : k0_pay411 (F := Ideal) (w133 x0 x1) (w150 x0 x1) (w176 x0 x1) (w1182 x0 x1) (w1183 x0 x1) (w1191 x0 x1) (w1192 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1259 x0 x1) := rfl
theorem e_pay412 (x0 : A0) (x1 : A1) : k0_pay412 (F := Ideal) (w133 x0 x1) (w150 x0 x1) (w176 x0 x1) (w1182 x0 x1) (w1183 x0 x1) (w1191 x0 x1) (w1192 x0 x1) (w1200 x0 x1) (w1201 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1264 x0 x1) := rfl
theorem e_pay413 (x0 : A0) (x1 : A1) : k0_pay413 (F := Ideal) (w133 x0 x1) (w150 x0 x1) (w176 x0 x1) (w1182 x0 x1) (w1183 x0 x1) (w1191 x0 x1) (w1192 x0 x1) (w1200 x0 x1) (w1201 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1265 x0 x1) := rfl
theorem e_pay414 (x0 : A0) (x1 : A1) : k0_pay414 (F := Ideal) (w133 x0 x1) (w150 x0 x1) (w176 x0 x1) (w1182 x0 x1) (w1183 x0 x1) (w1191 x0 x1) (w1192 x0 x1) (w1200 x0 x1) (w1201 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1266 x0 x1) := rfl
theorem e_pay415 (x0 : A0) (x1 : A1) : k0_pay415 (F := Ideal) (w133 x0 x1) (w150 x0 x1) (w176 x0 x1) (w1182 x0 x1) (w1183 x0 x1) (w1191 x0 x1) (w1192 x0 x1) (w1200 x0 x1) (w1201 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1267 x0 x1) := rfl
theorem e_pay416 (x0 : A0) (x1 : A1) : k0_pay416 (F := Ideal) (w133 x0 x1) (w150 x0 x1) (w176 x0 x1) (w1182 x0 x1) (w1183 x0 x1) (w1191 x0 x1) (w1192 x0 x1) (w1200 x0 x1) (w1201 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1268 x0 x1) := rfl
theorem e_pay417 (x0 : A0) (x1 : A1) : k0_pay417 (F := Ideal) (w133 x0 x1) (w150 x0 x1) (w176 x0 x1) (w1182 x0 x1) (w1183 x0 x1) (w1191 x0 x1) (w1192 x0 x1) (w1200 x0 x1) (w1201 x0 x1) (w1209 x0 x1) (w1210 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1273 x0 x1) := rfl
theorem e_pay418 (x0 : A0) (x1 : A1) : k0_pay418 (F := Ideal) (w133 x0 x1) (w150 x0 x1) (w176 x0 x1) (w1182 x0 x1) (w1183 x0 x1) (w1191 x0 x1) (w1192 x0 x1) (w1200 x0 x1) (w1201 x0 x1) (w1209 x0 x1) (w1210 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1274 x0 x1) := rfl
theorem e_pay419 (x0 : A0) (x1 : A1) : k0_pay419 (F := Ideal) (w133 x0 x1) (w150 x0 x1) (w176 x0 x1) (w1182 x0 x1) (w1183 x0 x1) (w1191 x0 x1) (w1192 x0 x1) (w1200 x0 x1) (w1201 x0 x1) (w1209 x0 x1) (w1210 x0 x1) (w1219 x0 x1) (w1229 x0 x1) (mulf (broadcast S68x2048 ((Scalar.ofBits .f32 0x3D5F2F87#32 : Ideal .f32))) (w1226 x0 x1)) (mulf (broadcast S68x2048 ((Scalar.ofBits .f32 0x3E7A0FEB#32 : Ideal .f32))) (w1227 x0 x1)) = (w1275 x0 x1) := rfl
theorem e_pay420 (x0 : A0) (x1 : A1) : k0_pay420 (F := Ideal) (w75 x0 x1) (w124 x0 x1) = (w1278 x0 x1) := rfl
theorem e_pay421 (x0 : A0) (x1 : A1) : k0_pay421 (F := Ideal) (w85 x0 x1) (w125 x0 x1) = (w1281 x0 x1) := rfl
theorem e_pay422 (x0 : A0) (x1 : A1) : k0_pay422 (F := Ideal) (w95 x0 x1) (w126 x0 x1) = (w1284 x0 x1) := rfl
theorem e_pay423 (x0 : A0) (x1 : A1) : k0_pay423 (F := Ideal) (w105 x0 x1) (w127 x0 x1) = (w1287 x0 x1) := rfl
theorem e_pay424 (x0 : A0) (x1 : A1) : k0_pay424 (F := Ideal) (w115 x0 x1) (w128 x0 x1) = (w1290 x0 x1) := rfl
theorem e_pay425 (x0 : A0) (x1 : A1) : k0_pay425 (F := Ideal) (w150 x0 x1) (w176 x0 x1) (w1278 x0 x1) (w1281 x0 x1) (w1284 x0 x1) (w1287 x0 x1) (w1290 x0 x1) = (w1305 x0 x1) := rfl
theorem e_pay426 (x0 : A0) (x1 : A1) : k0_pay426 (w129 x0 x1) = (w1306 x0 x1) := rfl
theorem e_pay427 (x0 : A0) (x1 : A1) : k0_pay427 (F := Ideal) (w129 x0 x1) (w150 x0 x1) (w176 x0 x1) (w1247 x0 x1) (w1248 x0 x1) (w1278 x0 x1) (w1281 x0 x1) (w1284 x0 x1) (w1287 x0 x1) (w1290 x0 x1) = (w1311 x0 x1) := rfl
theorem e_pay428 (x0 : A0) (x1 : A1) : k0_pay428 (F := Ideal) (w129 x0 x1) (w150 x0 x1) (w176 x0 x1) (w1247 x0 x1) (w1248 x0 x1) (w1278 x0 x1) (w1281 x0 x1) (w1284 x0 x1) (w1287 x0 x1) (w1290 x0 x1) = (w1312 x0 x1) := rfl
theorem e_pay429 (x0 : A0) (x1 : A1) : k0_pay429 (F := Ideal) (w129 x0 x1) (w150 x0 x1) (w176 x0 x1) (w1247 x0 x1) (w1248 x0 x1) (w1278 x0 x1) (w1281 x0 x1) (w1284 x0 x1) (w1287 x0 x1) (w1290 x0 x1) = (w1313 x0 x1) := rfl
theorem e_pay430 (x0 : A0) (x1 : A1) : k0_pay430 (F := Ideal) (w129 x0 x1) (w150 x0 x1) (w176 x0 x1) (w1247 x0 x1) (w1248 x0 x1) (w1278 x0 x1) (w1281 x0 x1) (w1284 x0 x1) (w1287 x0 x1) (w1290 x0 x1) = (w1314 x0 x1) := rfl
theorem e_pay431 (x0 : A0) (x1 : A1) : k0_pay431 (F := Ideal) (w129 x0 x1) (w150 x0 x1) (w176 x0 x1) (w1247 x0 x1) (w1248 x0 x1) (w1278 x0 x1) (w1281 x0 x1) (w1284 x0 x1) (w1287 x0 x1) (w1290 x0 x1) = (w1315 x0 x1) := rfl
theorem e_pay432 (x0 : A0) (x1 : A1) : k0_pay432 (F := Ideal) (w129 x0 x1) (w150 x0 x1) (w176 x0 x1) (w1247 x0 x1) (w1248 x0 x1) (w1256 x0 x1) (w1257 x0 x1) (w1278 x0 x1) (w1281 x0 x1) (w1284 x0 x1) (w1287 x0 x1) (w1290 x0 x1) = (w1320 x0 x1) := rfl
theorem e_pay433 (x0 : A0) (x1 : A1) : k0_pay433 (F := Ideal) (w129 x0 x1) (w150 x0 x1) (w176 x0 x1) (w1247 x0 x1) (w1248 x0 x1) (w1256 x0 x1) (w1257 x0 x1) (w1278 x0 x1) (w1281 x0 x1) (w1284 x0 x1) (w1287 x0 x1) (w1290 x0 x1) = (w1321 x0 x1) := rfl
theorem e_pay434 (x0 : A0) (x1 : A1) : k0_pay434 (F := Ideal) (w129 x0 x1) (w150 x0 x1) (w176 x0 x1) (w1247 x0 x1) (w1248 x0 x1) (w1256 x0 x1) (w1257 x0 x1) (w1278 x0 x1) (w1281 x0 x1) (w1284 x0 x1) (w1287 x0 x1) (w1290 x0 x1) = (w1322 x0 x1) := rfl
theorem e_pay435 (x0 : A0) (x1 : A1) : k0_pay435 (F := Ideal) (w129 x0 x1) (w150 x0 x1) (w176 x0 x1) (w1247 x0 x1) (w1248 x0 x1) (w1256 x0 x1) (w1257 x0 x1) (w1278 x0 x1) (w1281 x0 x1) (w1284 x0 x1) (w1287 x0 x1) (w1290 x0 x1) = (w1323 x0 x1) := rfl
theorem e_pay436 (x0 : A0) (x1 : A1) : k0_pay436 (F := Ideal) (w129 x0 x1) (w150 x0 x1) (w176 x0 x1) (w1247 x0 x1) (w1248 x0 x1) (w1256 x0 x1) (w1257 x0 x1) (w1278 x0 x1) (w1281 x0 x1) (w1284 x0 x1) (w1287 x0 x1) (w1290 x0 x1) = (w1324 x0 x1) := rfl
theorem e_pay437 (x0 : A0) (x1 : A1) : k0_pay437 (F := Ideal) (w129 x0 x1) (w150 x0 x1) (w176 x0 x1) (w1247 x0 x1) (w1248 x0 x1) (w1256 x0 x1) (w1257 x0 x1) (w1265 x0 x1) (w1266 x0 x1) (w1278 x0 x1) (w1281 x0 x1) (w1284 x0 x1) (w1287 x0 x1) (w1290 x0 x1) = (w1329 x0 x1) := rfl
theorem e_pay438 (x0 : A0) (x1 : A1) : k0_pay438 (F := Ideal) (w129 x0 x1) (w150 x0 x1) (w176 x0 x1) (w1247 x0 x1) (w1248 x0 x1) (w1256 x0 x1) (w1257 x0 x1) (w1265 x0 x1) (w1266 x0 x1) (w1278 x0 x1) (w1281 x0 x1) (w1284 x0 x1) (w1287 x0 x1) (w1290 x0 x1) = (w1330 x0 x1) := rfl
theorem e_pay439 (x0 : A0) (x1 : A1) : k0_pay439 (F := Ideal) (w129 x0 x1) (w150 x0 x1) (w176 x0 x1) (w1247 x0 x1) (w1248 x0 x1) (w1256 x0 x1) (w1257 x0 x1) (w1265 x0 x1) (w1266 x0 x1) (w1278 x0 x1) (w1281 x0 x1) (w1284 x0 x1) (w1287 x0 x1) (w1290 x0 x1) = (w1331 x0 x1) := rfl
theorem e_pay440 (x0 : A0) (x1 : A1) : k0_pay440 (F := Ideal) (w129 x0 x1) (w150 x0 x1) (w176 x0 x1) (w1247 x0 x1) (w1248 x0 x1) (w1256 x0 x1) (w1257 x0 x1) (w1265 x0 x1) (w1266 x0 x1) (w1278 x0 x1) (w1281 x0 x1) (w1284 x0 x1) (w1287 x0 x1) (w1290 x0 x1) = (w1332 x0 x1) := rfl
theorem e_pay441 (x0 : A0) (x1 : A1) : k0_pay441 (F := Ideal) (w129 x0 x1) (w150 x0 x1) (w176 x0 x1) (w1247 x0 x1) (w1248 x0 x1) (w1256 x0 x1) (w1257 x0 x1) (w1265 x0 x1) (w1266 x0 x1) (w1278 x0 x1) (w1281 x0 x1) (w1284 x0 x1) (w1287 x0 x1) (w1290 x0 x1) = (w1333 x0 x1) := rfl
theorem e_pay442 (x0 : A0) (x1 : A1) : k0_pay442 (F := Ideal) (w129 x0 x1) (w150 x0 x1) (w176 x0 x1) (w1247 x0 x1) (w1248 x0 x1) (w1256 x0 x1) (w1257 x0 x1) (w1265 x0 x1) (w1266 x0 x1) (w1274 x0 x1) (w1275 x0 x1) (w1278 x0 x1) (w1281 x0 x1) (w1284 x0 x1) (w1287 x0 x1) (w1290 x0 x1) = (w1338 x0 x1) := rfl
theorem e_pay443 (x0 : A0) (x1 : A1) : k0_pay443 (F := Ideal) (w129 x0 x1) (w150 x0 x1) (w176 x0 x1) (w1247 x0 x1) (w1248 x0 x1) (w1256 x0 x1) (w1257 x0 x1) (w1265 x0 x1) (w1266 x0 x1) (w1274 x0 x1) (w1275 x0 x1) (w1278 x0 x1) (w1281 x0 x1) (w1284 x0 x1) (w1287 x0 x1) (w1290 x0 x1) = (w1339 x0 x1) := rfl
theorem e_pay444 (x0 : A0) (x1 : A1) : k0_pay444 (F := Ideal) (w129 x0 x1) (w150 x0 x1) (w176 x0 x1) (w1247 x0 x1) (w1248 x0 x1) (w1256 x0 x1) (w1257 x0 x1) (w1265 x0 x1) (w1266 x0 x1) (w1274 x0 x1) (w1275 x0 x1) (w1278 x0 x1) (w1281 x0 x1) (w1284 x0 x1) (w1287 x0 x1) (w1290 x0 x1) = (w1340 x0 x1) := rfl
theorem e_pay445 (x0 : A0) (x1 : A1) : k0_pay445 (F := Ideal) (w77 x0 x1) (w124 x0 x1) = (w1343 x0 x1) := rfl
theorem e_pay446 (x0 : A0) (x1 : A1) : k0_pay446 (F := Ideal) (w87 x0 x1) (w125 x0 x1) = (subf (extractStridedSlice S68x2048 ![4, 0] (w87 x0 x1) slices_S72x2048_o4_0_S68x2048) (w125 x0 x1)) := rfl
theorem e_pay447 (x0 : A0) (x1 : A1) : k0_pay447 (F := Ideal) (w97 x0 x1) (w107 x0 x1) (w117 x0 x1) (w126 x0 x1) (w127 x0 x1) (w128 x0 x1) (w150 x0 x1) (w176 x0 x1) (w1343 x0 x1) (subf (extractStridedSlice S68x2048 ![4, 0] (w87 x0 x1) slices_S72x2048_o4_0_S68x2048) (w125 x0 x1)) = (w1370 x0 x1) := rfl
theorem e_pay448 (x0 : A0) (x1 : A1) : k0_pay448 (w130 x0 x1) = (w1371 x0 x1) := rfl
theorem e_pay449 (x0 : A0) (x1 : A1) : k0_pay449 (F := Ideal) (w97 x0 x1) (w107 x0 x1) (w117 x0 x1) (w126 x0 x1) (w127 x0 x1) (w128 x0 x1) (w130 x0 x1) (w150 x0 x1) (w176 x0 x1) (w1312 x0 x1) (w1313 x0 x1) (w1343 x0 x1) (subf (extractStridedSlice S68x2048 ![4, 0] (w87 x0 x1) slices_S72x2048_o4_0_S68x2048) (w125 x0 x1)) = (w1376 x0 x1) := rfl
theorem e_pay450 (x0 : A0) (x1 : A1) : k0_pay450 (F := Ideal) (w97 x0 x1) (w107 x0 x1) (w117 x0 x1) (w126 x0 x1) (w127 x0 x1) (w128 x0 x1) (w130 x0 x1) (w150 x0 x1) (w176 x0 x1) (w1312 x0 x1) (w1313 x0 x1) (w1343 x0 x1) (subf (extractStridedSlice S68x2048 ![4, 0] (w87 x0 x1) slices_S72x2048_o4_0_S68x2048) (w125 x0 x1)) = (w1377 x0 x1) := rfl
theorem e_pay451 (x0 : A0) (x1 : A1) : k0_pay451 (F := Ideal) (w97 x0 x1) (w107 x0 x1) (w117 x0 x1) (w126 x0 x1) (w127 x0 x1) (w128 x0 x1) (w130 x0 x1) (w150 x0 x1) (w176 x0 x1) (w1312 x0 x1) (w1313 x0 x1) (w1343 x0 x1) (subf (extractStridedSlice S68x2048 ![4, 0] (w87 x0 x1) slices_S72x2048_o4_0_S68x2048) (w125 x0 x1)) = (w1378 x0 x1) := rfl
theorem e_pay452 (x0 : A0) (x1 : A1) : k0_pay452 (F := Ideal) (w97 x0 x1) (w107 x0 x1) (w117 x0 x1) (w126 x0 x1) (w127 x0 x1) (w128 x0 x1) (w130 x0 x1) (w150 x0 x1) (w176 x0 x1) (w1312 x0 x1) (w1313 x0 x1) (w1343 x0 x1) (subf (extractStridedSlice S68x2048 ![4, 0] (w87 x0 x1) slices_S72x2048_o4_0_S68x2048) (w125 x0 x1)) = (w1379 x0 x1) := rfl
theorem e_pay453 (x0 : A0) (x1 : A1) : k0_pay453 (F := Ideal) (w97 x0 x1) (w107 x0 x1) (w117 x0 x1) (w126 x0 x1) (w127 x0 x1) (w128 x0 x1) (w130 x0 x1) (w150 x0 x1) (w176 x0 x1) (w1312 x0 x1) (w1313 x0 x1) (w1343 x0 x1) (subf (extractStridedSlice S68x2048 ![4, 0] (w87 x0 x1) slices_S72x2048_o4_0_S68x2048) (w125 x0 x1)) = (w1380 x0 x1) := rfl
theorem e_pay454 (x0 : A0) (x1 : A1) : k0_pay454 (F := Ideal) (w97 x0 x1) (w107 x0 x1) (w117 x0 x1) (w126 x0 x1) (w127 x0 x1) (w128 x0 x1) (w130 x0 x1) (w150 x0 x1) (w176 x0 x1) (w1312 x0 x1) (w1313 x0 x1) (w1321 x0 x1) (w1322 x0 x1) (w1343 x0 x1) (subf (extractStridedSlice S68x2048 ![4, 0] (w87 x0 x1) slices_S72x2048_o4_0_S68x2048) (w125 x0 x1)) = (w1385 x0 x1) := rfl
theorem e_pay455 (x0 : A0) (x1 : A1) : k0_pay455 (F := Ideal) (w97 x0 x1) (w107 x0 x1) (w117 x0 x1) (w126 x0 x1) (w127 x0 x1) (w128 x0 x1) (w130 x0 x1) (w150 x0 x1) (w176 x0 x1) (w1312 x0 x1) (w1313 x0 x1) (w1321 x0 x1) (w1322 x0 x1) (w1343 x0 x1) (subf (extractStridedSlice S68x2048 ![4, 0] (w87 x0 x1) slices_S72x2048_o4_0_S68x2048) (w125 x0 x1)) = (w1386 x0 x1) := rfl
theorem e_pay456 (x0 : A0) (x1 : A1) : k0_pay456 (F := Ideal) (w97 x0 x1) (w107 x0 x1) (w117 x0 x1) (w126 x0 x1) (w127 x0 x1) (w128 x0 x1) (w130 x0 x1) (w150 x0 x1) (w176 x0 x1) (w1312 x0 x1) (w1313 x0 x1) (w1321 x0 x1) (w1322 x0 x1) (w1343 x0 x1) (subf (extractStridedSlice S68x2048 ![4, 0] (w87 x0 x1) slices_S72x2048_o4_0_S68x2048) (w125 x0 x1)) = (w1387 x0 x1) := rfl
theorem e_pay457 (x0 : A0) (x1 : A1) : k0_pay457 (F := Ideal) (w97 x0 x1) (w107 x0 x1) (w117 x0 x1) (w126 x0 x1) (w127 x0 x1) (w128 x0 x1) (w130 x0 x1) (w150 x0 x1) (w176 x0 x1) (w1312 x0 x1) (w1313 x0 x1) (w1321 x0 x1) (w1322 x0 x1) (w1343 x0 x1) (subf (extractStridedSlice S68x2048 ![4, 0] (w87 x0 x1) slices_S72x2048_o4_0_S68x2048) (w125 x0 x1)) = (w1388 x0 x1) := rfl
theorem e_pay458 (x0 : A0) (x1 : A1) : k0_pay458 (F := Ideal) (w97 x0 x1) (w107 x0 x1) (w117 x0 x1) (w126 x0 x1) (w127 x0 x1) (w128 x0 x1) (w130 x0 x1) (w150 x0 x1) (w176 x0 x1) (w1312 x0 x1) (w1313 x0 x1) (w1321 x0 x1) (w1322 x0 x1) (w1343 x0 x1) (subf (extractStridedSlice S68x2048 ![4, 0] (w87 x0 x1) slices_S72x2048_o4_0_S68x2048) (w125 x0 x1)) = (w1389 x0 x1) := rfl
theorem e_pay459 (x0 : A0) (x1 : A1) : k0_pay459 (F := Ideal) (w97 x0 x1) (w107 x0 x1) (w117 x0 x1) (w126 x0 x1) (w127 x0 x1) (w128 x0 x1) (w130 x0 x1) (w150 x0 x1) (w176 x0 x1) (w1312 x0 x1) (w1313 x0 x1) (w1321 x0 x1) (w1322 x0 x1) (w1330 x0 x1) (w1331 x0 x1) (w1343 x0 x1) (subf (extractStridedSlice S68x2048 ![4, 0] (w87 x0 x1) slices_S72x2048_o4_0_S68x2048) (w125 x0 x1)) = (w1394 x0 x1) := rfl
theorem e_pay460 (x0 : A0) (x1 : A1) : k0_pay460 (F := Ideal) (w97 x0 x1) (w107 x0 x1) (w117 x0 x1) (w126 x0 x1) (w127 x0 x1) (w128 x0 x1) (w130 x0 x1) (w150 x0 x1) (w176 x0 x1) (w1312 x0 x1) (w1313 x0 x1) (w1321 x0 x1) (w1322 x0 x1) (w1330 x0 x1) (w1331 x0 x1) (w1343 x0 x1) (subf (extractStridedSlice S68x2048 ![4, 0] (w87 x0 x1) slices_S72x2048_o4_0_S68x2048) (w125 x0 x1)) = (w1395 x0 x1) := rfl
theorem e_pay461 (x0 : A0) (x1 : A1) : k0_pay461 (F := Ideal) (w97 x0 x1) (w107 x0 x1) (w117 x0 x1) (w126 x0 x1) (w127 x0 x1) (w128 x0 x1) (w130 x0 x1) (w150 x0 x1) (w176 x0 x1) (w1312 x0 x1) (w1313 x0 x1) (w1321 x0 x1) (w1322 x0 x1) (w1330 x0 x1) (w1331 x0 x1) (w1343 x0 x1) (subf (extractStridedSlice S68x2048 ![4, 0] (w87 x0 x1) slices_S72x2048_o4_0_S68x2048) (w125 x0 x1)) = (w1396 x0 x1) := rfl
theorem e_pay462 (x0 : A0) (x1 : A1) : k0_pay462 (F := Ideal) (w97 x0 x1) (w107 x0 x1) (w117 x0 x1) (w126 x0 x1) (w127 x0 x1) (w128 x0 x1) (w130 x0 x1) (w150 x0 x1) (w176 x0 x1) (w1312 x0 x1) (w1313 x0 x1) (w1321 x0 x1) (w1322 x0 x1) (w1330 x0 x1) (w1331 x0 x1) (w1343 x0 x1) (subf (extractStridedSlice S68x2048 ![4, 0] (w87 x0 x1) slices_S72x2048_o4_0_S68x2048) (w125 x0 x1)) = (w1397 x0 x1) := rfl
theorem e_pay463 (x0 : A0) (x1 : A1) : k0_pay463 (F := Ideal) (w97 x0 x1) (w107 x0 x1) (w117 x0 x1) (w126 x0 x1) (w127 x0 x1) (w128 x0 x1) (w130 x0 x1) (w150 x0 x1) (w176 x0 x1) (w1312 x0 x1) (w1313 x0 x1) (w1321 x0 x1) (w1322 x0 x1) (w1330 x0 x1) (w1331 x0 x1) (w1343 x0 x1) (subf (extractStridedSlice S68x2048 ![4, 0] (w87 x0 x1) slices_S72x2048_o4_0_S68x2048) (w125 x0 x1)) = (w1398 x0 x1) := rfl
theorem e_pay464 (x0 : A0) (x1 : A1) : k0_pay464 (F := Ideal) (w97 x0 x1) (w107 x0 x1) (w117 x0 x1) (w126 x0 x1) (w127 x0 x1) (w128 x0 x1) (w130 x0 x1) (w150 x0 x1) (w176 x0 x1) (w1312 x0 x1) (w1313 x0 x1) (w1321 x0 x1) (w1322 x0 x1) (w1330 x0 x1) (w1331 x0 x1) (w1339 x0 x1) (w1343 x0 x1) (subf (extractStridedSlice S68x2048 ![4, 0] (w87 x0 x1) slices_S72x2048_o4_0_S68x2048) (w125 x0 x1)) = (cmpf .olt (w1397 x0 x1) (w1339 x0 x1)) := rfl
theorem e_pay465 (x0 : A0) (x1 : A1) : k0_pay465 (F := Ideal) (w97 x0 x1) (w107 x0 x1) (w117 x0 x1) (w126 x0 x1) (w127 x0 x1) (w128 x0 x1) (w130 x0 x1) (w150 x0 x1) (w176 x0 x1) (w1312 x0 x1) (w1313 x0 x1) (w1321 x0 x1) (w1322 x0 x1) (w1330 x0 x1) (w1331 x0 x1) (w1339 x0 x1) (w1343 x0 x1) (subf (extractStridedSlice S68x2048 ![4, 0] (w87 x0 x1) slices_S72x2048_o4_0_S68x2048) (w125 x0 x1)) = (cmpf .oeq (w1397 x0 x1) (w1339 x0 x1)) := rfl
theorem e_pay466 (x0 : A0) (x1 : A1) : k0_pay466 (w1340 x0 x1) (w1398 x0 x1) (cmpf .olt (w1397 x0 x1) (w1339 x0 x1)) (cmpf .oeq (w1397 x0 x1) (w1339 x0 x1)) = (w1403 x0 x1) := rfl
theorem e_pay467 (x0 : A0) (x1 : A1) : k0_pay467 (F := Ideal) (w1339 x0 x1) (w1340 x0 x1) (w1397 x0 x1) (w1398 x0 x1) (cmpf .olt (w1397 x0 x1) (w1339 x0 x1)) (cmpf .oeq (w1397 x0 x1) (w1339 x0 x1)) = (w1404 x0 x1) := rfl
theorem e_pay468 (x0 : A0) (x1 : A1) : k0_pay468 (w1340 x0 x1) (w1398 x0 x1) (cmpf .olt (w1397 x0 x1) (w1339 x0 x1)) (cmpf .oeq (w1397 x0 x1) (w1339 x0 x1)) = (w1405 x0 x1) := rfl
theorem e_pay469 (x0 : A0) (x1 : A1) : k0_pay469 (F := Ideal) (w79 x0 x1) (w89 x0 x1) (w99 x0 x1) (w109 x0 x1) (w119 x0 x1) (w124 x0 x1) (w125 x0 x1) (w126 x0 x1) (w127 x0 x1) (w128 x0 x1) (w150 x0 x1) (w176 x0 x1) = (w1435 x0 x1) := rfl
theorem e_pay470 (x0 : A0) (x1 : A1) : k0_pay470 (w131 x0 x1) = (w1436 x0 x1) := rfl
theorem e_pay471 (x0 : A0) (x1 : A1) : k0_pay471 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1377 x0 x1) (w1378 x0 x1) = (w1441 x0 x1) := rfl
theorem e_pay472 (x0 : A0) (x1 : A1) : k0_pay472 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1377 x0 x1) (w1378 x0 x1) = (w1442 x0 x1) := rfl
theorem e_pay473 (x0 : A0) (x1 : A1) : k0_pay473 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1377 x0 x1) (w1378 x0 x1) = (w1443 x0 x1) := rfl
theorem e_pay474 (x0 : A0) (x1 : A1) : k0_pay474 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1377 x0 x1) (w1378 x0 x1) = (w1444 x0 x1) := rfl
theorem e_pay475 (x0 : A0) (x1 : A1) : k0_pay475 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1377 x0 x1) (w1378 x0 x1) = (w1445 x0 x1) := rfl
theorem e_pay476 (x0 : A0) (x1 : A1) : k0_pay476 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1377 x0 x1) (w1378 x0 x1) (w1386 x0 x1) (w1387 x0 x1) = (w1450 x0 x1) := rfl
theorem e_pay477 (x0 : A0) (x1 : A1) : k0_pay477 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1377 x0 x1) (w1378 x0 x1) (w1386 x0 x1) (w1387 x0 x1) = (w1451 x0 x1) := rfl
theorem e_pay478 (x0 : A0) (x1 : A1) : k0_pay478 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1377 x0 x1) (w1378 x0 x1) (w1386 x0 x1) (w1387 x0 x1) = (w1452 x0 x1) := rfl
theorem e_pay479 (x0 : A0) (x1 : A1) : k0_pay479 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1377 x0 x1) (w1378 x0 x1) (w1386 x0 x1) (w1387 x0 x1) = (w1453 x0 x1) := rfl
theorem e_pay480 (x0 : A0) (x1 : A1) : k0_pay480 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1377 x0 x1) (w1378 x0 x1) (w1386 x0 x1) (w1387 x0 x1) = (w1454 x0 x1) := rfl
theorem e_pay481 (x0 : A0) (x1 : A1) : k0_pay481 (F := Ideal) (w79 x0 x1) (w89 x0 x1) (w99 x0 x1) (w109 x0 x1) (w119 x0 x1) (w124 x0 x1) (w125 x0 x1) (w126 x0 x1) (w127 x0 x1) (w128 x0 x1) (w131 x0 x1) (w150 x0 x1) (w176 x0 x1) (w1377 x0 x1) (w1378 x0 x1) (w1386 x0 x1) (w1387 x0 x1) (w1395 x0 x1) = (cmpf .olt (w1453 x0 x1) (w1395 x0 x1)) := rfl
theorem e_pay482 (x0 : A0) (x1 : A1) : k0_pay482 (F := Ideal) (w1395 x0 x1) (w1396 x0 x1) (w1453 x0 x1) (w1454 x0 x1) (cmpf .olt (w1453 x0 x1) (w1395 x0 x1)) = (w1459 x0 x1) := rfl
theorem e_pay483 (x0 : A0) (x1 : A1) : k0_pay483 (F := Ideal) (w1395 x0 x1) (w1396 x0 x1) (w1453 x0 x1) (w1454 x0 x1) (cmpf .olt (w1453 x0 x1) (w1395 x0 x1)) = (w1460 x0 x1) := rfl
theorem e_pay484 (x0 : A0) (x1 : A1) : k0_pay484 (F := Ideal) (w1395 x0 x1) (w1396 x0 x1) (w1453 x0 x1) (w1454 x0 x1) (cmpf .olt (w1453 x0 x1) (w1395 x0 x1)) = (w1461 x0 x1) := rfl
theorem e_pay485 (x0 : A0) (x1 : A1) : k0_pay485 (F := Ideal) (w1395 x0 x1) (w1396 x0 x1) (w1453 x0 x1) (w1454 x0 x1) (cmpf .olt (w1453 x0 x1) (w1395 x0 x1)) = (w1462 x0 x1) := rfl
theorem e_pay486 (x0 : A0) (x1 : A1) : k0_pay486 (F := Ideal) (w1395 x0 x1) (w1396 x0 x1) (w1453 x0 x1) (w1454 x0 x1) (cmpf .olt (w1453 x0 x1) (w1395 x0 x1)) = (w1463 x0 x1) := rfl
theorem e_pay487 (x0 : A0) (x1 : A1) : k0_pay487 (F := Ideal) (w1395 x0 x1) (w1396 x0 x1) (w1404 x0 x1) (w1405 x0 x1) (w1453 x0 x1) (w1454 x0 x1) (cmpf .olt (w1453 x0 x1) (w1395 x0 x1)) = (w1468 x0 x1) := rfl
theorem e_pay488 (x0 : A0) (x1 : A1) : k0_pay488 (F := Ideal) (w1395 x0 x1) (w1396 x0 x1) (w1404 x0 x1) (w1405 x0 x1) (w1453 x0 x1) (w1454 x0 x1) (cmpf .olt (w1453 x0 x1) (w1395 x0 x1)) = (w1469 x0 x1) := rfl
theorem e_pay489 (x0 : A0) (x1 : A1) : k0_pay489 (F := Ideal) (w1395 x0 x1) (w1396 x0 x1) (w1404 x0 x1) (w1405 x0 x1) (w1453 x0 x1) (w1454 x0 x1) (cmpf .olt (w1453 x0 x1) (w1395 x0 x1)) = (w1470 x0 x1) := rfl
theorem e_pay490 (x0 : A0) (x1 : A1) : k0_pay490 (F := Ideal) (w81 x0 x1) (w91 x0 x1) (w101 x0 x1) (w111 x0 x1) (w121 x0 x1) (w124 x0 x1) (w125 x0 x1) (w126 x0 x1) (w127 x0 x1) (w128 x0 x1) (w150 x0 x1) (w176 x0 x1) = (w1500 x0 x1) := rfl
theorem e_pay491 (x0 : A0) (x1 : A1) : k0_pay491 (w132 x0 x1) = (w1501 x0 x1) := rfl
theorem e_pay492 (x0 : A0) (x1 : A1) : k0_pay492 (F := Ideal) (w81 x0 x1) (w91 x0 x1) (w101 x0 x1) (w111 x0 x1) (w121 x0 x1) (w124 x0 x1) (w125 x0 x1) (w126 x0 x1) (w127 x0 x1) (w128 x0 x1) (w132 x0 x1) (w150 x0 x1) (w176 x0 x1) (w1442 x0 x1) (w1443 x0 x1) = (w1506 x0 x1) := rfl
theorem e_pay493 (x0 : A0) (x1 : A1) : k0_pay493 (F := Ideal) (w81 x0 x1) (w91 x0 x1) (w101 x0 x1) (w111 x0 x1) (w121 x0 x1) (w124 x0 x1) (w125 x0 x1) (w126 x0 x1) (w127 x0 x1) (w128 x0 x1) (w132 x0 x1) (w150 x0 x1) (w176 x0 x1) (w1442 x0 x1) (w1443 x0 x1) = (w1507 x0 x1) := rfl
theorem e_pay494 (x0 : A0) (x1 : A1) : k0_pay494 (F := Ideal) (w81 x0 x1) (w91 x0 x1) (w101 x0 x1) (w111 x0 x1) (w121 x0 x1) (w124 x0 x1) (w125 x0 x1) (w126 x0 x1) (w127 x0 x1) (w128 x0 x1) (w132 x0 x1) (w150 x0 x1) (w176 x0 x1) (w1442 x0 x1) (w1443 x0 x1) = (w1508 x0 x1) := rfl
theorem e_pay495 (x0 : A0) (x1 : A1) : k0_pay495 (F := Ideal) (w81 x0 x1) (w91 x0 x1) (w101 x0 x1) (w111 x0 x1) (w121 x0 x1) (w124 x0 x1) (w125 x0 x1) (w126 x0 x1) (w127 x0 x1) (w128 x0 x1) (w132 x0 x1) (w150 x0 x1) (w176 x0 x1) (w1442 x0 x1) (w1443 x0 x1) = (w1509 x0 x1) := rfl
theorem e_pay496 (x0 : A0) (x1 : A1) : k0_pay496 (F := Ideal) (w81 x0 x1) (w91 x0 x1) (w101 x0 x1) (w111 x0 x1) (w121 x0 x1) (w124 x0 x1) (w125 x0 x1) (w126 x0 x1) (w127 x0 x1) (w128 x0 x1) (w132 x0 x1) (w150 x0 x1) (w176 x0 x1) (w1442 x0 x1) (w1443 x0 x1) = (w1510 x0 x1) := rfl
theorem e_pay497 (x0 : A0) (x1 : A1) : k0_pay497 (F := Ideal) (w1451 x0 x1) (w1452 x0 x1) (w1509 x0 x1) (w1510 x0 x1) = (w1515 x0 x1) := rfl
theorem e_pay498 (x0 : A0) (x1 : A1) : k0_pay498 (F := Ideal) (w1451 x0 x1) (w1452 x0 x1) (w1509 x0 x1) (w1510 x0 x1) = (w1516 x0 x1) := rfl
theorem e_pay499 (x0 : A0) (x1 : A1) : k0_pay499 (F := Ideal) (w1451 x0 x1) (w1452 x0 x1) (w1509 x0 x1) (w1510 x0 x1) = (w1517 x0 x1) := rfl
theorem e_pay500 (x0 : A0) (x1 : A1) : k0_pay500 (F := Ideal) (w1451 x0 x1) (w1452 x0 x1) (w1509 x0 x1) (w1510 x0 x1) = (w1518 x0 x1) := rfl
theorem e_pay501 (x0 : A0) (x1 : A1) : k0_pay501 (F := Ideal) (w1451 x0 x1) (w1452 x0 x1) (w1509 x0 x1) (w1510 x0 x1) = (w1519 x0 x1) := rfl
theorem e_pay502 (x0 : A0) (x1 : A1) : k0_pay502 (F := Ideal) (w1451 x0 x1) (w1452 x0 x1) (w1460 x0 x1) (w1461 x0 x1) (w1509 x0 x1) (w1510 x0 x1) = (w1524 x0 x1) := rfl
theorem e_pay503 (x0 : A0) (x1 : A1) : k0_pay503 (F := Ideal) (w1451 x0 x1) (w1452 x0 x1) (w1460 x0 x1) (w1461 x0 x1) (w1509 x0 x1) (w1510 x0 x1) = (w1525 x0 x1) := rfl
theorem e_pay504 (x0 : A0) (x1 : A1) : k0_pay504 (F := Ideal) (w1451 x0 x1) (w1452 x0 x1) (w1460 x0 x1) (w1461 x0 x1) (w1509 x0 x1) (w1510 x0 x1) = (w1526 x0 x1) := rfl
theorem e_pay505 (x0 : A0) (x1 : A1) : k0_pay505 (F := Ideal) (w1451 x0 x1) (w1452 x0 x1) (w1460 x0 x1) (w1461 x0 x1) (w1509 x0 x1) (w1510 x0 x1) = (w1527 x0 x1) := rfl
theorem e_pay506 (x0 : A0) (x1 : A1) : k0_pay506 (F := Ideal) (w1451 x0 x1) (w1452 x0 x1) (w1460 x0 x1) (w1461 x0 x1) (w1509 x0 x1) (w1510 x0 x1) = (w1528 x0 x1) := rfl
theorem e_pay507 (x0 : A0) (x1 : A1) : k0_pay507 (F := Ideal) (w1451 x0 x1) (w1452 x0 x1) (w1460 x0 x1) (w1461 x0 x1) (w1469 x0 x1) (w1470 x0 x1) (w1509 x0 x1) (w1510 x0 x1) = (w1533 x0 x1) := rfl
theorem e_pay508 (x0 : A0) (x1 : A1) : k0_pay508 (F := Ideal) (w1451 x0 x1) (w1452 x0 x1) (w1460 x0 x1) (w1461 x0 x1) (w1469 x0 x1) (w1470 x0 x1) (w1509 x0 x1) (w1510 x0 x1) = (w1534 x0 x1) := rfl
theorem e_pay509 (x0 : A0) (x1 : A1) : k0_pay509 (F := Ideal) (w1451 x0 x1) (w1452 x0 x1) (w1460 x0 x1) (w1461 x0 x1) (w1469 x0 x1) (w1470 x0 x1) (w1509 x0 x1) (w1510 x0 x1) = (w1535 x0 x1) := rfl
theorem e_pay510 (x0 : A0) (x1 : A1) : k0_pay510 (F := Ideal) (w83 x0 x1) (w93 x0 x1) (w103 x0 x1) (w113 x0 x1) (w123 x0 x1) (w124 x0 x1) (w125 x0 x1) (w126 x0 x1) (w127 x0 x1) (w128 x0 x1) (w150 x0 x1) (w176 x0 x1) = (w1565 x0 x1) := rfl
theorem e_pay511 (x0 : A0) (x1 : A1) : k0_pay511 (w133 x0 x1) = (w1566 x0 x1) := rfl
theorem e_pay512 (x0 : A0) (x1 : A1) : k0_pay512 (F := Ideal) (w133 x0 x1) (w1507 x0 x1) (w1508 x0 x1) (w1565 x0 x1) = (w1571 x0 x1) := rfl
theorem e_pay513 (x0 : A0) (x1 : A1) : k0_pay513 (F := Ideal) (w133 x0 x1) (w1507 x0 x1) (w1508 x0 x1) (w1565 x0 x1) = (w1574 x0 x1) := rfl
theorem e_pay514 (x0 : A0) (x1 : A1) : k0_pay514 (F := Ideal) (w133 x0 x1) (w1507 x0 x1) (w1508 x0 x1) (w1565 x0 x1) = (w1575 x0 x1) := rfl
theorem e_pay515 (x0 : A0) (x1 : A1) : k0_pay515 (F := Ideal) (w133 x0 x1) (w1507 x0 x1) (w1508 x0 x1) (w1516 x0 x1) (w1517 x0 x1) (w1565 x0 x1) = (w1580 x0 x1) := rfl
theorem e_pay516 (x0 : A0) (x1 : A1) : k0_pay516 (F := Ideal) (w133 x0 x1) (w1507 x0 x1) (w1508 x0 x1) (w1516 x0 x1) (w1517 x0 x1) (w1565 x0 x1) = (w1583 x0 x1) := rfl
theorem e_pay517 (x0 : A0) (x1 : A1) : k0_pay517 (F := Ideal) (w133 x0 x1) (w1507 x0 x1) (w1508 x0 x1) (w1516 x0 x1) (w1517 x0 x1) (w1565 x0 x1) = (w1584 x0 x1) := rfl
theorem e_pay518 (x0 : A0) (x1 : A1) : k0_pay518 (F := Ideal) (w133 x0 x1) (w1507 x0 x1) (w1508 x0 x1) (w1516 x0 x1) (w1517 x0 x1) (w1525 x0 x1) (w1526 x0 x1) (w1565 x0 x1) = (w1589 x0 x1) := rfl
theorem e_pay519 (x0 : A0) (x1 : A1) : k0_pay519 (w3 x0 x1) = (w1601 x0 x1) := rfl
theorem e_pay520 (x0 : A0) (x1 : A1) : k0_pay520 (F := Ideal) (w133 x0 x1) (w1507 x0 x1) (w1508 x0 x1) (w1565 x0 x1) = (w1605 x0 x1) := rfl
theorem e_pay521 (x0 : A0) (x1 : A1) : k0_pay521 (F := Ideal) (w133 x0 x1) (w1507 x0 x1) (w1508 x0 x1) (w1516 x0 x1) (w1517 x0 x1) (w1565 x0 x1) = (w1609 x0 x1) := rfl
theorem e_pay522 (x0 : A0) (x1 : A1) : k0_pay522 (F := Ideal) (w133 x0 x1) (w1507 x0 x1) (w1508 x0 x1) (w1516 x0 x1) (w1517 x0 x1) (w1525 x0 x1) (w1526 x0 x1) (w1565 x0 x1) = (w1613 x0 x1) := rfl
theorem e_pay523 (x0 : A0) (x1 : A1) : k0_pay523 (F := Ideal) (w133 x0 x1) (w1507 x0 x1) (w1508 x0 x1) (w1516 x0 x1) (w1517 x0 x1) (w1525 x0 x1) (w1526 x0 x1) (w1534 x0 x1) (w1535 x0 x1) (w1565 x0 x1) = (w1617 x0 x1) := rfl
theorem e_pay524 (x0 : A0) (x1 : A1) : k0_pay524 = (broadcast S64x2048 (1#32)) := rfl
theorem e_pay525 (x0 : A0) (x1 : A1) : k0_pay525 (w1601 x0 x1) (w1605 x0 x1) = (w1622 x0 x1) := rfl
theorem e_pay526 (x0 : A0) (x1 : A1) : k0_pay526 (w1601 x0 x1) (w1609 x0 x1) = (w1628 x0 x1) := rfl
theorem e_pay527 (x0 : A0) (x1 : A1) : k0_pay527 (w1601 x0 x1) (w1613 x0 x1) = (w1634 x0 x1) := rfl
theorem e_pay528 (x0 : A0) (x1 : A1) : k0_pay528 (w1601 x0 x1) (w1617 x0 x1) = (w1640 x0 x1) := rfl
theorem e_pay529 (x0 : A0) (x1 : A1) : k0_pay529 (w1601 x0 x1) (w1605 x0 x1) (w1609 x0 x1) (w1613 x0 x1) (w1617 x0 x1) = (w1641 x0 x1) := rfl
theorem e_pay530 (x0 : A0) (x1 : A1) : k0_pay530 (w1605 x0 x1) (w1609 x0 x1) = (w1646 x0 x1) := rfl
theorem e_pay531 (x0 : A0) (x1 : A1) : k0_pay531 (w1601 x0 x1) (w1605 x0 x1) (w1609 x0 x1) = (w1648 x0 x1) := rfl
theorem e_pay532 (x0 : A0) (x1 : A1) : k0_pay532 (w1605 x0 x1) (w1613 x0 x1) = (w1652 x0 x1) := rfl
theorem e_pay533 (x0 : A0) (x1 : A1) : k0_pay533 (w1601 x0 x1) (w1605 x0 x1) (w1613 x0 x1) = (w1654 x0 x1) := rfl
theorem e_pay534 (x0 : A0) (x1 : A1) : k0_pay534 (w1605 x0 x1) (w1617 x0 x1) = (w1658 x0 x1) := rfl
theorem e_pay535 (x0 : A0) (x1 : A1) : k0_pay535 (w1601 x0 x1) (w1605 x0 x1) (w1609 x0 x1) (w1613 x0 x1) (w1617 x0 x1) = (w1659 x0 x1) := rfl
theorem e_pay536 (x0 : A0) (x1 : A1) : k0_pay536 (w1601 x0 x1) (w1605 x0 x1) (w1617 x0 x1) = (w1660 x0 x1) := rfl
theorem e_pay537 (x0 : A0) (x1 : A1) : k0_pay537 (w1609 x0 x1) (w1613 x0 x1) = (cmpi .eq (w1609 x0 x1) (w1613 x0 x1)) := rfl
theorem e_pay538 (x0 : A0) (x1 : A1) : k0_pay538 (cmpi .eq (w1609 x0 x1) (w1613 x0 x1)) (1#32) = (w1664 x0 x1) := rfl
theorem e_pay539 (x0 : A0) (x1 : A1) : k0_pay539 (w1609 x0 x1) (w1617 x0 x1) = (w1670 x0 x1) := rfl
theorem e_pay540 (x0 : A0) (x1 : A1) : k0_pay540 (w1613 x0 x1) (w1617 x0 x1) = (w1676 x0 x1) := rfl
theorem e_pay541 (x0 : A0) (x1 : A1) : k0_pay541 (w1613 x0 x1) (w1617 x0 x1) (w1654 x0 x1) (cmpi .eq (w1609 x0 x1) (w1613 x0 x1)) (1#32) = (w1677 x0 x1) := rfl
theorem e_pay542 (x0 : A0) (x1 : A1) : k0_pay542 (w1609 x0 x1) (w1613 x0 x1) (w1617 x0 x1) (w1660 x0 x1) = (w1678 x0 x1) := rfl
theorem e_pay543 (x0 : A0) (x1 : A1) : k0_pay543 (w1601 x0 x1) (w1605 x0 x1) (w1641 x0 x1) (w1659 x0 x1) = (w1699 x0 x1) := rfl
theorem e_pay544 (x0 : A0) (x1 : A1) : k0_pay544 (w1609 x0 x1) = (cmpi .eq (w1609 x0 x1) (broadcast S64x2048 (20#32))) := rfl
theorem e_pay545 (x0 : A0) (x1 : A1) : k0_pay545 (w1609 x0 x1) (w1617 x0 x1) (w1648 x0 x1) (cmpi .eq (w1609 x0 x1) (w1613 x0 x1)) (1#32) = (muli (w1671 x0 x1) (broadcast S64x2048 (32#32))) := rfl
theorem e_pay546 (x0 : A0) (x1 : A1) : k0_pay546 = (broadcast S64x2048 (31#32)) := rfl
theorem e_pay547 (x0 : A0) (x1 : A1) : k0_pay547 (w1609 x0 x1) (w1613 x0 x1) (w1677 x0 x1) (w1699 x0 x1) (cmpi .eq (w1609 x0 x1) (broadcast S64x2048 (20#32))) (muli (w1671 x0 x1) (broadcast S64x2048 (32#32))) (broadcast S64x2048 (31#32)) = (w1719 x0 x1) := rfl
theorem e_pay548 (x0 : A0) (x1 : A1) : k0_pay548 (w1617 x0 x1) = (cmpi .eq (w1617 x0 x1) (broadcast S64x2048 (20#32))) := rfl
theorem e_pay549 (x0 : A0) (x1 : A1) : k0_pay549 (w1678 x0 x1) = (muli (w1678 x0 x1) (broadcast S64x2048 (32#32))) := rfl
theorem e_pay550 (x0 : A0) (x1 : A1) : k0_pay550 = (broadcast S64x2048 (31#32)) := rfl

end Cert.KernelIdeal.Vals

end
-- ==== Proof.KernelStored.lean ====
module

public import proofs.«01_k».proof.Proof.KernelPayloads
public import proofs.«01_k».proof.Proof.Gen.KernelIdeal.Value
public import Idealize.ShloMosaic.Lib.VecWindow

@[expose] public section

set_option maxRecDepth 16384

noncomputable section

/-! What the kernel body stores, and so what a grid point leaves in its output block. -/

namespace Cert.KernelIdeal.Vals

open Idealize.ShloMosaic Idealize.SL.Sem Cert.KernelIdeal Cert.KernelIdeal.Gen

set_option maxHeartbeats 4000000 in
/-- The body's one store writes the value numbered 1740. -/
theorem stored (c : Dev nD) (i : grid0.Coords) (arg1 : Memref sig .tc .vmem S1x72x2056 .f32) (harg1 : arg1.IsWhole) (arg2 : Memref sig .tc .vmem S1x68x2052 .i32) (harg2 : arg2.IsWhole) (arg3 : Memref sig .tc .vmem S1x64x2048 .i32) (harg3 : arg3.IsWhole) (arg4 : Memref sig .tc .vmem S8x128 .i32) (harg4 : arg4.IsWhole)
    (x0 : A0) (x1 : A1) : (kernelRun0_A (F := Ideal) c i arg1 harg1 arg2 harg2 arg3 harg3 arg4 harg4 x0 x1).1 = [⟨Rect.unit ![0, 0, 0] S1x64x2048.size inb_S1x64x2048_S1x64x2048_0_0_0, w1740 x0 x1⟩] := by
  have hx0 : View.readAt (Elt Ideal) arg1.view (Rect.unit ![0, 0, 0] S1x72x2056.size inb_S1x72x2056_S1x72x2056_0_0_0).toLoadRect (harg1.unread x0) = x0 := by
    rw [View.readAt_full, Memref.IsWhole.read_unread]
  have hx1 : View.readAt (Elt Ideal) arg2.view (Rect.unit ![0, 0, 0] S1x68x2052.size inb_S1x68x2052_S1x68x2052_0_0_0).toLoadRect (harg2.unread x1) = x1 := by
    rw [View.readAt_full, Memref.IsWhole.read_unread]
  dsimp only [kernelRun0_A]
  simp only [kernelRun0_A.sl.v13, kernelRun0_A.sl.v1619, kernelRun0_A.sl.v1622, kernelRun0_A.sl.v1629, kernelRun0_A.sl.v1623, kernelRun0_A.sl.v1647, kernelRun0_A.sl.v1635, kernelRun0_A.sl.v1625, kernelRun0_A.sl.v1653, kernelRun0_A.sl.v1643, kernelRun0_A.sl.v1641, kernelRun0_A.sl.v1637, kernelRun0_A.sl.v1631, kernelRun0_A.sl.v1628, kernelRun0_A.sl.v1685, kernelRun0_A.sl.v1683, kernelRun0_A.sl.v1659, kernelRun0_A.sl.v1655, kernelRun0_A.sl.v1649, kernelRun0_A.sl.v1646, kernelRun0_A.sl.v1640, kernelRun0_A.sl.v1634, kernelRun0_A.sl.v1630, kernelRun0_A.sl.v1695, kernelRun0_A.sl.v1693, kernelRun0_A.sl.v1686, kernelRun0_A.sl.v1681, kernelRun0_A.sl.v1667, kernelRun0_A.sl.v1661, kernelRun0_A.sl.v1658, kernelRun0_A.sl.v1652, kernelRun0_A.sl.v1648, kernelRun0_A.sl.v1642, kernelRun0_A.sl.v1636, kernelRun0_A.sl.v1696, kernelRun0_A.sl.v1691, kernelRun0_A.sl.v1688, kernelRun0_A.sl.v1673, kernelRun0_A.sl.v1670, kernelRun0_A.sl.v1665, kernelRun0_A.sl.v1664, kernelRun0_A.sl.v1660, kernelRun0_A.sl.v1654, kernelRun0_A.sl.v1621, kernelRun0_A.sl.v1618, kernelRun0_A.sl.v1698, kernelRun0_A.sl.v1689, kernelRun0_A.sl.v1682, kernelRun0_A.sl.v1680, kernelRun0_A.sl.v1676, kernelRun0_A.sl.v1672, kernelRun0_A.sl.v1671, kernelRun0_A.sl.v1666, kernelRun0_A.sl.v1703, kernelRun0_A.sl.v1701, kernelRun0_A.sl.v1699, kernelRun0_A.sl.v1684, kernelRun0_A.sl.v1678, kernelRun0_A.sl.v1677, kernelRun0_A.sl.cst_51, hx0, hx1, kernelRun0_A.sl.r, kernelRun0_A.sl.r_1, kernelRun0_A.sl.r_2, kernelRun0_A.sl.r_3,
    kernelRun0_A.sl.r_4, kernelRun0_A.sl.r_5, kernelRun0_A.sl.r_6, kernelRun0_A.sl.r_7, kernelRun0_A.sl.r_8,
    kernelRun0_A.sl.r_9, kernelRun0_A.sl.r_10, kernelRun0_A.sl.r_11, kernelRun0_A.sl.r_12, kernelRun0_A.sl.r_13,
    kernelRun0_A.sl.r_14, kernelRun0_A.sl.r_15, kernelRun0_A.sl.r_16, kernelRun0_A.sl.r_17, kernelRun0_A.sl.r_18,
    kernelRun0_A.sl.r_19, kernelRun0_A.sl.r_20, kernelRun0_A.sl.r_21, kernelRun0_A.sl.r_22, kernelRun0_A.sl.r_23,
    kernelRun0_A.sl.r_24, kernelRun0_A.sl.r_25, kernelRun0_A.sl.r_26, kernelRun0_A.sl.r_27, kernelRun0_A.sl.r_28,
    kernelRun0_A.sl.r_29, kernelRun0_A.sl.r_30, kernelRun0_A.sl.r_31, kernelRun0_A.sl.r_32, kernelRun0_A.sl.r_33,
    kernelRun0_A.sl.r_34, kernelRun0_A.sl.r_35, kernelRun0_A.sl.r_36, kernelRun0_A.sl.r_37, kernelRun0_A.sl.r_38,
    kernelRun0_A.sl.r_39, kernelRun0_A.sl.r_40, kernelRun0_A.sl.r_41, kernelRun0_A.sl.r_42, kernelRun0_A.sl.r_43,
    kernelRun0_A.sl.r_44, kernelRun0_A.sl.r_45, kernelRun0_A.sl.r_46, kernelRun0_A.sl.r_47, kernelRun0_A.sl.r_48,
    kernelRun0_A.sl.r_49, kernelRun0_A.sl.r_50, kernelRun0_A.sl.r_51, kernelRun0_A.sl.r_52, kernelRun0_A.sl.r_53,
    kernelRun0_A.sl.r_54, kernelRun0_A.sl.r_55, kernelRun0_A.sl.r_56, kernelRun0_A.sl.r_57, kernelRun0_A.sl.r_58,
    kernelRun0_A.sl.r_59, kernelRun0_A.sl.r_60, kernelRun0_A.sl.r_61, kernelRun0_A.sl.r_62, kernelRun0_A.sl.r_63,
    kernelRun0_A.sl.r_64, kernelRun0_A.sl.r_65, kernelRun0_A.sl.r_66, kernelRun0_A.sl.r_67, kernelRun0_A.sl.r_68,
    kernelRun0_A.sl.r_69, kernelRun0_A.sl.r_70, kernelRun0_A.sl.r_71, kernelRun0_A.sl.r_72, kernelRun0_A.sl.r_73,
    kernelRun0_A.sl.r_74, kernelRun0_A.sl.r_75, kernelRun0_A.sl.r_76, kernelRun0_A.sl.r_77, kernelRun0_A.sl.r_78,
    kernelRun0_A.sl.r_79, kernelRun0_A.sl.r_80, kernelRun0_A.sl.r_81, kernelRun0_A.sl.r_82, kernelRun0_A.sl.r_83,
    kernelRun0_A.sl.r_84, kernelRun0_A.sl.r_85, kernelRun0_A.sl.r_86, kernelRun0_A.sl.r_87, kernelRun0_A.sl.r_88,
    kernelRun0_A.sl.r_89, kernelRun0_A.sl.r_90, kernelRun0_A.sl.r_91, kernelRun0_A.sl.r_92, kernelRun0_A.sl.r_93,
    kernelRun0_A.sl.r_94, kernelRun0_A.sl.r_95, kernelRun0_A.sl.r_96, kernelRun0_A.sl.r_97, kernelRun0_A.sl.r_98,
    kernelRun0_A.sl.r_99, kernelRun0_A.sl.r_100, kernelRun0_A.sl.r_101, kernelRun0_A.sl.r_102,
    kernelRun0_A.sl.r_103, kernelRun0_A.sl.r_104, kernelRun0_A.sl.r_105, kernelRun0_A.sl.r_106,
    kernelRun0_A.sl.r_107, kernelRun0_A.sl.r_108, kernelRun0_A.sl.r_109, kernelRun0_A.sl.r_110,
    kernelRun0_A.sl.r_111, kernelRun0_A.sl.r_112, kernelRun0_A.sl.r_113, kernelRun0_A.sl.r_114,
    kernelRun0_A.sl.r_115, kernelRun0_A.sl.r_116, kernelRun0_A.sl.r_117, kernelRun0_A.sl.r_118,
    kernelRun0_A.sl.r_119, kernelRun0_A.sl.r_120, kernelRun0_A.sl.r_121, kernelRun0_A.sl.r_122,
    kernelRun0_A.sl.r_123, kernelRun0_A.sl.r_124, kernelRun0_A.sl.r_125, kernelRun0_A.sl.r_126,
    kernelRun0_A.sl.r_127, kernelRun0_A.sl.r_128, kernelRun0_A.sl.r_129, kernelRun0_A.sl.r_130,
    kernelRun0_A.sl.r_131, kernelRun0_A.sl.r_132, kernelRun0_A.sl.r_133, kernelRun0_A.sl.r_134,
    kernelRun0_A.sl.r_135, kernelRun0_A.sl.r_136, kernelRun0_A.sl.r_137, kernelRun0_A.sl.r_138,
    kernelRun0_A.sl.r_139, kernelRun0_A.sl.r_140, kernelRun0_A.sl.r_141, kernelRun0_A.sl.r_142,
    kernelRun0_A.sl.r_143, kernelRun0_A.sl.r_144, kernelRun0_A.sl.r_145, kernelRun0_A.sl.r_146,
    kernelRun0_A.sl.r_147, kernelRun0_A.sl.r_148, kernelRun0_A.sl.r_149, kernelRun0_A.sl.r_150,
    kernelRun0_A.sl.r_151, kernelRun0_A.sl.r_152, kernelRun0_A.sl.r_153, kernelRun0_A.sl.r_154,
    kernelRun0_A.sl.r_155, kernelRun0_A.sl.r_156, kernelRun0_A.sl.r_157, kernelRun0_A.sl.r_158,
    kernelRun0_A.sl.r_159, kernelRun0_A.sl.r_160, kernelRun0_A.sl.r_161, kernelRun0_A.sl.r_162,
    kernelRun0_A.sl.r_163, kernelRun0_A.sl.r_164, kernelRun0_A.sl.r_165, kernelRun0_A.sl.r_166,
    kernelRun0_A.sl.r_167, kernelRun0_A.sl.r_168, kernelRun0_A.sl.r_169, kernelRun0_A.sl.r_170,
    kernelRun0_A.sl.r_171, kernelRun0_A.sl.r_172, kernelRun0_A.sl.r_173, kernelRun0_A.sl.r_174,
    kernelRun0_A.sl.r_175, kernelRun0_A.sl.r_176, kernelRun0_A.sl.r_177, kernelRun0_A.sl.r_178,
    kernelRun0_A.sl.r_179, kernelRun0_A.sl.r_180, kernelRun0_A.sl.r_181, kernelRun0_A.sl.r_182,
    kernelRun0_A.sl.r_183, kernelRun0_A.sl.r_184, kernelRun0_A.sl.r_185, kernelRun0_A.sl.r_186,
    kernelRun0_A.sl.r_187, kernelRun0_A.sl.r_188, kernelRun0_A.sl.r_189, kernelRun0_A.sl.r_190,
    kernelRun0_A.sl.r_191, kernelRun0_A.sl.r_192, kernelRun0_A.sl.r_193, kernelRun0_A.sl.r_194,
    kernelRun0_A.sl.r_195, kernelRun0_A.sl.r_196, kernelRun0_A.sl.r_197, kernelRun0_A.sl.r_198,
    kernelRun0_A.sl.r_199, kernelRun0_A.sl.r_200, kernelRun0_A.sl.r_201, kernelRun0_A.sl.r_202,
    kernelRun0_A.sl.r_203, kernelRun0_A.sl.r_204, kernelRun0_A.sl.r_205, kernelRun0_A.sl.r_206,
    kernelRun0_A.sl.r_207, kernelRun0_A.sl.r_208, kernelRun0_A.sl.r_209, kernelRun0_A.sl.r_210,
    kernelRun0_A.sl.r_211, kernelRun0_A.sl.r_212, kernelRun0_A.sl.r_213, kernelRun0_A.sl.r_214,
    kernelRun0_A.sl.r_215, kernelRun0_A.sl.r_216, kernelRun0_A.sl.r_217, kernelRun0_A.sl.r_218,
    kernelRun0_A.sl.r_219, kernelRun0_A.sl.r_220, kernelRun0_A.sl.r_221, kernelRun0_A.sl.r_222,
    kernelRun0_A.sl.r_223, kernelRun0_A.sl.r_224, kernelRun0_A.sl.r_225, kernelRun0_A.sl.r_226,
    kernelRun0_A.sl.r_227, kernelRun0_A.sl.r_228, kernelRun0_A.sl.r_229, kernelRun0_A.sl.r_230,
    kernelRun0_A.sl.r_231, kernelRun0_A.sl.r_232, kernelRun0_A.sl.r_233, kernelRun0_A.sl.r_234,
    kernelRun0_A.sl.r_235, kernelRun0_A.sl.r_236, kernelRun0_A.sl.r_237, kernelRun0_A.sl.r_238,
    kernelRun0_A.sl.r_239, kernelRun0_A.sl.r_240, kernelRun0_A.sl.r_241, kernelRun0_A.sl.r_242,
    kernelRun0_A.sl.r_243, kernelRun0_A.sl.r_244, kernelRun0_A.sl.r_245, kernelRun0_A.sl.r_246,
    kernelRun0_A.sl.r_247, kernelRun0_A.sl.r_248, kernelRun0_A.sl.r_249, kernelRun0_A.sl.r_250,
    kernelRun0_A.sl.r_251, kernelRun0_A.sl.r_252, kernelRun0_A.sl.r_253, kernelRun0_A.sl.r_254,
    kernelRun0_A.sl.r_255, kernelRun0_A.sl.r_256, kernelRun0_A.sl.r_257, kernelRun0_A.sl.r_258,
    kernelRun0_A.sl.r_259, kernelRun0_A.sl.r_260, kernelRun0_A.sl.r_261, kernelRun0_A.sl.r_262,
    kernelRun0_A.sl.r_263, kernelRun0_A.sl.r_264, kernelRun0_A.sl.r_265, kernelRun0_A.sl.r_266,
    kernelRun0_A.sl.r_267, kernelRun0_A.sl.r_268, kernelRun0_A.sl.r_269, kernelRun0_A.sl.r_270,
    kernelRun0_A.sl.r_271, kernelRun0_A.sl.r_272, kernelRun0_A.sl.r_273, kernelRun0_A.sl.r_274,
    kernelRun0_A.sl.r_275, kernelRun0_A.sl.r_276, kernelRun0_A.sl.r_277, kernelRun0_A.sl.r_278,
    kernelRun0_A.sl.r_279, kernelRun0_A.sl.r_280, kernelRun0_A.sl.r_281, kernelRun0_A.sl.r_282,
    kernelRun0_A.sl.r_283, kernelRun0_A.sl.r_284, kernelRun0_A.sl.r_285, kernelRun0_A.sl.r_286,
    kernelRun0_A.sl.r_287, kernelRun0_A.sl.r_288, e_pay1 x0 x1, e_pay2 x0 x1, e_pay3 x0 x1, e_pay4 x0 x1, e_pay5
    x0 x1, e_pay6 x0 x1, e_pay7 x0 x1, e_pay8 x0 x1, e_pay9 x0 x1, e_pay10 x0 x1, e_pay11 x0 x1, e_pay12 x0 x1,
    e_pay13 x0 x1, e_pay14 x0 x1, e_pay15 x0 x1, e_pay16 x0 x1, e_pay17 x0 x1, e_pay18 x0 x1, e_pay19 x0 x1,
    e_pay20 x0 x1, e_pay21 x0 x1, e_pay22 x0 x1, e_pay23 x0 x1, e_pay24 x0 x1, e_pay25 x0 x1, e_pay26 x0 x1,
    e_pay27 x0 x1, e_pay28 x0 x1, e_pay29 x0 x1, e_pay30 x0 x1, e_pay31 x0 x1, e_pay32 x0 x1, e_pay33 x0 x1,
    e_pay34 x0 x1, e_pay35 x0 x1, e_pay36 x0 x1, e_pay37 x0 x1, e_pay38 x0 x1, e_pay39 x0 x1, e_pay40 x0 x1,
    e_pay41 x0 x1, e_pay42 x0 x1, e_pay43 x0 x1, e_pay44 x0 x1, e_pay45 x0 x1, e_pay46 x0 x1, e_pay47 x0 x1,
    e_pay48 x0 x1, e_pay49 x0 x1, e_pay50 x0 x1, e_pay51 x0 x1, e_pay52 x0 x1, e_pay53 x0 x1, e_pay54 x0 x1,
    e_pay55 x0 x1, e_pay56 x0 x1, e_pay57 x0 x1, e_pay58 x0 x1, e_pay59 x0 x1, e_pay60 x0 x1, e_pay61 x0 x1,
    e_pay62 x0 x1, e_pay63 x0 x1, e_pay64 x0 x1, e_pay65 x0 x1, e_pay66 x0 x1, e_pay67 x0 x1, e_pay68 x0 x1,
    e_pay69 x0 x1, e_pay70 x0 x1, e_pay71 x0 x1, e_pay72 x0 x1, e_pay73 x0 x1, e_pay74 x0 x1, e_pay75 x0 x1,
    e_pay76 x0 x1, e_pay77 x0 x1, e_pay78 x0 x1, e_pay79 x0 x1, e_pay80 x0 x1, e_pay81 x0 x1, e_pay82 x0 x1,
    e_pay83 x0 x1, e_pay84 x0 x1, e_pay85 x0 x1, e_pay86 x0 x1, e_pay87 x0 x1, e_pay88 x0 x1, e_pay89 x0 x1,
    e_pay90 x0 x1, e_pay91 x0 x1, e_pay92 x0 x1, e_pay93 x0 x1, e_pay94 x0 x1, e_pay95 x0 x1, e_pay96 x0 x1,
    e_pay97 x0 x1, e_pay98 x0 x1, e_pay99 x0 x1, e_pay100 x0 x1, e_pay101 x0 x1, e_pay102 x0 x1, e_pay103 x0 x1,
    e_pay104 x0 x1, e_pay105 x0 x1, e_pay106 x0 x1, e_pay107 x0 x1, e_pay108 x0 x1, e_pay109 x0 x1, e_pay110 x0
    x1, e_pay111 x0 x1, e_pay112 x0 x1, e_pay113 x0 x1, e_pay114 x0 x1, e_pay115 x0 x1, e_pay116 x0 x1, e_pay117
    x0 x1, e_pay118 x0 x1, e_pay119 x0 x1, e_pay120 x0 x1, e_pay121 x0 x1, e_pay122 x0 x1, e_pay123 x0 x1,
    e_pay124 x0 x1, e_pay125 x0 x1, e_pay126 x0 x1, e_pay127 x0 x1, e_pay128 x0 x1, e_pay129 x0 x1, e_pay130 x0
    x1, e_pay131 x0 x1, e_pay132 x0 x1, e_pay133 x0 x1, e_pay134 x0 x1, e_pay135 x0 x1, e_pay136 x0 x1, e_pay137
    x0 x1, e_pay138 x0 x1, e_pay139 x0 x1, e_pay140 x0 x1, e_pay141 x0 x1, e_pay142 x0 x1, e_pay143 x0 x1,
    e_pay144 x0 x1, e_pay145 x0 x1, e_pay146 x0 x1, e_pay147 x0 x1, e_pay148 x0 x1, e_pay149 x0 x1, e_pay150 x0
    x1, e_pay151 x0 x1, e_pay152 x0 x1, e_pay153 x0 x1, e_pay154 x0 x1, e_pay155 x0 x1, e_pay156 x0 x1, e_pay157
    x0 x1, e_pay158 x0 x1, e_pay159 x0 x1, e_pay160 x0 x1, e_pay161 x0 x1, e_pay162 x0 x1, e_pay163 x0 x1,
    e_pay164 x0 x1, e_pay165 x0 x1, e_pay166 x0 x1, e_pay167 x0 x1, e_pay168 x0 x1, e_pay169 x0 x1, e_pay170 x0
    x1, e_pay171 x0 x1, e_pay172 x0 x1, e_pay173 x0 x1, e_pay174 x0 x1, e_pay175 x0 x1, e_pay176 x0 x1, e_pay177
    x0 x1, e_pay178 x0 x1, e_pay179 x0 x1, e_pay180 x0 x1, e_pay181 x0 x1, e_pay182 x0 x1, e_pay183 x0 x1,
    e_pay184 x0 x1, e_pay185 x0 x1, e_pay186 x0 x1, e_pay187 x0 x1, e_pay188 x0 x1, e_pay189 x0 x1, e_pay190 x0
    x1, e_pay191 x0 x1, e_pay192 x0 x1, e_pay193 x0 x1, e_pay194 x0 x1, e_pay195 x0 x1, e_pay196 x0 x1, e_pay197
    x0 x1, e_pay198 x0 x1, e_pay199 x0 x1, e_pay200 x0 x1, e_pay201 x0 x1, e_pay202 x0 x1, e_pay203 x0 x1,
    e_pay204 x0 x1, e_pay205 x0 x1, e_pay206 x0 x1, e_pay207 x0 x1, e_pay208 x0 x1, e_pay209 x0 x1, e_pay210 x0
    x1, e_pay211 x0 x1, e_pay212 x0 x1, e_pay213 x0 x1, e_pay214 x0 x1, e_pay215 x0 x1, e_pay216 x0 x1, e_pay217
    x0 x1, e_pay218 x0 x1, e_pay219 x0 x1, e_pay220 x0 x1, e_pay221 x0 x1, e_pay222 x0 x1, e_pay223 x0 x1,
    e_pay224 x0 x1, e_pay225 x0 x1, e_pay226 x0 x1, e_pay227 x0 x1, e_pay228 x0 x1, e_pay229 x0 x1, e_pay230 x0
    x1, e_pay231 x0 x1, e_pay232 x0 x1, e_pay233 x0 x1, e_pay234 x0 x1, e_pay235 x0 x1, e_pay236 x0 x1, e_pay237
    x0 x1, e_pay238 x0 x1, e_pay239 x0 x1, e_pay240 x0 x1, e_pay241 x0 x1, e_pay242 x0 x1, e_pay243 x0 x1,
    e_pay244 x0 x1, e_pay245 x0 x1, e_pay246 x0 x1, e_pay247 x0 x1, e_pay248 x0 x1, e_pay249 x0 x1, e_pay250 x0
    x1, e_pay251 x0 x1, e_pay252 x0 x1, e_pay253 x0 x1, e_pay254 x0 x1, e_pay255 x0 x1, e_pay256 x0 x1, e_pay257
    x0 x1, e_pay258 x0 x1, e_pay259 x0 x1, e_pay260 x0 x1, e_pay261 x0 x1, e_pay262 x0 x1, e_pay263 x0 x1,
    e_pay264 x0 x1, e_pay265 x0 x1, e_pay266 x0 x1, e_pay267 x0 x1, e_pay268 x0 x1, e_pay269 x0 x1, e_pay270 x0
    x1, e_pay271 x0 x1, e_pay272 x0 x1, e_pay273 x0 x1, e_pay274 x0 x1, e_pay275 x0 x1, e_pay276 x0 x1, e_pay277
    x0 x1, e_pay278 x0 x1, e_pay279 x0 x1, e_pay280 x0 x1, e_pay281 x0 x1, e_pay282 x0 x1, e_pay283 x0 x1,
    e_pay284 x0 x1, e_pay285 x0 x1, e_pay286 x0 x1, e_pay287 x0 x1, e_pay288 x0 x1, e_pay289 x0 x1, e_pay290 x0
    x1, e_pay291 x0 x1, e_pay292 x0 x1, e_pay293 x0 x1, e_pay294 x0 x1, e_pay295 x0 x1, e_pay296 x0 x1, e_pay297
    x0 x1, e_pay298 x0 x1, e_pay299 x0 x1, e_pay300 x0 x1, e_pay301 x0 x1, e_pay302 x0 x1, e_pay303 x0 x1,
    e_pay304 x0 x1, e_pay305 x0 x1, e_pay306 x0 x1, e_pay307 x0 x1, e_pay308 x0 x1, e_pay309 x0 x1, e_pay310 x0
    x1, e_pay311 x0 x1, e_pay312 x0 x1, e_pay313 x0 x1, e_pay314 x0 x1, e_pay315 x0 x1, e_pay316 x0 x1, e_pay317
    x0 x1, e_pay318 x0 x1, e_pay319 x0 x1, e_pay320 x0 x1, e_pay321 x0 x1, e_pay322 x0 x1, e_pay323 x0 x1,
    e_pay324 x0 x1, e_pay325 x0 x1, e_pay326 x0 x1, e_pay327 x0 x1, e_pay328 x0 x1, e_pay329 x0 x1, e_pay330 x0
    x1, e_pay331 x0 x1, e_pay332 x0 x1, e_pay333 x0 x1, e_pay334 x0 x1, e_pay335 x0 x1, e_pay336 x0 x1, e_pay337
    x0 x1, e_pay338 x0 x1, e_pay339 x0 x1, e_pay340 x0 x1, e_pay341 x0 x1, e_pay342 x0 x1, e_pay343 x0 x1,
    e_pay344 x0 x1, e_pay345 x0 x1, e_pay346 x0 x1, e_pay347 x0 x1, e_pay348 x0 x1, e_pay349 x0 x1, e_pay350 x0
    x1, e_pay351 x0 x1, e_pay352 x0 x1, e_pay353 x0 x1, e_pay354 x0 x1, e_pay355 x0 x1, e_pay356 x0 x1, e_pay357
    x0 x1, e_pay358 x0 x1, e_pay359 x0 x1, e_pay360 x0 x1, e_pay361 x0 x1, e_pay362 x0 x1, e_pay363 x0 x1,
    e_pay364 x0 x1, e_pay365 x0 x1, e_pay366 x0 x1, e_pay367 x0 x1, e_pay368 x0 x1, e_pay369 x0 x1, e_pay370 x0
    x1, e_pay371 x0 x1, e_pay372 x0 x1, e_pay373 x0 x1, e_pay374 x0 x1, e_pay375 x0 x1, e_pay376 x0 x1, e_pay377
    x0 x1, e_pay378 x0 x1, e_pay379 x0 x1, e_pay380 x0 x1, e_pay381 x0 x1, e_pay382 x0 x1, e_pay383 x0 x1,
    e_pay384 x0 x1, e_pay385 x0 x1, e_pay386 x0 x1, e_pay387 x0 x1, e_pay388 x0 x1, e_pay389 x0 x1, e_pay390 x0
    x1, e_pay391 x0 x1, e_pay392 x0 x1, e_pay393 x0 x1, e_pay394 x0 x1, e_pay395 x0 x1, e_pay396 x0 x1, e_pay397
    x0 x1, e_pay398 x0 x1, e_pay399 x0 x1, e_pay400 x0 x1, e_pay401 x0 x1, e_pay402 x0 x1, e_pay403 x0 x1,
    e_pay404 x0 x1, e_pay405 x0 x1, e_pay406 x0 x1, e_pay407 x0 x1, e_pay408 x0 x1, e_pay409 x0 x1, e_pay410 x0
    x1, e_pay411 x0 x1, e_pay412 x0 x1, e_pay413 x0 x1, e_pay414 x0 x1, e_pay415 x0 x1, e_pay416 x0 x1, e_pay417
    x0 x1, e_pay418 x0 x1, e_pay419 x0 x1, e_pay420 x0 x1, e_pay421 x0 x1, e_pay422 x0 x1, e_pay423 x0 x1,
    e_pay424 x0 x1, e_pay425 x0 x1, e_pay426 x0 x1, e_pay427 x0 x1, e_pay428 x0 x1, e_pay429 x0 x1, e_pay430 x0
    x1, e_pay431 x0 x1, e_pay432 x0 x1, e_pay433 x0 x1, e_pay434 x0 x1, e_pay435 x0 x1, e_pay436 x0 x1, e_pay437
    x0 x1, e_pay438 x0 x1, e_pay439 x0 x1, e_pay440 x0 x1, e_pay441 x0 x1, e_pay442 x0 x1, e_pay443 x0 x1,
    e_pay444 x0 x1, e_pay445 x0 x1, e_pay446 x0 x1, e_pay447 x0 x1, e_pay448 x0 x1, e_pay449 x0 x1, e_pay450 x0
    x1, e_pay451 x0 x1, e_pay452 x0 x1, e_pay453 x0 x1, e_pay454 x0 x1, e_pay455 x0 x1, e_pay456 x0 x1, e_pay457
    x0 x1, e_pay458 x0 x1, e_pay459 x0 x1, e_pay460 x0 x1, e_pay461 x0 x1, e_pay462 x0 x1, e_pay463 x0 x1,
    e_pay464 x0 x1, e_pay465 x0 x1, e_pay466 x0 x1, e_pay467 x0 x1, e_pay468 x0 x1, e_pay469 x0 x1, e_pay470 x0
    x1, e_pay471 x0 x1, e_pay472 x0 x1, e_pay473 x0 x1, e_pay474 x0 x1, e_pay475 x0 x1, e_pay476 x0 x1, e_pay477
    x0 x1, e_pay478 x0 x1, e_pay479 x0 x1, e_pay480 x0 x1, e_pay481 x0 x1, e_pay482 x0 x1, e_pay483 x0 x1,
    e_pay484 x0 x1, e_pay485 x0 x1, e_pay486 x0 x1, e_pay487 x0 x1, e_pay488 x0 x1, e_pay489 x0 x1, e_pay490 x0
    x1, e_pay491 x0 x1, e_pay492 x0 x1, e_pay493 x0 x1, e_pay494 x0 x1, e_pay495 x0 x1, e_pay496 x0 x1, e_pay497
    x0 x1, e_pay498 x0 x1, e_pay499 x0 x1, e_pay500 x0 x1, e_pay501 x0 x1, e_pay502 x0 x1, e_pay503 x0 x1,
    e_pay504 x0 x1, e_pay505 x0 x1, e_pay506 x0 x1, e_pay507 x0 x1, e_pay508 x0 x1, e_pay509 x0 x1, e_pay510 x0
    x1, e_pay511 x0 x1, e_pay512 x0 x1, e_pay513 x0 x1, e_pay514 x0 x1, e_pay515 x0 x1, e_pay516 x0 x1, e_pay517
    x0 x1, e_pay518 x0 x1, e_pay519 x0 x1, e_pay520 x0 x1, e_pay521 x0 x1, e_pay522 x0 x1, e_pay523 x0 x1,
    e_pay524 x0 x1, e_pay525 x0 x1, e_pay526 x0 x1, e_pay527 x0 x1, e_pay528 x0 x1, e_pay529 x0 x1, e_pay530 x0
    x1, e_pay531 x0 x1, e_pay532 x0 x1, e_pay533 x0 x1, e_pay534 x0 x1, e_pay535 x0 x1, e_pay536 x0 x1, e_pay537
    x0 x1, e_pay538 x0 x1, e_pay539 x0 x1, e_pay540 x0 x1, e_pay541 x0 x1, e_pay542 x0 x1, e_pay543 x0 x1,
    e_pay544 x0 x1, e_pay545 x0 x1, e_pay546 x0 x1, e_pay547 x0 x1, e_pay548 x0 x1, e_pay549 x0 x1, e_pay550 x0 x1]
  rfl

end Cert.KernelIdeal.Vals

end
-- ==== Proof.KernelOut.lean ====
module

public import proofs.«01_k».proof.Proof.KernelStored
public import Idealize.ShloMosaic.Lib.Pipeline.ValueKit.Basic

@[expose] public section

set_option maxRecDepth 16384

noncomputable section

/-! What a grid point leaves in its output block. -/

namespace Cert.KernelIdeal.Vals

open Idealize.ShloMosaic Idealize.SL.Sem Cert.KernelIdeal Cert.KernelIdeal.Gen

/-- A grid point leaves the value numbered 1740 in its output block. -/
theorem out_eq (c : Dev nD) (i : grid0.Coords) (arg1 : Memref sig .tc .vmem S1x72x2056 .f32) (harg1 : arg1.IsWhole) (arg2 : Memref sig .tc .vmem S1x68x2052 .i32) (harg2 : arg2.IsWhole) (arg3 : Memref sig .tc .vmem S1x64x2048 .i32) (harg3 : arg3.IsWhole) (arg4 : Memref sig .tc .vmem S8x128 .i32) (harg4 : arg4.IsWhole)
    (x0 : A0) (x1 : A1) : out0_A_2 (F := Ideal) c i arg1 harg1 arg2 harg2 arg3 harg3 arg4 harg4 x0 x1 = w1740 x0 x1 := by
  have hz : ∀ a, (![0, 0, 0] : Fin S1x64x2048.rank → Nat) a = 0 := by decide
  have h1 := congrArg (fun L => View.canon (Val := Elt Ideal) (s := S1x64x2048) (e := .i32) L)
    (stored c i arg1 harg1 arg2 harg2 arg3 harg3 arg4 harg4 x0 x1)
  have h2 := @View.canon_cons_unit_lit (Elt Ideal) S1x64x2048 .i32 _ ![0, 0, 0] inb_S1x64x2048_S1x64x2048_0_0_0 (w1740 x0 x1) [] hz
  have h3 := View.read_writes_eq_canon VO0_2 VO0_2.junk _ (cover0_A_2 (F := Ideal) c i arg1 harg1 arg2 harg2 arg3 harg3 arg4 harg4 x0 x1)
  unfold out0_A_2
  exact h3.trans (h1.trans h2)

end Cert.KernelIdeal.Vals

end
-- ==== Proof.RefDist.lean ====
module

public import proofs.«01_k».proof.Proof.Gen.ReferenceIdeal.Run
public import proofs.«01_k».proof.Proof.Real
public import Idealize.ShloMosaic.Lib.ValueIdx
public import Idealize.ShloMosaic.Lib.ValueLayout
public import Idealize.ShloMosaic.Lib.Pipeline.Value
public import Idealize.ShloMosaic.Lib.IdealHost
public import Idealize.ShloMosaic.Lib.Pointwise.Index

@[expose] public section

set_option maxRecDepth 16384

noncomputable section

/-! The reference's distances and labels, 25 to a pixel, at an index. -/

namespace Cert.ReferenceIdeal.Vals

open Idealize.ShloMosaic hiding ix1 ix2 ix3 ix4 ix5 ix6
open Idealize.ShloMosaic.ValueIdx Idealize.SL.Sem Cert.ReferenceIdeal Cert.ReferenceIdeal.Gen Cert.ReferenceIdeal.Value Cert.Dist
open scoped BigOperators

/-- An array with two rows and two columns of zeros around it. -/
def P2 (f : ℕ → ℕ → ℕ → EReal) (b r c : ℕ) : EReal := if (2 ≤ r ∧ r < 66) ∧ (2 ≤ c ∧ c < 2050) then f b (r - 2) (c - 2) else 0

theorem pad_apply (X : S8x64x2048.Idx → EReal) (f : ℕ → ℕ → ℕ → EReal)
    (hX : ∀ (b : Fin 8) (h : Fin 64) (w : Fin 2048), X (ix3 b h w) = f b.val h.val w.val) (b : Fin 8) (r : Fin 68) (c : Fin 2052) :
    pad S8x68x2052 ![0, 2, 2] ![0, 2, 2] ![0, 0, 0] X (constant S_ .f32 0x00000000#32 : FVec Ideal S_ .f32) pads_S8x64x2048_S8x68x2052_000_220_220 h_S_ (ix3 b r c)
      = P2 f b.val r.val c.val := by
  have hb := b.isLt
  unfold pad P2
  by_cases hin : (2 ≤ r.val ∧ r.val < 66) ∧ (2 ≤ c.val ∧ c.val < 2050)
  · rw [dif_pos, if_pos hin]
    · refine Eq.trans ?_ (hX b ⟨r.val - 2, by omega⟩ ⟨c.val - 2, by omega⟩)
      congr 1
      funext a
      fin_cases a <;> apply Fin.ext
      · show (b.val - 0) / (0 + 1) = b.val; omega
      · show (r.val - 2) / (0 + 1) = r.val - 2; omega
      · show (c.val - 2) / (0 + 1) = c.val - 2; omega
    · intro a
      fin_cases a
      · show 0 ≤ b.val ∧ (b.val - 0) % (0 + 1) = 0 ∧ (b.val - 0) / (0 + 1) < 8; omega
      · show 2 ≤ r.val ∧ (r.val - 2) % (0 + 1) = 0 ∧ (r.val - 2) / (0 + 1) < 64; omega
      · show 2 ≤ c.val ∧ (c.val - 2) % (0 + 1) = 0 ∧ (c.val - 2) / (0 + 1) < 2048; omega
  · rw [dif_neg, if_neg hin]
    · rw [constant_apply, Ideal.ofBits_zero_f32]
    · intro hall
      have h1 : 2 ≤ r.val ∧ (r.val - 2) % (0 + 1) = 0 ∧ (r.val - 2) / (0 + 1) < 64 := hall 1
      have h2 : 2 ≤ c.val ∧ (c.val - 2) % (0 + 1) = 0 ∧ (c.val - 2) / (0 + 1) < 2048 := hall 2
      omega

theorem slU (n : Fin 5) : S8x1x1x68x2052.Slices ![0, 0, 0, n.val, 0] S8x1x1x64x2052 := by revert n; decide
theorem slV (n : Fin 5) : S8x5x1x64x2052.Slices ![0, 0, 0, 0, n.val] S8x5x1x64x2048 := by revert n; decide
theorem slJ (n : Fin 5) : S8x5x5x1x1x68x2052.Slices ![0, 0, 0, 0, 0, n.val, 0] S8x5x5x1x1x64x2052 := by revert n; decide
theorem slK (n : Fin 5) : S8x5x5x5x1x64x2052.Slices ![0, 0, 0, 0, 0, 0, n.val] S8x5x5x5x1x64x2048 := by revert n; decide

/-- The five shifts of the rows, stacked. -/
def rowsU (x : S8x1x1x68x2052.Idx → EReal) : S8x5x1x64x2052.Idx → EReal :=
  concatenate S8x5x1x64x2052 1 (List.ofFn fun n : Fin 5 => ⟨S8x1x1x64x2052, extractStridedSlice S8x1x1x64x2052 ![0, 0, 0, n.val, 0] x (slU n)⟩) concatenates_S8x1x1x64x2052_S8x1x1x64x2052_S8x1x1x64x2052_S8x1x1x64x2052_S8x1x1x64x2052_S8x5x1x64x2052_d1

/-- The five shifts of the columns, stacked. -/
def colsU (x : S8x5x1x64x2052.Idx → EReal) : S8x5x5x64x2048.Idx → EReal :=
  concatenate S8x5x5x64x2048 2 (List.ofFn fun n : Fin 5 => ⟨S8x5x1x64x2048, extractStridedSlice S8x5x1x64x2048 ![0, 0, 0, 0, n.val] x (slV n)⟩) concatenates_S8x5x1x64x2048_S8x5x1x64x2048_S8x5x1x64x2048_S8x5x1x64x2048_S8x5x1x64x2048_S8x5x5x64x2048_d2

def rowsJ (x : S8x5x5x1x1x68x2052.Idx → EReal) : S8x5x5x5x1x64x2052.Idx → EReal :=
  concatenate S8x5x5x5x1x64x2052 3 (List.ofFn fun n : Fin 5 => ⟨S8x5x5x1x1x64x2052, extractStridedSlice S8x5x5x1x1x64x2052 ![0, 0, 0, 0, 0, n.val, 0] x (slJ n)⟩) concatenates_S8x5x5x1x1x64x2052_S8x5x5x1x1x64x2052_S8x5x5x1x1x64x2052_S8x5x5x1x1x64x2052_S8x5x5x1x1x64x2052_S8x5x5x5x1x64x2052_d3

def colsJ (x : S8x5x5x5x1x64x2052.Idx → EReal) : S8x5x5x5x5x64x2048.Idx → EReal :=
  concatenate S8x5x5x5x5x64x2048 4 (List.ofFn fun n : Fin 5 => ⟨S8x5x5x5x1x64x2048, extractStridedSlice S8x5x5x5x1x64x2048 ![0, 0, 0, 0, 0, 0, n.val] x (slK n)⟩) concatenates_S8x5x5x5x1x64x2048_S8x5x5x5x1x64x2048_S8x5x5x5x1x64x2048_S8x5x5x5x1x64x2048_S8x5x5x5x1x64x2048_S8x5x5x5x5x64x2048_d4

theorem rowsU_apply (x : S8x1x1x68x2052.Idx → EReal) (b : Fin 8) (i : Fin 5) (h : Fin 64) (c : Fin 2052) :
    rowsU x (ix5 b i 0 h c) = x (ix5 b 0 0 ⟨h.val + i.val, by omega⟩ c) := by
  unfold rowsU
  refine (concatenate_ofFn_unit_apply (a := (1 : Fin S8x5x1x64x2052.rank)) (N := 5) (s₁ := S8x1x1x64x2052) _ _ rfl rfl (ix5 b i 0 h c) i rfl
    (ix5 b 0 0 h c) (by intro a ha; fin_cases a <;> first | rfl | exact absurd rfl ha)).trans ?_
  unfold extractStridedSlice
  congr 1
  funext a
  fin_cases a <;> apply Fin.ext
  · show 0 + b.val = b.val; omega
  · rfl
  · rfl
  · show i.val + h.val = h.val + i.val; omega
  · show 0 + c.val = c.val; omega

theorem colsU_apply (x : S8x5x1x64x2052.Idx → EReal) (b : Fin 8) (i j : Fin 5) (h : Fin 64) (w : Fin 2048) :
    colsU x (ix5 b i j h w) = x (ix5 b i 0 h ⟨w.val + j.val, by omega⟩) := by
  unfold colsU
  refine (concatenate_ofFn_unit_apply (a := (2 : Fin S8x5x5x64x2048.rank)) (N := 5) (s₁ := S8x5x1x64x2048) _ _ rfl rfl (ix5 b i j h w) j rfl
    (ix5 b i 0 h w) (by intro a ha; fin_cases a <;> first | rfl | exact absurd rfl ha)).trans ?_
  unfold extractStridedSlice
  congr 1
  funext a
  fin_cases a <;> apply Fin.ext
  · show 0 + b.val = b.val; omega
  · show 0 + i.val = i.val; omega
  · rfl
  · show 0 + h.val = h.val; omega
  · show j.val + w.val = w.val + j.val; omega

theorem rowsJ_apply (x : S8x5x5x1x1x68x2052.Idx → EReal) (b : Fin 8) (i j p : Fin 5) (h : Fin 64) (c : Fin 2052) :
    rowsJ x (ix7 b i j p 0 h c) = x (ix7 b i j 0 0 ⟨h.val + p.val, by omega⟩ c) := by
  unfold rowsJ
  refine (concatenate_ofFn_unit_apply (a := (3 : Fin S8x5x5x5x1x64x2052.rank)) (N := 5) (s₁ := S8x5x5x1x1x64x2052) _ _ rfl rfl (ix7 b i j p 0 h c) p rfl
    (ix7 b i j 0 0 h c) (by intro a ha; fin_cases a <;> first | rfl | exact absurd rfl ha)).trans ?_
  unfold extractStridedSlice
  congr 1
  funext a
  fin_cases a <;> apply Fin.ext
  · show 0 + b.val = b.val; omega
  · show 0 + i.val = i.val; omega
  · show 0 + j.val = j.val; omega
  · rfl
  · rfl
  · show p.val + h.val = h.val + p.val; omega
  · show 0 + c.val = c.val; omega

theorem colsJ_apply (x : S8x5x5x5x1x64x2052.Idx → EReal) (b : Fin 8) (i j p q : Fin 5) (h : Fin 64) (w : Fin 2048) :
    colsJ x (ix7 b i j p q h w) = x (ix7 b i j p 0 h ⟨w.val + q.val, by omega⟩) := by
  unfold colsJ
  refine (concatenate_ofFn_unit_apply (a := (4 : Fin S8x5x5x5x5x64x2048.rank)) (N := 5) (s₁ := S8x5x5x5x1x64x2048) _ _ rfl rfl (ix7 b i j p q h w) q rfl
    (ix7 b i j p 0 h w) (by intro a ha; fin_cases a <;> first | rfl | exact absurd rfl ha)).trans ?_
  unfold extractStridedSlice
  congr 1
  funext a
  fin_cases a <;> apply Fin.ext
  · show 0 + b.val = b.val; omega
  · show 0 + i.val = i.val; omega
  · show 0 + j.val = j.val; omega
  · show 0 + p.val = p.val; omega
  · rfl
  · show 0 + h.val = h.val; omega
  · show q.val + w.val = w.val + q.val; omega

/-- The window around every pixel of an array. -/
def U (X : S8x64x2048.Idx → EReal) : S8x5x5x64x2048.Idx → EReal :=
  colsU (rowsU (broadcastInDim S8x1x1x68x2052 ![0, 3, 4] bcast_S8x68x2052_S8x1x1x68x2052_0_3_4 (pad S8x68x2052 ![0, 2, 2] ![0, 2, 2] ![0, 0, 0] X (constant S_ .f32 0x00000000#32 : FVec Ideal S_ .f32) pads_S8x64x2048_S8x68x2052_000_220_220 h_S_)))

theorem U_apply (X : S8x64x2048.Idx → EReal) (f : ℕ → ℕ → ℕ → EReal)
    (hX : ∀ (b : Fin 8) (h : Fin 64) (w : Fin 2048), X (ix3 b h w) = f b.val h.val w.val) (b : Fin 8) (i j : Fin 5) (h : Fin 64) (w : Fin 2048) :
    U X (ix5 b i j h w) = P2 f b.val (h.val + i.val) (w.val + j.val) := by
  unfold U
  rw [colsU_apply, rowsU_apply]
  refine Eq.trans ?_ (pad_apply X f hX b ⟨h.val + i.val, by omega⟩ ⟨w.val + j.val, by omega⟩)
  unfold broadcastInDim
  congr 1
  funext a
  fin_cases a <;> rfl

variable (V0 : Valuation τ sig (Elt Ideal))

theorem v14_eq : res_main_v14 V0 = U (res_main_v0 V0) := rfl
theorem v65_eq : res_main_v65 V0 = shapeCast S8x25x64x2048 (U (sitofp .f32 (V0 (Proc.devRef .tc main_arg1)) : FVec Ideal S8x64x2048 .f32)) shapeCasts_S8x5x5x64x2048_S8x25x64x2048 := rfl

end Cert.ReferenceIdeal.Vals

end
-- ==== Proof.RefJump.lean ====
module

public import proofs.«01_k».proof.Proof.RefDist

@[expose] public section

set_option maxRecDepth 16384

noncomputable section

/-! The reference's distance to a neighbour is the real one, and its label the padded array's. -/

namespace Cert.Dist

/-- The depth padded by four rows and columns of zeros. -/
def xp (d : ℕ → ℕ → ℕ → ℝ) (b r c : ℕ) : ℝ := if (4 ≤ r ∧ r < 68) ∧ (4 ≤ c ∧ c < 2052) then d b (r - 4) (c - 4) else 0

/-- The labels padded by two. -/
def yp (l : ℕ → ℕ → ℕ → BitVec 32) (b r c : ℕ) : BitVec 32 := if (2 ≤ r ∧ r < 66) ∧ (2 ≤ c ∧ c < 2050) then l b (r - 2) (c - 2) else 0#32

theorem xp_nonneg (d : ℕ → ℕ → ℕ → ℝ) (hd : ∀ b h w, 0 ≤ d b h w) (b r c : ℕ) : 0 ≤ xp d b r c := by
  unfold xp; split
  · exact hd _ _ _
  · exact le_refl _

theorem yp_lt (l : ℕ → ℕ → ℕ → BitVec 32) (hl : ∀ b h w, (l b h w).toNat < 20) (b r c : ℕ) : (yp l b r c).toNat < 20 := by
  unfold yp; split
  · exact hl _ _ _
  · decide

end Cert.Dist

namespace Cert.ReferenceIdeal.Vals

open Idealize.ShloMosaic hiding ix1 ix2 ix3 ix4 ix5 ix6
open Idealize.ShloMosaic.ValueIdx Idealize.SL.Sem Cert.ReferenceIdeal Cert.ReferenceIdeal.Gen Cert.ReferenceIdeal.Value Cert.Dist
open scoped BigOperators

variable (V0 : Valuation τ sig (Elt Ideal))

theorem v0_apply (b : Fin 8) (h : Fin 64) (w : Fin 2048) :
    res_main_v0 V0 (ix3 b h w) = V0 (Proc.devRef .tc main_arg0) (ix4 b (0 : Fin 1) h w) := by
  unfold res_main_v0
  refine shapeCast_apply _ _ _ _ ?_
  show (S8x1x64x2048.rowMajor (ix4 b (0 : Fin 1) h w)).val = (S8x64x2048.rowMajor (ix3 b h w)).val
  rw [Shape.rowMajor_val_three, Shape.rowMajor_val_four]
  show ((b.val * 1 + 0) * 64 + h.val) * 2048 + w.val = (b.val * 64 + h.val) * 2048 + w.val
  omega

theorem P2_coe (d : ℕ → ℕ → ℕ → ℝ) (b r c : ℕ) : P2 (fun b h w => ((d b h w : ℝ) : EReal)) b r c = ((xp d b (r + 2) (c + 2) : ℝ) : EReal) := by
  unfold P2 xp
  by_cases hin : (2 ≤ r ∧ r < 66) ∧ (2 ≤ c ∧ c < 2050)
  · rw [if_pos hin, if_pos (by omega), show r + 2 - 4 = r - 2 by omega, show c + 2 - 4 = c - 2 by omega]
  · rw [if_neg hin, if_neg (by omega)]; rfl

theorem P2_lab (l : ℕ → ℕ → ℕ → BitVec 32) (b r c : ℕ) :
    P2 (fun b h w => (((l b h w).toInt : ℝ) : EReal)) b r c = (((yp l b r c).toInt : ℝ) : EReal) := by
  unfold P2 yp
  by_cases hin : (2 ≤ r ∧ r < 66) ∧ (2 ≤ c ∧ c < 2050)
  · rw [if_pos hin, if_pos hin]
  · rw [if_neg hin, if_neg hin]; simp

/-- The jumps. -/
def jump : FVec Ideal S8x5x5x64x2048 .f32 :=
  Host.absf (subf (select (cmpf .olt (res_main_v14 V0) (broadcastInDim S8x5x5x64x2048 ![] bcast_S_S8x5x5x64x2048 (constant S_ .f32 0x00000000#32))) (broadcastInDim S8x5x5x64x2048 ![] bcast_S_S8x5x5x64x2048 (constant S_ .f32 0x7F800000#32)) (res_main_v14 V0)) (broadcastInDim S8x5x5x64x2048 ![0, 1, 2, 3, 4] bcast_S8x1x1x64x2048_S8x5x5x64x2048_0_1_2_3_4 (broadcastInDim S8x1x1x64x2048 ![0, 3, 4] bcast_S8x64x2048_S8x1x1x64x2048_0_3_4 (res_main_v0 V0))))

theorem v32_eq : res_main_v32 V0 = broadcastInDim S8x5x5x1x1x68x2052 ![0, 1, 2, 5, 6] bcast_S8x5x5x68x2052_S8x5x5x1x1x68x2052_0_1_2_5_6 (pad S8x5x5x68x2052 ![0, 0, 0, 2, 2] ![0, 0, 0, 2, 2] ![0, 0, 0, 0, 0] (jump V0) (constant S_ .f32 0x00000000#32) pads_S8x5x5x64x2048_S8x5x5x68x2052_000_000_000_220_220 h_S_) := rfl

theorem v38_eq : res_main_v38 V0 = rowsJ (res_main_v32 V0) := rfl

/-- The weights. -/
def wts : FVec Ideal S5x5 .f32 :=
  subf (broadcastInDim S5x5 ![] bcast_S_S5x5 (constant S_ .f32 0x3F800000#32)) (mulf (broadcastInDim S5x5 ![0, 1] bcast_S5x1_S5x5_0_1 (broadcastInDim S5x1 ![0] bcast_S5_S5x1_0 (res_main_cst V0))) (broadcastInDim S5x5 ![0, 1] bcast_S1x5_S5x5_0_1 (broadcastInDim S1x5 ![1] bcast_S5_S1x5_1 (res_main_cst V0))))

def wtsB : FVec Ideal S8x5x5x5x5x64x2048 .f32 :=
  broadcastInDim S8x5x5x5x5x64x2048 ![0, 1, 2, 3, 4, 5, 6] bcast_S1x1x1x5x5x1x1_S8x5x5x5x5x64x2048_0_1_2_3_4_5_6 (broadcastInDim S1x1x1x5x5x1x1 ![3, 4, 5, 6] bcast_S5x5x1x1_S1x1x1x5x5x1x1_3_4_5_6 (broadcastInDim S5x5x1x1 ![0, 1] bcast_S5x5_S5x5x1x1_0_1 (wts V0)))

theorem v49_eq : res_main_v49 V0 = shapeCast S8x25x64x2048 (Host.reduceAdd (mulf (wtsB V0) (colsJ (res_main_v38 V0))) (constant S_ .f32 0x00000000#32) reducesTo_S8x5x5x5x5x64x2048_S8x5x5x64x2048_d3_4 h_S_) shapeCasts_S8x5x5x64x2048_S8x25x64x2048 := rfl

theorem cst_apply (p : Fin 5) : res_main_cst V0 (ix1 p) = ((V p : ℝ) : EReal) := by
  unfold res_main_cst
  have e : S5.rowMajor (ix1 p) = p := Fin.ext (by rw [Shape.rowMajor_val_one])
  show Ideal.ofBits .f32 (lit0 (S5.rowMajor (ix1 p))) = _
  rw [e]
  fin_cases p
  · exact ofBits_c0
  · exact ofBits_c1
  · exact ofBits_c2
  · exact ofBits_c1
  · exact ofBits_c0

theorem wts_apply (p q : Fin 5) : wts V0 (ix2 p q) = ((1 - V p * V q : ℝ) : EReal) := by
  have e1 : broadcastInDim S5x5 ![0, 1] bcast_S5x1_S5x5_0_1 (broadcastInDim S5x1 ![0] bcast_S5_S5x1_0 (res_main_cst V0)) (ix2 p q) = ((V p : ℝ) : EReal) := by
    refine Eq.trans ?_ (cst_apply V0 p)
    unfold broadcastInDim
    congr 1
    funext a
    fin_cases a
    rfl
  have e2 : broadcastInDim S5x5 ![0, 1] bcast_S1x5_S5x5_0_1 (broadcastInDim S1x5 ![1] bcast_S5_S1x5_1 (res_main_cst V0)) (ix2 p q) = ((V q : ℝ) : EReal) := by
    refine Eq.trans ?_ (cst_apply V0 q)
    unfold broadcastInDim
    congr 1
    funext a
    fin_cases a
    rfl
  have e3 : broadcastInDim S5x5 ![] bcast_S_S5x5 (constant S_ .f32 0x3F800000#32 : FVec Ideal S_ .f32) (ix2 p q) = ((1 : ℝ) : EReal) := by
    unfold broadcastInDim
    rw [constant_apply, Ideal.ofBits_one_f32]; rfl
  unfold wts
  rw [subf_apply, mulf_apply, e1, e2, e3, ← EReal.coe_mul, ← EReal.coe_sub]

theorem wtsB_apply (b : Fin 8) (i j p q : Fin 5) (h : Fin 64) (w : Fin 2048) : wtsB V0 (ix7 b i j p q h w) = ((1 - V p * V q : ℝ) : EReal) := by
  refine Eq.trans ?_ (wts_apply V0 p q)
  unfold wtsB broadcastInDim
  congr 1
  funext a
  fin_cases a <;> rfl

theorem sum_window (x : S8x5x5x5x5x64x2048.Idx → EReal) (b : Fin 8) (i j : Fin 5) (h : Fin 64) (w : Fin 2048) :
    ∑ k ∈ Finset.univ.filter (fun k => (reducesTo_S8x5x5x5x5x64x2048_S8x5x5x64x2048_d3_4).drop k = ix5 b i j h w), x k
      = ∑ p : Fin 5, ∑ q : Fin 5, x (ix7 b i j p q h w) := by
  rw [← Finset.sum_product']
  symm
  refine Finset.sum_bij (fun pq _ => ix7 b i j pq.1 pq.2 h w) ?_ ?_ ?_ (fun _ _ => rfl)
  · intro pq _
    refine Finset.mem_filter.mpr ⟨Finset.mem_univ _, ?_⟩
    funext a
    fin_cases a <;> rfl
  · intro p _ q _ e
    exact Prod.ext (congrFun e 3) (congrFun e 4)
  · intro k hk
    have hd := (Finset.mem_filter.mp hk).2
    have h0 : (k 0).val = b.val := congrArg Fin.val (congrFun hd 0)
    have h1 : (k 1).val = i.val := congrArg Fin.val (congrFun hd 1)
    have h2 : (k 2).val = j.val := congrArg Fin.val (congrFun hd 2)
    have h3 : (k 5).val = h.val := congrArg Fin.val (congrFun hd 3)
    have h4 : (k 6).val = w.val := congrArg Fin.val (congrFun hd 4)
    refine ⟨(k 3, k 4), Finset.mem_univ _, ?_⟩
    funext a
    fin_cases a <;> apply Fin.ext
    · exact h0.symm
    · exact h1.symm
    · exact h2.symm
    · rfl
    · rfl
    · exact h3.symm
    · exact h4.symm

variable (d : ℕ → ℕ → ℕ → ℝ) (hd : ∀ (b : Fin 8) (h : Fin 64) (w : Fin 2048), V0 (Proc.devRef .tc main_arg0) (ix4 b (0 : Fin 1) h w) = ((d b.val h.val w.val : ℝ) : EReal))
  (hd0 : ∀ b h w, 0 ≤ d b h w)

include hd in
theorem v14_apply (b : Fin 8) (i j : Fin 5) (h : Fin 64) (w : Fin 2048) :
    res_main_v14 V0 (ix5 b i j h w) = ((xp d b.val (h.val + i.val + 2) (w.val + j.val + 2) : ℝ) : EReal) := by
  rw [v14_eq, U_apply (res_main_v0 V0) (fun b h w => ((d b h w : ℝ) : EReal)) (fun b h w => (v0_apply V0 b h w).trans (hd b h w)), P2_coe]

include hd hd0 in
theorem jump_apply (b : Fin 8) (i j : Fin 5) (h : Fin 64) (w : Fin 2048) :
    jump V0 (ix5 b i j h w) = ((|xp d b.val (h.val + i.val + 2) (w.val + j.val + 2) - xp d b.val (h.val + 4) (w.val + 4)| : ℝ) : EReal) := by
  have hh := h.isLt
  have hw := w.isLt
  have e1 : select (cmpf .olt (res_main_v14 V0) (broadcastInDim S8x5x5x64x2048 ![] bcast_S_S8x5x5x64x2048 (constant S_ .f32 0x00000000#32))) (broadcastInDim S8x5x5x64x2048 ![] bcast_S_S8x5x5x64x2048 (constant S_ .f32 0x7F800000#32)) (res_main_v14 V0) (ix5 b i j h w)
      = ((xp d b.val (h.val + i.val + 2) (w.val + j.val + 2) : ℝ) : EReal) := by
    refine Eq.trans ?_ (v14_apply V0 d hd b i j h w)
    have z : broadcastInDim S8x5x5x64x2048 ![] bcast_S_S8x5x5x64x2048 (constant S_ .f32 0x00000000#32 : FVec Ideal S_ .f32) (ix5 b i j h w) = 0 := by
      unfold broadcastInDim
      rw [constant_apply, Ideal.ofBits_zero_f32]
    refine if_neg ?_
    show ¬ BitVec.ofBool (decide (@LT.lt EReal _ (res_main_v14 V0 (ix5 b i j h w)) (broadcastInDim S8x5x5x64x2048 ![] bcast_S_S8x5x5x64x2048 (constant S_ .f32 0x00000000#32 : FVec Ideal S_ .f32) (ix5 b i j h w)))) = 1
    rw [z, v14_apply V0 d hd, decide_eq_false (not_lt.mpr (EReal.coe_nonneg.mpr (xp_nonneg d hd0 _ _ _)))]
    decide
  have e2 : broadcastInDim S8x5x5x64x2048 ![0, 1, 2, 3, 4] bcast_S8x1x1x64x2048_S8x5x5x64x2048_0_1_2_3_4 (broadcastInDim S8x1x1x64x2048 ![0, 3, 4] bcast_S8x64x2048_S8x1x1x64x2048_0_3_4 (res_main_v0 V0)) (ix5 b i j h w)
      = ((xp d b.val (h.val + 4) (w.val + 4) : ℝ) : EReal) := by
    have e : xp d b.val (h.val + 4) (w.val + 4) = d b.val h.val w.val := by
      unfold xp
      rw [if_pos (by omega)]; rfl
    rw [e]
    refine Eq.trans ?_ ((v0_apply V0 b h w).trans (hd b h w))
    unfold broadcastInDim
    congr 1
    funext a
    fin_cases a <;> rfl
  unfold jump
  show max (subf _ _ (ix5 b i j h w)) (-(subf _ _ (ix5 b i j h w))) = _
  rw [subf_apply, e1, e2, ← EReal.coe_sub, ← EReal.coe_neg, ← EReal.coe_strictMono.monotone.map_max]
  rfl

include hd hd0 in
theorem v32_apply (b : Fin 8) (i j : Fin 5) (r : Fin 68) (c : Fin 2052) :
    res_main_v32 V0 (ix7 b i j 0 0 r c) = ((J (xp d b.val) i.val j.val r.val c.val : ℝ) : EReal) := by
  have hb := b.isLt
  have hi := i.isLt
  have hj := j.isLt
  have e : res_main_v32 V0 (ix7 b i j 0 0 r c) = pad S8x5x5x68x2052 ![0, 0, 0, 2, 2] ![0, 0, 0, 2, 2] ![0, 0, 0, 0, 0] (jump V0) (constant S_ .f32 0x00000000#32) pads_S8x5x5x64x2048_S8x5x5x68x2052_000_000_000_220_220 h_S_ (ix5 b i j r c) := by
    rw [v32_eq]
    unfold broadcastInDim
    congr 1
    funext a
    fin_cases a <;> rfl
  rw [e]
  unfold pad J
  by_cases hin : (2 ≤ r.val ∧ r.val < 66) ∧ (2 ≤ c.val ∧ c.val < 2050)
  · rw [dif_pos, if_pos hin]
    · have je := jump_apply V0 d hd hd0 b i j ⟨r.val - 2, by omega⟩ ⟨c.val - 2, by omega⟩
      have k1 : r.val - 2 + i.val + 2 = r.val + i.val := by omega
      have k2 : c.val - 2 + j.val + 2 = c.val + j.val := by omega
      have k3 : r.val - 2 + 4 = r.val + 2 := by omega
      have k4 : c.val - 2 + 4 = c.val + 2 := by omega
      simp only [k1, k2, k3, k4] at je
      refine Eq.trans ?_ je
      congr 1
      funext a
      fin_cases a <;> apply Fin.ext
      · show (b.val - 0) / (0 + 1) = b.val; omega
      · show (i.val - 0) / (0 + 1) = i.val; omega
      · show (j.val - 0) / (0 + 1) = j.val; omega
      · show (r.val - 2) / (0 + 1) = r.val - 2; omega
      · show (c.val - 2) / (0 + 1) = c.val - 2; omega
    · intro a
      fin_cases a
      · show 0 ≤ b.val ∧ (b.val - 0) % (0 + 1) = 0 ∧ (b.val - 0) / (0 + 1) < 8; omega
      · show 0 ≤ i.val ∧ (i.val - 0) % (0 + 1) = 0 ∧ (i.val - 0) / (0 + 1) < 5; omega
      · show 0 ≤ j.val ∧ (j.val - 0) % (0 + 1) = 0 ∧ (j.val - 0) / (0 + 1) < 5; omega
      · show 2 ≤ r.val ∧ (r.val - 2) % (0 + 1) = 0 ∧ (r.val - 2) / (0 + 1) < 64; omega
      · show 2 ≤ c.val ∧ (c.val - 2) % (0 + 1) = 0 ∧ (c.val - 2) / (0 + 1) < 2048; omega
  · rw [dif_neg, if_neg hin]
    · rw [constant_apply, Ideal.ofBits_zero_f32]; rfl
    · intro hall
      have h1 : 2 ≤ r.val ∧ (r.val - 2) % (0 + 1) = 0 ∧ (r.val - 2) / (0 + 1) < 64 := hall 3
      have h2 : 2 ≤ c.val ∧ (c.val - 2) % (0 + 1) = 0 ∧ (c.val - 2) / (0 + 1) < 2048 := hall 4
      omega

theorem split_apply (x : S8x5x5x64x2048.Idx → EReal) (b : Fin 8) (k : Fin 25) (h : Fin 64) (w : Fin 2048) :
    shapeCast S8x25x64x2048 x shapeCasts_S8x5x5x64x2048_S8x25x64x2048 (ix4 b k h w)
      = x (ix5 b (⟨k.val / 5, by omega⟩ : Fin 5) (⟨k.val % 5, by omega⟩ : Fin 5) h w) := by
  refine shapeCast_apply _ _ _ _ ?_
  rw [Shape.rowMajor_val_four, Shape.rowMajor_val_five]
  show (((b.val * 5 + k.val / 5) * 5 + k.val % 5) * 64 + h.val) * 2048 + w.val = ((b.val * 25 + k.val) * 64 + h.val) * 2048 + w.val
  omega

include hd hd0 in
theorem v49_apply (b : Fin 8) (k : Fin 25) (h : Fin 64) (w : Fin 2048) :
    res_main_v49 V0 (ix4 b k h w) = ((dR (xp d b.val) (k.val / 5) (k.val % 5) h.val w.val : ℝ) : EReal) := by
  rw [v49_eq, split_apply]
  show Ideal.hostReduceAdd _ _ _ _ = _
  unfold Ideal.hostReduceAdd
  rw [sum_window, constant_apply, Ideal.ofBits_zero_f32, zero_add]
  unfold dR
  rw [coe_sum]
  refine Finset.sum_congr rfl fun p _ => ?_
  rw [coe_sum]
  refine Finset.sum_congr rfl fun q _ => ?_
  rw [mulf_apply, wtsB_apply, colsJ_apply, v38_eq, rowsJ_apply, v32_apply V0 d hd hd0, EReal.coe_mul]

variable (l : ℕ → ℕ → ℕ → BitVec 32) (hl : ∀ (b : Fin 8) (h : Fin 64) (w : Fin 2048), V0 (Proc.devRef .tc main_arg1) (ix3 b h w) = l b.val h.val w.val)

include hl in
theorem v65_apply (b : Fin 8) (k : Fin 25) (h : Fin 64) (w : Fin 2048) :
    res_main_v65 V0 (ix4 b k h w) = (((yp l b.val (h.val + k.val / 5) (w.val + k.val % 5)).toInt : ℝ) : EReal) := by
  rw [v65_eq, split_apply, U_apply _ (fun b h w => (((l b h w).toInt : ℝ) : EReal)), P2_lab]
  intro b h w
  show (((V0 (Proc.devRef .tc main_arg1) (ix3 b h w) : BitVec 32).toInt : ℝ) : EReal) = _
  rw [hl]

end Cert.ReferenceIdeal.Vals

end
-- ==== Proof.KernelArray.lean ====
module

public import proofs.«01_k».proof.Proof.KernelPixel
public import proofs.«01_k».proof.Proof.KernelOut
public import proofs.«01_k».proof.Proof.RefJump
public import proofs.«01_k».proof.Proof.Gen.KernelIdeal.Value
public import Idealize.ShloMosaic.Lib.Claim
public import Idealize.ShloMosaic.Lib.Pipeline.ValueKit.Basic
public import Idealize.ShloMosaic.Lib.Pipeline.ValueKit.Point

@[expose] public section

set_option maxRecDepth 16384

noncomputable section

/-! The kernel's result array, place by place. -/

namespace Cert.KernelIdeal.Vals

open Idealize.ShloMosaic hiding ix1 ix2 ix3 ix4 ix5 ix6
open Idealize.ShloMosaic.ValueIdx Idealize.ShloMosaic.TcCoe Idealize.SL.Sem Cert.KernelIdeal Cert.KernelIdeal.Gen Cert.KernelIdeal.Value Cert.Dist
open Idealize.ShloMosaic.Pipeline (Dat)

variable (m : (ℓ : Loc nD τ sig) → Buf (Elt Ideal) ℓ) (c : Dev nD)

theorem V_v1 : V m c main_v1 = pad S8x72x2056 ![0, 4, 4] ![0, 4, 4] ![0, 0, 0] (shapeCast S8x64x2048 (show FVec Ideal S8x1x64x2048 .f32 from m ((c : Thread nD τ).loc main_arg0)) shapeCasts_S8x1x64x2048_S8x64x2048)
    (sitofp .f32 (constantI S_ 32 0#32)) pads_S8x64x2048_S8x72x2056_000_440_440 h_S_ := by
  show StableHlo.after (List.flatten [hostOps0, hostOps0_1, hostOps0_2, hostOps0_3]) _ (Proc.devRef .tc main_v1) = _
  simp only [List.flatten_cons, List.flatten_nil, List.append_nil, List.cons_append, List.nil_append]
  after_results
  rfl

theorem V_v2 : V m c main_v2 = pad S8x68x2052 ![0, 2, 2] ![0, 2, 2] ![0, 0, 0] (m ((c : Thread nD τ).loc main_arg1))
    (constantI S_ 32 0#32) pads_S8x64x2048_S8x68x2052_000_220_220 h_S_ := by
  show StableHlo.after (List.flatten [hostOps0, hostOps0_1, hostOps0_2, hostOps0_3]) _ (Proc.devRef .tc main_v2) = _
  simp only [List.flatten_cons, List.flatten_nil, List.append_nil, List.cons_append, List.nil_append]
  after_results
  rfl

theorem index0 : ∀ t : Fin cfg0.N, win0_0.index t = ![t.val, 0, 0] :=
  (by decide +kernel : ∀ t : Fin grid0.N, win0_0.index t = ![t.val, 0, 0])
theorem index1 : ∀ t : Fin cfg0.N, win0_1.index t = ![t.val, 0, 0] :=
  (by decide +kernel : ∀ t : Fin grid0.N, win0_1.index t = ![t.val, 0, 0])
theorem index2 : ∀ t : Fin cfg0.N, win0_2.index t = ![t.val, 0, 0] :=
  (by decide +kernel : ∀ t : Fin grid0.N, win0_2.index t = ![t.val, 0, 0])
theorem flush2 : ∀ t : Fin cfg0.N, win0_2.flush t = true :=
  (by decide +kernel : ∀ t : Fin grid0.N, win0_2.flush t = true)

/-- The grid point of image `b`. -/
def pt (b : Fin 8) : Fin cfg0.N := ⟨b.val, by rw [show cfg0.N = 8 from N_0]; exact b.isLt⟩

theorem emb2 (b : Fin 8) (h : Fin 64) (w : Fin 2048) : ((cfg0.win 2).blk (pt b)).view.emb (ix3 (0 : Fin 1) h w) = ix3 b h w := by
  funext a
  fin_cases a <;> apply Fin.ext <;> blk_simp [index2] <;> rfl

theorem arr_apply (b : Fin 8) (h : Fin 64) (w : Fin 2048) :
    (dats m 0 c).arrAt 2 cfg0.N (ix3 b h w) = w1737 (iblk m c 0 (pt b)) (iblk m c 1 (pt b)) (ix2 h w) := by
  have e := congrFun (blocks2 m c (pt b) (flush2 _)) (ix3 (0 : Fin 1) h w)
  rw [flushed2_A, out_eq, View.read_apply, emb2] at e
  refine e.trans ?_
  exact shapeCast_ab_1ab_apply (w1737 (iblk m c 0 (pt b)) (iblk m c 1 (pt b))) shapeCasts_S64x2048_S1x64x2048 (0 : Fin 1) h w

theorem blk0 (b : Fin 8) (r : Fin 72) (cc : Fin 2056) : iblk m c 0 (pt b) (ix3 (0 : Fin 1) r cc) = V m c main_v1 (ix3 b r cc) := by
  unfold iblk
  rw [View.read_apply]
  have e : ((cfg0.win 0).blk (pt b)).view.emb (ix3 (0 : Fin 1) r cc) = ix3 b r cc := by
    funext a
    fin_cases a <;> apply Fin.ext <;> blk_simp [index0] <;> rfl
  rw [e]
  rfl

theorem blk1 (b : Fin 8) (r : Fin 68) (cc : Fin 2052) : iblk m c 1 (pt b) (ix3 (0 : Fin 1) r cc) = V m c main_v2 (ix3 b r cc) := by
  unfold iblk
  rw [View.read_apply]
  have e : ((cfg0.win 1).blk (pt b)).view.emb (ix3 (0 : Fin 1) r cc) = ix3 b r cc := by
    funext a
    fin_cases a <;> apply Fin.ext <;> blk_simp [index1] <;> rfl
  rw [e]
  rfl

theorem pad4_apply (X : S8x64x2048.Idx → EReal) (z : S_.Idx → EReal) (hz : ∀ i, z i = 0) (d : ℕ → ℕ → ℕ → ℝ)
    (hX : ∀ (b : Fin 8) (h : Fin 64) (w : Fin 2048), X (ix3 b h w) = ((d b h w : ℝ) : EReal)) (b : Fin 8) (r : Fin 72) (cc : Fin 2056) :
    pad S8x72x2056 ![0, 4, 4] ![0, 4, 4] ![0, 0, 0] X z pads_S8x64x2048_S8x72x2056_000_440_440 h_S_ (ix3 b r cc) = ((xp d b r cc : ℝ) : EReal) := by
  unfold pad xp
  by_cases hin : (4 ≤ r.val ∧ r.val < 68) ∧ (4 ≤ cc.val ∧ cc.val < 2052)
  · rw [dif_pos, if_pos hin]
    · refine Eq.trans ?_ (hX b ⟨r.val - 4, by omega⟩ ⟨cc.val - 4, by omega⟩)
      congr 1
      funext a
      fin_cases a <;> apply Fin.ext
      · show (b.val - 0) / (0 + 1) = b.val; omega
      · show (r.val - 4) / (0 + 1) = r.val - 4; omega
      · show (cc.val - 4) / (0 + 1) = cc.val - 4; omega
    · intro a
      fin_cases a
      · show 0 ≤ b.val ∧ (b.val - 0) % (0 + 1) = 0 ∧ (b.val - 0) / (0 + 1) < 8; omega
      · show 4 ≤ r.val ∧ (r.val - 4) % (0 + 1) = 0 ∧ (r.val - 4) / (0 + 1) < 64; omega
      · show 4 ≤ cc.val ∧ (cc.val - 4) % (0 + 1) = 0 ∧ (cc.val - 4) / (0 + 1) < 2048; omega
  · rw [dif_neg, if_neg hin]
    · rw [hz]; rfl
    · intro hall
      have h1 : 4 ≤ r.val ∧ (r.val - 4) % (0 + 1) = 0 ∧ (r.val - 4) / (0 + 1) < 64 := hall 1
      have h2 : 4 ≤ cc.val ∧ (cc.val - 4) % (0 + 1) = 0 ∧ (cc.val - 4) / (0 + 1) < 2048 := hall 2
      omega

theorem pad2_apply (X : S8x64x2048.Idx → BitVec 32) (z : S_.Idx → BitVec 32) (hz : ∀ i, z i = 0#32) (l : ℕ → ℕ → ℕ → BitVec 32)
    (hX : ∀ (b : Fin 8) (h : Fin 64) (w : Fin 2048), X (ix3 b h w) = l b h w) (b : Fin 8) (r : Fin 68) (cc : Fin 2052) :
    pad S8x68x2052 ![0, 2, 2] ![0, 2, 2] ![0, 0, 0] X z pads_S8x64x2048_S8x68x2052_000_220_220 h_S_ (ix3 b r cc) = yp l b r cc := by
  unfold pad yp
  by_cases hin : (2 ≤ r.val ∧ r.val < 66) ∧ (2 ≤ cc.val ∧ cc.val < 2050)
  · rw [dif_pos, if_pos hin]
    · refine Eq.trans ?_ (hX b ⟨r.val - 2, by omega⟩ ⟨cc.val - 2, by omega⟩)
      congr 1
      funext a
      fin_cases a <;> apply Fin.ext
      · show (b.val - 0) / (0 + 1) = b.val; omega
      · show (r.val - 2) / (0 + 1) = r.val - 2; omega
      · show (cc.val - 2) / (0 + 1) = cc.val - 2; omega
    · intro a
      fin_cases a
      · show 0 ≤ b.val ∧ (b.val - 0) % (0 + 1) = 0 ∧ (b.val - 0) / (0 + 1) < 8; omega
      · show 2 ≤ r.val ∧ (r.val - 2) % (0 + 1) = 0 ∧ (r.val - 2) / (0 + 1) < 64; omega
      · show 2 ≤ cc.val ∧ (cc.val - 2) % (0 + 1) = 0 ∧ (cc.val - 2) / (0 + 1) < 2048; omega
  · rw [dif_neg, if_neg hin]
    · exact hz _
    · intro hall
      have h1 : 2 ≤ r.val ∧ (r.val - 2) % (0 + 1) = 0 ∧ (r.val - 2) / (0 + 1) < 64 := hall 1
      have h2 : 2 ≤ cc.val ∧ (cc.val - 2) % (0 + 1) = 0 ∧ (cc.val - 2) / (0 + 1) < 2048 := hall 2
      omega

variable (d : ℕ → ℕ → ℕ → ℝ) (hd : ∀ (b : Fin 8) (h : Fin 64) (w : Fin 2048), m ((c : Thread nD τ).loc main_arg0) (ix4 b (0 : Fin 1) h w) = ((d b.val h.val w.val : ℝ) : EReal))
  (l : ℕ → ℕ → ℕ → BitVec 32) (hl : ∀ (b : Fin 8) (h : Fin 64) (w : Fin 2048), m ((c : Thread nD τ).loc main_arg1) (ix3 b h w) = l b.val h.val w.val)

include hd in
theorem w1_blk (b : Fin 8) (r : Fin 72) (cc : Fin 2056) : w1 (iblk m c 0 (pt b)) (iblk m c 1 (pt b)) (ix2 r cc) = ((xp d b r cc : ℝ) : EReal) := by
  unfold w1
  rw [shapeCast_1ab_ab_apply]
  refine (blk0 m c b r cc).trans ?_
  rw [V_v1]
  refine pad4_apply _ _ (fun i => ?_) d (fun b h w => ?_) b r cc
  · show (((0#32 : BitVec 32).toInt : ℝ) : EReal) = 0
    have : (0#32 : BitVec 32).toInt = 0 := by decide
    rw [this]; simp
  · refine (shapeCast_apply _ _ _ (ix4 b (0 : Fin 1) h w) ?_).trans (hd b h w)
    show (S8x1x64x2048.rowMajor (ix4 b (0 : Fin 1) h w)).val = (S8x64x2048.rowMajor (ix3 b h w)).val
    rw [Shape.rowMajor_val_three, Shape.rowMajor_val_four]
    show ((b.val * 1 + 0) * 64 + h.val) * 2048 + w.val = (b.val * 64 + h.val) * 2048 + w.val
    omega

include hl in
theorem w3_blk (b : Fin 8) (r : Fin 68) (cc : Fin 2052) : w3 (iblk m c 0 (pt b)) (iblk m c 1 (pt b)) (ix2 r cc) = yp l b r cc := by
  unfold w3
  rw [shapeCast_1ab_ab_apply]
  refine (blk1 m c b r cc).trans ?_
  rw [V_v2]
  exact pad2_apply _ _ (fun i => rfl) l hl b r cc

end Cert.KernelIdeal.Vals

end
-- ==== Proof.RefSort.lean ====
module

public import proofs.«01_k».proof.Proof.RefJump
public import proofs.«01_k».proof.Proof.KernelPixel
public import Idealize.ShloMosaic.Lib.SortFacts
public import Idealize.ShloMosaic.PureOps.Reduce
public import Idealize.ShloMosaic.PureOps.Ideal.Laws

@[expose] public section

set_option maxRecDepth 16384

noncomputable section

/-! The reference's five nearest neighbours and their vote. -/

namespace Cert.Near

open Idealize.ShloMosaic Cert.Sel

/-- The order a sort by distance puts 25 neighbours in. -/
def ord (D : Fin 25 → EReal) : Fin 25 → Fin 25 := sortedFrom (fun k k' => decide (D k < D k'))

theorem ord_mono (D : Fin 25 → EReal) (i j : Fin 25) (hij : i ≤ j) : D (ord D i) ≤ D (ord D j) := by
  rcases hij.eq_or_lt with rfl | h
  · exact le_refl _
  · have := sortedFrom_noInversion (fun k k' => decide (D k < D k')) (fun k k' => decide (D k < D k'))
      (by intro a b h; exact decide_eq_false (not_lt.mpr (of_decide_eq_true h).le))
      (by intro a b h; exact h)
      (by intro a b c h1 h2; exact decide_eq_false (not_lt.mpr ((not_lt.mp (of_decide_eq_false h2)).trans (not_lt.mp (of_decide_eq_false h1))))) i j h
    exact not_lt.mp (of_decide_eq_false this)

/-- The first five. -/
def five (pr : Fin 25 → P) : Multiset P := (Finset.univ : Finset (Fin 5)).val.map fun k => pr (ord (fun k => (pr k).1) ⟨k.val, by omega⟩)
/-- The others. -/
def rest (pr : Fin 25 → P) : Multiset P := (Finset.univ : Finset (Fin 20)).val.map fun k => pr (ord (fun k => (pr k).1) ⟨k.val + 5, by omega⟩)

theorem map_bij (f : Fin 25 → Fin 25) (h : Function.Bijective f) :
    (Finset.univ : Finset (Fin 25)).val.map f = (Finset.univ : Finset (Fin 25)).val :=
  congrArg Finset.val (Finset.map_univ_equiv (Equiv.ofBijective f h))

theorem card_five (pr : Fin 25 → P) : Multiset.card (five pr) = 5 := by
  unfold five
  rw [Multiset.card_map]; rfl

theorem five_rest (pr : Fin 25 → P) : five pr + rest pr = (Finset.univ : Finset (Fin 25)).val.map pr := by
  have e : (Finset.univ : Finset (Fin 25)).val.map (ord fun k => (pr k).1) = (Finset.univ : Finset (Fin 25)).val :=
    map_bij _ ⟨sortedFrom_injective _, sortedFrom_surjective _⟩
  have u : (Finset.univ : Finset (Fin 25)).val = (Finset.univ : Finset (Fin 5)).val.map (fun k => (⟨k.val, by omega⟩ : Fin 25))
      + (Finset.univ : Finset (Fin 20)).val.map (fun k => (⟨k.val + 5, by omega⟩ : Fin 25)) := by decide
  rw [← e, Multiset.map_map]
  conv_rhs => rw [u]
  rw [Multiset.map_add, Multiset.map_map, Multiset.map_map]
  rfl

theorem five_lt (pr : Fin 25 → P) (h : (pr (ord (fun k => (pr k).1) 4)).1 < (pr (ord (fun k => (pr k).1) 5)).1) :
    ∀ a ∈ five pr, ∀ b ∈ rest pr, a.1 < b.1 := by
  intro a ha b hb
  obtain ⟨i, _, rfl⟩ := Multiset.mem_map.mp ha
  obtain ⟨j, _, rfl⟩ := Multiset.mem_map.mp hb
  exact ((ord_mono (fun k => (pr k).1) ⟨i.val, by omega⟩ 4 (by show i.val ≤ 4; omega)).trans_lt h).trans_le
    (ord_mono (fun k => (pr k).1) 5 ⟨j.val + 5, by omega⟩ (by show 5 ≤ j.val + 5; omega))

/-- The least of some words and a start is one of them, and at most each. -/
theorem fold_min {ι : Type} (s : Finset ι) (b : BitVec 32) (f : ι → BitVec 32) :
    (s.fold IntOp.minsi b f = b ∨ ∃ x ∈ s, s.fold IntOp.minsi b f = f x) ∧ (s.fold IntOp.minsi b f).toInt ≤ b.toInt
      ∧ ∀ x ∈ s, (s.fold IntOp.minsi b f).toInt ≤ (f x).toInt := by
  classical
  induction s using Finset.induction_on with
  | empty => exact ⟨Or.inl rfl, le_refl _, fun x hx => absurd hx (by simp)⟩
  | insert a s ha ih =>
    obtain ⟨h1, h2, h3⟩ := ih
    rw [Finset.fold_insert ha]
    unfold IntOp.minsi at *
    by_cases c : (f a).slt (s.fold IntOp.minsi b f) = true
    · have c' : (f a).toInt < (s.fold IntOp.minsi b f).toInt := by rw [BitVec.slt_eq_decide] at c; exact of_decide_eq_true c
      unfold IntOp.minsi at c c'
      rw [if_pos c]
      refine ⟨Or.inr ⟨a, Finset.mem_insert_self _ _, rfl⟩, c'.le.trans h2, fun x hx => ?_⟩
      rcases Finset.mem_insert.mp hx with rfl | hx
      · exact le_refl _
      · exact c'.le.trans (h3 x hx)
    · have c' : (s.fold IntOp.minsi b f).toInt ≤ (f a).toInt := by
        rw [BitVec.slt_eq_decide] at c
        exact not_lt.mp fun h => c (decide_eq_true h)
      unfold IntOp.minsi at c c'
      rw [if_neg c]
      refine ⟨?_, h2, fun x hx => ?_⟩
      · rcases h1 with h | ⟨x, hx, h⟩
        · exact Or.inl h
        · exact Or.inr ⟨x, Finset.mem_insert_of_mem hx, h⟩
      · rcases Finset.mem_insert.mp hx with rfl | hx
        · exact c'
        · exact h3 x hx

/-- The first class of the largest count is the vote. -/
theorem first_largest (L : Multiset (BitVec 32)) (M : EReal) (r : BitVec 32) (N : Fin 20 → EReal)
    (hN : ∀ c, N c = (((L.count (BitVec.ofNat 32 c.val) : ℕ) : ℝ) : EReal)) (hM : ∀ c, N c ≤ M) (hM' : ∃ c, N c = M)
    (hr : r = 2147483647#32 ∨ ∃ c, r = if N c = M then BitVec.ofNat 32 c.val else 20#32)
    (hr' : ∀ c, r.toInt ≤ (if N c = M then BitVec.ofNat 32 c.val else 20#32).toInt) : Vote.IsVote L r := by
  have small (c : Fin 20) : (BitVec.ofNat 32 c.val).toInt = (c.val : ℤ) := by
    have hc := c.isLt
    rw [BitVec.toInt_eq_toNat_cond, BitVec.toNat_ofNat, Nat.mod_eq_of_lt (by omega), if_pos (by omega)]
  have nat (c : Fin 20) : (BitVec.ofNat 32 c.val).toNat = c.val := by
    have hc := c.isLt
    rw [BitVec.toNat_ofNat, Nat.mod_eq_of_lt (by omega)]
  obtain ⟨c0, h0⟩ := hM'
  have l0 := hr' c0
  rw [if_pos h0, small] at l0
  have b0 := c0.isLt
  have lt : r.toInt < 20 := by omega
  have ex : ∃ c : Fin 20, r = BitVec.ofNat 32 c.val ∧ N c = M := by
    rcases hr with h | ⟨c, h⟩
    · rw [h] at lt; exact absurd lt (by decide)
    · by_cases hc : N c = M
      · rw [if_pos hc] at h; exact ⟨c, h, hc⟩
      · rw [if_neg hc] at h; rw [h] at lt; exact absurd lt (by decide)
  obtain ⟨c, rfl, hc⟩ := ex
  have le (d : Fin 20) : L.count (BitVec.ofNat 32 d.val) ≤ L.count (BitVec.ofNat 32 c.val) := by
    have := hM d
    rw [← hc, hN, hN] at this
    exact_mod_cast this
  refine ⟨by rw [nat]; exact c.isLt, fun d hd => ?_⟩
  have ed : d = BitVec.ofNat 32 (⟨d.toNat, hd⟩ : Fin 20).val := by apply BitVec.eq_of_toNat_eq; rw [nat]
  refine ⟨by rw [ed]; exact le _, fun h => ?_⟩
  refine lt_of_le_of_ne (by rw [ed]; exact le _) fun e => ?_
  have nd : N ⟨d.toNat, hd⟩ = M := by rw [hN, ← ed, e, ← hN, hc]
  have := hr' ⟨d.toNat, hd⟩
  rw [if_pos nd, small, small] at this
  rw [nat] at h
  have : (c.val : ℤ) ≤ (d.toNat : ℤ) := this
  omega

end Cert.Near

end
-- ==== Proof.RefVote.lean ====
module

public import proofs.«01_k».proof.Proof.RefSort

@[expose] public section

set_option maxRecDepth 16384

noncomputable section

/-! The reference's result at a pixel is the vote of its five nearest neighbours. -/

namespace Cert.ReferenceIdeal.Vals

open Idealize.ShloMosaic hiding ix1 ix2 ix3 ix4 ix5 ix6
open Idealize.ShloMosaic.ValueIdx Idealize.SL.Sem Cert.ReferenceIdeal Cert.ReferenceIdeal.Gen Cert.ReferenceIdeal.Value Cert.Dist Cert.Near Cert.Sel
open Cert.KernelIdeal.Vals (cut)
open scoped BigOperators

theorem zero_or_self (a : EReal) : Scalar.select (Ideal.cmp .oeq a (Ideal.ofBits .f32 0x00000000#32)) (Ideal.ofBits .f32 0x00000000#32) a = a := by
  rw [Ideal.ofBits_zero_f32]
  show (if BitVec.ofBool (decide (a = 0)) = 1 then (0 : EReal) else a) = a
  split
  · rename_i h
    have : a = 0 := by
      by_contra c
      rw [decide_eq_false c] at h
      exact absurd h (by decide)
    exact this.symm
  · rfl

theorem no_nan (a z b : EReal) : Scalar.select (Ideal.cmp .une a a) z b = b := by
  show (if BitVec.ofBool (decide (a ≠ a)) = 1 then z else b) = b
  rw [if_neg]
  rw [decide_eq_false (by simp)]
  decide

theorem comparator_eq (l r : EReal × EReal) : comparator_f32_f32_d1 (F := Ideal) l r = BitVec.ofBool (decide (l.1 < r.1)) := by
  show Ideal.cmp .olt (Scalar.select (Ideal.cmp .une l.1 l.1) (Ideal.ofBits .f32 0x7FC00000#32) (Scalar.select (Ideal.cmp .oeq l.1 (Ideal.ofBits .f32 0x00000000#32)) (Ideal.ofBits .f32 0x00000000#32) l.1))
    (Scalar.select (Ideal.cmp .une r.1 r.1) (Ideal.ofBits .f32 0x7FC00000#32) (Scalar.select (Ideal.cmp .oeq r.1 (Ideal.ofBits .f32 0x00000000#32)) (Ideal.ofBits .f32 0x00000000#32) r.1)) = _
  rw [no_nan, no_nan, zero_or_self, zero_or_self]
  rfl

theorem along_apply (b : Fin 8) (k k' : Fin 25) (h : Fin 64) (w : Fin 2048) :
    Shape.Idx.along (s := S8x25x64x2048) (ix4 b k h w) (1 : Fin 4) k' = ix4 b k' h w := by
  unfold Shape.Idx.along
  funext a
  fin_cases a <;> rfl

theorem bool_one (p : Bool) : (BitVec.ofBool p == 1#1) = p := by cases p <;> rfl

theorem sort2_gen (s : Shape) (d : ℕ) (hd : d < s.rank) (cmp : EReal × EReal → EReal × EReal → BitVec 1) (x y : s.Idx → EReal) (j : s.Idx)
    (R : Fin (s.size ⟨d, hd⟩) → Fin (s.size ⟨d, hd⟩) → Bool)
    (hR : ∀ k k', (cmp (x (j.along ⟨d, hd⟩ k), y (j.along ⟨d, hd⟩ k)) (x (j.along ⟨d, hd⟩ k'), y (j.along ⟨d, hd⟩ k')) == 1#1) = R k k') :
    (Host.sort2 s d cmp x y).1 j = x (j.along ⟨d, hd⟩ (sortedFrom R (j ⟨d, hd⟩)))
    ∧ (Host.sort2 s d cmp x y).2 j = y (j.along ⟨d, hd⟩ (sortedFrom R (j ⟨d, hd⟩))) := by
  obtain rfl : (fun k k' => cmp (x (j.along ⟨d, hd⟩ k), y (j.along ⟨d, hd⟩ k)) (x (j.along ⟨d, hd⟩ k'), y (j.along ⟨d, hd⟩ k')) == 1#1) = R :=
    funext fun k => funext fun k' => hR k k'
  unfold Host.sort2
  rw [dif_pos hd]
  exact ⟨rfl, rfl⟩

theorem sort_gen (s : Shape) (d : ℕ) (hd : d < s.rank) (cmp : EReal → EReal → BitVec 1) (x : s.Idx → EReal) (j : s.Idx)
    (R : Fin (s.size ⟨d, hd⟩) → Fin (s.size ⟨d, hd⟩) → Bool)
    (hR : ∀ k k', (cmp (x (j.along ⟨d, hd⟩ k)) (x (j.along ⟨d, hd⟩ k')) == 1#1) = R k k') :
    Host.sort s d cmp x j = x (j.along ⟨d, hd⟩ (sortedFrom R (j ⟨d, hd⟩))) := by
  obtain rfl : (fun k k' => cmp (x (j.along ⟨d, hd⟩ k)) (x (j.along ⟨d, hd⟩ k')) == 1#1) = R :=
    funext fun k => funext fun k' => hR k k'
  unfold Host.sort
  rw [dif_pos hd]

theorem one_lt : 1 < S8x25x64x2048.rank := by decide

theorem sort2_apply (x y : S8x25x64x2048.Idx → EReal) (b : Fin 8) (k : Fin 25) (h : Fin 64) (w : Fin 2048) :
    (Host.sort2 S8x25x64x2048 1 (comparator_f32_f32_d1 (F := Ideal)) x y).1 (ix4 b k h w) = x (ix4 b (ord (fun k => x (ix4 b k h w)) k) h w)
    ∧ (Host.sort2 S8x25x64x2048 1 (comparator_f32_f32_d1 (F := Ideal)) x y).2 (ix4 b k h w) = y (ix4 b (ord (fun k => x (ix4 b k h w)) k) h w) := by
  have g := sort2_gen S8x25x64x2048 1 one_lt (comparator_f32_f32_d1 (F := Ideal)) x y (ix4 b k h w)
    (fun k k' : Fin 25 => decide (x (ix4 b k h w) < x (ix4 b k' h w)))
    (fun k1 k2 => by
      rw [comparator_eq, bool_one]
      exact congrArg₂ (fun u v : S8x25x64x2048.Idx => decide (x u < x v)) (along_apply b k k1 h w) (along_apply b k k2 h w))
  exact ⟨g.1.trans (congrArg x (along_apply b k (ord (fun k => x (ix4 b k h w)) k) h w)),
    g.2.trans (congrArg y (along_apply b k (ord (fun k => x (ix4 b k h w)) k) h w))⟩

theorem ofBits_twenty : Ideal.ofBits .f32 0x41A00000#32 = (((20#32).toInt : ℝ) : EReal) := by
  have : (20#32).toInt = 20 := by decide
  rw [this]
  simp [Ideal.ofBits, Ideal.ieee, -EReal.coe_mul]
  norm_num

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

theorem fptosi_int (v : BitVec 32) : Ideal.fptosi 32 (((v.toInt : ℝ)) : EReal) = v := by
  have h1 := v.toInt_lt
  have h2 := v.le_toInt
  have f : (if (0 : ℝ) ≤ ((v.toInt : ℤ) : ℝ) then ⌊((v.toInt : ℤ) : ℝ)⌋ else ⌈((v.toInt : ℤ) : ℝ)⌉) = v.toInt := by
    split
    · exact Int.floor_intCast _
    · exact Int.ceil_intCast _
  rw [Ideal.fptosi, Ideal.toIntClamped_coe, f]
  norm_num at h1 h2 ⊢
  rw [min_eq_right (by omega), max_eq_right (by omega), BitVec.ofInt_toInt]

variable (V0 : Valuation τ sig (Elt Ideal)) (b : Fin 8) (h : Fin 64) (w : Fin 2048) (pr : Fin 25 → P)

/-- The labels `B`, 20 where the distance `A` is too far. -/
def nearOf (A B : FVec Ideal S8x5x64x2048 .f32) : FVec Ideal S8x5x64x2048 .f32 :=
  select (cmpf .ogt A (broadcastInDim S8x5x64x2048 ![] bcast_S_S8x5x64x2048 (constant S_ .f32 0x3F800000#32))) (broadcastInDim S8x5x64x2048 ![] bcast_S_S8x5x64x2048 (constant S_ .f32 0x41A00000#32)) B

theorem nearOf_apply (A B : FVec Ideal S8x5x64x2048 .f32) (i : S8x5x64x2048.Idx) :
    nearOf A B i = Scalar.select (Ideal.cmp .ogt (A i) (Ideal.ofBits .f32 0x3F800000#32)) (Ideal.ofBits .f32 0x41A00000#32) (B i) := rfl

/-- The classes of the five nearest, class 20 where one is too far. -/
def near5 : FVec Ideal S8x5x64x2048 .f32 :=
  nearOf (extractStridedSlice S8x5x64x2048 ![0, 0, 0, 0] ((Host.sort2 S8x25x64x2048 1 comparator_f32_f32_d1 (res_main_v49 V0) (res_main_v65 V0)).1) slices_S8x25x64x2048_S8x5x64x2048_0_0_0_0) (extractStridedSlice S8x5x64x2048 ![0, 0, 0, 0] ((Host.sort2 S8x25x64x2048 1 comparator_f32_f32_d1 (res_main_v49 V0) (res_main_v65 V0)).2) slices_S8x25x64x2048_S8x5x64x2048_0_0_0_0)

theorem slice_apply (x : S8x25x64x2048.Idx → EReal) (k : Fin 5) :
    extractStridedSlice S8x5x64x2048 ![0, 0, 0, 0] x slices_S8x25x64x2048_S8x5x64x2048_0_0_0_0 (ix4 b k h w) = x (ix4 b (⟨k.val, by omega⟩ : Fin 25) h w) := by
  unfold extractStridedSlice
  congr 1
  funext a
  fin_cases a <;> apply Fin.ext
  · show 0 + b.val = b.val; omega
  · show 0 + k.val = k.val; omega
  · show 0 + h.val = h.val; omega
  · show 0 + w.val = w.val; omega

variable (hD : ∀ k : Fin 25, res_main_v49 V0 (ix4 b k h w) = (pr k).1)
  (hL : ∀ k : Fin 25, res_main_v65 V0 (ix4 b k h w) = ((((pr k).2.toInt : ℝ)) : EReal))

/-- The `k`-th nearest. -/
def nth (pr : Fin 25 → P) (k : Fin 5) : P := pr (ord (fun k => (pr k).1) ⟨k.val, by omega⟩)

theorem cut_eq (p : P) : Ideal.fptosi 32 (Scalar.select (Ideal.cmp .ogt p.1 (Ideal.ofBits .f32 0x3F800000#32)) (Ideal.ofBits .f32 0x41A00000#32) (((p.2.toInt : ℝ)) : EReal)) = cut p := by
  rw [ofBits_twenty]
  unfold cut Scalar.select
  split <;> exact fptosi_int _

include hD hL in
theorem near5_apply (k : Fin 5) : Ideal.fptosi 32 (near5 V0 (ix4 b k h w)) = cut (nth pr k) := by
  have o : (fun k => res_main_v49 V0 (ix4 b k h w)) = fun k => (pr k).1 := funext hD
  obtain ⟨s1, s2⟩ := sort2_apply (res_main_v49 V0) (res_main_v65 V0) b ⟨k.val, by omega⟩ h w
  rw [o] at s1 s2
  have t1 := ((slice_apply b h w _ k).trans s1).trans (hD _)
  have t2 := ((slice_apply b h w _ k).trans s2).trans (hL _)
  rw [near5, nearOf_apply, ← cut_eq]
  exact congrArg₂ (fun u v : EReal => Ideal.fptosi 32 (Scalar.select (Ideal.cmp .ogt u (Ideal.ofBits .f32 0x3F800000#32)) (Ideal.ofBits .f32 0x41A00000#32) v)) t1 t2

/-- Which classes the five nearest have. -/
def hits : FVec Ideal S8x5x20x64x2048 .f32 :=
  uitofp .f32 (cmpi .eq (broadcastInDim S8x5x20x64x2048 ![0, 1, 2, 3, 4] bcast_S8x5x1x64x2048_S8x5x20x64x2048_0_1_2_3_4 (broadcastInDim S8x5x1x64x2048 ![0, 1, 3, 4] bcast_S8x5x64x2048_S8x5x1x64x2048_0_1_3_4 (fptosi 32 (near5 V0)))) (broadcastInDim S8x5x20x64x2048 ![0, 1, 2, 3, 4] bcast_S1x1x20x1x1_S8x5x20x64x2048_0_1_2_3_4 (broadcastInDim S1x1x20x1x1 ![2, 3, 4] bcast_S20x1x1_S1x1x20x1x1_2_3_4 (res_main_v75 V0))))

theorem v82_eq : res_main_v82 V0 = Host.reduceAdd (hits V0) (constant S_ .f32 0x00000000#32) reducesTo_S8x5x20x64x2048_S8x20x64x2048_d1 h_S_ := rfl

include hD hL in
theorem hits_apply (k : Fin 5) (c : Fin 20) :
    hits V0 (ix5 b k c h w) = (((if BitVec.ofNat 32 c.val = cut (nth pr k) then 1 else 0 : ℝ)) : EReal) := by
  have e1 : broadcastInDim S8x5x20x64x2048 ![0, 1, 2, 3, 4] bcast_S8x5x1x64x2048_S8x5x20x64x2048_0_1_2_3_4 (broadcastInDim S8x5x1x64x2048 ![0, 1, 3, 4] bcast_S8x5x64x2048_S8x5x1x64x2048_0_1_3_4 (fptosi 32 (near5 V0) : IVec S8x5x64x2048 32)) (ix5 b k c h w) = cut (nth pr k) := by
    rw [← near5_apply V0 b h w pr hD hL k]
    show _ = (fptosi 32 (near5 V0) : IVec S8x5x64x2048 32) (ix4 b k h w)
    unfold broadcastInDim
    congr 1
    funext a
    fin_cases a <;> rfl
  have e2 : broadcastInDim S8x5x20x64x2048 ![0, 1, 2, 3, 4] bcast_S1x1x20x1x1_S8x5x20x64x2048_0_1_2_3_4 (broadcastInDim S1x1x20x1x1 ![2, 3, 4] bcast_S20x1x1_S1x1x20x1x1_2_3_4 (res_main_v75 V0)) (ix5 b k c h w) = BitVec.ofNat 32 c.val := rfl
  unfold hits
  show (((BitVec.ofBool (_ == _)).toNat : ℝ) : EReal) = _
  erw [e1, e2]
  by_cases hc : BitVec.ofNat 32 c.val = cut (nth pr k)
  · rw [if_pos hc, ← hc]; simp
  · rw [if_neg hc, beq_false_of_ne (Ne.symm hc)]; simp

theorem sum_five (x : S8x5x20x64x2048.Idx → EReal) (c : Fin 20) :
    ∑ i ∈ Finset.univ.filter (fun i => (reducesTo_S8x5x20x64x2048_S8x20x64x2048_d1).drop i = ix4 b c h w), x i = ∑ k : Fin 5, x (ix5 b k c h w) := by
  symm
  refine Finset.sum_bij (fun k _ => ix5 b k c h w) ?_ ?_ ?_ (fun _ _ => rfl)
  · intro k _
    refine Finset.mem_filter.mpr ⟨Finset.mem_univ _, ?_⟩
    funext a
    fin_cases a <;> rfl
  · intro p _ q _ e
    exact congrFun e 1
  · intro i hi
    have hd := (Finset.mem_filter.mp hi).2
    have h0 : (i 0).val = b.val := congrArg Fin.val (congrFun hd 0)
    have h1 : (i 2).val = c.val := congrArg Fin.val (congrFun hd 1)
    have h2 : (i 3).val = h.val := congrArg Fin.val (congrFun hd 2)
    have h3 : (i 4).val = w.val := congrArg Fin.val (congrFun hd 3)
    refine ⟨i 1, Finset.mem_univ _, ?_⟩
    funext a
    fin_cases a <;> apply Fin.ext
    · exact h0.symm
    · rfl
    · exact h1.symm
    · exact h2.symm
    · exact h3.symm

theorem count_five (f : Fin 5 → BitVec 32) (v : BitVec 32) :
    (∑ k : Fin 5, (if v = f k then 1 else 0 : ℝ)) = ((((Finset.univ : Finset (Fin 5)).val.map f).count v : ℕ) : ℝ) := by
  rw [Multiset.count_map, Finset.sum_boole]
  rfl

include hD hL in
theorem v82_apply (c : Fin 20) : res_main_v82 V0 (ix4 b c h w) = (((((five pr).map cut).count (BitVec.ofNat 32 c.val) : ℕ) : ℝ) : EReal) := by
  rw [v82_eq]
  show Ideal.hostReduceAdd _ _ _ _ = _
  unfold Ideal.hostReduceAdd
  rw [sum_five, constant_apply, Ideal.ofBits_zero_f32, zero_add, five, Multiset.map_map]
  refine Eq.trans ?_ (congrArg (fun t : ℝ => (t : EReal)) (count_five (fun k => cut (nth pr k)) (BitVec.ofNat 32 c.val)))
  rw [coe_sum]
  exact Finset.sum_congr rfl fun k _ => hits_apply V0 b h w pr hD hL k c

/-- The largest count at a pixel. -/
def most : FVec Ideal S8x64x2048 .f32 :=
  Host.reduce FloatOps.maximumf (res_main_v82 V0) (constant S_ .f32 0xFF800000#32) reducesTo_S8x20x64x2048_S8x64x2048_d1 h_S_

/-- Each class where its count is the largest, else 20. -/
def choice : IVec S8x20x64x2048 32 :=
  select (cmpf .oeq (res_main_v82 V0) (broadcastInDim S8x20x64x2048 ![0,1,2,3] bcast_S8x1x64x2048_S8x20x64x2048_0_1_2_3 (broadcastInDim S8x1x64x2048 ![0,2,3] bcast_S8x64x2048_S8x1x64x2048_0_2_3 (most V0)))) (broadcastInDim S8x20x64x2048 ![1,2,3] bcast_S20x1x1_S8x20x64x2048_1_2_3 (res_main_v75 V0)) (broadcastInDim S8x20x64x2048 ![] bcast_S_S8x20x64x2048 (constantI S_ 32 20#32))

theorem choice_apply (c : Fin 20) :
    choice V0 (ix4 b c h w : S8x20x64x2048.Idx) = if res_main_v82 V0 (ix4 b c h w) = most V0 (ix3 b h w) then BitVec.ofNat 32 c.val else 20#32 := by
  have e1 : broadcastInDim S8x20x64x2048 ![0,1,2,3] bcast_S8x1x64x2048_S8x20x64x2048_0_1_2_3 (broadcastInDim S8x1x64x2048 ![0,2,3] bcast_S8x64x2048_S8x1x64x2048_0_2_3 (most V0)) (ix4 b c h w) = most V0 (ix3 b h w) := by
    unfold broadcastInDim
    congr 1
    funext a
    fin_cases a <;> rfl
  unfold choice
  show (if BitVec.ofBool (decide (@Eq EReal _ _)) = 1 then BitVec.ofNat 32 c.val else 20#32) = _
  erw [e1]
  by_cases hc : res_main_v82 V0 (ix4 b c h w) = most V0 (ix3 b h w)
  · rw [if_pos hc, if_pos (by rw [decide_eq_true hc]; rfl)]
  · rw [if_neg hc, if_neg (by rw [decide_eq_false hc]; decide)]

theorem drop_class (i : S8x20x64x2048.Idx) (hd : (reducesTo_S8x20x64x2048_S8x64x2048_d1).drop i = ix3 b h w) : i = ix4 b (i 1 : Fin 20) h w := by
  have h0 : (i 0).val = b.val := congrArg Fin.val (congrFun hd 0)
  have h2 : (i 2).val = h.val := congrArg Fin.val (congrFun hd 1)
  have h3 : (i 3).val = w.val := congrArg Fin.val (congrFun hd 2)
  funext a
  fin_cases a <;> apply Fin.ext
  · exact h0
  · rfl
  · exact h2
  · exact h3

theorem class_drop (c : Fin 20) : (reducesTo_S8x20x64x2048_S8x64x2048_d1).drop (ix4 b c h w) = ix3 b h w := by
  funext a
  fin_cases a <;> rfl

theorem most_le (c : Fin 20) : (show EReal from res_main_v82 V0 (ix4 b c h w)) ≤ most V0 (ix3 b h w) := by
  unfold most
  rw [Host.reduce_eq_fold]
  exact Finset.le_fold_max _ |>.mpr (Or.inr ⟨ix4 b c h w, Finset.mem_filter.mpr ⟨Finset.mem_univ _, class_drop b h w c⟩, le_refl _⟩)

theorem most_eq : ∃ c : Fin 20, res_main_v82 V0 (ix4 b c h w) = most V0 (ix3 b h w) := by
  by_contra hne
  push Not at hne
  have lt (c : Fin 20) : (show EReal from res_main_v82 V0 (ix4 b c h w)) < most V0 (ix3 b h w) := lt_of_le_of_ne (most_le V0 b h w c) (hne c)
  have bot : (⊥ : EReal) < most V0 (ix3 b h w) := bot_le.trans_lt (lt 0)
  have : (show EReal from most V0 (ix3 b h w)) < most V0 (ix3 b h w) := by
    conv_lhs => unfold most
    show Host.reduce _ _ _ _ _ _ < _
    rw [Host.reduce_eq_fold]
    refine (Finset.fold_max_lt _).mpr ⟨?_, fun i hi => ?_⟩
    · rw [constant_apply, ofBits_bot]; exact bot
    · rw [drop_class b h w i (Finset.mem_filter.mp hi).2]; exact lt _
  exact lt_irrefl _ this

/-- The reference's result. -/
def refOut : IVec S8x64x2048 32 := Host.reduce IntOp.minsi (choice V0) (constantI S_ 32 2147483647#32) reducesTo_S8x20x64x2048_S8x64x2048_d1 h_S_

include hD hL in
theorem refOut_vote : Vote.IsVote ((five pr).map cut) (refOut V0 (ix3 b h w)) := by
  have f := fold_min (Finset.univ.filter fun i => (reducesTo_S8x20x64x2048_S8x64x2048_d1).drop i = ix3 b h w) (2147483647#32) (choice V0)
  have e : refOut V0 (ix3 b h w) = (Finset.univ.filter fun i => (reducesTo_S8x20x64x2048_S8x64x2048_d1).drop i = ix3 b h w).fold IntOp.minsi (2147483647#32) (choice V0) := by
    unfold refOut
    rw [Host.reduce_eq_fold]
    rfl
  rw [← e] at f
  refine first_largest _ (most V0 (ix3 b h w)) _ (fun c => res_main_v82 V0 (ix4 b c h w)) (fun c => v82_apply V0 b h w pr hD hL c) (most_le V0 b h w) (most_eq V0 b h w) ?_ ?_
  · rcases f.1 with g | ⟨i, hi, g⟩
    · exact Or.inl g
    · exact Or.inr ⟨i 1, g.trans ((congrArg (choice V0) (drop_class b h w i (Finset.mem_filter.mp hi).2)).trans (choice_apply V0 b h w (i 1)))⟩
  · intro c
    have := f.2.2 (ix4 b c h w) (Finset.mem_filter.mpr ⟨Finset.mem_univ _, class_drop b h w c⟩)
    rw [choice_apply] at this
    exact this

end Cert.ReferenceIdeal.Vals

end
-- ==== Proof.Mask.lean ====
module

public import proofs.«01_k».proof.Proof.RefVote
public import proofs.«01_k».proof.Proof.Gen.Pre_in_range
public import proofs.«01_k».proof.Proof.Gen.On_no_tie_at_cut

@[expose] public section

set_option maxRecDepth 16384

noncomputable section

/-! What the mask and the precondition say. -/

namespace Cert.ReferenceIdeal.Vals

open Idealize.ShloMosaic hiding ix1 ix2 ix3 ix4 ix5 ix6
open Idealize.ShloMosaic.ValueIdx Idealize.SL.Sem Cert.ReferenceIdeal Cert.ReferenceIdeal.Gen Cert.ReferenceIdeal.Value Cert.Dist Cert.Near Cert.Sel

variable (V0 : Valuation τ sig (Elt Ideal)) (a1 : IVec S8x64x2048 32)

/-- The distances in order. -/
def sorted : FVec Ideal S8x25x64x2048 .f32 := Host.sort S8x25x64x2048 1 (Cert.On_no_tie_at_cut.comparator_f32_d1 (F := Ideal)) (res_main_v49 V0)

theorem mask_eq : @Cert.On_no_tie_at_cut.fn Cert.On_no_tie_at_cut.Gen.facts Ideal _ (V0 (Proc.devRef .tc main_arg0)) a1
    = cmpf .olt (shapeCast S8x64x2048 (extractStridedSlice Cert.On_no_tie_at_cut.S8x1x64x2048 ![0, 4, 0, 0] (sorted V0) Cert.On_no_tie_at_cut.Gen.facts.slices_S8x25x64x2048_S8x1x64x2048_0_4_0_0) Cert.On_no_tie_at_cut.Gen.facts.shapeCasts_S8x1x64x2048_S8x64x2048)
      (shapeCast S8x64x2048 (extractStridedSlice Cert.On_no_tie_at_cut.S8x1x64x2048 ![0, 5, 0, 0] (sorted V0) Cert.On_no_tie_at_cut.Gen.facts.slices_S8x25x64x2048_S8x1x64x2048_0_5_0_0) Cert.On_no_tie_at_cut.Gen.facts.shapeCasts_S8x1x64x2048_S8x64x2048) := rfl

theorem comparator1_eq (l r : EReal) : Cert.On_no_tie_at_cut.comparator_f32_d1 (F := Ideal) l r = BitVec.ofBool (decide (l < r)) := by
  show Ideal.cmp .olt (Scalar.select (Ideal.cmp .une l l) (Ideal.ofBits .f32 0x7FC00000#32) (Scalar.select (Ideal.cmp .oeq l (Ideal.ofBits .f32 0x00000000#32)) (Ideal.ofBits .f32 0x00000000#32) l))
    (Scalar.select (Ideal.cmp .une r r) (Ideal.ofBits .f32 0x7FC00000#32) (Scalar.select (Ideal.cmp .oeq r (Ideal.ofBits .f32 0x00000000#32)) (Ideal.ofBits .f32 0x00000000#32) r)) = _
  rw [no_nan, no_nan, zero_or_self, zero_or_self]
  rfl

theorem sorted_apply (b : Fin 8) (k : Fin 25) (h : Fin 64) (w : Fin 2048) :
    sorted V0 (ix4 b k h w) = res_main_v49 V0 (ix4 b (ord (fun k => res_main_v49 V0 (ix4 b k h w)) k) h w) := by
  have g := sort_gen S8x25x64x2048 1 one_lt (Cert.On_no_tie_at_cut.comparator_f32_d1 (F := Ideal)) (res_main_v49 V0) (ix4 b k h w)
    (fun k k' : Fin 25 => decide ((show EReal from res_main_v49 V0 (ix4 b k h w)) < res_main_v49 V0 (ix4 b k' h w)))
    (fun k1 k2 => by
      rw [comparator1_eq, bool_one]
      exact congrArg₂ (fun u v : S8x25x64x2048.Idx => decide ((show EReal from res_main_v49 V0 u) < res_main_v49 V0 v)) (along_apply b k k1 h w) (along_apply b k k2 h w))
  exact g.trans (congrArg (res_main_v49 V0) (along_apply b k (ord (fun k => res_main_v49 V0 (ix4 b k h w)) k) h w))

theorem drop_one (x : S8x1x64x2048.Idx → EReal) (hc : S8x1x64x2048.ShapeCasts S8x64x2048) (b : Fin 8) (h : Fin 64) (w : Fin 2048) :
    shapeCast S8x64x2048 x hc (ix3 b h w) = x (ix4 b (0 : Fin 1) h w) := by
  refine shapeCast_apply _ _ _ _ ?_
  rw [Shape.rowMajor_val_three, Shape.rowMajor_val_four]
  show ((b.val * 1 + 0) * 64 + h.val) * 2048 + w.val = (b.val * 64 + h.val) * 2048 + w.val
  omega

theorem slice4 (x : S8x25x64x2048.Idx → EReal) (hs : S8x25x64x2048.Slices ![0, 4, 0, 0] S8x1x64x2048) (b : Fin 8) (h : Fin 64) (w : Fin 2048) :
    extractStridedSlice S8x1x64x2048 ![0, 4, 0, 0] x hs (ix4 b (0 : Fin 1) h w) = x (ix4 b (4 : Fin 25) h w) := by
  unfold extractStridedSlice
  congr 1
  funext a
  fin_cases a <;> apply Fin.ext
  · show 0 + b.val = b.val; omega
  · rfl
  · show 0 + h.val = h.val; omega
  · show 0 + w.val = w.val; omega

theorem slice5 (x : S8x25x64x2048.Idx → EReal) (hs : S8x25x64x2048.Slices ![0, 5, 0, 0] S8x1x64x2048) (b : Fin 8) (h : Fin 64) (w : Fin 2048) :
    extractStridedSlice S8x1x64x2048 ![0, 5, 0, 0] x hs (ix4 b (0 : Fin 1) h w) = x (ix4 b (5 : Fin 25) h w) := by
  unfold extractStridedSlice
  congr 1
  funext a
  fin_cases a <;> apply Fin.ext
  · show 0 + b.val = b.val; omega
  · rfl
  · show 0 + h.val = h.val; omega
  · show 0 + w.val = w.val; omega

theorem of_bool (p : Prop) [Decidable p] (h : BitVec.ofBool (decide p) = 1#1) : p := by
  by_contra c
  rw [decide_eq_false c] at h
  exact absurd h (by decide)

theorem cmpf_lt (A B : FVec Ideal S8x64x2048 .f32) (i : S8x64x2048.Idx) (hm : cmpf .olt A B i = 1#1) : (show EReal from A i) < B i :=
  of_bool _ hm

theorem fifth (x : FVec Ideal S8x25x64x2048 .f32) (hs : S8x25x64x2048.Slices ![0, 4, 0, 0] S8x1x64x2048) (hc : S8x1x64x2048.ShapeCasts S8x64x2048)
    (b : Fin 8) (h : Fin 64) (w : Fin 2048) :
    shapeCast S8x64x2048 (extractStridedSlice S8x1x64x2048 ![0, 4, 0, 0] x hs) hc (ix3 b h w) = x (ix4 b (4 : Fin 25) h w) :=
  (drop_one _ hc b h w).trans (slice4 x hs b h w)

theorem sixth (x : FVec Ideal S8x25x64x2048 .f32) (hs : S8x25x64x2048.Slices ![0, 5, 0, 0] S8x1x64x2048) (hc : S8x1x64x2048.ShapeCasts S8x64x2048)
    (b : Fin 8) (h : Fin 64) (w : Fin 2048) :
    shapeCast S8x64x2048 (extractStridedSlice S8x1x64x2048 ![0, 5, 0, 0] x hs) hc (ix3 b h w) = x (ix4 b (5 : Fin 25) h w) :=
  (drop_one _ hc b h w).trans (slice5 x hs b h w)

theorem nth_sorted (b : Fin 8) (k : Fin 25) (h : Fin 64) (w : Fin 2048) (D : Fin 25 → EReal) (hD : ∀ k, res_main_v49 V0 (ix4 b k h w) = D k) :
    sorted V0 (ix4 b k h w) = D (ord D k) := by
  have o : (fun k => res_main_v49 V0 (ix4 b k h w)) = D := funext hD
  have s := sorted_apply V0 b k h w
  rw [o] at s
  exact s.trans (hD _)

/-- On the mask the fifth distance is less than the sixth. -/
theorem mask_lt (b : Fin 8) (h : Fin 64) (w : Fin 2048)
    (hm : @Cert.On_no_tie_at_cut.fn Cert.On_no_tie_at_cut.Gen.facts Ideal _ (V0 (Proc.devRef .tc main_arg0)) a1 (ix3 b h w) = 1#1) (D : Fin 25 → EReal)
    (hD : ∀ k, res_main_v49 V0 (ix4 b k h w) = D k) : D (ord D 4) < D (ord D 5) := by
  have l := cmpf_lt _ _ _ ((congrFun (mask_eq V0 a1) (ix3 b h w)).symm.trans hm)
  have e4 := (fifth (sorted V0) Cert.On_no_tie_at_cut.Gen.facts.slices_S8x25x64x2048_S8x1x64x2048_0_4_0_0 Cert.On_no_tie_at_cut.Gen.facts.shapeCasts_S8x1x64x2048_S8x64x2048 b h w).trans (nth_sorted V0 b 4 h w D hD)
  have e5 := (sixth (sorted V0) Cert.On_no_tie_at_cut.Gen.facts.slices_S8x25x64x2048_S8x1x64x2048_0_5_0_0 Cert.On_no_tie_at_cut.Gen.facts.shapeCasts_S8x1x64x2048_S8x64x2048 b h w).trans (nth_sorted V0 b 5 h w D hD)
  exact lt_of_eq_of_lt e4.symm (lt_of_lt_of_eq l e5)

/-- The precondition at a pixel: the depth is a real at least zero, the label a class below 20. -/
theorem pre_apply (a0 : FVec Ideal S8x1x64x2048 .f32) (hp : @Cert.Pre_in_range.fn Cert.Pre_in_range.Gen.facts Ideal _ a0 a1 = fun _ => 1#1)
    (b : Fin 8) (h : Fin 64) (w : Fin 2048) :
    ((a0 (ix4 b (0 : Fin 1) h w) : EReal) = ((EReal.toReal (a0 (ix4 b (0 : Fin 1) h w)) : ℝ) : EReal) ∧ 0 ≤ EReal.toReal (a0 (ix4 b (0 : Fin 1) h w)))
      ∧ (a1 (ix3 b h w)).toNat < 20 := by
  have g := congrFun hp (ix3 b h w)
  have g' : IntOp.andi (IntOp.andi (IntOp.andi (Ideal.cmp .oge (shapeCast S8x64x2048 a0 Cert.Pre_in_range.Gen.facts.shapeCasts_S8x1x64x2048_S8x64x2048 (ix3 b h w)) (Ideal.ofBits .f32 0x00000000#32))
      (Ideal.cmp .olt (shapeCast S8x64x2048 a0 Cert.Pre_in_range.Gen.facts.shapeCasts_S8x1x64x2048_S8x64x2048 (ix3 b h w)) (Ideal.ofBits .f32 0x7F800000#32)))
      (IntOp.cmpi .sge (a1 (ix3 b h w)) 0#32)) (IntOp.cmpi .slt (a1 (ix3 b h w)) 20#32) = 1#1 := g
  rw [drop_one, Ideal.ofBits_zero_f32, ofBits_top] at g'
  have and1 (x y : BitVec 1) (e : IntOp.andi x y = 1#1) : x = 1#1 ∧ y = 1#1 := by
    revert e; revert x y; decide
  obtain ⟨g1, g4⟩ := and1 _ _ g'
  obtain ⟨g2, g3⟩ := and1 _ _ g1
  obtain ⟨p1, p2⟩ := and1 _ _ g2
  have q1 : (0 : EReal) ≤ a0 (ix4 b (0 : Fin 1) h w) := of_bool _ p1
  have q2 : (a0 (ix4 b (0 : Fin 1) h w) : EReal) < ⊤ := of_bool _ p2
  refine ⟨⟨(EReal.coe_toReal q2.ne (fun hb => ?_)).symm, EReal.toReal_nonneg q1⟩, ?_⟩
  · rw [hb] at q1
    exact absurd q1 (by simp)
  · have n3 : (0#32).sle (a1 (ix3 b h w)) = true := by
      cases hh : (0#32).sle (a1 (ix3 b h w))
      · have g3' : BitVec.ofBool ((0#32).sle (a1 (ix3 b h w))) = 1#1 := g3
        rw [hh] at g3'; exact absurd g3' (by decide)
      · rfl
    have n4 : (a1 (ix3 b h w)).slt 20#32 = true := by
      cases hh : (a1 (ix3 b h w)).slt 20#32
      · have g4' : BitVec.ofBool ((a1 (ix3 b h w)).slt 20#32) = 1#1 := g4
        rw [hh] at g4'; exact absurd g4' (by decide)
      · rfl
    rw [BitVec.sle_eq_decide] at n3
    rw [BitVec.slt_eq_decide] at n4
    have m3 := of_decide_eq_true n3
    have m4 := of_decide_eq_true n4
    have z : (0#32).toInt = 0 := by decide
    have t : (20#32).toInt = 20 := by decide
    rw [z] at m3
    rw [t] at m4
    have lt := (a1 (ix3 b h w)).isLt
    rw [BitVec.toInt_eq_toNat_cond] at m3 m4
    split at m4 <;> omega

end Cert.ReferenceIdeal.Vals

end
-- ==== Proof.Equal.lean ====
module

public import proofs.«01_k».proof.Proof.KernelArray
public import proofs.«01_k».proof.Proof.Mask

@[expose] public section

set_option maxRecDepth 16384

noncomputable section

/-! The two results are equal where the mask is set. -/

namespace Cert.Equal

open Idealize.ShloMosaic hiding ix1 ix2 ix3 ix4 ix5 ix6
open Idealize.ShloMosaic.ValueIdx Idealize.ShloMosaic.TcCoe Idealize.SL.Sem Cert.Dist Cert.Near Cert.Sel

/-- An array's elements at natural coordinates, `z` outside. -/
def ext {α : Type} (f : Fin 8 → Fin 64 → Fin 2048 → α) (z : α) (b h w : ℕ) : α :=
  if hh : b < 8 ∧ h < 64 ∧ w < 2048 then f ⟨b, hh.1⟩ ⟨h, hh.2.1⟩ ⟨w, hh.2.2⟩ else z

theorem ext_apply {α : Type} (f : Fin 8 → Fin 64 → Fin 2048 → α) (z : α) (b : Fin 8) (h : Fin 64) (w : Fin 2048) : ext f z b h w = f b h w :=
  dif_pos ⟨b.isLt, h.isLt, w.isLt⟩

theorem ext_of {α : Type} (p : α → Prop) (f : Fin 8 → Fin 64 → Fin 2048 → α) (z : α) (hf : ∀ b h w, p (f b h w)) (hz : p z) (b h w : ℕ) : p (ext f z b h w) := by
  unfold ext; split
  · exact hf _ _ _
  · exact hz

theorem equal (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (a0 : FVec Ideal Cert.ReferenceIdeal.S8x1x64x2048 .f32) (a1 : IVec Cert.ReferenceIdeal.S8x64x2048 32)
    (e0 : V0 (Proc.devRef .tc Cert.ReferenceIdeal.main_arg0) = a0) (e1 : V0 (Proc.devRef .tc Cert.ReferenceIdeal.main_arg1) = a1)
    (k0 : m ((c.tc : Thread Cert.KernelIdeal.nD Cert.KernelIdeal.τ).loc Cert.KernelIdeal.main_arg0) = a0)
    (k1 : m ((c.tc : Thread Cert.KernelIdeal.nD Cert.KernelIdeal.τ).loc Cert.KernelIdeal.main_arg1) = a1)
    (hp : @Cert.Pre_in_range.fn Cert.Pre_in_range.Gen.facts Ideal _ a0 a1 = fun _ => 1#1)
    (b : Fin 8) (h : Fin 64) (w : Fin 2048)
    (hm : @Cert.On_no_tie_at_cut.fn Cert.On_no_tie_at_cut.Gen.facts Ideal _ a0 a1 (ix3 b h w) = 1#1) :
    Cert.ReferenceIdeal.Vals.refOut V0 (ix3 b h w) = (Cert.KernelIdeal.Gen.dats m 0 c).arrAt 2 Cert.KernelIdeal.cfg0.N (ix3 b h w) := by
  have pre := Cert.ReferenceIdeal.Vals.pre_apply a1 a0 hp
  have hd (b : Fin 8) (h : Fin 64) (w : Fin 2048) : (a0 (ix4 b (0 : Fin 1) h w) : EReal)
      = ((ext (fun b h w => EReal.toReal (a0 (ix4 b (0 : Fin 1) h w))) 0 b.val h.val w.val : ℝ) : EReal) := by
    rw [ext_apply]; exact (pre b h w).1.1
  have hd0 := ext_of (fun r : ℝ => 0 ≤ r) (fun b h w => EReal.toReal (a0 (ix4 b (0 : Fin 1) h w))) 0 (fun b h w => (pre b h w).1.2) (le_refl _)
  have hl (b : Fin 8) (h : Fin 64) (w : Fin 2048) : a1 (ix3 b h w) = ext (fun b h w => a1 (ix3 b h w)) 0#32 b.val h.val w.val :=
    (ext_apply (fun b h w => a1 (ix3 b h w)) 0#32 b h w).symm
  have hl0 := ext_of (fun r : BitVec 32 => r.toNat < 20) (fun b h w => a1 (ix3 b h w)) 0#32 (fun b h w => (pre b h w).2) (by decide)
  generalize ext (fun b h w => EReal.toReal (a0 (ix4 b (0 : Fin 1) h w))) 0 = d at hd hd0
  generalize ext (fun b h w => a1 (ix3 b h w)) 0#32 = l at hl hl0
  have hD := fun k : Fin 25 => Cert.ReferenceIdeal.Vals.v49_apply V0 d (fun b h w => (congrFun e0 _).trans (hd b h w)) hd0 b k h w
  have hL := fun k : Fin 25 => Cert.ReferenceIdeal.Vals.v65_apply V0 l (fun b h w => (congrFun e1 _).trans (hl b h w)) b k h w
  have vr := Cert.ReferenceIdeal.Vals.refOut_vote V0 b h w (pr (xp d b) (yp l b) h w) hD hL
  subst e0
  have lt := Cert.ReferenceIdeal.Vals.mask_lt V0 a1 b h w hm (fun k => (pr (xp d b) (yp l b) h w k).1) hD
  have vk := Cert.KernelIdeal.Vals.pixel _ _ (xp d b) (Cert.KernelIdeal.Vals.w1_blk m c d (fun b h w => (congrFun k0 _).trans (hd b h w)) b)
    (yp l b) (Cert.KernelIdeal.Vals.w3_blk m c l (fun b h w => (congrFun k1 _).trans (hl b h w)) b) (fun r cc => yp_lt l hl0 b r cc) h w
    (five (pr (xp d b) (yp l b) h w)) (rest (pr (xp d b) (yp l b) h w)) (card_five _) (five_rest _) (five_lt _ lt)
  rw [Cert.KernelIdeal.Vals.arr_apply]
  exact Vote.IsVote.unique vr vk

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_in_range
public import proofs.«01_k».proof.Proof.Gen.On_no_tie_at_cut
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference ends, changes neither argument, and leaves every counter at zero. -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m g)

/-- An index of the result is its three coordinates. -/
theorem index_eq (i : (⟨3, ![8, 64, 2048]⟩ : Shape).Idx) : i = ValueIdx.ix3 (i 0 : Fin 8) (i 1 : Fin 64) (i 2 : Fin 2048) := by
  funext a
  fin_cases a <;> rfl

/-- Where the mask is set, kernel and reference have the same result. -/
theorem algebraic : algebraic_KernelIdeal_ReferenceIdeal_on_no_tie_at_cut_pre_in_range (hKernelIdeal := Cert.KernelIdeal.Gen.facts) (hReferenceIdeal := Cert.ReferenceIdeal.Gen.facts)
    (hPre_in_range := Cert.Pre_in_range.Gen.facts) (hOn_no_tie_at_cut := Cert.On_no_tie_at_cut.Gen.facts) := by
  intro m g m' g' hpre hargs
  refine ⟨fun c => (Cert.KernelIdeal.Gen.dats m 0 c).arrAt 2 Cert.KernelIdeal.cfg0.N, ?_, ?_⟩
  · exact (θ_run Cert.KernelIdeal.defs _ _).mono (fun r h c => ⟨fun i _ => congrFun (h c).1 i, (h c).2.1, (h c).2.2⟩)
      (Cert.KernelIdeal.Value.run_blocks (F := Ideal) m g)
  · refine (θ_run Cert.ReferenceIdeal.defs _ _).mono (fun r h c => ⟨fun i hm => ?_, (h c).2.1, (h c).2.2⟩)
      (Cert.ReferenceIdeal.Value.run (F := Ideal) m' g')
    rw [index_eq i] at hm ⊢
    have e := Cert.Equal.equal m c (StableHlo.launchContents m' c) _ _ (hargs c).1 (hargs c).2 rfl rfl (hpre c) _ _ _ hm
    exact (congrFun (h c).1 _).trans e

theorem claim : Cert.Claim := ⟨Cert.Kernel.Gen.facts, Cert.KernelIdeal.Gen.facts, Cert.ReferenceIdeal.Gen.facts, Cert.Pre_in_range.Gen.facts, Cert.On_no_tie_at_cut.Gen.facts,
  fun m ρ _ => Cert.Kernel.Gen.frame m ρ, fun m ρ _ => Cert.KernelIdeal.Gen.frame m ρ, fun m ρ _ => Cert.KernelIdeal.Gen.frame m ρ,
  fun m ρ _ => reference_quiescent m ρ, fun m ρ _ => reference_quiescent m ρ, trivial, algebraic⟩

end Cert.Proof

end
